-- ==== Defs.lean ====
def Pre_Kernel [hPre_rows_named : Cert.Pre_rows_named.Facts] (m : (ℓ : Loc Cert.Kernel.nD Cert.Kernel.τ Cert.Kernel.sig) → Buf (Elt Bits) ℓ) : Prop :=
  ∀ c : Dev Cert.Kernel.nD,
    (Cert.Pre_rows_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_rows_named : Cert.Pre_rows_named.Facts] (m : (ℓ : Loc Cert.KernelIdeal.nD Cert.KernelIdeal.τ Cert.KernelIdeal.sig) → Buf (Elt Ideal) ℓ) : Prop :=
  ∀ c : Dev Cert.KernelIdeal.nD,
    (Cert.Pre_rows_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_named [hPre_rows_named : Cert.Pre_rows_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Experts [hPre_tables_named : Cert.Pre_tables_named.Facts] (m : (ℓ : Loc Cert.Experts.nD Cert.Experts.τ Cert.Experts.sig) → Buf (Elt Bits) ℓ) : Prop :=
  ∀ c : Dev Cert.Experts.nD,
    (Cert.Pre_tables_named.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))) = (fun _ => 1#1)

def Pre_ExpertsIdeal [hPre_tables_named : Cert.Pre_tables_named.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables_named.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_tables_named [hPre_tables_named : Cert.Pre_tables_named.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_tables_named.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4))) = (fun _ => 1#1)

def Pre_FeedForward (m : (ℓ : Loc Cert.FeedForward.nD Cert.FeedForward.τ Cert.FeedForward.sig) → Buf (Elt Bits) ℓ) : Prop :=
  True

def Pre_FeedForwardIdeal (m : (ℓ : Loc Cert.FeedForwardIdeal.nD Cert.FeedForwardIdeal.τ Cert.FeedForwardIdeal.sig) → Buf (Elt Ideal) ℓ) : Prop :=
  True

def Pre_FeedForwardReferenceIdeal (m : (ℓ : Loc Cert.FeedForwardReferenceIdeal.nD Cert.FeedForwardReferenceIdeal.τ Cert.FeedForwardReferenceIdeal.sig) → Buf (Elt Ideal) ℓ) : Prop :=
  True

def Pre_InProjection (m : (ℓ : Loc Cert.InProjection.nD Cert.InProjection.τ Cert.InProjection.sig) → Buf (Elt Bits) ℓ) : Prop :=
  True

def Pre_InProjectionIdeal (m : (ℓ : Loc Cert.InProjectionIdeal.nD Cert.InProjectionIdeal.τ Cert.InProjectionIdeal.sig) → Buf (Elt Ideal) ℓ) : Prop :=
  True

def Pre_InProjectionReferenceIdeal (m : (ℓ : Loc Cert.InProjectionReferenceIdeal.nD Cert.InProjectionReferenceIdeal.τ Cert.InProjectionReferenceIdeal.sig) → Buf (Elt Ideal) ℓ) : Prop :=
  True

def Pre_OutProjection (m : (ℓ : Loc Cert.OutProjection.nD Cert.OutProjection.τ Cert.OutProjection.sig) → Buf (Elt Bits) ℓ) : Prop :=
  True

def Pre_OutProjectionIdeal (m : (ℓ : Loc Cert.OutProjectionIdeal.nD Cert.OutProjectionIdeal.τ Cert.OutProjectionIdeal.sig) → Buf (Elt Ideal) ℓ) : Prop :=
  True

def Pre_OutProjectionReferenceIdeal (m : (ℓ : Loc Cert.OutProjectionReferenceIdeal.nD Cert.OutProjectionReferenceIdeal.τ Cert.OutProjectionReferenceIdeal.sig) → Buf (Elt Ideal) ℓ) : Prop :=
  True

def Pre_SampleCaches (m : (ℓ : Loc Cert.SampleCaches.nD Cert.SampleCaches.τ Cert.SampleCaches.sig) → Buf (Elt Bits) ℓ) : Prop :=
  True

def Pre_SampleCachesIdeal (m : (ℓ : Loc Cert.SampleCachesIdeal.nD Cert.SampleCachesIdeal.τ Cert.SampleCachesIdeal.sig) → Buf (Elt Ideal) ℓ) : Prop :=
  True

def Pre_SampleCachesReferenceIdeal (m : (ℓ : Loc Cert.SampleCachesReferenceIdeal.nD Cert.SampleCachesReferenceIdeal.τ Cert.SampleCachesReferenceIdeal.sig) → Buf (Elt Ideal) ℓ) : Prop :=
  True

def Pre_SampleInProjection (m : (ℓ : Loc Cert.SampleInProjection.nD Cert.SampleInProjection.τ Cert.SampleInProjection.sig) → Buf (Elt Bits) ℓ) : Prop :=
  True

def Pre_SampleInProjectionIdeal (m : (ℓ : Loc Cert.SampleInProjectionIdeal.nD Cert.SampleInProjectionIdeal.τ Cert.SampleInProjectionIdeal.sig) → Buf (Elt Ideal) ℓ) : Prop :=
  True

def Pre_SampleInProjectionReferenceIdeal (m : (ℓ : Loc Cert.SampleInProjectionReferenceIdeal.nD Cert.SampleInProjectionReferenceIdeal.τ Cert.SampleInProjectionReferenceIdeal.sig) → Buf (Elt Ideal) ℓ) : Prop :=
  True

def quiescent_Kernel [hKernel : Cert.Kernel.Facts] [hPre_rows_named : Cert.Pre_rows_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_rows_named : Cert.Pre_rows_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_rows_named [hReferenceIdeal : Cert.ReferenceIdeal.Facts] [hPre_rows_named : Cert.Pre_rows_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_named m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Experts [hExperts : Cert.Experts.Facts] [hPre_tables_named : Cert.Pre_tables_named.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_tables_named : Cert.Pre_tables_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0)

def quiescent_ExpertsReferenceIdeal_pre_tables_named [hExpertsReferenceIdeal : Cert.ExpertsReferenceIdeal.Facts] [hPre_tables_named : Cert.Pre_tables_named.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_tables_named m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0)

def quiescent_FeedForward [hFeedForward : Cert.FeedForward.Facts] : Prop :=
  ∀ (m : (ℓ : Loc Cert.FeedForward.nD Cert.FeedForward.τ Cert.FeedForward.sig) → Buf (Elt Bits) ℓ) (g : Dev Cert.FeedForward.nD → PrngReg), Pre_FeedForward m →
    θ_run (Cert.FeedForward.defs (F := Bits)) (onTc (τ := Cert.FeedForward.τ) (Cert.FeedForward.main (F := Bits))) ⟨m, fun _ => 0, g⟩ (fun r => (∀ c : Dev Cert.FeedForward.nD,
      r.2.mem ((c.tc : Thread Cert.FeedForward.nD Cert.FeedForward.τ).loc Cert.FeedForward.main_arg0) = m ((c.tc : Thread Cert.FeedForward.nD Cert.FeedForward.τ).loc Cert.FeedForward.main_arg0)
      ∧ r.2.mem ((c.tc : Thread Cert.FeedForward.nD Cert.FeedForward.τ).loc Cert.FeedForward.main_arg1) = m ((c.tc : Thread Cert.FeedForward.nD Cert.FeedForward.τ).loc Cert.FeedForward.main_arg1)
      ∧ r.2.mem ((c.tc : Thread Cert.FeedForward.nD Cert.FeedForward.τ).loc Cert.FeedForward.main_arg2) = m ((c.tc : Thread Cert.FeedForward.nD Cert.FeedForward.τ).loc Cert.FeedForward.main_arg2)
      ∧ r.2.mem ((c.tc : Thread Cert.FeedForward.nD Cert.FeedForward.τ).loc Cert.FeedForward.main_arg3) = m ((c.tc : Thread Cert.FeedForward.nD Cert.FeedForward.τ).loc Cert.FeedForward.main_arg3))
      ∧ r.2.sem = fun _ => 0)

def quiescent_FeedForwardIdeal [hFeedForwardIdeal : Cert.FeedForwardIdeal.Facts] : Prop :=
  ∀ (m : (ℓ : Loc Cert.FeedForwardIdeal.nD Cert.FeedForwardIdeal.τ Cert.FeedForwardIdeal.sig) → Buf (Elt Ideal) ℓ) (g : Dev Cert.FeedForwardIdeal.nD → PrngReg), Pre_FeedForwardIdeal m →
    θ_run (Cert.FeedForwardIdeal.defs (F := Ideal)) (onTc (τ := Cert.FeedForwardIdeal.τ) (Cert.FeedForwardIdeal.main (F := Ideal))) ⟨m, fun _ => 0, g⟩ (fun r => (∀ c : Dev Cert.FeedForwardIdeal.nD,
      r.2.mem ((c.tc : Thread Cert.FeedForwardIdeal.nD Cert.FeedForwardIdeal.τ).loc Cert.FeedForwardIdeal.main_arg0) = m ((c.tc : Thread Cert.FeedForwardIdeal.nD Cert.FeedForwardIdeal.τ).loc Cert.FeedForwardIdeal.main_arg0)
      ∧ r.2.mem ((c.tc : Thread Cert.FeedForwardIdeal.nD Cert.FeedForwardIdeal.τ).loc Cert.FeedForwardIdeal.main_arg1) = m ((c.tc : Thread Cert.FeedForwardIdeal.nD Cert.FeedForwardIdeal.τ).loc Cert.FeedForwardIdeal.main_arg1)
      ∧ r.2.mem ((c.tc : Thread Cert.FeedForwardIdeal.nD Cert.FeedForwardIdeal.τ).loc Cert.FeedForwardIdeal.main_arg2) = m ((c.tc : Thread Cert.FeedForwardIdeal.nD Cert.FeedForwardIdeal.τ).loc Cert.FeedForwardIdeal.main_arg2)
      ∧ r.2.mem ((c.tc : Thread Cert.FeedForwardIdeal.nD Cert.FeedForwardIdeal.τ).loc Cert.FeedForwardIdeal.main_arg3) = m ((c.tc : Thread Cert.FeedForwardIdeal.nD Cert.FeedForwardIdeal.τ).loc Cert.FeedForwardIdeal.main_arg3))
      ∧ r.2.sem = fun _ => 0)

def quiescent_FeedForwardReferenceIdeal [hFeedForwardReferenceIdeal : Cert.FeedForwardReferenceIdeal.Facts] : Prop :=
  ∀ (m : (ℓ : Loc Cert.FeedForwardReferenceIdeal.nD Cert.FeedForwardReferenceIdeal.τ Cert.FeedForwardReferenceIdeal.sig) → Buf (Elt Ideal) ℓ) (g : Dev Cert.FeedForwardReferenceIdeal.nD → PrngReg), Pre_FeedForwardReferenceIdeal m →
    θ_run (Cert.FeedForwardReferenceIdeal.defs (F := Ideal)) (onTc (τ := Cert.FeedForwardReferenceIdeal.τ) (Cert.FeedForwardReferenceIdeal.main (F := Ideal))) ⟨m, fun _ => 0, g⟩ (fun r => (∀ c : Dev Cert.FeedForwardReferenceIdeal.nD,
      r.2.mem ((c.tc : Thread Cert.FeedForwardReferenceIdeal.nD Cert.FeedForwardReferenceIdeal.τ).loc Cert.FeedForwardReferenceIdeal.main_arg0) = m ((c.tc : Thread Cert.FeedForwardReferenceIdeal.nD Cert.FeedForwardReferenceIdeal.τ).loc Cert.FeedForwardReferenceIdeal.main_arg0)
      ∧ r.2.mem ((c.tc : Thread Cert.FeedForwardReferenceIdeal.nD Cert.FeedForwardReferenceIdeal.τ).loc Cert.FeedForwardReferenceIdeal.main_arg1) = m ((c.tc : Thread Cert.FeedForwardReferenceIdeal.nD Cert.FeedForwardReferenceIdeal.τ).loc Cert.FeedForwardReferenceIdeal.main_arg1)
      ∧ r.2.mem ((c.tc : Thread Cert.FeedForwardReferenceIdeal.nD Cert.FeedForwardReferenceIdeal.τ).loc Cert.FeedForwardReferenceIdeal.main_arg2) = m ((c.tc : Thread Cert.FeedForwardReferenceIdeal.nD Cert.FeedForwardReferenceIdeal.τ).loc Cert.FeedForwardReferenceIdeal.main_arg2)
      ∧ r.2.mem ((c.tc : Thread Cert.FeedForwardReferenceIdeal.nD Cert.FeedForwardReferenceIdeal.τ).loc Cert.FeedForwardReferenceIdeal.main_arg3) = m ((c.tc : Thread Cert.FeedForwardReferenceIdeal.nD Cert.FeedForwardReferenceIdeal.τ).loc Cert.FeedForwardReferenceIdeal.main_arg3))
      ∧ r.2.sem = fun _ => 0)

def quiescent_InProjection [hInProjection : Cert.InProjection.Facts] : Prop :=
  ∀ (m : (ℓ : Loc Cert.InProjection.nD Cert.InProjection.τ Cert.InProjection.sig) → Buf (Elt Bits) ℓ) (g : Dev Cert.InProjection.nD → PrngReg), Pre_InProjection m →
    θ_run (Cert.InProjection.defs (F := Bits)) (onTc (τ := Cert.InProjection.τ) (Cert.InProjection.main (F := Bits))) ⟨m, fun _ => 0, g⟩ (fun r => (∀ c : Dev Cert.InProjection.nD,
      r.2.mem ((c.tc : Thread Cert.InProjection.nD Cert.InProjection.τ).loc Cert.InProjection.main_arg0) = m ((c.tc : Thread Cert.InProjection.nD Cert.InProjection.τ).loc Cert.InProjection.main_arg0)
      ∧ r.2.mem ((c.tc : Thread Cert.InProjection.nD Cert.InProjection.τ).loc Cert.InProjection.main_arg1) = m ((c.tc : Thread Cert.InProjection.nD Cert.InProjection.τ).loc Cert.InProjection.main_arg1)
      ∧ r.2.mem ((c.tc : Thread Cert.InProjection.nD Cert.InProjection.τ).loc Cert.InProjection.main_arg2) = m ((c.tc : Thread Cert.InProjection.nD Cert.InProjection.τ).loc Cert.InProjection.main_arg2))
      ∧ r.2.sem = fun _ => 0)

def quiescent_InProjectionIdeal [hInProjectionIdeal : Cert.InProjectionIdeal.Facts] : Prop :=
  ∀ (m : (ℓ : Loc Cert.InProjectionIdeal.nD Cert.InProjectionIdeal.τ Cert.InProjectionIdeal.sig) → Buf (Elt Ideal) ℓ) (g : Dev Cert.InProjectionIdeal.nD → PrngReg), Pre_InProjectionIdeal m →
    θ_run (Cert.InProjectionIdeal.defs (F := Ideal)) (onTc (τ := Cert.InProjectionIdeal.τ) (Cert.InProjectionIdeal.main (F := Ideal))) ⟨m, fun _ => 0, g⟩ (fun r => (∀ c : Dev Cert.InProjectionIdeal.nD,
      r.2.mem ((c.tc : Thread Cert.InProjectionIdeal.nD Cert.InProjectionIdeal.τ).loc Cert.InProjectionIdeal.main_arg0) = m ((c.tc : Thread Cert.InProjectionIdeal.nD Cert.InProjectionIdeal.τ).loc Cert.InProjectionIdeal.main_arg0)
      ∧ r.2.mem ((c.tc : Thread Cert.InProjectionIdeal.nD Cert.InProjectionIdeal.τ).loc Cert.InProjectionIdeal.main_arg1) = m ((c.tc : Thread Cert.InProjectionIdeal.nD Cert.InProjectionIdeal.τ).loc Cert.InProjectionIdeal.main_arg1)
      ∧ r.2.mem ((c.tc : Thread Cert.InProjectionIdeal.nD Cert.InProjectionIdeal.τ).loc Cert.InProjectionIdeal.main_arg2) = m ((c.tc : Thread Cert.InProjectionIdeal.nD Cert.InProjectionIdeal.τ).loc Cert.InProjectionIdeal.main_arg2))
      ∧ r.2.sem = fun _ => 0)

def quiescent_InProjectionReferenceIdeal [hInProjectionReferenceIdeal : Cert.InProjectionReferenceIdeal.Facts] : Prop :=
  ∀ (m : (ℓ : Loc Cert.InProjectionReferenceIdeal.nD Cert.InProjectionReferenceIdeal.τ Cert.InProjectionReferenceIdeal.sig) → Buf (Elt Ideal) ℓ) (g : Dev Cert.InProjectionReferenceIdeal.nD → PrngReg), Pre_InProjectionReferenceIdeal m →
    θ_run (Cert.InProjectionReferenceIdeal.defs (F := Ideal)) (onTc (τ := Cert.InProjectionReferenceIdeal.τ) (Cert.InProjectionReferenceIdeal.main (F := Ideal))) ⟨m, fun _ => 0, g⟩ (fun r => (∀ c : Dev Cert.InProjectionReferenceIdeal.nD,
      r.2.mem ((c.tc : Thread Cert.InProjectionReferenceIdeal.nD Cert.InProjectionReferenceIdeal.τ).loc Cert.InProjectionReferenceIdeal.main_arg0) = m ((c.tc : Thread Cert.InProjectionReferenceIdeal.nD Cert.InProjectionReferenceIdeal.τ).loc Cert.InProjectionReferenceIdeal.main_arg0)
      ∧ r.2.mem ((c.tc : Thread Cert.InProjectionReferenceIdeal.nD Cert.InProjectionReferenceIdeal.τ).loc Cert.InProjectionReferenceIdeal.main_arg1) = m ((c.tc : Thread Cert.InProjectionReferenceIdeal.nD Cert.InProjectionReferenceIdeal.τ).loc Cert.InProjectionReferenceIdeal.main_arg1)
      ∧ r.2.mem ((c.tc : Thread Cert.InProjectionReferenceIdeal.nD Cert.InProjectionReferenceIdeal.τ).loc Cert.InProjectionReferenceIdeal.main_arg2) = m ((c.tc : Thread Cert.InProjectionReferenceIdeal.nD Cert.InProjectionReferenceIdeal.τ).loc Cert.InProjectionReferenceIdeal.main_arg2))
      ∧ r.2.sem = fun _ => 0)

def quiescent_OutProjection [hOutProjection : Cert.OutProjection.Facts] : Prop :=
  ∀ (m : (ℓ : Loc Cert.OutProjection.nD Cert.OutProjection.τ Cert.OutProjection.sig) → Buf (Elt Bits) ℓ) (g : Dev Cert.OutProjection.nD → PrngReg), Pre_OutProjection m →
    θ_run (Cert.OutProjection.defs (F := Bits)) (onTc (τ := Cert.OutProjection.τ) (Cert.OutProjection.main (F := Bits))) ⟨m, fun _ => 0, g⟩ (fun r => (∀ c : Dev Cert.OutProjection.nD,
      r.2.mem ((c.tc : Thread Cert.OutProjection.nD Cert.OutProjection.τ).loc Cert.OutProjection.main_arg0) = m ((c.tc : Thread Cert.OutProjection.nD Cert.OutProjection.τ).loc Cert.OutProjection.main_arg0)
      ∧ r.2.mem ((c.tc : Thread Cert.OutProjection.nD Cert.OutProjection.τ).loc Cert.OutProjection.main_arg1) = m ((c.tc : Thread Cert.OutProjection.nD Cert.OutProjection.τ).loc Cert.OutProjection.main_arg1)
      ∧ r.2.mem ((c.tc : Thread Cert.OutProjection.nD Cert.OutProjection.τ).loc Cert.OutProjection.main_arg2) = m ((c.tc : Thread Cert.OutProjection.nD Cert.OutProjection.τ).loc Cert.OutProjection.main_arg2)
      ∧ r.2.mem ((c.tc : Thread Cert.OutProjection.nD Cert.OutProjection.τ).loc Cert.OutProjection.main_arg3) = m ((c.tc : Thread Cert.OutProjection.nD Cert.OutProjection.τ).loc Cert.OutProjection.main_arg3)
      ∧ r.2.mem ((c.tc : Thread Cert.OutProjection.nD Cert.OutProjection.τ).loc Cert.OutProjection.main_arg4) = m ((c.tc : Thread Cert.OutProjection.nD Cert.OutProjection.τ).loc Cert.OutProjection.main_arg4)
      ∧ r.2.mem ((c.tc : Thread Cert.OutProjection.nD Cert.OutProjection.τ).loc Cert.OutProjection.main_arg5) = m ((c.tc : Thread Cert.OutProjection.nD Cert.OutProjection.τ).loc Cert.OutProjection.main_arg5))
      ∧ r.2.sem = fun _ => 0)

def quiescent_OutProjectionIdeal [hOutProjectionIdeal : Cert.OutProjectionIdeal.Facts] : Prop :=
  ∀ (m : (ℓ : Loc Cert.OutProjectionIdeal.nD Cert.OutProjectionIdeal.τ Cert.OutProjectionIdeal.sig) → Buf (Elt Ideal) ℓ) (g : Dev Cert.OutProjectionIdeal.nD → PrngReg), Pre_OutProjectionIdeal m →
    θ_run (Cert.OutProjectionIdeal.defs (F := Ideal)) (onTc (τ := Cert.OutProjectionIdeal.τ) (Cert.OutProjectionIdeal.main (F := Ideal))) ⟨m, fun _ => 0, g⟩ (fun r => (∀ c : Dev Cert.OutProjectionIdeal.nD,
      r.2.mem ((c.tc : Thread Cert.OutProjectionIdeal.nD Cert.OutProjectionIdeal.τ).loc Cert.OutProjectionIdeal.main_arg0) = m ((c.tc : Thread Cert.OutProjectionIdeal.nD Cert.OutProjectionIdeal.τ).loc Cert.OutProjectionIdeal.main_arg0)
      ∧ r.2.mem ((c.tc : Thread Cert.OutProjectionIdeal.nD Cert.OutProjectionIdeal.τ).loc Cert.OutProjectionIdeal.main_arg1) = m ((c.tc : Thread Cert.OutProjectionIdeal.nD Cert.OutProjectionIdeal.τ).loc Cert.OutProjectionIdeal.main_arg1)
      ∧ r.2.mem ((c.tc : Thread Cert.OutProjectionIdeal.nD Cert.OutProjectionIdeal.τ).loc Cert.OutProjectionIdeal.main_arg2) = m ((c.tc : Thread Cert.OutProjectionIdeal.nD Cert.OutProjectionIdeal.τ).loc Cert.OutProjectionIdeal.main_arg2)
      ∧ r.2.mem ((c.tc : Thread Cert.OutProjectionIdeal.nD Cert.OutProjectionIdeal.τ).loc Cert.OutProjectionIdeal.main_arg3) = m ((c.tc : Thread Cert.OutProjectionIdeal.nD Cert.OutProjectionIdeal.τ).loc Cert.OutProjectionIdeal.main_arg3)
      ∧ r.2.mem ((c.tc : Thread Cert.OutProjectionIdeal.nD Cert.OutProjectionIdeal.τ).loc Cert.OutProjectionIdeal.main_arg4) = m ((c.tc : Thread Cert.OutProjectionIdeal.nD Cert.OutProjectionIdeal.τ).loc Cert.OutProjectionIdeal.main_arg4)
      ∧ r.2.mem ((c.tc : Thread Cert.OutProjectionIdeal.nD Cert.OutProjectionIdeal.τ).loc Cert.OutProjectionIdeal.main_arg5) = m ((c.tc : Thread Cert.OutProjectionIdeal.nD Cert.OutProjectionIdeal.τ).loc Cert.OutProjectionIdeal.main_arg5))
      ∧ r.2.sem = fun _ => 0)

def quiescent_OutProjectionReferenceIdeal [hOutProjectionReferenceIdeal : Cert.OutProjectionReferenceIdeal.Facts] : Prop :=
  ∀ (m : (ℓ : Loc Cert.OutProjectionReferenceIdeal.nD Cert.OutProjectionReferenceIdeal.τ Cert.OutProjectionReferenceIdeal.sig) → Buf (Elt Ideal) ℓ) (g : Dev Cert.OutProjectionReferenceIdeal.nD → PrngReg), Pre_OutProjectionReferenceIdeal m →
    θ_run (Cert.OutProjectionReferenceIdeal.defs (F := Ideal)) (onTc (τ := Cert.OutProjectionReferenceIdeal.τ) (Cert.OutProjectionReferenceIdeal.main (F := Ideal))) ⟨m, fun _ => 0, g⟩ (fun r => (∀ c : Dev Cert.OutProjectionReferenceIdeal.nD,
      r.2.mem ((c.tc : Thread Cert.OutProjectionReferenceIdeal.nD Cert.OutProjectionReferenceIdeal.τ).loc Cert.OutProjectionReferenceIdeal.main_arg0) = m ((c.tc : Thread Cert.OutProjectionReferenceIdeal.nD Cert.OutProjectionReferenceIdeal.τ).loc Cert.OutProjectionReferenceIdeal.main_arg0)
      ∧ r.2.mem ((c.tc : Thread Cert.OutProjectionReferenceIdeal.nD Cert.OutProjectionReferenceIdeal.τ).loc Cert.OutProjectionReferenceIdeal.main_arg1) = m ((c.tc : Thread Cert.OutProjectionReferenceIdeal.nD Cert.OutProjectionReferenceIdeal.τ).loc Cert.OutProjectionReferenceIdeal.main_arg1)
      ∧ r.2.mem ((c.tc : Thread Cert.OutProjectionReferenceIdeal.nD Cert.OutProjectionReferenceIdeal.τ).loc Cert.OutProjectionReferenceIdeal.main_arg2) = m ((c.tc : Thread Cert.OutProjectionReferenceIdeal.nD Cert.OutProjectionReferenceIdeal.τ).loc Cert.OutProjectionReferenceIdeal.main_arg2)
      ∧ r.2.mem ((c.tc : Thread Cert.OutProjectionReferenceIdeal.nD Cert.OutProjectionReferenceIdeal.τ).loc Cert.OutProjectionReferenceIdeal.main_arg3) = m ((c.tc : Thread Cert.OutProjectionReferenceIdeal.nD Cert.OutProjectionReferenceIdeal.τ).loc Cert.OutProjectionReferenceIdeal.main_arg3)
      ∧ r.2.mem ((c.tc : Thread Cert.OutProjectionReferenceIdeal.nD Cert.OutProjectionReferenceIdeal.τ).loc Cert.OutProjectionReferenceIdeal.main_arg4) = m ((c.tc : Thread Cert.OutProjectionReferenceIdeal.nD Cert.OutProjectionReferenceIdeal.τ).loc Cert.OutProjectionReferenceIdeal.main_arg4)
      ∧ r.2.mem ((c.tc : Thread Cert.OutProjectionReferenceIdeal.nD Cert.OutProjectionReferenceIdeal.τ).loc Cert.OutProjectionReferenceIdeal.main_arg5) = m ((c.tc : Thread Cert.OutProjectionReferenceIdeal.nD Cert.OutProjectionReferenceIdeal.τ).loc Cert.OutProjectionReferenceIdeal.main_arg5))
      ∧ r.2.sem = fun _ => 0)

def quiescent_SampleCaches [hSampleCaches : Cert.SampleCaches.Facts] : Prop :=
  ∀ (m : (ℓ : Loc Cert.SampleCaches.nD Cert.SampleCaches.τ Cert.SampleCaches.sig) → Buf (Elt Bits) ℓ) (g : Dev Cert.SampleCaches.nD → PrngReg), Pre_SampleCaches m →
    θ_run (Cert.SampleCaches.defs (F := Bits)) (onTc (τ := Cert.SampleCaches.τ) (Cert.SampleCaches.main (F := Bits))) ⟨m, fun _ => 0, g⟩ (fun r => (∀ c : Dev Cert.SampleCaches.nD,
      r.2.mem ((c.tc : Thread Cert.SampleCaches.nD Cert.SampleCaches.τ).loc Cert.SampleCaches.main_arg0) = m ((c.tc : Thread Cert.SampleCaches.nD Cert.SampleCaches.τ).loc Cert.SampleCaches.main_arg0)
      ∧ r.2.mem ((c.tc : Thread Cert.SampleCaches.nD Cert.SampleCaches.τ).loc Cert.SampleCaches.main_arg1) = m ((c.tc : Thread Cert.SampleCaches.nD Cert.SampleCaches.τ).loc Cert.SampleCaches.main_arg1)
      ∧ r.2.mem ((c.tc : Thread Cert.SampleCaches.nD Cert.SampleCaches.τ).loc Cert.SampleCaches.main_arg2) = m ((c.tc : Thread Cert.SampleCaches.nD Cert.SampleCaches.τ).loc Cert.SampleCaches.main_arg2)
      ∧ r.2.mem ((c.tc : Thread Cert.SampleCaches.nD Cert.SampleCaches.τ).loc Cert.SampleCaches.main_arg3) = m ((c.tc : Thread Cert.SampleCaches.nD Cert.SampleCaches.τ).loc Cert.SampleCaches.main_arg3)
      ∧ r.2.mem ((c.tc : Thread Cert.SampleCaches.nD Cert.SampleCaches.τ).loc Cert.SampleCaches.main_arg4) = m ((c.tc : Thread Cert.SampleCaches.nD Cert.SampleCaches.τ).loc Cert.SampleCaches.main_arg4)
      ∧ r.2.mem ((c.tc : Thread Cert.SampleCaches.nD Cert.SampleCaches.τ).loc Cert.SampleCaches.main_arg5) = m ((c.tc : Thread Cert.SampleCaches.nD Cert.SampleCaches.τ).loc Cert.SampleCaches.main_arg5)
      ∧ r.2.mem ((c.tc : Thread Cert.SampleCaches.nD Cert.SampleCaches.τ).loc Cert.SampleCaches.main_arg6) = m ((c.tc : Thread Cert.SampleCaches.nD Cert.SampleCaches.τ).loc Cert.SampleCaches.main_arg6)
      ∧ r.2.mem ((c.tc : Thread Cert.SampleCaches.nD Cert.SampleCaches.τ).loc Cert.SampleCaches.main_arg7) = m ((c.tc : Thread Cert.SampleCaches.nD Cert.SampleCaches.τ).loc Cert.SampleCaches.main_arg7)
      ∧ r.2.mem ((c.tc : Thread Cert.SampleCaches.nD Cert.SampleCaches.τ).loc Cert.SampleCaches.main_arg8) = m ((c.tc : Thread Cert.SampleCaches.nD Cert.SampleCaches.τ).loc Cert.SampleCaches.main_arg8))
      ∧ r.2.sem = fun _ => 0)

def quiescent_SampleCachesIdeal [hSampleCachesIdeal : Cert.SampleCachesIdeal.Facts] : Prop :=
  ∀ (m : (ℓ : Loc Cert.SampleCachesIdeal.nD Cert.SampleCachesIdeal.τ Cert.SampleCachesIdeal.sig) → Buf (Elt Ideal) ℓ) (g : Dev Cert.SampleCachesIdeal.nD → PrngReg), Pre_SampleCachesIdeal m →
    θ_run (Cert.SampleCachesIdeal.defs (F := Ideal)) (onTc (τ := Cert.SampleCachesIdeal.τ) (Cert.SampleCachesIdeal.main (F := Ideal))) ⟨m, fun _ => 0, g⟩ (fun r => (∀ c : Dev Cert.SampleCachesIdeal.nD,
      r.2.mem ((c.tc : Thread Cert.SampleCachesIdeal.nD Cert.SampleCachesIdeal.τ).loc Cert.SampleCachesIdeal.main_arg0) = m ((c.tc : Thread Cert.SampleCachesIdeal.nD Cert.SampleCachesIdeal.τ).loc Cert.SampleCachesIdeal.main_arg0)
      ∧ r.2.mem ((c.tc : Thread Cert.SampleCachesIdeal.nD Cert.SampleCachesIdeal.τ).loc Cert.SampleCachesIdeal.main_arg1) = m ((c.tc : Thread Cert.SampleCachesIdeal.nD Cert.SampleCachesIdeal.τ).loc Cert.SampleCachesIdeal.main_arg1)
      ∧ r.2.mem ((c.tc : Thread Cert.SampleCachesIdeal.nD Cert.SampleCachesIdeal.τ).loc Cert.SampleCachesIdeal.main_arg2) = m ((c.tc : Thread Cert.SampleCachesIdeal.nD Cert.SampleCachesIdeal.τ).loc Cert.SampleCachesIdeal.main_arg2)
      ∧ r.2.mem ((c.tc : Thread Cert.SampleCachesIdeal.nD Cert.SampleCachesIdeal.τ).loc Cert.SampleCachesIdeal.main_arg3) = m ((c.tc : Thread Cert.SampleCachesIdeal.nD Cert.SampleCachesIdeal.τ).loc Cert.SampleCachesIdeal.main_arg3)
      ∧ r.2.mem ((c.tc : Thread Cert.SampleCachesIdeal.nD Cert.SampleCachesIdeal.τ).loc Cert.SampleCachesIdeal.main_arg4) = m ((c.tc : Thread Cert.SampleCachesIdeal.nD Cert.SampleCachesIdeal.τ).loc Cert.SampleCachesIdeal.main_arg4)
      ∧ r.2.mem ((c.tc : Thread Cert.SampleCachesIdeal.nD Cert.SampleCachesIdeal.τ).loc Cert.SampleCachesIdeal.main_arg5) = m ((c.tc : Thread Cert.SampleCachesIdeal.nD Cert.SampleCachesIdeal.τ).loc Cert.SampleCachesIdeal.main_arg5)
      ∧ r.2.mem ((c.tc : Thread Cert.SampleCachesIdeal.nD Cert.SampleCachesIdeal.τ).loc Cert.SampleCachesIdeal.main_arg6) = m ((c.tc : Thread Cert.SampleCachesIdeal.nD Cert.SampleCachesIdeal.τ).loc Cert.SampleCachesIdeal.main_arg6)
      ∧ r.2.mem ((c.tc : Thread Cert.SampleCachesIdeal.nD Cert.SampleCachesIdeal.τ).loc Cert.SampleCachesIdeal.main_arg7) = m ((c.tc : Thread Cert.SampleCachesIdeal.nD Cert.SampleCachesIdeal.τ).loc Cert.SampleCachesIdeal.main_arg7)
      ∧ r.2.mem ((c.tc : Thread Cert.SampleCachesIdeal.nD Cert.SampleCachesIdeal.τ).loc Cert.SampleCachesIdeal.main_arg8) = m ((c.tc : Thread Cert.SampleCachesIdeal.nD Cert.SampleCachesIdeal.τ).loc Cert.SampleCachesIdeal.main_arg8))
      ∧ r.2.sem = fun _ => 0)

def quiescent_SampleCachesReferenceIdeal [hSampleCachesReferenceIdeal : Cert.SampleCachesReferenceIdeal.Facts] : Prop :=
  ∀ (m : (ℓ : Loc Cert.SampleCachesReferenceIdeal.nD Cert.SampleCachesReferenceIdeal.τ Cert.SampleCachesReferenceIdeal.sig) → Buf (Elt Ideal) ℓ) (g : Dev Cert.SampleCachesReferenceIdeal.nD → PrngReg), Pre_SampleCachesReferenceIdeal m →
    θ_run (Cert.SampleCachesReferenceIdeal.defs (F := Ideal)) (onTc (τ := Cert.SampleCachesReferenceIdeal.τ) (Cert.SampleCachesReferenceIdeal.main (F := Ideal))) ⟨m, fun _ => 0, g⟩ (fun r => (∀ c : Dev Cert.SampleCachesReferenceIdeal.nD,
      r.2.mem ((c.tc : Thread Cert.SampleCachesReferenceIdeal.nD Cert.SampleCachesReferenceIdeal.τ).loc Cert.SampleCachesReferenceIdeal.main_arg0) = m ((c.tc : Thread Cert.SampleCachesReferenceIdeal.nD Cert.SampleCachesReferenceIdeal.τ).loc Cert.SampleCachesReferenceIdeal.main_arg0)
      ∧ r.2.mem ((c.tc : Thread Cert.SampleCachesReferenceIdeal.nD Cert.SampleCachesReferenceIdeal.τ).loc Cert.SampleCachesReferenceIdeal.main_arg1) = m ((c.tc : Thread Cert.SampleCachesReferenceIdeal.nD Cert.SampleCachesReferenceIdeal.τ).loc Cert.SampleCachesReferenceIdeal.main_arg1)
      ∧ r.2.mem ((c.tc : Thread Cert.SampleCachesReferenceIdeal.nD Cert.SampleCachesReferenceIdeal.τ).loc Cert.SampleCachesReferenceIdeal.main_arg2) = m ((c.tc : Thread Cert.SampleCachesReferenceIdeal.nD Cert.SampleCachesReferenceIdeal.τ).loc Cert.SampleCachesReferenceIdeal.main_arg2)
      ∧ r.2.mem ((c.tc : Thread Cert.SampleCachesReferenceIdeal.nD Cert.SampleCachesReferenceIdeal.τ).loc Cert.SampleCachesReferenceIdeal.main_arg3) = m ((c.tc : Thread Cert.SampleCachesReferenceIdeal.nD Cert.SampleCachesReferenceIdeal.τ).loc Cert.SampleCachesReferenceIdeal.main_arg3)
      ∧ r.2.mem ((c.tc : Thread Cert.SampleCachesReferenceIdeal.nD Cert.SampleCachesReferenceIdeal.τ).loc Cert.SampleCachesReferenceIdeal.main_arg4) = m ((c.tc : Thread Cert.SampleCachesReferenceIdeal.nD Cert.SampleCachesReferenceIdeal.τ).loc Cert.SampleCachesReferenceIdeal.main_arg4)
      ∧ r.2.mem ((c.tc : Thread Cert.SampleCachesReferenceIdeal.nD Cert.SampleCachesReferenceIdeal.τ).loc Cert.SampleCachesReferenceIdeal.main_arg5) = m ((c.tc : Thread Cert.SampleCachesReferenceIdeal.nD Cert.SampleCachesReferenceIdeal.τ).loc Cert.SampleCachesReferenceIdeal.main_arg5)
      ∧ r.2.mem ((c.tc : Thread Cert.SampleCachesReferenceIdeal.nD Cert.SampleCachesReferenceIdeal.τ).loc Cert.SampleCachesReferenceIdeal.main_arg6) = m ((c.tc : Thread Cert.SampleCachesReferenceIdeal.nD Cert.SampleCachesReferenceIdeal.τ).loc Cert.SampleCachesReferenceIdeal.main_arg6)
      ∧ r.2.mem ((c.tc : Thread Cert.SampleCachesReferenceIdeal.nD Cert.SampleCachesReferenceIdeal.τ).loc Cert.SampleCachesReferenceIdeal.main_arg7) = m ((c.tc : Thread Cert.SampleCachesReferenceIdeal.nD Cert.SampleCachesReferenceIdeal.τ).loc Cert.SampleCachesReferenceIdeal.main_arg7)
      ∧ r.2.mem ((c.tc : Thread Cert.SampleCachesReferenceIdeal.nD Cert.SampleCachesReferenceIdeal.τ).loc Cert.SampleCachesReferenceIdeal.main_arg8) = m ((c.tc : Thread Cert.SampleCachesReferenceIdeal.nD Cert.SampleCachesReferenceIdeal.τ).loc Cert.SampleCachesReferenceIdeal.main_arg8))
      ∧ r.2.sem = fun _ => 0)

def quiescent_SampleInProjection [hSampleInProjection : Cert.SampleInProjection.Facts] : Prop :=
  ∀ (m : (ℓ : Loc Cert.SampleInProjection.nD Cert.SampleInProjection.τ Cert.SampleInProjection.sig) → Buf (Elt Bits) ℓ) (g : Dev Cert.SampleInProjection.nD → PrngReg), Pre_SampleInProjection m →
    θ_run (Cert.SampleInProjection.defs (F := Bits)) (onTc (τ := Cert.SampleInProjection.τ) (Cert.SampleInProjection.main (F := Bits))) ⟨m, fun _ => 0, g⟩ (fun r => (∀ c : Dev Cert.SampleInProjection.nD,
      r.2.mem ((c.tc : Thread Cert.SampleInProjection.nD Cert.SampleInProjection.τ).loc Cert.SampleInProjection.main_arg0) = m ((c.tc : Thread Cert.SampleInProjection.nD Cert.SampleInProjection.τ).loc Cert.SampleInProjection.main_arg0)
      ∧ r.2.mem ((c.tc : Thread Cert.SampleInProjection.nD Cert.SampleInProjection.τ).loc Cert.SampleInProjection.main_arg1) = m ((c.tc : Thread Cert.SampleInProjection.nD Cert.SampleInProjection.τ).loc Cert.SampleInProjection.main_arg1)
      ∧ r.2.mem ((c.tc : Thread Cert.SampleInProjection.nD Cert.SampleInProjection.τ).loc Cert.SampleInProjection.main_arg2) = m ((c.tc : Thread Cert.SampleInProjection.nD Cert.SampleInProjection.τ).loc Cert.SampleInProjection.main_arg2))
      ∧ r.2.sem = fun _ => 0)

def quiescent_SampleInProjectionIdeal [hSampleInProjectionIdeal : Cert.SampleInProjectionIdeal.Facts] : Prop :=
  ∀ (m : (ℓ : Loc Cert.SampleInProjectionIdeal.nD Cert.SampleInProjectionIdeal.τ Cert.SampleInProjectionIdeal.sig) → Buf (Elt Ideal) ℓ) (g : Dev Cert.SampleInProjectionIdeal.nD → PrngReg), Pre_SampleInProjectionIdeal m →
    θ_run (Cert.SampleInProjectionIdeal.defs (F := Ideal)) (onTc (τ := Cert.SampleInProjectionIdeal.τ) (Cert.SampleInProjectionIdeal.main (F := Ideal))) ⟨m, fun _ => 0, g⟩ (fun r => (∀ c : Dev Cert.SampleInProjectionIdeal.nD,
      r.2.mem ((c.tc : Thread Cert.SampleInProjectionIdeal.nD Cert.SampleInProjectionIdeal.τ).loc Cert.SampleInProjectionIdeal.main_arg0) = m ((c.tc : Thread Cert.SampleInProjectionIdeal.nD Cert.SampleInProjectionIdeal.τ).loc Cert.SampleInProjectionIdeal.main_arg0)
      ∧ r.2.mem ((c.tc : Thread Cert.SampleInProjectionIdeal.nD Cert.SampleInProjectionIdeal.τ).loc Cert.SampleInProjectionIdeal.main_arg1) = m ((c.tc : Thread Cert.SampleInProjectionIdeal.nD Cert.SampleInProjectionIdeal.τ).loc Cert.SampleInProjectionIdeal.main_arg1)
      ∧ r.2.mem ((c.tc : Thread Cert.SampleInProjectionIdeal.nD Cert.SampleInProjectionIdeal.τ).loc Cert.SampleInProjectionIdeal.main_arg2) = m ((c.tc : Thread Cert.SampleInProjectionIdeal.nD Cert.SampleInProjectionIdeal.τ).loc Cert.SampleInProjectionIdeal.main_arg2))
      ∧ r.2.sem = fun _ => 0)

def quiescent_SampleInProjectionReferenceIdeal [hSampleInProjectionReferenceIdeal : Cert.SampleInProjectionReferenceIdeal.Facts] : Prop :=
  ∀ (m : (ℓ : Loc Cert.SampleInProjectionReferenceIdeal.nD Cert.SampleInProjectionReferenceIdeal.τ Cert.SampleInProjectionReferenceIdeal.sig) → Buf (Elt Ideal) ℓ) (g : Dev Cert.SampleInProjectionReferenceIdeal.nD → PrngReg), Pre_SampleInProjectionReferenceIdeal m →
    θ_run (Cert.SampleInProjectionReferenceIdeal.defs (F := Ideal)) (onTc (τ := Cert.SampleInProjectionReferenceIdeal.τ) (Cert.SampleInProjectionReferenceIdeal.main (F := Ideal))) ⟨m, fun _ => 0, g⟩ (fun r => (∀ c : Dev Cert.SampleInProjectionReferenceIdeal.nD,
      r.2.mem ((c.tc : Thread Cert.SampleInProjectionReferenceIdeal.nD Cert.SampleInProjectionReferenceIdeal.τ).loc Cert.SampleInProjectionReferenceIdeal.main_arg0) = m ((c.tc : Thread Cert.SampleInProjectionReferenceIdeal.nD Cert.SampleInProjectionReferenceIdeal.τ).loc Cert.SampleInProjectionReferenceIdeal.main_arg0)
      ∧ r.2.mem ((c.tc : Thread Cert.SampleInProjectionReferenceIdeal.nD Cert.SampleInProjectionReferenceIdeal.τ).loc Cert.SampleInProjectionReferenceIdeal.main_arg1) = m ((c.tc : Thread Cert.SampleInProjectionReferenceIdeal.nD Cert.SampleInProjectionReferenceIdeal.τ).loc Cert.SampleInProjectionReferenceIdeal.main_arg1)
      ∧ r.2.mem ((c.tc : Thread Cert.SampleInProjectionReferenceIdeal.nD Cert.SampleInProjectionReferenceIdeal.τ).loc Cert.SampleInProjectionReferenceIdeal.main_arg2) = m ((c.tc : Thread Cert.SampleInProjectionReferenceIdeal.nD Cert.SampleInProjectionReferenceIdeal.τ).loc Cert.SampleInProjectionReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_named : Cert.Pre_rows_named.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_tables_named : Cert.Pre_tables_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v31) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4))

def preserves_FeedForward_FeedForwardIdeal : Prop :=
  True

def algebraic_FeedForwardIdeal_FeedForwardReferenceIdeal [hFeedForwardIdeal : Cert.FeedForwardIdeal.Facts] [hFeedForwardReferenceIdeal : Cert.FeedForwardReferenceIdeal.Facts] : Prop :=
  ∀ (m : (ℓ : Loc Cert.FeedForwardIdeal.nD Cert.FeedForwardIdeal.τ Cert.FeedForwardIdeal.sig) → Buf (Elt Ideal) ℓ) (g : Dev Cert.FeedForwardIdeal.nD → PrngReg)
    (m' : (ℓ : Loc Cert.FeedForwardReferenceIdeal.nD Cert.FeedForwardReferenceIdeal.τ Cert.FeedForwardReferenceIdeal.sig) → Buf (Elt Ideal) ℓ) (g' : Dev Cert.FeedForwardReferenceIdeal.nD → PrngReg), Pre_FeedForwardIdeal m →
    (∀ c : Dev Cert.FeedForwardIdeal.nD,
      m' ((c.tc : Thread Cert.FeedForwardReferenceIdeal.nD Cert.FeedForwardReferenceIdeal.τ).loc Cert.FeedForwardReferenceIdeal.main_arg0) = m ((c.tc : Thread Cert.FeedForwardIdeal.nD Cert.FeedForwardIdeal.τ).loc Cert.FeedForwardIdeal.main_arg0)
      ∧ m' ((c.tc : Thread Cert.FeedForwardReferenceIdeal.nD Cert.FeedForwardReferenceIdeal.τ).loc Cert.FeedForwardReferenceIdeal.main_arg1) = m ((c.tc : Thread Cert.FeedForwardIdeal.nD Cert.FeedForwardIdeal.τ).loc Cert.FeedForwardIdeal.main_arg1)
      ∧ m' ((c.tc : Thread Cert.FeedForwardReferenceIdeal.nD Cert.FeedForwardReferenceIdeal.τ).loc Cert.FeedForwardReferenceIdeal.main_arg2) = m ((c.tc : Thread Cert.FeedForwardIdeal.nD Cert.FeedForwardIdeal.τ).loc Cert.FeedForwardIdeal.main_arg2)
      ∧ m' ((c.tc : Thread Cert.FeedForwardReferenceIdeal.nD Cert.FeedForwardReferenceIdeal.τ).loc Cert.FeedForwardReferenceIdeal.main_arg3) = m ((c.tc : Thread Cert.FeedForwardIdeal.nD Cert.FeedForwardIdeal.τ).loc Cert.FeedForwardIdeal.main_arg3)) →
    ∃ (v0 : (c : Dev Cert.FeedForwardIdeal.nD) → Buf (Elt Ideal) ((c.tc : Thread Cert.FeedForwardIdeal.nD Cert.FeedForwardIdeal.τ).loc Cert.FeedForwardIdeal.main_v3)),
      θ_run (Cert.FeedForwardIdeal.defs (F := Ideal)) (onTc (τ := Cert.FeedForwardIdeal.τ) (Cert.FeedForwardIdeal.main (F := Ideal))) ⟨m, fun _ => 0, g⟩ (fun r => ∀ c : Dev Cert.FeedForwardIdeal.nD,
          r.2.mem ((c.tc : Thread Cert.FeedForwardIdeal.nD Cert.FeedForwardIdeal.τ).loc Cert.FeedForwardIdeal.main_v3) = v0 c
          ∧ r.2.mem ((c.tc : Thread Cert.FeedForwardIdeal.nD Cert.FeedForwardIdeal.τ).loc Cert.FeedForwardIdeal.main_arg0) = m ((c.tc : Thread Cert.FeedForwardIdeal.nD Cert.FeedForwardIdeal.τ).loc Cert.FeedForwardIdeal.main_arg0)
          ∧ r.2.mem ((c.tc : Thread Cert.FeedForwardIdeal.nD Cert.FeedForwardIdeal.τ).loc Cert.FeedForwardIdeal.main_arg1) = m ((c.tc : Thread Cert.FeedForwardIdeal.nD Cert.FeedForwardIdeal.τ).loc Cert.FeedForwardIdeal.main_arg1)
          ∧ r.2.mem ((c.tc : Thread Cert.FeedForwardIdeal.nD Cert.FeedForwardIdeal.τ).loc Cert.FeedForwardIdeal.main_arg2) = m ((c.tc : Thread Cert.FeedForwardIdeal.nD Cert.FeedForwardIdeal.τ).loc Cert.FeedForwardIdeal.main_arg2)
          ∧ r.2.mem ((c.tc : Thread Cert.FeedForwardIdeal.nD Cert.FeedForwardIdeal.τ).loc Cert.FeedForwardIdeal.main_arg3) = m ((c.tc : Thread Cert.FeedForwardIdeal.nD Cert.FeedForwardIdeal.τ).loc Cert.FeedForwardIdeal.main_arg3))
      ∧ θ_run (Cert.FeedForwardReferenceIdeal.defs (F := Ideal)) (onTc (τ := Cert.FeedForwardReferenceIdeal.τ) (Cert.FeedForwardReferenceIdeal.main (F := Ideal))) ⟨m', fun _ => 0, g'⟩ (fun r => ∀ c : Dev Cert.FeedForwardReferenceIdeal.nD,
          r.2.mem ((c.tc : Thread Cert.FeedForwardReferenceIdeal.nD Cert.FeedForwardReferenceIdeal.τ).loc Cert.FeedForwardReferenceIdeal.main_v19) = v0 c
          ∧ r.2.mem ((c.tc : Thread Cert.FeedForwardReferenceIdeal.nD Cert.FeedForwardReferenceIdeal.τ).loc Cert.FeedForwardReferenceIdeal.main_arg0) = m' ((c.tc : Thread Cert.FeedForwardReferenceIdeal.nD Cert.FeedForwardReferenceIdeal.τ).loc Cert.FeedForwardReferenceIdeal.main_arg0)
          ∧ r.2.mem ((c.tc : Thread Cert.FeedForwardReferenceIdeal.nD Cert.FeedForwardReferenceIdeal.τ).loc Cert.FeedForwardReferenceIdeal.main_arg1) = m' ((c.tc : Thread Cert.FeedForwardReferenceIdeal.nD Cert.FeedForwardReferenceIdeal.τ).loc Cert.FeedForwardReferenceIdeal.main_arg1)
          ∧ r.2.mem ((c.tc : Thread Cert.FeedForwardReferenceIdeal.nD Cert.FeedForwardReferenceIdeal.τ).loc Cert.FeedForwardReferenceIdeal.main_arg2) = m' ((c.tc : Thread Cert.FeedForwardReferenceIdeal.nD Cert.FeedForwardReferenceIdeal.τ).loc Cert.FeedForwardReferenceIdeal.main_arg2)
          ∧ r.2.mem ((c.tc : Thread Cert.FeedForwardReferenceIdeal.nD Cert.FeedForwardReferenceIdeal.τ).loc Cert.FeedForwardReferenceIdeal.main_arg3) = m' ((c.tc : Thread Cert.FeedForwardReferenceIdeal.nD Cert.FeedForwardReferenceIdeal.τ).loc Cert.FeedForwardReferenceIdeal.main_arg3))

def preserves_InProjection_InProjectionIdeal : Prop :=
  True

def algebraic_InProjectionIdeal_InProjectionReferenceIdeal [hInProjectionIdeal : Cert.InProjectionIdeal.Facts] [hInProjectionReferenceIdeal : Cert.InProjectionReferenceIdeal.Facts] : Prop :=
  ∀ (m : (ℓ : Loc Cert.InProjectionIdeal.nD Cert.InProjectionIdeal.τ Cert.InProjectionIdeal.sig) → Buf (Elt Ideal) ℓ) (g : Dev Cert.InProjectionIdeal.nD → PrngReg)
    (m' : (ℓ : Loc Cert.InProjectionReferenceIdeal.nD Cert.InProjectionReferenceIdeal.τ Cert.InProjectionReferenceIdeal.sig) → Buf (Elt Ideal) ℓ) (g' : Dev Cert.InProjectionReferenceIdeal.nD → PrngReg), Pre_InProjectionIdeal m →
    (∀ c : Dev Cert.InProjectionIdeal.nD,
      m' ((c.tc : Thread Cert.InProjectionReferenceIdeal.nD Cert.InProjectionReferenceIdeal.τ).loc Cert.InProjectionReferenceIdeal.main_arg0) = m ((c.tc : Thread Cert.InProjectionIdeal.nD Cert.InProjectionIdeal.τ).loc Cert.InProjectionIdeal.main_arg0)
      ∧ m' ((c.tc : Thread Cert.InProjectionReferenceIdeal.nD Cert.InProjectionReferenceIdeal.τ).loc Cert.InProjectionReferenceIdeal.main_arg1) = m ((c.tc : Thread Cert.InProjectionIdeal.nD Cert.InProjectionIdeal.τ).loc Cert.InProjectionIdeal.main_arg1)
      ∧ m' ((c.tc : Thread Cert.InProjectionReferenceIdeal.nD Cert.InProjectionReferenceIdeal.τ).loc Cert.InProjectionReferenceIdeal.main_arg2) = m ((c.tc : Thread Cert.InProjectionIdeal.nD Cert.InProjectionIdeal.τ).loc Cert.InProjectionIdeal.main_arg2)) →
    ∃ (v0 : (c : Dev Cert.InProjectionIdeal.nD) → Buf (Elt Ideal) ((c.tc : Thread Cert.InProjectionIdeal.nD Cert.InProjectionIdeal.τ).loc Cert.InProjectionIdeal.main_v7_0)) (v1 : (c : Dev Cert.InProjectionIdeal.nD) → Buf (Elt Ideal) ((c.tc : Thread Cert.InProjectionIdeal.nD Cert.InProjectionIdeal.τ).loc Cert.InProjectionIdeal.main_v7_1)) (v2 : (c : Dev Cert.InProjectionIdeal.nD) → Buf (Elt Ideal) ((c.tc : Thread Cert.InProjectionIdeal.nD Cert.InProjectionIdeal.τ).loc Cert.InProjectionIdeal.main_v7_2)) (v3 : (c : Dev Cert.InProjectionIdeal.nD) → Buf (Elt Ideal) ((c.tc : Thread Cert.InProjectionIdeal.nD Cert.InProjectionIdeal.τ).loc Cert.InProjectionIdeal.main_v7_3)) (v4 : (c : Dev Cert.InProjectionIdeal.nD) → Buf (Elt Ideal) ((c.tc : Thread Cert.InProjectionIdeal.nD Cert.InProjectionIdeal.τ).loc Cert.InProjectionIdeal.main_v7_4)) (v5 : (c : Dev Cert.InProjectionIdeal.nD) → Buf (Elt Ideal) ((c.tc : Thread Cert.InProjectionIdeal.nD Cert.InProjectionIdeal.τ).loc Cert.InProjectionIdeal.main_v7_5)) (v6 : (c : Dev Cert.InProjectionIdeal.nD) → Buf (Elt Ideal) ((c.tc : Thread Cert.InProjectionIdeal.nD Cert.InProjectionIdeal.τ).loc Cert.InProjectionIdeal.main_v7_6)),
      θ_run (Cert.InProjectionIdeal.defs (F := Ideal)) (onTc (τ := Cert.InProjectionIdeal.τ) (Cert.InProjectionIdeal.main (F := Ideal))) ⟨m, fun _ => 0, g⟩ (fun r => ∀ c : Dev Cert.InProjectionIdeal.nD,
          r.2.mem ((c.tc : Thread Cert.InProjectionIdeal.nD Cert.InProjectionIdeal.τ).loc Cert.InProjectionIdeal.main_v7_0) = v0 c
          ∧ r.2.mem ((c.tc : Thread Cert.InProjectionIdeal.nD Cert.InProjectionIdeal.τ).loc Cert.InProjectionIdeal.main_v7_1) = v1 c
          ∧ r.2.mem ((c.tc : Thread Cert.InProjectionIdeal.nD Cert.InProjectionIdeal.τ).loc Cert.InProjectionIdeal.main_v7_2) = v2 c
          ∧ r.2.mem ((c.tc : Thread Cert.InProjectionIdeal.nD Cert.InProjectionIdeal.τ).loc Cert.InProjectionIdeal.main_v7_3) = v3 c
          ∧ r.2.mem ((c.tc : Thread Cert.InProjectionIdeal.nD Cert.InProjectionIdeal.τ).loc Cert.InProjectionIdeal.main_v7_4) = v4 c
          ∧ r.2.mem ((c.tc : Thread Cert.InProjectionIdeal.nD Cert.InProjectionIdeal.τ).loc Cert.InProjectionIdeal.main_v7_5) = v5 c
          ∧ r.2.mem ((c.tc : Thread Cert.InProjectionIdeal.nD Cert.InProjectionIdeal.τ).loc Cert.InProjectionIdeal.main_v7_6) = v6 c
          ∧ r.2.mem ((c.tc : Thread Cert.InProjectionIdeal.nD Cert.InProjectionIdeal.τ).loc Cert.InProjectionIdeal.main_arg0) = m ((c.tc : Thread Cert.InProjectionIdeal.nD Cert.InProjectionIdeal.τ).loc Cert.InProjectionIdeal.main_arg0)
          ∧ r.2.mem ((c.tc : Thread Cert.InProjectionIdeal.nD Cert.InProjectionIdeal.τ).loc Cert.InProjectionIdeal.main_arg1) = m ((c.tc : Thread Cert.InProjectionIdeal.nD Cert.InProjectionIdeal.τ).loc Cert.InProjectionIdeal.main_arg1)
          ∧ r.2.mem ((c.tc : Thread Cert.InProjectionIdeal.nD Cert.InProjectionIdeal.τ).loc Cert.InProjectionIdeal.main_arg2) = m ((c.tc : Thread Cert.InProjectionIdeal.nD Cert.InProjectionIdeal.τ).loc Cert.InProjectionIdeal.main_arg2))
      ∧ θ_run (Cert.InProjectionReferenceIdeal.defs (F := Ideal)) (onTc (τ := Cert.InProjectionReferenceIdeal.τ) (Cert.InProjectionReferenceIdeal.main (F := Ideal))) ⟨m', fun _ => 0, g'⟩ (fun r => ∀ c : Dev Cert.InProjectionReferenceIdeal.nD,
          r.2.mem ((c.tc : Thread Cert.InProjectionReferenceIdeal.nD Cert.InProjectionReferenceIdeal.τ).loc Cert.InProjectionReferenceIdeal.main_v15) = v0 c
          ∧ r.2.mem ((c.tc : Thread Cert.InProjectionReferenceIdeal.nD Cert.InProjectionReferenceIdeal.τ).loc Cert.InProjectionReferenceIdeal.main_v16) = v1 c
          ∧ r.2.mem ((c.tc : Thread Cert.InProjectionReferenceIdeal.nD Cert.InProjectionReferenceIdeal.τ).loc Cert.InProjectionReferenceIdeal.main_v17) = v2 c
          ∧ r.2.mem ((c.tc : Thread Cert.InProjectionReferenceIdeal.nD Cert.InProjectionReferenceIdeal.τ).loc Cert.InProjectionReferenceIdeal.main_v14) = v3 c
          ∧ r.2.mem ((c.tc : Thread Cert.InProjectionReferenceIdeal.nD Cert.InProjectionReferenceIdeal.τ).loc Cert.InProjectionReferenceIdeal.main_v19) = v4 c
          ∧ r.2.mem ((c.tc : Thread Cert.InProjectionReferenceIdeal.nD Cert.InProjectionReferenceIdeal.τ).loc Cert.InProjectionReferenceIdeal.main_v21) = v5 c
          ∧ r.2.mem ((c.tc : Thread Cert.InProjectionReferenceIdeal.nD Cert.InProjectionReferenceIdeal.τ).loc Cert.InProjectionReferenceIdeal.main_v23) = v6 c
          ∧ r.2.mem ((c.tc : Thread Cert.InProjectionReferenceIdeal.nD Cert.InProjectionReferenceIdeal.τ).loc Cert.InProjectionReferenceIdeal.main_arg0) = m' ((c.tc : Thread Cert.InProjectionReferenceIdeal.nD Cert.InProjectionReferenceIdeal.τ).loc Cert.InProjectionReferenceIdeal.main_arg0)
          ∧ r.2.mem ((c.tc : Thread Cert.InProjectionReferenceIdeal.nD Cert.InProjectionReferenceIdeal.τ).loc Cert.InProjectionReferenceIdeal.main_arg1) = m' ((c.tc : Thread Cert.InProjectionReferenceIdeal.nD Cert.InProjectionReferenceIdeal.τ).loc Cert.InProjectionReferenceIdeal.main_arg1)
          ∧ r.2.mem ((c.tc : Thread Cert.InProjectionReferenceIdeal.nD Cert.InProjectionReferenceIdeal.τ).loc Cert.InProjectionReferenceIdeal.main_arg2) = m' ((c.tc : Thread Cert.InProjectionReferenceIdeal.nD Cert.InProjectionReferenceIdeal.τ).loc Cert.InProjectionReferenceIdeal.main_arg2))

def preserves_OutProjection_OutProjectionIdeal : Prop :=
  True

def algebraic_OutProjectionIdeal_OutProjectionReferenceIdeal [hOutProjectionIdeal : Cert.OutProjectionIdeal.Facts] [hOutProjectionReferenceIdeal : Cert.OutProjectionReferenceIdeal.Facts] : Prop :=
  ∀ (m : (ℓ : Loc Cert.OutProjectionIdeal.nD Cert.OutProjectionIdeal.τ Cert.OutProjectionIdeal.sig) → Buf (Elt Ideal) ℓ) (g : Dev Cert.OutProjectionIdeal.nD → PrngReg)
    (m' : (ℓ : Loc Cert.OutProjectionReferenceIdeal.nD Cert.OutProjectionReferenceIdeal.τ Cert.OutProjectionReferenceIdeal.sig) → Buf (Elt Ideal) ℓ) (g' : Dev Cert.OutProjectionReferenceIdeal.nD → PrngReg), Pre_OutProjectionIdeal m →
    (∀ c : Dev Cert.OutProjectionIdeal.nD,
      m' ((c.tc : Thread Cert.OutProjectionReferenceIdeal.nD Cert.OutProjectionReferenceIdeal.τ).loc Cert.OutProjectionReferenceIdeal.main_arg0) = m ((c.tc : Thread Cert.OutProjectionIdeal.nD Cert.OutProjectionIdeal.τ).loc Cert.OutProjectionIdeal.main_arg0)
      ∧ m' ((c.tc : Thread Cert.OutProjectionReferenceIdeal.nD Cert.OutProjectionReferenceIdeal.τ).loc Cert.OutProjectionReferenceIdeal.main_arg1) = m ((c.tc : Thread Cert.OutProjectionIdeal.nD Cert.OutProjectionIdeal.τ).loc Cert.OutProjectionIdeal.main_arg1)
      ∧ m' ((c.tc : Thread Cert.OutProjectionReferenceIdeal.nD Cert.OutProjectionReferenceIdeal.τ).loc Cert.OutProjectionReferenceIdeal.main_arg2) = m ((c.tc : Thread Cert.OutProjectionIdeal.nD Cert.OutProjectionIdeal.τ).loc Cert.OutProjectionIdeal.main_arg2)
      ∧ m' ((c.tc : Thread Cert.OutProjectionReferenceIdeal.nD Cert.OutProjectionReferenceIdeal.τ).loc Cert.OutProjectionReferenceIdeal.main_arg3) = m ((c.tc : Thread Cert.OutProjectionIdeal.nD Cert.OutProjectionIdeal.τ).loc Cert.OutProjectionIdeal.main_arg3)
      ∧ m' ((c.tc : Thread Cert.OutProjectionReferenceIdeal.nD Cert.OutProjectionReferenceIdeal.τ).loc Cert.OutProjectionReferenceIdeal.main_arg4) = m ((c.tc : Thread Cert.OutProjectionIdeal.nD Cert.OutProjectionIdeal.τ).loc Cert.OutProjectionIdeal.main_arg4)
      ∧ m' ((c.tc : Thread Cert.OutProjectionReferenceIdeal.nD Cert.OutProjectionReferenceIdeal.τ).loc Cert.OutProjectionReferenceIdeal.main_arg5) = m ((c.tc : Thread Cert.OutProjectionIdeal.nD Cert.OutProjectionIdeal.τ).loc Cert.OutProjectionIdeal.main_arg5)) →
    ∃ (v0 : (c : Dev Cert.OutProjectionIdeal.nD) → Buf (Elt Ideal) ((c.tc : Thread Cert.OutProjectionIdeal.nD Cert.OutProjectionIdeal.τ).loc Cert.OutProjectionIdeal.main_v1)),
      θ_run (Cert.OutProjectionIdeal.defs (F := Ideal)) (onTc (τ := Cert.OutProjectionIdeal.τ) (Cert.OutProjectionIdeal.main (F := Ideal))) ⟨m, fun _ => 0, g⟩ (fun r => ∀ c : Dev Cert.OutProjectionIdeal.nD,
          r.2.mem ((c.tc : Thread Cert.OutProjectionIdeal.nD Cert.OutProjectionIdeal.τ).loc Cert.OutProjectionIdeal.main_v1) = v0 c
          ∧ r.2.mem ((c.tc : Thread Cert.OutProjectionIdeal.nD Cert.OutProjectionIdeal.τ).loc Cert.OutProjectionIdeal.main_arg0) = m ((c.tc : Thread Cert.OutProjectionIdeal.nD Cert.OutProjectionIdeal.τ).loc Cert.OutProjectionIdeal.main_arg0)
          ∧ r.2.mem ((c.tc : Thread Cert.OutProjectionIdeal.nD Cert.OutProjectionIdeal.τ).loc Cert.OutProjectionIdeal.main_arg1) = m ((c.tc : Thread Cert.OutProjectionIdeal.nD Cert.OutProjectionIdeal.τ).loc Cert.OutProjectionIdeal.main_arg1)
          ∧ r.2.mem ((c.tc : Thread Cert.OutProjectionIdeal.nD Cert.OutProjectionIdeal.τ).loc Cert.OutProjectionIdeal.main_arg2) = m ((c.tc : Thread Cert.OutProjectionIdeal.nD Cert.OutProjectionIdeal.τ).loc Cert.OutProjectionIdeal.main_arg2)
          ∧ r.2.mem ((c.tc : Thread Cert.OutProjectionIdeal.nD Cert.OutProjectionIdeal.τ).loc Cert.OutProjectionIdeal.main_arg3) = m ((c.tc : Thread Cert.OutProjectionIdeal.nD Cert.OutProjectionIdeal.τ).loc Cert.OutProjectionIdeal.main_arg3)
          ∧ r.2.mem ((c.tc : Thread Cert.OutProjectionIdeal.nD Cert.OutProjectionIdeal.τ).loc Cert.OutProjectionIdeal.main_arg4) = m ((c.tc : Thread Cert.OutProjectionIdeal.nD Cert.OutProjectionIdeal.τ).loc Cert.OutProjectionIdeal.main_arg4)
          ∧ r.2.mem ((c.tc : Thread Cert.OutProjectionIdeal.nD Cert.OutProjectionIdeal.τ).loc Cert.OutProjectionIdeal.main_arg5) = m ((c.tc : Thread Cert.OutProjectionIdeal.nD Cert.OutProjectionIdeal.τ).loc Cert.OutProjectionIdeal.main_arg5))
      ∧ θ_run (Cert.OutProjectionReferenceIdeal.defs (F := Ideal)) (onTc (τ := Cert.OutProjectionReferenceIdeal.τ) (Cert.OutProjectionReferenceIdeal.main (F := Ideal))) ⟨m', fun _ => 0, g'⟩ (fun r => ∀ c : Dev Cert.OutProjectionReferenceIdeal.nD,
          r.2.mem ((c.tc : Thread Cert.OutProjectionReferenceIdeal.nD Cert.OutProjectionReferenceIdeal.τ).loc Cert.OutProjectionReferenceIdeal.main_v2) = v0 c
          ∧ r.2.mem ((c.tc : Thread Cert.OutProjectionReferenceIdeal.nD Cert.OutProjectionReferenceIdeal.τ).loc Cert.OutProjectionReferenceIdeal.main_arg0) = m' ((c.tc : Thread Cert.OutProjectionReferenceIdeal.nD Cert.OutProjectionReferenceIdeal.τ).loc Cert.OutProjectionReferenceIdeal.main_arg0)
          ∧ r.2.mem ((c.tc : Thread Cert.OutProjectionReferenceIdeal.nD Cert.OutProjectionReferenceIdeal.τ).loc Cert.OutProjectionReferenceIdeal.main_arg1) = m' ((c.tc : Thread Cert.OutProjectionReferenceIdeal.nD Cert.OutProjectionReferenceIdeal.τ).loc Cert.OutProjectionReferenceIdeal.main_arg1)
          ∧ r.2.mem ((c.tc : Thread Cert.OutProjectionReferenceIdeal.nD Cert.OutProjectionReferenceIdeal.τ).loc Cert.OutProjectionReferenceIdeal.main_arg2) = m' ((c.tc : Thread Cert.OutProjectionReferenceIdeal.nD Cert.OutProjectionReferenceIdeal.τ).loc Cert.OutProjectionReferenceIdeal.main_arg2)
          ∧ r.2.mem ((c.tc : Thread Cert.OutProjectionReferenceIdeal.nD Cert.OutProjectionReferenceIdeal.τ).loc Cert.OutProjectionReferenceIdeal.main_arg3) = m' ((c.tc : Thread Cert.OutProjectionReferenceIdeal.nD Cert.OutProjectionReferenceIdeal.τ).loc Cert.OutProjectionReferenceIdeal.main_arg3)
          ∧ r.2.mem ((c.tc : Thread Cert.OutProjectionReferenceIdeal.nD Cert.OutProjectionReferenceIdeal.τ).loc Cert.OutProjectionReferenceIdeal.main_arg4) = m' ((c.tc : Thread Cert.OutProjectionReferenceIdeal.nD Cert.OutProjectionReferenceIdeal.τ).loc Cert.OutProjectionReferenceIdeal.main_arg4)
          ∧ r.2.mem ((c.tc : Thread Cert.OutProjectionReferenceIdeal.nD Cert.OutProjectionReferenceIdeal.τ).loc Cert.OutProjectionReferenceIdeal.main_arg5) = m' ((c.tc : Thread Cert.OutProjectionReferenceIdeal.nD Cert.OutProjectionReferenceIdeal.τ).loc Cert.OutProjectionReferenceIdeal.main_arg5))

def preserves_SampleCaches_SampleCachesIdeal : Prop :=
  True

def algebraic_SampleCachesIdeal_SampleCachesReferenceIdeal [hSampleCachesIdeal : Cert.SampleCachesIdeal.Facts] [hSampleCachesReferenceIdeal : Cert.SampleCachesReferenceIdeal.Facts] : Prop :=
  ∀ (m : (ℓ : Loc Cert.SampleCachesIdeal.nD Cert.SampleCachesIdeal.τ Cert.SampleCachesIdeal.sig) → Buf (Elt Ideal) ℓ) (g : Dev Cert.SampleCachesIdeal.nD → PrngReg)
    (m' : (ℓ : Loc Cert.SampleCachesReferenceIdeal.nD Cert.SampleCachesReferenceIdeal.τ Cert.SampleCachesReferenceIdeal.sig) → Buf (Elt Ideal) ℓ) (g' : Dev Cert.SampleCachesReferenceIdeal.nD → PrngReg), Pre_SampleCachesIdeal m →
    (∀ c : Dev Cert.SampleCachesIdeal.nD,
      m' ((c.tc : Thread Cert.SampleCachesReferenceIdeal.nD Cert.SampleCachesReferenceIdeal.τ).loc Cert.SampleCachesReferenceIdeal.main_arg0) = m ((c.tc : Thread Cert.SampleCachesIdeal.nD Cert.SampleCachesIdeal.τ).loc Cert.SampleCachesIdeal.main_arg0)
      ∧ m' ((c.tc : Thread Cert.SampleCachesReferenceIdeal.nD Cert.SampleCachesReferenceIdeal.τ).loc Cert.SampleCachesReferenceIdeal.main_arg1) = m ((c.tc : Thread Cert.SampleCachesIdeal.nD Cert.SampleCachesIdeal.τ).loc Cert.SampleCachesIdeal.main_arg1)
      ∧ m' ((c.tc : Thread Cert.SampleCachesReferenceIdeal.nD Cert.SampleCachesReferenceIdeal.τ).loc Cert.SampleCachesReferenceIdeal.main_arg2) = m ((c.tc : Thread Cert.SampleCachesIdeal.nD Cert.SampleCachesIdeal.τ).loc Cert.SampleCachesIdeal.main_arg2)
      ∧ m' ((c.tc : Thread Cert.SampleCachesReferenceIdeal.nD Cert.SampleCachesReferenceIdeal.τ).loc Cert.SampleCachesReferenceIdeal.main_arg3) = m ((c.tc : Thread Cert.SampleCachesIdeal.nD Cert.SampleCachesIdeal.τ).loc Cert.SampleCachesIdeal.main_arg3)
      ∧ m' ((c.tc : Thread Cert.SampleCachesReferenceIdeal.nD Cert.SampleCachesReferenceIdeal.τ).loc Cert.SampleCachesReferenceIdeal.main_arg4) = m ((c.tc : Thread Cert.SampleCachesIdeal.nD Cert.SampleCachesIdeal.τ).loc Cert.SampleCachesIdeal.main_arg4)
      ∧ m' ((c.tc : Thread Cert.SampleCachesReferenceIdeal.nD Cert.SampleCachesReferenceIdeal.τ).loc Cert.SampleCachesReferenceIdeal.main_arg5) = m ((c.tc : Thread Cert.SampleCachesIdeal.nD Cert.SampleCachesIdeal.τ).loc Cert.SampleCachesIdeal.main_arg5)
      ∧ m' ((c.tc : Thread Cert.SampleCachesReferenceIdeal.nD Cert.SampleCachesReferenceIdeal.τ).loc Cert.SampleCachesReferenceIdeal.main_arg6) = m ((c.tc : Thread Cert.SampleCachesIdeal.nD Cert.SampleCachesIdeal.τ).loc Cert.SampleCachesIdeal.main_arg6)
      ∧ m' ((c.tc : Thread Cert.SampleCachesReferenceIdeal.nD Cert.SampleCachesReferenceIdeal.τ).loc Cert.SampleCachesReferenceIdeal.main_arg7) = m ((c.tc : Thread Cert.SampleCachesIdeal.nD Cert.SampleCachesIdeal.τ).loc Cert.SampleCachesIdeal.main_arg7)
      ∧ m' ((c.tc : Thread Cert.SampleCachesReferenceIdeal.nD Cert.SampleCachesReferenceIdeal.τ).loc Cert.SampleCachesReferenceIdeal.main_arg8) = m ((c.tc : Thread Cert.SampleCachesIdeal.nD Cert.SampleCachesIdeal.τ).loc Cert.SampleCachesIdeal.main_arg8)) →
    ∃ (v0 : (c : Dev Cert.SampleCachesIdeal.nD) → Buf (Elt Ideal) ((c.tc : Thread Cert.SampleCachesIdeal.nD Cert.SampleCachesIdeal.τ).loc Cert.SampleCachesIdeal.main_v52_4)) (v1 : (c : Dev Cert.SampleCachesIdeal.nD) → Buf (Elt Ideal) ((c.tc : Thread Cert.SampleCachesIdeal.nD Cert.SampleCachesIdeal.τ).loc Cert.SampleCachesIdeal.main_v52_5)) (v2 : (c : Dev Cert.SampleCachesIdeal.nD) → Buf (Elt Ideal) ((c.tc : Thread Cert.SampleCachesIdeal.nD Cert.SampleCachesIdeal.τ).loc Cert.SampleCachesIdeal.main_v52_2)) (v3 : (c : Dev Cert.SampleCachesIdeal.nD) → Buf (Elt Ideal) ((c.tc : Thread Cert.SampleCachesIdeal.nD Cert.SampleCachesIdeal.τ).loc Cert.SampleCachesIdeal.main_v52_3)),
      θ_run (Cert.SampleCachesIdeal.defs (F := Ideal)) (onTc (τ := Cert.SampleCachesIdeal.τ) (Cert.SampleCachesIdeal.main (F := Ideal))) ⟨m, fun _ => 0, g⟩ (fun r => ∀ c : Dev Cert.SampleCachesIdeal.nD,
          r.2.mem ((c.tc : Thread Cert.SampleCachesIdeal.nD Cert.SampleCachesIdeal.τ).loc Cert.SampleCachesIdeal.main_v52_4) = v0 c
          ∧ r.2.mem ((c.tc : Thread Cert.SampleCachesIdeal.nD Cert.SampleCachesIdeal.τ).loc Cert.SampleCachesIdeal.main_v52_5) = v1 c
          ∧ r.2.mem ((c.tc : Thread Cert.SampleCachesIdeal.nD Cert.SampleCachesIdeal.τ).loc Cert.SampleCachesIdeal.main_v52_2) = v2 c
          ∧ r.2.mem ((c.tc : Thread Cert.SampleCachesIdeal.nD Cert.SampleCachesIdeal.τ).loc Cert.SampleCachesIdeal.main_v52_3) = v3 c
          ∧ r.2.mem ((c.tc : Thread Cert.SampleCachesIdeal.nD Cert.SampleCachesIdeal.τ).loc Cert.SampleCachesIdeal.main_arg0) = m ((c.tc : Thread Cert.SampleCachesIdeal.nD Cert.SampleCachesIdeal.τ).loc Cert.SampleCachesIdeal.main_arg0)
          ∧ r.2.mem ((c.tc : Thread Cert.SampleCachesIdeal.nD Cert.SampleCachesIdeal.τ).loc Cert.SampleCachesIdeal.main_arg1) = m ((c.tc : Thread Cert.SampleCachesIdeal.nD Cert.SampleCachesIdeal.τ).loc Cert.SampleCachesIdeal.main_arg1)
          ∧ r.2.mem ((c.tc : Thread Cert.SampleCachesIdeal.nD Cert.SampleCachesIdeal.τ).loc Cert.SampleCachesIdeal.main_arg2) = m ((c.tc : Thread Cert.SampleCachesIdeal.nD Cert.SampleCachesIdeal.τ).loc Cert.SampleCachesIdeal.main_arg2)
          ∧ r.2.mem ((c.tc : Thread Cert.SampleCachesIdeal.nD Cert.SampleCachesIdeal.τ).loc Cert.SampleCachesIdeal.main_arg3) = m ((c.tc : Thread Cert.SampleCachesIdeal.nD Cert.SampleCachesIdeal.τ).loc Cert.SampleCachesIdeal.main_arg3)
          ∧ r.2.mem ((c.tc : Thread Cert.SampleCachesIdeal.nD Cert.SampleCachesIdeal.τ).loc Cert.SampleCachesIdeal.main_arg4) = m ((c.tc : Thread Cert.SampleCachesIdeal.nD Cert.SampleCachesIdeal.τ).loc Cert.SampleCachesIdeal.main_arg4)
          ∧ r.2.mem ((c.tc : Thread Cert.SampleCachesIdeal.nD Cert.SampleCachesIdeal.τ).loc Cert.SampleCachesIdeal.main_arg5) = m ((c.tc : Thread Cert.SampleCachesIdeal.nD Cert.SampleCachesIdeal.τ).loc Cert.SampleCachesIdeal.main_arg5)
          ∧ r.2.mem ((c.tc : Thread Cert.SampleCachesIdeal.nD Cert.SampleCachesIdeal.τ).loc Cert.SampleCachesIdeal.main_arg6) = m ((c.tc : Thread Cert.SampleCachesIdeal.nD Cert.SampleCachesIdeal.τ).loc Cert.SampleCachesIdeal.main_arg6)
          ∧ r.2.mem ((c.tc : Thread Cert.SampleCachesIdeal.nD Cert.SampleCachesIdeal.τ).loc Cert.SampleCachesIdeal.main_arg7) = m ((c.tc : Thread Cert.SampleCachesIdeal.nD Cert.SampleCachesIdeal.τ).loc Cert.SampleCachesIdeal.main_arg7)
          ∧ r.2.mem ((c.tc : Thread Cert.SampleCachesIdeal.nD Cert.SampleCachesIdeal.τ).loc Cert.SampleCachesIdeal.main_arg8) = m ((c.tc : Thread Cert.SampleCachesIdeal.nD Cert.SampleCachesIdeal.τ).loc Cert.SampleCachesIdeal.main_arg8))
      ∧ θ_run (Cert.SampleCachesReferenceIdeal.defs (F := Ideal)) (onTc (τ := Cert.SampleCachesReferenceIdeal.τ) (Cert.SampleCachesReferenceIdeal.main (F := Ideal))) ⟨m', fun _ => 0, g'⟩ (fun r => ∀ c : Dev Cert.SampleCachesReferenceIdeal.nD,
          r.2.mem ((c.tc : Thread Cert.SampleCachesReferenceIdeal.nD Cert.SampleCachesReferenceIdeal.τ).loc Cert.SampleCachesReferenceIdeal.main_v15) = v0 c
          ∧ r.2.mem ((c.tc : Thread Cert.SampleCachesReferenceIdeal.nD Cert.SampleCachesReferenceIdeal.τ).loc Cert.SampleCachesReferenceIdeal.main_v31) = v1 c
          ∧ r.2.mem ((c.tc : Thread Cert.SampleCachesReferenceIdeal.nD Cert.SampleCachesReferenceIdeal.τ).loc Cert.SampleCachesReferenceIdeal.main_v47) = v2 c
          ∧ r.2.mem ((c.tc : Thread Cert.SampleCachesReferenceIdeal.nD Cert.SampleCachesReferenceIdeal.τ).loc Cert.SampleCachesReferenceIdeal.main_v63) = v3 c
          ∧ r.2.mem ((c.tc : Thread Cert.SampleCachesReferenceIdeal.nD Cert.SampleCachesReferenceIdeal.τ).loc Cert.SampleCachesReferenceIdeal.main_arg0) = m' ((c.tc : Thread Cert.SampleCachesReferenceIdeal.nD Cert.SampleCachesReferenceIdeal.τ).loc Cert.SampleCachesReferenceIdeal.main_arg0)
          ∧ r.2.mem ((c.tc : Thread Cert.SampleCachesReferenceIdeal.nD Cert.SampleCachesReferenceIdeal.τ).loc Cert.SampleCachesReferenceIdeal.main_arg1) = m' ((c.tc : Thread Cert.SampleCachesReferenceIdeal.nD Cert.SampleCachesReferenceIdeal.τ).loc Cert.SampleCachesReferenceIdeal.main_arg1)
          ∧ r.2.mem ((c.tc : Thread Cert.SampleCachesReferenceIdeal.nD Cert.SampleCachesReferenceIdeal.τ).loc Cert.SampleCachesReferenceIdeal.main_arg2) = m' ((c.tc : Thread Cert.SampleCachesReferenceIdeal.nD Cert.SampleCachesReferenceIdeal.τ).loc Cert.SampleCachesReferenceIdeal.main_arg2)
          ∧ r.2.mem ((c.tc : Thread Cert.SampleCachesReferenceIdeal.nD Cert.SampleCachesReferenceIdeal.τ).loc Cert.SampleCachesReferenceIdeal.main_arg3) = m' ((c.tc : Thread Cert.SampleCachesReferenceIdeal.nD Cert.SampleCachesReferenceIdeal.τ).loc Cert.SampleCachesReferenceIdeal.main_arg3)
          ∧ r.2.mem ((c.tc : Thread Cert.SampleCachesReferenceIdeal.nD Cert.SampleCachesReferenceIdeal.τ).loc Cert.SampleCachesReferenceIdeal.main_arg4) = m' ((c.tc : Thread Cert.SampleCachesReferenceIdeal.nD Cert.SampleCachesReferenceIdeal.τ).loc Cert.SampleCachesReferenceIdeal.main_arg4)
          ∧ r.2.mem ((c.tc : Thread Cert.SampleCachesReferenceIdeal.nD Cert.SampleCachesReferenceIdeal.τ).loc Cert.SampleCachesReferenceIdeal.main_arg5) = m' ((c.tc : Thread Cert.SampleCachesReferenceIdeal.nD Cert.SampleCachesReferenceIdeal.τ).loc Cert.SampleCachesReferenceIdeal.main_arg5)
          ∧ r.2.mem ((c.tc : Thread Cert.SampleCachesReferenceIdeal.nD Cert.SampleCachesReferenceIdeal.τ).loc Cert.SampleCachesReferenceIdeal.main_arg6) = m' ((c.tc : Thread Cert.SampleCachesReferenceIdeal.nD Cert.SampleCachesReferenceIdeal.τ).loc Cert.SampleCachesReferenceIdeal.main_arg6)
          ∧ r.2.mem ((c.tc : Thread Cert.SampleCachesReferenceIdeal.nD Cert.SampleCachesReferenceIdeal.τ).loc Cert.SampleCachesReferenceIdeal.main_arg7) = m' ((c.tc : Thread Cert.SampleCachesReferenceIdeal.nD Cert.SampleCachesReferenceIdeal.τ).loc Cert.SampleCachesReferenceIdeal.main_arg7)
          ∧ r.2.mem ((c.tc : Thread Cert.SampleCachesReferenceIdeal.nD Cert.SampleCachesReferenceIdeal.τ).loc Cert.SampleCachesReferenceIdeal.main_arg8) = m' ((c.tc : Thread Cert.SampleCachesReferenceIdeal.nD Cert.SampleCachesReferenceIdeal.τ).loc Cert.SampleCachesReferenceIdeal.main_arg8))

def preserves_SampleInProjection_SampleInProjectionIdeal : Prop :=
  True

def algebraic_SampleInProjectionIdeal_SampleInProjectionReferenceIdeal [hSampleInProjectionIdeal : Cert.SampleInProjectionIdeal.Facts] [hSampleInProjectionReferenceIdeal : Cert.SampleInProjectionReferenceIdeal.Facts] : Prop :=
  ∀ (m : (ℓ : Loc Cert.SampleInProjectionIdeal.nD Cert.SampleInProjectionIdeal.τ Cert.SampleInProjectionIdeal.sig) → Buf (Elt Ideal) ℓ) (g : Dev Cert.SampleInProjectionIdeal.nD → PrngReg)
    (m' : (ℓ : Loc Cert.SampleInProjectionReferenceIdeal.nD Cert.SampleInProjectionReferenceIdeal.τ Cert.SampleInProjectionReferenceIdeal.sig) → Buf (Elt Ideal) ℓ) (g' : Dev Cert.SampleInProjectionReferenceIdeal.nD → PrngReg), Pre_SampleInProjectionIdeal m →
    (∀ c : Dev Cert.SampleInProjectionIdeal.nD,
      m' ((c.tc : Thread Cert.SampleInProjectionReferenceIdeal.nD Cert.SampleInProjectionReferenceIdeal.τ).loc Cert.SampleInProjectionReferenceIdeal.main_arg0) = m ((c.tc : Thread Cert.SampleInProjectionIdeal.nD Cert.SampleInProjectionIdeal.τ).loc Cert.SampleInProjectionIdeal.main_arg0)
      ∧ m' ((c.tc : Thread Cert.SampleInProjectionReferenceIdeal.nD Cert.SampleInProjectionReferenceIdeal.τ).loc Cert.SampleInProjectionReferenceIdeal.main_arg1) = m ((c.tc : Thread Cert.SampleInProjectionIdeal.nD Cert.SampleInProjectionIdeal.τ).loc Cert.SampleInProjectionIdeal.main_arg1)
      ∧ m' ((c.tc : Thread Cert.SampleInProjectionReferenceIdeal.nD Cert.SampleInProjectionReferenceIdeal.τ).loc Cert.SampleInProjectionReferenceIdeal.main_arg2) = m ((c.tc : Thread Cert.SampleInProjectionIdeal.nD Cert.SampleInProjectionIdeal.τ).loc Cert.SampleInProjectionIdeal.main_arg2)) →
    ∃ (v0 : (c : Dev Cert.SampleInProjectionIdeal.nD) → Buf (Elt Ideal) ((c.tc : Thread Cert.SampleInProjectionIdeal.nD Cert.SampleInProjectionIdeal.τ).loc Cert.SampleInProjectionIdeal.main_v7_0)) (v1 : (c : Dev Cert.SampleInProjectionIdeal.nD) → Buf (Elt Ideal) ((c.tc : Thread Cert.SampleInProjectionIdeal.nD Cert.SampleInProjectionIdeal.τ).loc Cert.SampleInProjectionIdeal.main_v7_1)) (v2 : (c : Dev Cert.SampleInProjectionIdeal.nD) → Buf (Elt Ideal) ((c.tc : Thread Cert.SampleInProjectionIdeal.nD Cert.SampleInProjectionIdeal.τ).loc Cert.SampleInProjectionIdeal.main_v7_2)) (v3 : (c : Dev Cert.SampleInProjectionIdeal.nD) → Buf (Elt Ideal) ((c.tc : Thread Cert.SampleInProjectionIdeal.nD Cert.SampleInProjectionIdeal.τ).loc Cert.SampleInProjectionIdeal.main_v7_3)) (v4 : (c : Dev Cert.SampleInProjectionIdeal.nD) → Buf (Elt Ideal) ((c.tc : Thread Cert.SampleInProjectionIdeal.nD Cert.SampleInProjectionIdeal.τ).loc Cert.SampleInProjectionIdeal.main_v7_4)),
      θ_run (Cert.SampleInProjectionIdeal.defs (F := Ideal)) (onTc (τ := Cert.SampleInProjectionIdeal.τ) (Cert.SampleInProjectionIdeal.main (F := Ideal))) ⟨m, fun _ => 0, g⟩ (fun r => ∀ c : Dev Cert.SampleInProjectionIdeal.nD,
          r.2.mem ((c.tc : Thread Cert.SampleInProjectionIdeal.nD Cert.SampleInProjectionIdeal.τ).loc Cert.SampleInProjectionIdeal.main_v7_0) = v0 c
          ∧ r.2.mem ((c.tc : Thread Cert.SampleInProjectionIdeal.nD Cert.SampleInProjectionIdeal.τ).loc Cert.SampleInProjectionIdeal.main_v7_1) = v1 c
          ∧ r.2.mem ((c.tc : Thread Cert.SampleInProjectionIdeal.nD Cert.SampleInProjectionIdeal.τ).loc Cert.SampleInProjectionIdeal.main_v7_2) = v2 c
          ∧ r.2.mem ((c.tc : Thread Cert.SampleInProjectionIdeal.nD Cert.SampleInProjectionIdeal.τ).loc Cert.SampleInProjectionIdeal.main_v7_3) = v3 c
          ∧ r.2.mem ((c.tc : Thread Cert.SampleInProjectionIdeal.nD Cert.SampleInProjectionIdeal.τ).loc Cert.SampleInProjectionIdeal.main_v7_4) = v4 c
          ∧ r.2.mem ((c.tc : Thread Cert.SampleInProjectionIdeal.nD Cert.SampleInProjectionIdeal.τ).loc Cert.SampleInProjectionIdeal.main_arg0) = m ((c.tc : Thread Cert.SampleInProjectionIdeal.nD Cert.SampleInProjectionIdeal.τ).loc Cert.SampleInProjectionIdeal.main_arg0)
          ∧ r.2.mem ((c.tc : Thread Cert.SampleInProjectionIdeal.nD Cert.SampleInProjectionIdeal.τ).loc Cert.SampleInProjectionIdeal.main_arg1) = m ((c.tc : Thread Cert.SampleInProjectionIdeal.nD Cert.SampleInProjectionIdeal.τ).loc Cert.SampleInProjectionIdeal.main_arg1)
          ∧ r.2.mem ((c.tc : Thread Cert.SampleInProjectionIdeal.nD Cert.SampleInProjectionIdeal.τ).loc Cert.SampleInProjectionIdeal.main_arg2) = m ((c.tc : Thread Cert.SampleInProjectionIdeal.nD Cert.SampleInProjectionIdeal.τ).loc Cert.SampleInProjectionIdeal.main_arg2))
      ∧ θ_run (Cert.SampleInProjectionReferenceIdeal.defs (F := Ideal)) (onTc (τ := Cert.SampleInProjectionReferenceIdeal.τ) (Cert.SampleInProjectionReferenceIdeal.main (F := Ideal))) ⟨m', fun _ => 0, g'⟩ (fun r => ∀ c : Dev Cert.SampleInProjectionReferenceIdeal.nD,
          r.2.mem ((c.tc : Thread Cert.SampleInProjectionReferenceIdeal.nD Cert.SampleInProjectionReferenceIdeal.τ).loc Cert.SampleInProjectionReferenceIdeal.main_v14) = v0 c
          ∧ r.2.mem ((c.tc : Thread Cert.SampleInProjectionReferenceIdeal.nD Cert.SampleInProjectionReferenceIdeal.τ).loc Cert.SampleInProjectionReferenceIdeal.main_v15) = v1 c
          ∧ r.2.mem ((c.tc : Thread Cert.SampleInProjectionReferenceIdeal.nD Cert.SampleInProjectionReferenceIdeal.τ).loc Cert.SampleInProjectionReferenceIdeal.main_v16) = v2 c
          ∧ r.2.mem ((c.tc : Thread Cert.SampleInProjectionReferenceIdeal.nD Cert.SampleInProjectionReferenceIdeal.τ).loc Cert.SampleInProjectionReferenceIdeal.main_v17) = v3 c
          ∧ r.2.mem ((c.tc : Thread Cert.SampleInProjectionReferenceIdeal.nD Cert.SampleInProjectionReferenceIdeal.τ).loc Cert.SampleInProjectionReferenceIdeal.main_v19) = v4 c
          ∧ r.2.mem ((c.tc : Thread Cert.SampleInProjectionReferenceIdeal.nD Cert.SampleInProjectionReferenceIdeal.τ).loc Cert.SampleInProjectionReferenceIdeal.main_arg0) = m' ((c.tc : Thread Cert.SampleInProjectionReferenceIdeal.nD Cert.SampleInProjectionReferenceIdeal.τ).loc Cert.SampleInProjectionReferenceIdeal.main_arg0)
          ∧ r.2.mem ((c.tc : Thread Cert.SampleInProjectionReferenceIdeal.nD Cert.SampleInProjectionReferenceIdeal.τ).loc Cert.SampleInProjectionReferenceIdeal.main_arg1) = m' ((c.tc : Thread Cert.SampleInProjectionReferenceIdeal.nD Cert.SampleInProjectionReferenceIdeal.τ).loc Cert.SampleInProjectionReferenceIdeal.main_arg1)
          ∧ r.2.mem ((c.tc : Thread Cert.SampleInProjectionReferenceIdeal.nD Cert.SampleInProjectionReferenceIdeal.τ).loc Cert.SampleInProjectionReferenceIdeal.main_arg2) = m' ((c.tc : Thread Cert.SampleInProjectionReferenceIdeal.nD Cert.SampleInProjectionReferenceIdeal.τ).loc Cert.SampleInProjectionReferenceIdeal.main_arg2))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hFeedForward : Cert.FeedForward.Facts) (hFeedForwardIdeal : Cert.FeedForwardIdeal.Facts) (hFeedForwardReferenceIdeal : Cert.FeedForwardReferenceIdeal.Facts) (hInProjection : Cert.InProjection.Facts) (hInProjectionIdeal : Cert.InProjectionIdeal.Facts) (hInProjectionReferenceIdeal : Cert.InProjectionReferenceIdeal.Facts) (hOutProjection : Cert.OutProjection.Facts) (hOutProjectionIdeal : Cert.OutProjectionIdeal.Facts) (hOutProjectionReferenceIdeal : Cert.OutProjectionReferenceIdeal.Facts) (hSampleCaches : Cert.SampleCaches.Facts) (hSampleCachesIdeal : Cert.SampleCachesIdeal.Facts) (hSampleCachesReferenceIdeal : Cert.SampleCachesReferenceIdeal.Facts) (hSampleInProjection : Cert.SampleInProjection.Facts) (hSampleInProjectionIdeal : Cert.SampleInProjectionIdeal.Facts) (hSampleInProjectionReferenceIdeal : Cert.SampleInProjectionReferenceIdeal.Facts) (hPre_rows_named : Cert.Pre_rows_named.Facts) (hPre_tables_named : Cert.Pre_tables_named.Facts),
    quiescent_Kernel (hKernel := hKernel) (hPre_rows_named := hPre_rows_named)
    ∧ quiescent_KernelIdeal (hKernelIdeal := hKernelIdeal) (hPre_rows_named := hPre_rows_named)
    ∧ quiescent_ReferenceIdeal (hReferenceIdeal := hReferenceIdeal)
    ∧ quiescent_ReferenceIdeal_pre_rows_named (hReferenceIdeal := hReferenceIdeal) (hPre_rows_named := hPre_rows_named)
    ∧ quiescent_Experts (hExperts := hExperts) (hPre_tables_named := hPre_tables_named)
    ∧ quiescent_ExpertsIdeal (hExpertsIdeal := hExpertsIdeal) (hPre_tables_named := hPre_tables_named)
    ∧ quiescent_ExpertsReferenceIdeal (hExpertsReferenceIdeal := hExpertsReferenceIdeal)
    ∧ quiescent_ExpertsReferenceIdeal_pre_tables_named (hExpertsReferenceIdeal := hExpertsReferenceIdeal) (hPre_tables_named := hPre_tables_named)
    ∧ quiescent_FeedForward (hFeedForward := hFeedForward)
    ∧ quiescent_FeedForwardIdeal (hFeedForwardIdeal := hFeedForwardIdeal)
    ∧ quiescent_FeedForwardReferenceIdeal (hFeedForwardReferenceIdeal := hFeedForwardReferenceIdeal)
    ∧ quiescent_InProjection (hInProjection := hInProjection)
    ∧ quiescent_InProjectionIdeal (hInProjectionIdeal := hInProjectionIdeal)
    ∧ quiescent_InProjectionReferenceIdeal (hInProjectionReferenceIdeal := hInProjectionReferenceIdeal)
    ∧ quiescent_OutProjection (hOutProjection := hOutProjection)
    ∧ quiescent_OutProjectionIdeal (hOutProjectionIdeal := hOutProjectionIdeal)
    ∧ quiescent_OutProjectionReferenceIdeal (hOutProjectionReferenceIdeal := hOutProjectionReferenceIdeal)
    ∧ quiescent_SampleCaches (hSampleCaches := hSampleCaches)
    ∧ quiescent_SampleCachesIdeal (hSampleCachesIdeal := hSampleCachesIdeal)
    ∧ quiescent_SampleCachesReferenceIdeal (hSampleCachesReferenceIdeal := hSampleCachesReferenceIdeal)
    ∧ quiescent_SampleInProjection (hSampleInProjection := hSampleInProjection)
    ∧ quiescent_SampleInProjectionIdeal (hSampleInProjectionIdeal := hSampleInProjectionIdeal)
    ∧ quiescent_SampleInProjectionReferenceIdeal (hSampleInProjectionReferenceIdeal := hSampleInProjectionReferenceIdeal)
    ∧ preserves_Kernel_KernelIdeal
    ∧ algebraic_KernelIdeal_ReferenceIdeal (hKernelIdeal := hKernelIdeal) (hReferenceIdeal := hReferenceIdeal) (hPre_rows_named := hPre_rows_named)
    ∧ preserves_Experts_ExpertsIdeal
    ∧ algebraic_ExpertsIdeal_ExpertsReferenceIdeal (hExpertsIdeal := hExpertsIdeal) (hExpertsReferenceIdeal := hExpertsReferenceIdeal) (hPre_tables_named := hPre_tables_named)
    ∧ preserves_FeedForward_FeedForwardIdeal
    ∧ algebraic_FeedForwardIdeal_FeedForwardReferenceIdeal (hFeedForwardIdeal := hFeedForwardIdeal) (hFeedForwardReferenceIdeal := hFeedForwardReferenceIdeal)
    ∧ preserves_InProjection_InProjectionIdeal
    ∧ algebraic_InProjectionIdeal_InProjectionReferenceIdeal (hInProjectionIdeal := hInProjectionIdeal) (hInProjectionReferenceIdeal := hInProjectionReferenceIdeal)
    ∧ preserves_OutProjection_OutProjectionIdeal
    ∧ algebraic_OutProjectionIdeal_OutProjectionReferenceIdeal (hOutProjectionIdeal := hOutProjectionIdeal) (hOutProjectionReferenceIdeal := hOutProjectionReferenceIdeal)
    ∧ preserves_SampleCaches_SampleCachesIdeal
    ∧ algebraic_SampleCachesIdeal_SampleCachesReferenceIdeal (hSampleCachesIdeal := hSampleCachesIdeal) (hSampleCachesReferenceIdeal := hSampleCachesReferenceIdeal)
    ∧ preserves_SampleInProjection_SampleInProjectionIdeal
    ∧ algebraic_SampleInProjectionIdeal_SampleInProjectionReferenceIdeal (hSampleInProjectionIdeal := hSampleInProjectionIdeal) (hSampleInProjectionReferenceIdeal := hSampleInProjectionReferenceIdeal)
-- ==== Pre_rows_named.lean ====
abbrev S65536 : Shape := ⟨1, ![65536]⟩
abbrev S32768x1024 : Shape := ⟨2, ![32768, 1024]⟩
abbrev S33280x128 : Shape := ⟨2, ![33280, 128]⟩
abbrev S69632x8x128 : Shape := ⟨3, ![69632, 8, 128]⟩
abbrev S1024 : Shape := ⟨1, ![1024]⟩
abbrev S_ : Shape := ⟨0, ![]⟩

class Facts : Prop where
  bcast_S_S65536 : S_.BroadcastsInDim S65536 (![] : Fin 0 → Fin S65536.rank)
  reducesTo_S65536_S_d0 : S65536.ReducesTo [0] S_
  h_S_ : 0 < S_.numel

variable [Facts]

def fn {F : FTy → Type} [FloatOps F] (main_arg0 : IVec S65536 32) (main_arg1 : FVec F S32768x1024 .f32) (main_arg2 : FVec F S33280x128 .f32) (main_arg3 : FVec F S69632x8x128 .f32) (main_arg4 : FVec F S1024 .f32) : IVec S_ 1 :=
  let main_c : IVec S_ 32 := constantI S_ 32 0#32
  let main_v0 : IVec S65536 32 := broadcastInDim S65536 ![] bcast_S_S65536 main_c
  let main_v1 : IVec S65536 1 := cmpi .sge main_arg0 main_v0
  let main_c_0 : IVec S_ 32 := constantI S_ 32 69632#32
  let main_v2 : IVec S65536 32 := broadcastInDim S65536 ![] bcast_S_S65536 main_c_0
  let main_v3 : IVec S65536 1 := cmpi .slt main_arg0 main_v2
  let main_v4 : IVec S65536 1 := andi main_v1 main_v3
  let main_c_1 : IVec S_ 1 := constantI S_ 1 1#1
  let main_v5 : IVec S_ 1 := (fun x v => Host.reduce IntOp.andi x v reducesTo_S65536_S_d0 h_S_) main_v4 main_c_1
  main_v5
-- ==== Pre_tables_named.lean ====
abbrev S136 : Shape := ⟨1, ![136]⟩
abbrev S69632 : Shape := ⟨1, ![69632]⟩
abbrev S33280x8x128 : Shape := ⟨3, ![33280, 8, 128]⟩
abbrev S8x1024x7168 : Shape := ⟨3, ![8, 1024, 7168]⟩
abbrev S8x3584x1024 : Shape := ⟨3, ![8, 3584, 1024]⟩
abbrev S_ : Shape := ⟨0, ![]⟩

class Facts : Prop where
  bcast_S_S136 : S_.BroadcastsInDim S136 (![] : Fin 0 → Fin S136.rank)
  reducesTo_S136_S_d0 : S136.ReducesTo [0] S_
  h_S_ : 0 < S_.numel
  bcast_S_S69632 : S_.BroadcastsInDim S69632 (![] : Fin 0 → Fin S69632.rank)
  reducesTo_S69632_S_d0 : S69632.ReducesTo [0] S_

variable [Facts]

def fn {F : FTy → Type} [FloatOps F] (main_arg0 : IVec S136 32) (main_arg1 : IVec S69632 32) (main_arg2 : FVec F S33280x8x128 .f32) (main_arg3 : FVec F S8x1024x7168 .bf16) (main_arg4 : FVec F S8x3584x1024 .bf16) : IVec S_ 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 8#32
  let main_v2 : IVec S136 32 := broadcastInDim S136 ![] bcast_S_S136 main_c_0
  let main_v3 : IVec S136 1 := cmpi .slt main_arg0 main_v2
  let main_v4 : IVec S136 1 := andi main_v1 main_v3
  let main_c_1 : IVec S_ 1 := constantI S_ 1 1#1
  let main_v5 : IVec S_ 1 := (fun x v => Host.reduce IntOp.andi x v reducesTo_S136_S_d0 h_S_) main_v4 main_c_1
  let main_c_2 : IVec S_ 32 := constantI S_ 32 0#32
  let main_v6 : IVec S69632 32 := broadcastInDim S69632 ![] bcast_S_S69632 main_c_2
  let main_v7 : IVec S69632 1 := cmpi .sge main_arg1 main_v6
  let main_c_3 : IVec S_ 32 := constantI S_ 32 33280#32
  let main_v8 : IVec S69632 32 := broadcastInDim S69632 ![] bcast_S_S69632 main_c_3
  let main_v9 : IVec S69632 1 := cmpi .slt main_arg1 main_v8
  let main_v10 : IVec S69632 1 := andi main_v7 main_v9
  let main_c_4 : IVec S_ 1 := constantI S_ 1 1#1
  let main_v11 : IVec S_ 1 := (fun x v => Host.reduce IntOp.andi x v reducesTo_S69632_S_d0 h_S_) main_v10 main_c_4
  let main_v12 : IVec S_ 1 := andi main_v5 main_v11
  main_v12
-- ==== Kernel.lean ====
abbrev S65536 : Shape := ⟨1, ![65536]⟩
abbrev S32768x1024 : Shape := ⟨2, ![32768, 1024]⟩
abbrev S33280x128 : Shape := ⟨2, ![33280, 128]⟩
abbrev S69632x8x128 : Shape := ⟨3, ![69632, 8, 128]⟩
abbrev S1024 : Shape := ⟨1, ![1024]⟩
abbrev S1x1024 : Shape := ⟨2, ![1, 1024]⟩
abbrev S512x1024 : Shape := ⟨2, ![512, 1024]⟩
abbrev S512x128 : Shape := ⟨2, ![512, 128]⟩
abbrev S512x8x128 : Shape := ⟨3, ![512, 8, 128]⟩
abbrev S2 : Shape := ⟨1, ![2]⟩
abbrev S1 : Shape := ⟨1, ![1]⟩
abbrev S_ : Shape := ⟨0, ![]⟩
abbrev S1x8x128 : Shape := ⟨3, ![1, 8, 128]⟩
abbrev S8x128 : Shape := ⟨2, ![8, 128]⟩
abbrev S512x1 : Shape := ⟨2, ![512, 1]⟩
abbrev S512 : Shape := ⟨1, ![512]⟩

abbrev nBuf : Space → Nat
  | .hbm => 6
  | .vmem => 9
  | .smem => 1
  | _ => 0

abbrev bufTy : (tb : Table) → Fin (tcTables nBuf tb) → BufTy
  | .hbm, ⟨0, _⟩ => ⟨S32768x1024, .f32⟩
  | .hbm, ⟨1, _⟩ => ⟨S33280x128, .f32⟩
  | .hbm, ⟨2, _⟩ => ⟨S69632x8x128, .f32⟩
  | .hbm, ⟨3, _⟩ => ⟨S1024, .f32⟩
  | .hbm, ⟨4, _⟩ => ⟨S1x1024, .f32⟩
  | .hbm, ⟨5, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x8x128, .f32⟩
  | .local _ .vmem, ⟨8, _⟩ => ⟨S512x8x128, .f32⟩
  | .local _ .smem, ⟨0, _⟩ => ⟨S65536, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c512_i32 : BitVec 32 := 512#32
  let v1 : BitVec 32 := Scalar.addi c0_i32 c512_i32
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c2_i32 : BitVec 32 := 2#32
  let c0_i32 : BitVec 32 := 0#32
  let c1_i32 : BitVec 32 := 1#32
  let arg10 : BitVec 32 := Scf.iv c0_i32 c1_i32 k0_t1
  let v37 : BitVec 32 := Scalar.muli c2_i32 arg10
  let v38 : BitVec 32 := Scalar.addi v0 v37
  let v39 : Index := Scalar.indexCast v38
  ![v39.toNat]
def k0_off2 (k0_t1 : Fin k0_t1_loop.trips) : Fin 3 → Nat :=
  let c0_i32 : BitVec 32 := 0#32
  let c1_i32 : BitVec 32 := 1#32
  let arg10 : BitVec 32 := Scf.iv c0_i32 c1_i32 k0_t1
  let c0_i32_25 : BitVec 32 := 0#32
  let c0_i32_26 : BitVec 32 := 0#32
  ![arg10.toNat, 0, 0]
def k0_off3 (v40 : BitVec 32) : Fin 3 → Nat :=
  let c0_i32_27 : BitVec 32 := 0#32
  let c0_i32_28 : BitVec 32 := 0#32
  ![v40.toNat, 0, 0]

def k0_chk1 (v40 : BitVec 32) : Prop :=
  (∀ a, (k0_off3 v40) a + S1x8x128.size a ≤ S69632x8x128.size a)
theorem k0_off3_inb : ∀ (v40 : BitVec 32) (k0_hw1 : k0_chk1 v40), ∀ a, (k0_off3 v40) a + S1x8x128.size a ≤ S69632x8x128.size a := fun v40 k0_hw1 => k0_hw1

def k0_off4 (i : grid0.Coords) (k0_t1 : Fin k0_t1_loop.trips) : Fin 1 → Nat :=
  let arg0 : BitVec 32 := BitVec.ofNat 32 (i 0).val
  let c1024_i32 : BitVec 32 := 1024#32
  let v0 : BitVec 32 := Scalar.muli arg0 c1024_i32
  let c2_i32_29 : BitVec 32 := 2#32
  let c0_i32 : BitVec 32 := 0#32
  let c1_i32 : BitVec 32 := 1#32
  let arg10 : BitVec 32 := Scf.iv c0_i32 c1_i32 k0_t1
  let v47 : BitVec 32 := Scalar.muli c2_i32_29 arg10
  let v48 : BitVec 32 := Scalar.addi v0 v47
  let c1_i32_30 : BitVec 32 := 1#32
  let v49 : BitVec 32 := Scalar.addi v48 c1_i32_30
  let v50 : Index := Scalar.indexCast v49
  ![v50.toNat]
def k0_off5 (k0_t1 : Fin k0_t1_loop.trips) : Fin 3 → Nat :=
  let c0_i32 : BitVec 32 := 0#32
  let c1_i32 : BitVec 32 := 1#32
  let arg10 : BitVec 32 := Scf.iv c0_i32 c1_i32 k0_t1
  let c0_i32_32 : BitVec 32 := 0#32
  let c0_i32_33 : BitVec 32 := 0#32
  ![arg10.toNat, 0, 0]
def k0_off6 (v51 : BitVec 32) : Fin 3 → Nat :=
  let c0_i32_34 : BitVec 32 := 0#32
  let c0_i32_35 : BitVec 32 := 0#32
  ![v51.toNat, 0, 0]

def k0_chk2 (v51 : BitVec 32) : Prop :=
  (∀ a, (k0_off6 v51) a + S1x8x128.size a ≤ S69632x8x128.size a)
theorem k0_off6_inb : ∀ (v51 : BitVec 32) (k0_hw2 : k0_chk2 v51), ∀ a, (k0_off6 v51) a + S1x8x128.size a ≤ S69632x8x128.size a := fun v51 k0_hw2 => k0_hw2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S65536 : Shape := ⟨1, ![65536]⟩
abbrev S32768x1024 : Shape := ⟨2, ![32768, 1024]⟩
abbrev S33280x128 : Shape := ⟨2, ![33280, 128]⟩
abbrev S69632x8x128 : Shape := ⟨3, ![69632, 8, 128]⟩
abbrev S1024 : Shape := ⟨1, ![1024]⟩
abbrev S69632x1024 : Shape := ⟨2, ![69632, 1024]⟩
abbrev S32768x2 : Shape := ⟨2, ![32768, 2]⟩
abbrev S32768x2x1 : Shape := ⟨3, ![32768, 2, 1]⟩
abbrev S_ : Shape := ⟨0, ![]⟩
abbrev S32768x2x1024 : Shape := ⟨3, ![32768, 2, 1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S65536, .i32⟩
  | .hbm, ⟨1, _⟩ => ⟨S32768x1024, .f32⟩
  | .hbm, ⟨2, _⟩ => ⟨S33280x128, .f32⟩
  | .hbm, ⟨3, _⟩ => ⟨S69632x8x128, .f32⟩
  | .hbm, ⟨4, _⟩ => ⟨S1024, .f32⟩
  | .hbm, ⟨5, _⟩ => ⟨S69632x1024, .f32⟩
  | .hbm, ⟨6, _⟩ => ⟨S32768x2, .i32⟩
  | .hbm, ⟨7, _⟩ => ⟨S32768x2, .f32⟩
  | .hbm, ⟨8, _⟩ => ⟨S32768x2x1, .f32⟩
  | .hbm, ⟨9, _⟩ => ⟨S_, .i32⟩
  | .hbm, ⟨10, _⟩ => ⟨S32768x2, .i32⟩
  | .hbm, ⟨11, _⟩ => ⟨S32768x2, .i1⟩
  | .hbm, ⟨12, _⟩ => ⟨S_, .i32⟩
  | .hbm, ⟨13, _⟩ => ⟨S32768x2, .i32⟩
  | .hbm, ⟨14, _⟩ => ⟨S32768x2, .i32⟩
  | .hbm, ⟨15, _⟩ => ⟨S32768x2, .i32⟩
  | .hbm, ⟨16, _⟩ => ⟨S32768x2x1, .i32⟩
  | .hbm, ⟨17, _⟩ => ⟨S32768x2x1024, .f32⟩
  | .hbm, ⟨18, _⟩ => ⟨S32768x2x1024, .f32⟩
  | .hbm, ⟨19, _⟩ => ⟨S32768x2x1024, .f32⟩
  | .hbm, ⟨20, _⟩ => ⟨S_, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768, .f32⟩
  | .hbm, ⟨26, _⟩ => ⟨S32768x1, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x1, .f32⟩
  | .hbm, ⟨34, _⟩ => ⟨S32768x1024, .f32⟩
  | .hbm, ⟨35, _⟩ => ⟨S32768x1024, .f32⟩
  | .hbm, ⟨36, _⟩ => ⟨S1x1024, .f32⟩
  | .hbm, ⟨37, _⟩ => ⟨S32768x1024, .f32⟩
  | .hbm, ⟨38, _⟩ => ⟨S32768x1024, .f32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Experts.lean ====
abbrev S136 : Shape := ⟨1, ![136]⟩
abbrev S69632 : Shape := ⟨1, ![69632]⟩
abbrev S33280x8x128 : Shape := ⟨3, ![33280, 8, 128]⟩
abbrev S8x1024x7168 : Shape := ⟨3, ![8, 1024, 7168]⟩
abbrev S8x3584x1024 : Shape := ⟨3, ![8, 3584, 1024]⟩
abbrev S69632x8x128 : Shape := ⟨3, ![69632, 8, 128]⟩
abbrev S1x1024x1792 : Shape := ⟨3, ![1, 1024, 1792]⟩
abbrev S1 : Shape := ⟨1, ![1]⟩
abbrev S1x1792x1024 : Shape := ⟨3, ![1, 1792, 1024]⟩
abbrev S512x8x128 : Shape := ⟨3, ![512, 8, 128]⟩
abbrev S2x512x8x128 : Shape := ⟨4, ![2, 512, 8, 128]⟩
abbrev S512x1024 : Shape := ⟨2, ![512, 1024]⟩
abbrev S2 : Shape := ⟨1, ![2]⟩
abbrev S_ : Shape := ⟨0, ![]⟩
abbrev S1x1x8x128 : Shape := ⟨4, ![1, 1, 8, 128]⟩
abbrev S8x128 : Shape := ⟨2, ![8, 128]⟩
abbrev S1x8x128 : Shape := ⟨3, ![1, 8, 128]⟩
abbrev S1x512x8x128 : Shape := ⟨4, ![1, 512, 8, 128]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 4
  | .vmem => 11
  | .smem => 2
  | _ => 0

abbrev bufTy : (tb : Table) → Fin (tcTables nBuf tb) → BufTy
  | .hbm, ⟨0, _⟩ => ⟨S33280x8x128, .f32⟩
  | .hbm, ⟨1, _⟩ => ⟨S8x1024x7168, .bf16⟩
  | .hbm, ⟨2, _⟩ => ⟨S8x3584x1024, .bf16⟩
  | .hbm, ⟨3, _⟩ => ⟨S69632x8x128, .f32⟩
  | .local _ .vmem, ⟨0, _⟩ => ⟨S1x1024x1792, .bf16⟩
  | .local _ .vmem, ⟨1, _⟩ => ⟨S1x1024x1792, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S1x1792x1024, .bf16⟩
  | .local _ .vmem, ⟨5, _⟩ => ⟨S1x1792x1024, .bf16⟩
  | .local _ .vmem, ⟨6, _⟩ => ⟨S512x8x128, .f32⟩
  | .local _ .vmem, ⟨7, _⟩ => ⟨S512x8x128, .f32⟩
  | .local _ .vmem, ⟨8, _⟩ => ⟨S2x512x8x128, .f32⟩
  | .local _ .vmem, ⟨9, _⟩ => ⟨S512x1024, .bf16⟩
  | .local _ .vmem, ⟨10, _⟩ => ⟨S512x1024, .f32⟩
  | .local _ .smem, ⟨0, _⟩ => ⟨S136, .i32⟩
  | .local _ .smem, ⟨1, _⟩ => ⟨S69632, .i32⟩
  | _, _ => ⟨S33280x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![136, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_26 : BitVec 32 := 0#32
  let v41 : BitVec 1 := Scalar.cmpi .eq arg0 c0_i32_26
  let v42 : BitVec 32 := Scalar.extui v41
  let c0_i32_27 : BitVec 32 := 0#32
  let v43 : BitVec 1 := Scalar.cmpi .ne v42 c0_i32_27
  v43

@[reducible] def k0_t1_loop : Scf.Loop 32 :=
  let c0_i32_44 : BitVec 32 := 0#32
  let c512_i32 : BitVec 32 := 512#32
  let v65 : BitVec 32 := Scalar.addi c0_i32_44 c512_i32
  let c1_i32_45 : BitVec 32 := 1#32
  ⟨c0_i32_44, v65, c1_i32_45⟩
def k0_off2 (k0_t1 : Fin k0_t1_loop.trips) : Fin 1 → Nat :=
  let c0_i32_47 : BitVec 32 := 0#32
  let c0_i32_44 : BitVec 32 := 0#32
  let c1_i32_45 : BitVec 32 := 1#32
  let arg13 : BitVec 32 := Scf.iv c0_i32_44 c1_i32_45 k0_t1
  let v66 : BitVec 32 := Scalar.addi c0_i32_47 arg13
  let v67 : Index := Scalar.indexCast v66
  ![v67.toNat]
def k0_off3 (k0_t1 : Fin k0_t1_loop.trips) : Fin 4 → Nat :=
  let c0_i32_48 : BitVec 32 := 0#32
  let c0_i32_44 : BitVec 32 := 0#32
  let c1_i32_45 : BitVec 32 := 1#32
  let arg13 : BitVec 32 := Scf.iv c0_i32_44 c1_i32_45 k0_t1
  let c0_i32_50 : BitVec 32 := 0#32
  let c0_i32_51 : BitVec 32 := 0#32
  ![0, arg13.toNat, 0, 0]
def k0_off4 (v68 : BitVec 32) : Fin 3 → Nat :=
  let c0_i32_52 : BitVec 32 := 0#32
  let c0_i32_53 : BitVec 32 := 0#32
  ![v68.toNat, 0, 0]

def k0_chk1 (i : grid0.Coords) (v68 : BitVec 32) : Prop :=
  (∀ (k0_h1 : k0_cond1 i = 1#1), ∀ (k0_h2 : k0_cond2 i = 1#1), ∀ a, (k0_off4 v68) a + S1x8x128.size a ≤ S33280x8x128.size a)
theorem k0_off4_inb : ∀ (i : grid0.Coords) (v68 : BitVec 32) (k0_hw1 : k0_chk1 i v68), ∀ (k0_h1 : k0_cond1 i = 1#1), ∀ (k0_h2 : k0_cond2 i = 1#1), ∀ a, (k0_off4 v68) a + S1x8x128.size a ≤ S33280x8x128.size a := fun i v68 k0_hw1 k0_h1 k0_h2 => k0_hw1 k0_h1 k0_h2

def k0_off5 (i : grid0.Coords) : Fin 1 → Nat :=
  let arg0 : BitVec 32 := BitVec.ofNat 32 (i 0).val
  let c2_i32 : BitVec 32 := 2#32
  let c0_i32_21 : BitVec 32 := 0#32
  let v31 : BitVec 1 := Scalar.cmpi .eq c2_i32 c0_i32_21
  let c1_i32_22 : BitVec 32 := 1#32
  let v32 : BitVec 32 := Scalar.select v31 c1_i32_22 c2_i32
  let v33 : BitVec 32 := Scalar.remsi arg0 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  ![v40.toNat]
def k0_off6 (i : grid0.Coords) : Fin 4 → Nat :=
  let arg0 : BitVec 32 := BitVec.ofNat 32 (i 0).val
  let c2_i32 : BitVec 32 := 2#32
  let c0_i32_21 : BitVec 32 := 0#32
  let v31 : BitVec 1 := Scalar.cmpi .eq c2_i32 c0_i32_21
  let c1_i32_22 : BitVec 32 := 1#32
  let v32 : BitVec 32 := Scalar.select v31 c1_i32_22 c2_i32
  let v33 : BitVec 32 := Scalar.remsi arg0 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c0_i32_28 : BitVec 32 := 0#32
  let c0_i32_29 : BitVec 32 := 0#32
  let c0_i32_30 : BitVec 32 := 0#32
  ![v40.toNat, 0, 0, 0]
def k0_off7 (i : grid0.Coords) : Fin 4 → Nat :=
  let arg0 : BitVec 32 := BitVec.ofNat 32 (i 0).val
  let c2_i32 : BitVec 32 := 2#32
  let c0_i32_21 : BitVec 32 := 0#32
  let v31 : BitVec 1 := Scalar.cmpi .eq c2_i32 c0_i32_21
  let c1_i32_22 : BitVec 32 := 1#32
  let v32 : BitVec 32 := Scalar.select v31 c1_i32_22 c2_i32
  let v33 : BitVec 32 := Scalar.remsi arg0 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let v49 : Index := Scalar.indexCast v40
  let c0_34 : Index := 0#32
  let c0_35 : Index := 0#32
  let c0_36 : Index := 0#32
  ![v49.toNat, 0, 0, 0]
def k0_cond3 (i : grid0.Coords) : BitVec 1 :=
  let arg0 : BitVec 32 := BitVec.ofNat 32 (i 0).val
  let c1_i32_42 : BitVec 32 := 1#32
  let v61 : BitVec 32 := Scalar.addi arg0 c1_i32_42
  let c136_i32 : BitVec 32 := 136#32
  let v62 : BitVec 1 := Scalar.cmpi .slt v61 c136_i32
  let v63 : BitVec 32 := Scalar.extui v62
  let c0_i32_43 : BitVec 32 := 0#32
  let v64 : BitVec 1 := Scalar.cmpi .ne v63 c0_i32_43
  v64

@[reducible] def k0_t2_loop : Scf.Loop 32 :=
  let c0_i32_46 : BitVec 32 := 0#32
  let c512_i32_47 : BitVec 32 := 512#32
  let v68 : BitVec 32 := Scalar.addi c0_i32_46 c512_i32_47
  let c1_i32_48 : BitVec 32 := 1#32
  ⟨c0_i32_46, v68, c1_i32_48⟩
def k0_off8 (i : grid0.Coords) (k0_t2 : Fin k0_t2_loop.trips) : Fin 1 → Nat :=
  let arg0 : BitVec 32 := BitVec.ofNat 32 (i 0).val
  let c1_i32_44 : BitVec 32 := 1#32
  let v65 : BitVec 32 := Scalar.addi arg0 c1_i32_44
  let c512_i32 : BitVec 32 := 512#32
  let v67 : BitVec 32 := Scalar.muli v65 c512_i32
  let c0_i32_46 : BitVec 32 := 0#32
  let c1_i32_48 : BitVec 32 := 1#32
  let arg13 : BitVec 32 := Scf.iv c0_i32_46 c1_i32_48 k0_t2
  let v69 : BitVec 32 := Scalar.addi v67 arg13
  let v70 : Index := Scalar.indexCast v69
  ![v70.toNat]
def k0_off9 (i : grid0.Coords) : Fin 1 → Nat :=
  let c1_i32_45 : BitVec 32 := 1#32
  let arg0 : BitVec 32 := BitVec.ofNat 32 (i 0).val
  let c2_i32 : BitVec 32 := 2#32
  let c0_i32_21 : BitVec 32 := 0#32
  let v31 : BitVec 1 := Scalar.cmpi .eq c2_i32 c0_i32_21
  let c1_i32_22 : BitVec 32 := 1#32
  let v32 : BitVec 32 := Scalar.select v31 c1_i32_22 c2_i32
  let v33 : BitVec 32 := Scalar.remsi arg0 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let v66 : BitVec 32 := Scalar.subi c1_i32_45 v40
  ![v66.toNat]
def k0_off10 (i : grid0.Coords) (k0_t2 : Fin k0_t2_loop.trips) : Fin 4 → Nat :=
  let c1_i32_45 : BitVec 32 := 1#32
  let arg0 : BitVec 32 := BitVec.ofNat 32 (i 0).val
  let c2_i32 : BitVec 32 := 2#32
  let c0_i32_21 : BitVec 32 := 0#32
  let v31 : BitVec 1 := Scalar.cmpi .eq c2_i32 c0_i32_21
  let c1_i32_22 : BitVec 32 := 1#32
  let v32 : BitVec 32 := Scalar.select v31 c1_i32_22 c2_i32
  let v33 : BitVec 32 := Scalar.remsi arg0 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let v66 : BitVec 32 := Scalar.subi c1_i32_45 v40
  let c0_i32_46 : BitVec 32 := 0#32
  let c1_i32_48 : BitVec 32 := 1#32
  let arg13 : BitVec 32 := Scf.iv c0_i32_46 c1_i32_48 k0_t2
  let c0_i32_50 : BitVec 32 := 0#32
  let c0_i32_51 : BitVec 32 := 0#32
  ![v66.toNat, arg13.toNat, 0, 0]
def k0_off11 (v71 : BitVec 32) : Fin 3 → Nat :=
  let c0_i32_52 : BitVec 32 := 0#32
  let c0_i32_53 : BitVec 32 := 0#32
  ![v71.toNat, 0, 0]

def k0_chk2 (i : grid0.Coords) (v71 : BitVec 32) : Prop :=
  (∀ (k0_h1 : k0_cond1 i = 1#1), ∀ (k0_h3 : k0_cond3 i = 1#1), ∀ a, (k0_off11 v71) a + S1x8x128.size a ≤ S33280x8x128.size a)
theorem k0_off11_inb : ∀ (i : grid0.Coords) (v71 : BitVec 32) (k0_hw2 : k0_chk2 i v71), ∀ (k0_h1 : k0_cond1 i = 1#1), ∀ (k0_h3 : k0_cond3 i = 1#1), ∀ a, (k0_off11 v71) a + S1x8x128.size a ≤ S33280x8x128.size a := fun i v71 k0_hw2 k0_h1 k0_h3 => k0_hw2 k0_h1 k0_h3

def k0_cond4 (i : grid0.Coords) : BitVec 1 :=
  let arg1 : BitVec 32 := BitVec.ofNat 32 (i 1).val
  let c1_i32 : BitVec 32 := 1#32
  let v28 : BitVec 1 := Scalar.cmpi .eq arg1 c1_i32
  let v29 : BitVec 32 := Scalar.extui v28
  let c0_i32_20 : BitVec 32 := 0#32
  let v30 : BitVec 1 := Scalar.cmpi .ne v29 c0_i32_20
  v30

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c2_i32 : BitVec 32 := 2#32
  let v2 : BitVec 32 := Scalar.addi c2_i32 arg1
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1792x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ExpertsReferenceIdeal.lean ====
abbrev S136 : Shape := ⟨1, ![136]⟩
abbrev S69632 : Shape := ⟨1, ![69632]⟩
abbrev S33280x8x128 : Shape := ⟨3, ![33280, 8, 128]⟩
abbrev S8x1024x7168 : Shape := ⟨3, ![8, 1024, 7168]⟩
abbrev S8x3584x1024 : Shape := ⟨3, ![8, 3584, 1024]⟩
abbrev S33280x1024 : Shape := ⟨2, ![33280, 1024]⟩
abbrev S_ : Shape := ⟨0, ![]⟩
abbrev S69632x1 : Shape := ⟨2, ![69632, 1]⟩
abbrev S69632x1024 : Shape := ⟨2, ![69632, 1024]⟩
abbrev S136x512x1024 : Shape := ⟨3, ![136, 512, 1024]⟩
abbrev S136x1 : Shape := ⟨2, ![136, 1]⟩
abbrev S136x1024x7168 : Shape := ⟨3, ![136, 1024, 7168]⟩
abbrev S136x512x7168 : Shape := ⟨3, ![136, 512, 7168]⟩
abbrev S136x512x3584 : Shape := ⟨3, ![136, 512, 3584]⟩
abbrev S136x3584x1024 : Shape := ⟨3, ![136, 3584, 1024]⟩
abbrev S69632x8x128 : Shape := ⟨3, ![69632, 8, 128]⟩

abbrev nBuf : Space → Nat
  | .hbm => 51
  | .vmem => 0
  | .smem => 0
  | _ => 0

abbrev bufTy : (tb : Table) → Fin (tcTables nBuf tb) → BufTy
  | .hbm, ⟨0, _⟩ => ⟨S136, .i32⟩
  | .hbm, ⟨1, _⟩ => ⟨S69632, .i32⟩
  | .hbm, ⟨2, _⟩ => ⟨S33280x8x128, .f32⟩
  | .hbm, ⟨3, _⟩ => ⟨S8x1024x7168, .bf16⟩
  | .hbm, ⟨4, _⟩ => ⟨S8x3584x1024, .bf16⟩
  | .hbm, ⟨5, _⟩ => ⟨S33280x1024, .f32⟩
  | .hbm, ⟨6, _⟩ => ⟨S_, .i32⟩
  | .hbm, ⟨7, _⟩ => ⟨S69632, .i32⟩
  | .hbm, ⟨8, _⟩ => ⟨S69632, .i1⟩
  | .hbm, ⟨9, _⟩ => ⟨S_, .i32⟩
  | .hbm, ⟨10, _⟩ => ⟨S69632, .i32⟩
  | .hbm, ⟨11, _⟩ => ⟨S69632, .i32⟩
  | .hbm, ⟨12, _⟩ => ⟨S69632, .i32⟩
  | .hbm, ⟨13, _⟩ => ⟨S69632x1, .i32⟩
  | .hbm, ⟨14, _⟩ => ⟨S69632x1024, .f32⟩
  | .hbm, ⟨15, _⟩ => ⟨S136x512x1024, .f32⟩
  | .hbm, ⟨16, _⟩ => ⟨S8x1024x7168, .f32⟩
  | .hbm, ⟨17, _⟩ => ⟨S_, .i32⟩
  | .hbm, ⟨18, _⟩ => ⟨S136, .i32⟩
  | .hbm, ⟨19, _⟩ => ⟨S136, .i1⟩
  | .hbm, ⟨20, _⟩ => ⟨S_, .i32⟩
  | .hbm, ⟨21, _⟩ => ⟨S136, .i32⟩
  | .hbm, ⟨22, _⟩ => ⟨S136, .i32⟩
  | .hbm, ⟨23, _⟩ => ⟨S136, .i32⟩
  | .hbm, ⟨24, _⟩ => ⟨S136x1, .i32⟩
  | .hbm, ⟨25, _⟩ => ⟨S136x1024x7168, .f32⟩
  | .hbm, ⟨26, _⟩ => ⟨S136x512x7168, .f32⟩
  | .hbm, ⟨27, _⟩ => ⟨S136x512x3584, .f32⟩
  | .hbm, ⟨28, _⟩ => ⟨S136x512x3584, .f32⟩
  | .hbm, ⟨29, _⟩ => ⟨S136x512x3584, .f32⟩
  | .hbm, ⟨30, _⟩ => ⟨S136x512x3584, .f32⟩
  | .hbm, ⟨31, _⟩ => ⟨S_, .f32⟩
  | .hbm, ⟨32, _⟩ => ⟨S136x512x3584, .f32⟩
  | .hbm, ⟨33, _⟩ => ⟨S136x512x3584, .f32⟩
  | .hbm, ⟨34, _⟩ => ⟨S_, .f32⟩
  | .hbm, ⟨35, _⟩ => ⟨S136x512x3584, .f32⟩
  | .hbm, ⟨36, _⟩ => ⟨S136x512x3584, .f32⟩
  | .hbm, ⟨37, _⟩ => ⟨S136x512x3584, .f32⟩
  | .hbm, ⟨38, _⟩ => ⟨S136x512x3584, .f32⟩
  | .hbm, ⟨39, _⟩ => ⟨S8x3584x1024, .f32⟩
  | .hbm, ⟨40, _⟩ => ⟨S_, .i32⟩
  | .hbm, ⟨41, _⟩ => ⟨S136, .i32⟩
  | .hbm, ⟨42, _⟩ => ⟨S136, .i1⟩
  | .hbm, ⟨43, _⟩ => ⟨S_, .i32⟩
  | .hbm, ⟨44, _⟩ => ⟨S136, .i32⟩
  | .hbm, ⟨45, _⟩ => ⟨S136, .i32⟩
  | .hbm, ⟨46, _⟩ => ⟨S136, .i32⟩
  | .hbm, ⟨47, _⟩ => ⟨S136x1, .i32⟩
  | .hbm, ⟨48, _⟩ => ⟨S136x3584x1024, .f32⟩
  | .hbm, ⟨49, _⟩ => ⟨S136x512x1024, .f32⟩
  | .hbm, ⟨50, _⟩ => ⟨S69632x8x128, .f32⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== FeedForward.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 8
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S1024x5632, .bf16⟩
  | .hbm, ⟨6, _⟩ => ⟨S2816x1024, .bf16⟩
  | .hbm, ⟨7, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v28 : BitVec 1 := Scalar.cmpi .eq arg1 c1_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FeedForwardReferenceIdeal.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x5632, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S_, .f32⟩
  | .hbm, ⟨26, _⟩ => ⟨S32768x2816, .f32⟩
  | .hbm, ⟨27, _⟩ => ⟨S32768x2816, .f32⟩
  | .hbm, ⟨28, _⟩ => ⟨S_, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x1024, .f32⟩
  | .hbm, ⟨34, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== InProjection.lean ====
abbrev S32768x1024 : Shape := ⟨2, ![32768, 1024]⟩
abbrev S1024 : Shape := ⟨1, ![1024]⟩
abbrev S1024x3336 : Shape := ⟨2, ![1024, 3336]⟩
abbrev S1x1024 : Shape := ⟨2, ![1, 1024]⟩
abbrev S1024x8 : Shape := ⟨2, ![1024, 8]⟩
abbrev S_ : Shape := ⟨0, ![]⟩
abbrev S1024x128 : Shape := ⟨2, ![1024, 128]⟩
abbrev S1024x1024 : Shape := ⟨2, ![1024, 1024]⟩
abbrev S1024x2304 : Shape := ⟨2, ![1024, 2304]⟩
abbrev S1024x3456 : Shape := ⟨2, ![1024, 3456]⟩
abbrev S32768x512 : Shape := ⟨2, ![32768, 512]⟩
abbrev S32768x768 : Shape := ⟨2, ![32768, 768]⟩
abbrev S32768x128 : Shape := ⟨2, ![32768, 128]⟩
abbrev S4x4x2048x768 : Shape := ⟨4, ![4, 4, 2048, 768]⟩
abbrev S4x16x512x768 : Shape := ⟨4, ![4, 16, 512, 768]⟩
abbrev S512x1024 : Shape := ⟨2, ![512, 1024]⟩
abbrev S512x512 : Shape := ⟨2, ![512, 512]⟩
abbrev S512x768 : Shape := ⟨2, ![512, 768]⟩
abbrev S512x128 : Shape := ⟨2, ![512, 128]⟩
abbrev S1x4x128x768 : Shape := ⟨4, ![1, 4, 128, 768]⟩
abbrev S1x16x32x768 : Shape := ⟨4, ![1, 16, 32, 768]⟩
abbrev S6x512x128 : Shape := ⟨3, ![6, 512, 128]⟩
abbrev S512 : Shape := ⟨1, ![512]⟩
abbrev S512x1 : Shape := ⟨2, ![512, 1]⟩
abbrev S1024x512 : Shape := ⟨2, ![1024, 512]⟩
abbrev S1024x768 : Shape := ⟨2, ![1024, 768]⟩
abbrev S1x512x128 : Shape := ⟨3, ![1, 512, 128]⟩
abbrev S1x128x128 : Shape := ⟨3, ![1, 128, 128]⟩
abbrev S128x128 : Shape := ⟨2, ![128, 128]⟩
abbrev S1x1x128x128 : Shape := ⟨4, ![1, 1, 128, 128]⟩
abbrev S1x32x128 : Shape := ⟨3, ![1, 32, 128]⟩
abbrev S32x128 : Shape := ⟨2, ![32, 128]⟩
abbrev S1x1x32x128 : Shape := ⟨4, ![1, 1, 32, 128]⟩

abbrev nBuf : Space → Nat
  | .hbm => 19
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3336, .f32⟩
  | .hbm, ⟨3, _⟩ => ⟨S1x1024, .f32⟩
  | .hbm, ⟨4, _⟩ => ⟨S1024x8, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S1024x1024, .f32⟩
  | .hbm, ⟨9, _⟩ => ⟨S1024x2304, .f32⟩
  | .hbm, ⟨10, _⟩ => ⟨S1024x3456, .f32⟩
  | .hbm, ⟨11, _⟩ => ⟨S1024x3456, .bf16⟩
  | .hbm, ⟨12, _⟩ => ⟨S32768x1024, .f32⟩
  | .hbm, ⟨13, _⟩ => ⟨S32768x512, .f32⟩
  | .hbm, ⟨14, _⟩ => ⟨S32768x1024, .f32⟩
  | .hbm, ⟨15, _⟩ => ⟨S32768x768, .f32⟩
  | .hbm, ⟨16, _⟩ => ⟨S32768x128, .f32⟩
  | .hbm, ⟨17, _⟩ => ⟨S4x4x2048x768, .f32⟩
  | .hbm, ⟨18, _⟩ => ⟨S4x16x512x768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3456, .bf16⟩
  | .local _ .vmem, ⟨4, _⟩ => ⟨S512x1024, .f32⟩
  | .local _ .vmem, ⟨5, _⟩ => ⟨S512x1024, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S512x768, .f32⟩
  | .local _ .vmem, ⟨11, _⟩ => ⟨S512x768, .f32⟩
  | .local _ .vmem, ⟨12, _⟩ => ⟨S512x128, .f32⟩
  | .local _ .vmem, ⟨13, _⟩ => ⟨S512x128, .f32⟩
  | .local _ .vmem, ⟨14, _⟩ => ⟨S1x4x128x768, .f32⟩
  | .local _ .vmem, ⟨15, _⟩ => ⟨S1x4x128x768, .f32⟩
  | .local _ .vmem, ⟨16, _⟩ => ⟨S1x16x32x768, .f32⟩
  | .local _ .vmem, ⟨17, _⟩ => ⟨S1x16x32x768, .f32⟩
  | .local _ .vmem, ⟨18, _⟩ => ⟨S6x512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev main_v7_5 : Ref sig .tc := ⟨.hbm, 17, rfl⟩
abbrev main_v7_6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x128x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x16x32x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InProjectionReferenceIdeal.lean ====
abbrev S32768x1024 : Shape := ⟨2, ![32768, 1024]⟩
abbrev S1024 : Shape := ⟨1, ![1024]⟩
abbrev S1024x3336 : Shape := ⟨2, ![1024, 3336]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3336 : Shape := ⟨2, ![32768, 3336]⟩
abbrev S32768x768 : Shape := ⟨2, ![32768, 768]⟩
abbrev S32768x512 : Shape := ⟨2, ![32768, 512]⟩
abbrev S32768x8 : Shape := ⟨2, ![32768, 8]⟩
abbrev S32768x128 : Shape := ⟨2, ![32768, 128]⟩
abbrev S4x2048x4x768 : Shape := ⟨4, ![4, 2048, 4, 768]⟩
abbrev S4x4x2048x768 : Shape := ⟨4, ![4, 4, 2048, 768]⟩
abbrev S4x512x16x768 : Shape := ⟨4, ![4, 512, 16, 768]⟩
abbrev S4x16x512x768 : Shape := ⟨4, ![4, 16, 512, 768]⟩

abbrev nBuf : Space → Nat
  | .hbm => 32
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3336, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x3336, .f32⟩
  | .hbm, ⟨20, _⟩ => ⟨S32768x768, .f32⟩
  | .hbm, ⟨21, _⟩ => ⟨S32768x1024, .f32⟩
  | .hbm, ⟨22, _⟩ => ⟨S32768x512, .f32⟩
  | .hbm, ⟨23, _⟩ => ⟨S32768x1024, .f32⟩
  | .hbm, ⟨24, _⟩ => ⟨S32768x8, .f32⟩
  | .hbm, ⟨25, _⟩ => ⟨S_, .i32⟩
  | .hbm, ⟨26, _⟩ => ⟨S_, .f32⟩
  | .hbm, ⟨27, _⟩ => ⟨S32768x128, .f32⟩
  | .hbm, ⟨28, _⟩ => ⟨S4x2048x4x768, .f32⟩
  | .hbm, ⟨29, _⟩ => ⟨S4x4x2048x768, .f32⟩
  | .hbm, ⟨30, _⟩ => ⟨S4x512x16x768, .f32⟩
  | .hbm, ⟨31, _⟩ => ⟨S4x16x512x768, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== OutProjection.lean ====
abbrev S512x1024 : Shape := ⟨2, ![512, 1024]⟩
abbrev S512x256 : Shape := ⟨2, ![512, 256]⟩
abbrev S1024x1024 : Shape := ⟨2, ![1024, 1024]⟩
abbrev S256x1024 : Shape := ⟨2, ![256, 1024]⟩
abbrev S256x256 : Shape := ⟨2, ![256, 256]⟩

abbrev nBuf : Space → Nat
  | .hbm => 8
  | .vmem => 13
  | .smem => 0
  | _ => 0

abbrev bufTy : (tb : Table) → Fin (tcTables nBuf tb) → BufTy
  | .hbm, ⟨0, _⟩ => ⟨S512x1024, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S1024x1024, .f32⟩
  | .hbm, ⟨6, _⟩ => ⟨S1024x1024, .bf16⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutProjectionReferenceIdeal.lean ====
abbrev S512x1024 : Shape := ⟨2, ![512, 1024]⟩
abbrev S512x256 : Shape := ⟨2, ![512, 256]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S1024x1024, .f32⟩
  | .hbm, ⟨6, _⟩ => ⟨S512x1024, .f32⟩
  | .hbm, ⟨7, _⟩ => ⟨S512x1024, .f32⟩
  | .hbm, ⟨8, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩

abbrev nD : Nat := 1
abbrev τ : Topo := Topo.v7x

variable {F : FTy → Type} [FloatOps F]
-- ==== SampleCaches.lean ====
abbrev S2x128x128x2x64 : Shape := ⟨5, ![2, 128, 128, 2, 64]⟩
abbrev S2x128x2048x4x64 : Shape := ⟨5, ![2, 128, 2048, 4, 64]⟩
abbrev S128x4x512 : Shape := ⟨3, ![128, 4, 512]⟩
abbrev S128x4x768 : Shape := ⟨3, ![128, 4, 768]⟩
abbrev S4 : Shape := ⟨1, ![4]⟩
abbrev S2x128x2x64x128 : Shape := ⟨5, ![2, 128, 2, 64, 128]⟩
abbrev S2x128x4x64x2048 : Shape := ⟨5, ![2, 128, 4, 64, 2048]⟩
abbrev S128x4x256 : Shape := ⟨3, ![128, 4, 256]⟩
abbrev S128x4x4x64 : Shape := ⟨4, ![128, 4, 4, 64]⟩
abbrev S128x4x64x4 : Shape := ⟨4, ![128, 4, 64, 4]⟩
abbrev S_ : Shape := ⟨0, ![]⟩
abbrev S128x4x64x128 : Shape := ⟨4, ![128, 4, 64, 128]⟩
abbrev S128x4x128 : Shape := ⟨3, ![128, 4, 128]⟩
abbrev S128x4x2x64 : Shape := ⟨4, ![128, 4, 2, 64]⟩
abbrev S128x2x64x4 : Shape := ⟨4, ![128, 2, 64, 4]⟩
abbrev S128x2x64x128 : Shape := ⟨4, ![128, 2, 64, 128]⟩
abbrev S128x8x512 : Shape := ⟨3, ![128, 8, 512]⟩
abbrev S128x8x768 : Shape := ⟨3, ![128, 8, 768]⟩
abbrev S128 : Shape := ⟨1, ![128]⟩
abbrev S1x128 : Shape := ⟨2, ![1, 128]⟩
abbrev S1x128x4x64x128 : Shape := ⟨5, ![1, 128, 4, 64, 128]⟩
abbrev S2x128x4x64x128 : Shape := ⟨5, ![2, 128, 4, 64, 128]⟩
abbrev S1x128x2x64x128 : Shape := ⟨5, ![1, 128, 2, 64, 128]⟩
abbrev S128x8x256 : Shape := ⟨3, ![128, 8, 256]⟩
abbrev S1x8x256 : Shape := ⟨3, ![1, 8, 256]⟩
abbrev S2x1x4x64x2048 : Shape := ⟨5, ![2, 1, 4, 64, 2048]⟩
abbrev S2x1x4x64x128 : Shape := ⟨5, ![2, 1, 4, 64, 128]⟩
abbrev S2x1x2x64x128 : Shape := ⟨5, ![2, 1, 2, 64, 128]⟩
abbrev S8x2048 : Shape := ⟨2, ![8, 2048]⟩
abbrev S8x128 : Shape := ⟨2, ![8, 128]⟩
abbrev S8x256 : Shape := ⟨2, ![8, 256]⟩
abbrev S8x64 : Shape := ⟨2, ![8, 64]⟩
abbrev S1x1x4x64x2048 : Shape := ⟨5, ![1, 1, 4, 64, 2048]⟩
abbrev S1x4x64x2048 : Shape := ⟨4, ![1, 4, 64, 2048]⟩
abbrev S1x1x64x2048 : Shape := ⟨4, ![1, 1, 64, 2048]⟩
abbrev S64x2048 : Shape := ⟨2, ![64, 2048]⟩
abbrev S1x1x4x64x128 : Shape := ⟨5, ![1, 1, 4, 64, 128]⟩
abbrev S1x4x64x128 : Shape := ⟨4, ![1, 4, 64, 128]⟩
abbrev S1x1x64x128 : Shape := ⟨4, ![1, 1, 64, 128]⟩
abbrev S64x128 : Shape := ⟨2, ![64, 128]⟩
abbrev S8 : Shape := ⟨1, ![8]⟩
abbrev S8x1 : Shape := ⟨2, ![8, 1]⟩
abbrev S24x2048 : Shape := ⟨2, ![24, 2048]⟩
abbrev S24x64 : Shape := ⟨2, ![24, 64]⟩
abbrev S24x128 : Shape := ⟨2, ![24, 128]⟩
abbrev S1x1x2x64x128 : Shape := ⟨5, ![1, 1, 2, 64, 128]⟩
abbrev S1x2x64x128 : Shape := ⟨4, ![1, 2, 64, 128]⟩
abbrev S1x1 : Shape := ⟨2, ![1, 1]⟩
abbrev S1x1x1x64x2048 : Shape := ⟨5, ![1, 1, 1, 64, 2048]⟩
abbrev S64x1920 : Shape := ⟨2, ![64, 1920]⟩
abbrev S1x1x1x64x1920 : Shape := ⟨5, ![1, 1, 1, 64, 1920]⟩
abbrev S1x1x1x64x128 : Shape := ⟨5, ![1, 1, 1, 64, 128]⟩

abbrev nBuf : Space → Nat
  | .hbm => 89
  | .vmem => 33
  | .smem => 0
  | _ => 0

abbrev bufTy : (tb : Table) → Fin (tcTables nBuf tb) → BufTy
  | .hbm, ⟨0, _⟩ => ⟨S2x128x128x2x64, .f32⟩
  | .hbm, ⟨1, _⟩ => ⟨S2x128x128x2x64, .f32⟩
  | .hbm, ⟨2, _⟩ => ⟨S2x128x2048x4x64, .f32⟩
  | .hbm, ⟨3, _⟩ => ⟨S2x128x2048x4x64, .f32⟩
  | .hbm, ⟨4, _⟩ => ⟨S128x4x512, .f32⟩
  | .hbm, ⟨5, _⟩ => ⟨S128x4x768, .f32⟩
  | .hbm, ⟨6, _⟩ => ⟨S128x4x512, .f32⟩
  | .hbm, ⟨7, _⟩ => ⟨S128x4x768, .f32⟩
  | .hbm, ⟨8, _⟩ => ⟨S4, .f32⟩
  | .hbm, ⟨9, _⟩ => ⟨S2x128x2x64x128, .f32⟩
  | .hbm, ⟨10, _⟩ => ⟨S2x128x2x64x128, .f32⟩
  | .hbm, ⟨11, _⟩ => ⟨S2x128x4x64x2048, .f32⟩
  | .hbm, ⟨12, _⟩ => ⟨S2x128x4x64x2048, .f32⟩
  | .hbm, ⟨13, _⟩ => ⟨S128x4x256, .f32⟩
  | .hbm, ⟨14, _⟩ => ⟨S128x4x4x64, .f32⟩
  | .hbm, ⟨15, _⟩ => ⟨S128x4x64x4, .f32⟩
  | .hbm, ⟨16, _⟩ => ⟨S_, .i32⟩
  | .hbm, ⟨17, _⟩ => ⟨S_, .f32⟩
  | .hbm, ⟨18, _⟩ => ⟨S128x4x64x128, .f32⟩
  | .hbm, ⟨19, _⟩ => ⟨S128x4x256, .f32⟩
  | .hbm, ⟨20, _⟩ => ⟨S128x4x4x64, .f32⟩
  | .hbm, ⟨21, _⟩ => ⟨S128x4x64x4, .f32⟩
  | .hbm, ⟨22, _⟩ => ⟨S_, .i32⟩
  | .hbm, ⟨23, _⟩ => ⟨S_, .f32⟩
  | .hbm, ⟨24, _⟩ => ⟨S128x4x64x128, .f32⟩
  | .hbm, ⟨25, _⟩ => ⟨S128x4x128, .f32⟩
  | .hbm, ⟨26, _⟩ => ⟨S128x4x2x64, .f32⟩
  | .hbm, ⟨27, _⟩ => ⟨S128x2x64x4, .f32⟩
  | .hbm, ⟨28, _⟩ => ⟨S_, .i32⟩
  | .hbm, ⟨29, _⟩ => ⟨S_, .f32⟩
  | .hbm, ⟨30, _⟩ => ⟨S128x2x64x128, .f32⟩
  | .hbm, ⟨31, _⟩ => ⟨S128x4x128, .f32⟩
  | .hbm, ⟨32, _⟩ => ⟨S128x4x2x64, .f32⟩
  | .hbm, ⟨33, _⟩ => ⟨S128x2x64x4, .f32⟩
  | .hbm, ⟨34, _⟩ => ⟨S_, .i32⟩
  | .hbm, ⟨35, _⟩ => ⟨S_, .f32⟩
  | .hbm, ⟨36, _⟩ => ⟨S128x2x64x128, .f32⟩
  | .hbm, ⟨37, _⟩ => ⟨S128x4x256, .f32⟩
  | .hbm, ⟨38, _⟩ => ⟨S128x4x4x64, .f32⟩
  | .hbm, ⟨39, _⟩ => ⟨S128x4x64x4, .f32⟩
  | .hbm, ⟨40, _⟩ => ⟨S_, .i32⟩
  | .hbm, ⟨41, _⟩ => ⟨S_, .f32⟩
  | .hbm, ⟨42, _⟩ => ⟨S128x4x64x128, .f32⟩
  | .hbm, ⟨43, _⟩ => ⟨S128x4x256, .f32⟩
  | .hbm, ⟨44, _⟩ => ⟨S128x4x4x64, .f32⟩
  | .hbm, ⟨45, _⟩ => ⟨S128x4x64x4, .f32⟩
  | .hbm, ⟨46, _⟩ => ⟨S_, .i32⟩
  | .hbm, ⟨47, _⟩ => ⟨S_, .f32⟩
  | .hbm, ⟨48, _⟩ => ⟨S128x4x64x128, .f32⟩
  | .hbm, ⟨49, _⟩ => ⟨S128x4x128, .f32⟩
  | .hbm, ⟨50, _⟩ => ⟨S128x4x2x64, .f32⟩
  | .hbm, ⟨51, _⟩ => ⟨S128x2x64x4, .f32⟩
  | .hbm, ⟨52, _⟩ => ⟨S_, .i32⟩
  | .hbm, ⟨53, _⟩ => ⟨S_, .f32⟩
  | .hbm, ⟨54, _⟩ => ⟨S128x2x64x128, .f32⟩
  | .hbm, ⟨55, _⟩ => ⟨S128x4x128, .f32⟩
  | .hbm, ⟨56, _⟩ => ⟨S128x4x2x64, .f32⟩
  | .hbm, ⟨57, _⟩ => ⟨S128x2x64x4, .f32⟩
  | .hbm, ⟨58, _⟩ => ⟨S_, .i32⟩
  | .hbm, ⟨59, _⟩ => ⟨S_, .f32⟩
  | .hbm, ⟨60, _⟩ => ⟨S128x2x64x128, .f32⟩
  | .hbm, ⟨61, _⟩ => ⟨S_, .i32⟩
  | .hbm, ⟨62, _⟩ => ⟨S_, .f32⟩
  | .hbm, ⟨63, _⟩ => ⟨S128x8x512, .f32⟩
  | .hbm, ⟨64, _⟩ => ⟨S_, .i32⟩
  | .hbm, ⟨65, _⟩ => ⟨S_, .f32⟩
  | .hbm, ⟨66, _⟩ => ⟨S128x8x768, .f32⟩
  | .hbm, ⟨67, _⟩ => ⟨S_, .i32⟩
  | .hbm, ⟨68, _⟩ => ⟨S_, .f32⟩
  | .hbm, ⟨69, _⟩ => ⟨S128, .f32⟩
  | .hbm, ⟨70, _⟩ => ⟨S1x128, .f32⟩
  | .hbm, ⟨71, _⟩ => ⟨S1x128x4x64x128, .f32⟩
  | .hbm, ⟨72, _⟩ => ⟨S1x128x4x64x128, .f32⟩
  | .hbm, ⟨73, _⟩ => ⟨S2x128x4x64x128, .f32⟩
  | .hbm, ⟨74, _⟩ => ⟨S1x128x4x64x128, .f32⟩
  | .hbm, ⟨75, _⟩ => ⟨S1x128x4x64x128, .f32⟩
  | .hbm, ⟨76, _⟩ => ⟨S2x128x4x64x128, .f32⟩
  | .hbm, ⟨77, _⟩ => ⟨S1x128x2x64x128, .f32⟩
  | .hbm, ⟨78, _⟩ => ⟨S1x128x2x64x128, .f32⟩
  | .hbm, ⟨79, _⟩ => ⟨S2x128x2x64x128, .f32⟩
  | .hbm, ⟨80, _⟩ => ⟨S1x128x2x64x128, .f32⟩
  | .hbm, ⟨81, _⟩ => ⟨S1x128x2x64x128, .f32⟩
  | .hbm, ⟨82, _⟩ => ⟨S2x128x2x64x128, .f32⟩
  | .hbm, ⟨83, _⟩ => ⟨S128x8x256, .f32⟩
  | .hbm, ⟨84, _⟩ => ⟨S128x8x256, .f32⟩
  | .hbm, ⟨85, _⟩ => ⟨S2x128x4x64x2048, .f32⟩
  | .hbm, ⟨86, _⟩ => ⟨S2x128x4x64x2048, .f32⟩
  | .hbm, ⟨87, _⟩ => ⟨S2x128x2x64x128, .f32⟩
  | .hbm, ⟨88, _⟩ => ⟨S2x128x2x64x128, .f32⟩
  | .local _ .vmem, ⟨0, _⟩ => ⟨S1x8x256, .f32⟩
  | .local _ .vmem, ⟨1, _⟩ => ⟨S1x8x256, .f32⟩
  | .local _ .vmem, ⟨2, _⟩ => ⟨S1x8x256, .f32⟩
  | .local _ .vmem, ⟨3, _⟩ => ⟨S1x8x256, .f32⟩
  | .local _ .vmem, ⟨4, _⟩ => ⟨S2x1x4x64x2048, .f32⟩
  | .local _ .vmem, ⟨5, _⟩ => ⟨S2x1x4x64x2048, .f32⟩
  | .local _ .vmem, ⟨6, _⟩ => ⟨S2x1x4x64x2048, .f32⟩
  | .local _ .vmem, ⟨7, _⟩ => ⟨S2x1x4x64x2048, .f32⟩
  | .local _ .vmem, ⟨8, _⟩ => ⟨S2x1x4x64x128, .f32⟩
  | .local _ .vmem, ⟨9, _⟩ => ⟨S2x1x4x64x128, .f32⟩
  | .local _ .vmem, ⟨10, _⟩ => ⟨S2x1x4x64x128, .f32⟩
  | .local _ .vmem, ⟨11, _⟩ => ⟨S2x1x4x64x128, .f32⟩
  | .local _ .vmem, ⟨12, _⟩ => ⟨S2x1x2x64x128, .f32⟩
  | .local _ .vmem, ⟨13, _⟩ => ⟨S2x1x2x64x128, .f32⟩
  | .local _ .vmem, ⟨14, _⟩ => ⟨S2x1x2x64x128, .f32⟩
  | .local _ .vmem, ⟨15, _⟩ => ⟨S2x1x2x64x128, .f32⟩
  | .local _ .vmem, ⟨16, _⟩ => ⟨S2x1x2x64x128, .f32⟩
  | .local _ .vmem, ⟨17, _⟩ => ⟨S2x1x2x64x128, .f32⟩
  | .local _ .vmem, ⟨18, _⟩ => ⟨S2x1x2x64x128, .f32⟩
  | .local _ .vmem, ⟨19, _⟩ => ⟨S2x1x2x64x128, .f32⟩
  | .local _ .vmem, ⟨20, _⟩ => ⟨S1x128, .f32⟩
  | .local _ .vmem, ⟨21, _⟩ => ⟨S1x8x256, .f32⟩
  | .local _ .vmem, ⟨22, _⟩ => ⟨S1x8x256, .f32⟩
  | .local _ .vmem, ⟨23, _⟩ => ⟨S1x8x256, .f32⟩
  | .local _ .vmem, ⟨24, _⟩ => ⟨S1x8x256, .f32⟩
  | .local _ .vmem, ⟨25, _⟩ => ⟨S2x1x4x64x2048, .f32⟩
  | .local _ .vmem, ⟨26, _⟩ => ⟨S2x1x4x64x2048, .f32⟩
  | .local _ .vmem, ⟨27, _⟩ => ⟨S2x1x4x64x2048, .f32⟩
  | .local _ .vmem, ⟨28, _⟩ => ⟨S2x1x4x64x2048, .f32⟩
  | .local _ .vmem, ⟨29, _⟩ => ⟨S2x1x2x64x128, .f32⟩
  | .local _ .vmem, ⟨30, _⟩ => ⟨S2x1x2x64x128, .f32⟩
  | .local _ .vmem, ⟨31, _⟩ => ⟨S2x1x2x64x128, .f32⟩
  | .local _ .vmem, ⟨32, _⟩ => ⟨S2x1x2x64x128, .f32⟩
  | _, _ => ⟨S2x128x128x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_call2_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_call3_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_call4_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_call5_v0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_call6_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_6 : Ref sig .tc := ⟨.hbm, 58, rfl⟩
abbrev main_call7_v0 : Ref sig .tc := ⟨.hbm, 59, rfl⟩
abbrev main_v35 : Ref sig .tc := ⟨.hbm, 60, rfl⟩
abbrev main_c_7 : Ref sig .tc := ⟨.hbm, 61, rfl⟩
abbrev main_call8_v0 : Ref sig .tc := ⟨.hbm, 62, rfl⟩
abbrev main_v36 : Ref sig .tc := ⟨.hbm, 63, rfl⟩
abbrev main_c_8 : Ref sig .tc := ⟨.hbm, 64, rfl⟩
abbrev main_call9_v0 : Ref sig .tc := ⟨.hbm, 65, rfl⟩
abbrev main_v37 : Ref sig .tc := ⟨.hbm, 66, rfl⟩
abbrev main_c_9 : Ref sig .tc := ⟨.hbm, 67, rfl⟩
abbrev main_call10_v0 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52_0 : Ref sig .tc := ⟨.hbm, 83, rfl⟩
abbrev main_v52_1 : Ref sig .tc := ⟨.hbm, 84, rfl⟩
abbrev main_v52_2 : Ref sig .tc := ⟨.hbm, 85, rfl⟩
abbrev main_v52_3 : Ref sig .tc := ⟨.hbm, 86, rfl⟩
abbrev main_v52_4 : Ref sig .tc := ⟨.hbm, 87, rfl⟩
abbrev main_v52_5 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_6 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_7 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_8 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_9 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_14 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_15 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_16 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S1x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x4x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x4x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1x4x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1x2x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x1x2x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x2x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1x2x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x1x4x64x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x1x4x64x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x1x2x64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x1x2x64x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== SampleCachesReferenceIdeal.lean ====
abbrev S2x128x128x2x64 : Shape := ⟨5, ![2, 128, 128, 2, 64]⟩
abbrev S2x128x2048x4x64 : Shape := ⟨5, ![2, 128, 2048, 4, 64]⟩
abbrev S128x4x512 : Shape := ⟨3, ![128, 4, 512]⟩
abbrev S128x4x768 : Shape := ⟨3, ![128, 4, 768]⟩
abbrev S4 : Shape := ⟨1, ![4]⟩
abbrev S128x4x128 : Shape := ⟨3, ![128, 4, 128]⟩
abbrev S128x4x2x64 : Shape := ⟨4, ![128, 4, 2, 64]⟩
abbrev S1x128x128x2x64 : Shape := ⟨5, ![1, 128, 128, 2, 64]⟩
abbrev S128x128x2x64 : Shape := ⟨4, ![128, 128, 2, 64]⟩
abbrev S128x132x2x64 : Shape := ⟨4, ![128, 132, 2, 64]⟩
abbrev S2x128x2x64x128 : Shape := ⟨5, ![2, 128, 2, 64, 128]⟩
abbrev S128x4x256 : Shape := ⟨3, ![128, 4, 256]⟩
abbrev S128x4x4x64 : Shape := ⟨4, ![128, 4, 4, 64]⟩
abbrev S1x128x2048x4x64 : Shape := ⟨5, ![1, 128, 2048, 4, 64]⟩
abbrev S128x2048x4x64 : Shape := ⟨4, ![128, 2048, 4, 64]⟩
abbrev S128x2052x4x64 : Shape := ⟨4, ![128, 2052, 4, 64]⟩
abbrev S2x128x4x64x2048 : Shape := ⟨5, ![2, 128, 4, 64, 2048]⟩

abbrev nBuf : Space → Nat
  | .hbm => 73
  | .vmem => 0
  | .smem => 0
  | _ => 0

abbrev bufTy : (tb : Table) → Fin (tcTables nBuf tb) → BufTy
  | .hbm, ⟨0, _⟩ => ⟨S2x128x128x2x64, .f32⟩
  | .hbm, ⟨1, _⟩ => ⟨S2x128x128x2x64, .f32⟩
  | .hbm, ⟨2, _⟩ => ⟨S2x128x2048x4x64, .f32⟩
  | .hbm, ⟨3, _⟩ => ⟨S2x128x2048x4x64, .f32⟩
  | .hbm, ⟨4, _⟩ => ⟨S128x4x512, .f32⟩
  | .hbm, ⟨5, _⟩ => ⟨S128x4x768, .f32⟩
  | .hbm, ⟨6, _⟩ => ⟨S128x4x512, .f32⟩
  | .hbm, ⟨7, _⟩ => ⟨S128x4x768, .f32⟩
  | .hbm, ⟨8, _⟩ => ⟨S4, .f32⟩
  | .hbm, ⟨9, _⟩ => ⟨S128x4x128, .f32⟩
  | .hbm, ⟨10, _⟩ => ⟨S128x4x128, .f32⟩
  | .hbm, ⟨11, _⟩ => ⟨S128x4x2x64, .f32⟩
  | .hbm, ⟨12, _⟩ => ⟨S128x4x2x64, .f32⟩
  | .hbm, ⟨13, _⟩ => ⟨S1x128x128x2x64, .f32⟩
  | .hbm, ⟨14, _⟩ => ⟨S128x128x2x64, .f32⟩
  | .hbm, ⟨15, _⟩ => ⟨S128x132x2x64, .f32⟩
  | .hbm, ⟨16, _⟩ => ⟨S128x128x2x64, .f32⟩
  | .hbm, ⟨17, _⟩ => ⟨S1x128x128x2x64, .f32⟩
  | .hbm, ⟨18, _⟩ => ⟨S128x128x2x64, .f32⟩
  | .hbm, ⟨19, _⟩ => ⟨S128x132x2x64, .f32⟩
  | .hbm, ⟨20, _⟩ => ⟨S128x128x2x64, .f32⟩
  | .hbm, ⟨21, _⟩ => ⟨S1x128x128x2x64, .f32⟩
  | .hbm, ⟨22, _⟩ => ⟨S1x128x128x2x64, .f32⟩
  | .hbm, ⟨23, _⟩ => ⟨S2x128x128x2x64, .f32⟩
  | .hbm, ⟨24, _⟩ => ⟨S2x128x2x64x128, .f32⟩
  | .hbm, ⟨25, _⟩ => ⟨S128x4x128, .f32⟩
  | .hbm, ⟨26, _⟩ => ⟨S128x4x128, .f32⟩
  | .hbm, ⟨27, _⟩ => ⟨S128x4x2x64, .f32⟩
  | .hbm, ⟨28, _⟩ => ⟨S128x4x2x64, .f32⟩
  | .hbm, ⟨29, _⟩ => ⟨S1x128x128x2x64, .f32⟩
  | .hbm, ⟨30, _⟩ => ⟨S128x128x2x64, .f32⟩
  | .hbm, ⟨31, _⟩ => ⟨S128x132x2x64, .f32⟩
  | .hbm, ⟨32, _⟩ => ⟨S128x128x2x64, .f32⟩
  | .hbm, ⟨33, _⟩ => ⟨S1x128x128x2x64, .f32⟩
  | .hbm, ⟨34, _⟩ => ⟨S128x128x2x64, .f32⟩
  | .hbm, ⟨35, _⟩ => ⟨S128x132x2x64, .f32⟩
  | .hbm, ⟨36, _⟩ => ⟨S128x128x2x64, .f32⟩
  | .hbm, ⟨37, _⟩ => ⟨S1x128x128x2x64, .f32⟩
  | .hbm, ⟨38, _⟩ => ⟨S1x128x128x2x64, .f32⟩
  | .hbm, ⟨39, _⟩ => ⟨S2x128x128x2x64, .f32⟩
  | .hbm, ⟨40, _⟩ => ⟨S2x128x2x64x128, .f32⟩
  | .hbm, ⟨41, _⟩ => ⟨S128x4x256, .f32⟩
  | .hbm, ⟨42, _⟩ => ⟨S128x4x256, .f32⟩
  | .hbm, ⟨43, _⟩ => ⟨S128x4x4x64, .f32⟩
  | .hbm, ⟨44, _⟩ => ⟨S128x4x4x64, .f32⟩
  | .hbm, ⟨45, _⟩ => ⟨S1x128x2048x4x64, .f32⟩
  | .hbm, ⟨46, _⟩ => ⟨S128x2048x4x64, .f32⟩
  | .hbm, ⟨47, _⟩ => ⟨S128x2052x4x64, .f32⟩
  | .hbm, ⟨48, _⟩ => ⟨S128x2048x4x64, .f32⟩
  | .hbm, ⟨49, _⟩ => ⟨S1x128x2048x4x64, .f32⟩
  | .hbm, ⟨50, _⟩ => ⟨S128x2048x4x64, .f32⟩
  | .hbm, ⟨51, _⟩ => ⟨S128x2052x4x64, .f32⟩
  | .hbm, ⟨52, _⟩ => ⟨S128x2048x4x64, .f32⟩
  | .hbm, ⟨53, _⟩ => ⟨S1x128x2048x4x64, .f32⟩
  | .hbm, ⟨54, _⟩ => ⟨S1x128x2048x4x64, .f32⟩
  | .hbm, ⟨55, _⟩ => ⟨S2x128x2048x4x64, .f32⟩
  | .hbm, ⟨56, _⟩ => ⟨S2x128x4x64x2048, .f32⟩
  | .hbm, ⟨57, _⟩ => ⟨S128x4x256, .f32⟩
  | .hbm, ⟨58, _⟩ => ⟨S128x4x256, .f32⟩
  | .hbm, ⟨59, _⟩ => ⟨S128x4x4x64, .f32⟩
  | .hbm, ⟨60, _⟩ => ⟨S128x4x4x64, .f32⟩
  | .hbm, ⟨61, _⟩ => ⟨S1x128x2048x4x64, .f32⟩
  | .hbm, ⟨62, _⟩ => ⟨S128x2048x4x64, .f32⟩
  | .hbm, ⟨63, _⟩ => ⟨S128x2052x4x64, .f32⟩
  | .hbm, ⟨64, _⟩ => ⟨S128x2048x4x64, .f32⟩
  | .hbm, ⟨65, _⟩ => ⟨S1x128x2048x4x64, .f32⟩
  | .hbm, ⟨66, _⟩ => ⟨S128x2048x4x64, .f32⟩
  | .hbm, ⟨67, _⟩ => ⟨S128x2052x4x64, .f32⟩
  | .hbm, ⟨68, _⟩ => ⟨S128x2048x4x64, .f32⟩
  | .hbm, ⟨69, _⟩ => ⟨S1x128x2048x4x64, .f32⟩
  | .hbm, ⟨70, _⟩ => ⟨S1x128x2048x4x64, .f32⟩
  | .hbm, ⟨71, _⟩ => ⟨S2x128x2048x4x64, .f32⟩
  | .hbm, ⟨72, _⟩ => ⟨S2x128x4x64x2048, .f32⟩
  | _, _ => ⟨S2x128x128x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩

abbrev nD : Nat := 1
abbrev τ : Topo := Topo.v7x

variable {F : FTy → Type} [FloatOps F]
-- ==== SampleInProjection.lean ====
abbrev S512x1024 : Shape := ⟨2, ![512, 1024]⟩
abbrev S1024 : Shape := ⟨1, ![1024]⟩
abbrev S1024x3336 : Shape := ⟨2, ![1024, 3336]⟩
abbrev S1x1024 : Shape := ⟨2, ![1, 1024]⟩
abbrev S1024x8 : Shape := ⟨2, ![1024, 8]⟩
abbrev S_ : Shape := ⟨0, ![]⟩
abbrev S1024x128 : Shape := ⟨2, ![1024, 128]⟩
abbrev S1024x1024 : Shape := ⟨2, ![1024, 1024]⟩
abbrev S1024x2304 : Shape := ⟨2, ![1024, 2304]⟩
abbrev S1024x3456 : Shape := ⟨2, ![1024, 3456]⟩
abbrev S512x512 : Shape := ⟨2, ![512, 512]⟩
abbrev S512x768 : Shape := ⟨2, ![512, 768]⟩
abbrev S512x128 : Shape := ⟨2, ![512, 128]⟩
abbrev S256x1024 : Shape := ⟨2, ![256, 1024]⟩
abbrev S256x512 : Shape := ⟨2, ![256, 512]⟩
abbrev S256x768 : Shape := ⟨2, ![256, 768]⟩
abbrev S256x128 : Shape := ⟨2, ![256, 128]⟩
abbrev S256 : Shape := ⟨1, ![256]⟩
abbrev S256x1 : Shape := ⟨2, ![256, 1]⟩
abbrev S1024x512 : Shape := ⟨2, ![1024, 512]⟩
abbrev S1024x768 : Shape := ⟨2, ![1024, 768]⟩

abbrev nBuf : Space → Nat
  | .hbm => 17
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x3336, .f32⟩
  | .hbm, ⟨3, _⟩ => ⟨S1x1024, .f32⟩
  | .hbm, ⟨4, _⟩ => ⟨S1024x8, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S1024x1024, .f32⟩
  | .hbm, ⟨9, _⟩ => ⟨S1024x2304, .f32⟩
  | .hbm, ⟨10, _⟩ => ⟨S1024x3456, .f32⟩
  | .hbm, ⟨11, _⟩ => ⟨S1024x3456, .bf16⟩
  | .hbm, ⟨12, _⟩ => ⟨S512x1024, .f32⟩
  | .hbm, ⟨13, _⟩ => ⟨S512x512, .f32⟩
  | .hbm, ⟨14, _⟩ => ⟨S512x1024, .f32⟩
  | .hbm, ⟨15, _⟩ => ⟨S512x768, .f32⟩
  | .hbm, ⟨16, _⟩ => ⟨S512x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3456, .bf16⟩
  | .local _ .vmem, ⟨4, _⟩ => ⟨S256x1024, .f32⟩
  | .local _ .vmem, ⟨5, _⟩ => ⟨S256x1024, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S256x768, .f32⟩
  | .local _ .vmem, ⟨11, _⟩ => ⟨S256x768, .f32⟩
  | .local _ .vmem, ⟨12, _⟩ => ⟨S256x128, .f32⟩
  | .local _ .vmem, ⟨13, _⟩ => ⟨S256x128, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SampleInProjectionReferenceIdeal.lean ====
abbrev S512x1024 : Shape := ⟨2, ![512, 1024]⟩
abbrev S1024 : Shape := ⟨1, ![1024]⟩
abbrev S1024x3336 : Shape := ⟨2, ![1024, 3336]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x3336 : Shape := ⟨2, ![512, 3336]⟩
abbrev S512x512 : Shape := ⟨2, ![512, 512]⟩
abbrev S512x768 : Shape := ⟨2, ![512, 768]⟩
abbrev S512x8 : Shape := ⟨2, ![512, 8]⟩
abbrev S512x128 : Shape := ⟨2, ![512, 128]⟩

abbrev nBuf : Space → Nat
  | .hbm => 28
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x3336, .f32⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1024, .f32⟩
  | .hbm, ⟨15, _⟩ => ⟨S512x1024, .f32⟩
  | .hbm, ⟨16, _⟩ => ⟨S1x1024, .f32⟩
  | .hbm, ⟨17, _⟩ => ⟨S512x1024, .f32⟩
  | .hbm, ⟨18, _⟩ => ⟨S512x1024, .f32⟩
  | .hbm, ⟨19, _⟩ => ⟨S512x3336, .f32⟩
  | .hbm, ⟨20, _⟩ => ⟨S512x1024, .f32⟩
  | .hbm, ⟨21, _⟩ => ⟨S512x512, .f32⟩
  | .hbm, ⟨22, _⟩ => ⟨S512x1024, .f32⟩
  | .hbm, ⟨23, _⟩ => ⟨S512x768, .f32⟩
  | .hbm, ⟨24, _⟩ => ⟨S512x8, .f32⟩
  | .hbm, ⟨25, _⟩ => ⟨S_, .i32⟩
  | .hbm, ⟨26, _⟩ => ⟨S_, .f32⟩
  | .hbm, ⟨27, _⟩ => ⟨S512x128, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proof.Rows.lean ====
/- The rows one grid point of the combine kernel moves: row `t` of a landing buffer, row `r` of the expert outputs, the
   element sets they are, and what a landed row holds. -/
module

public import proofs.«01_k».proof.Proof.Gen.KernelIdeal.Loops
public import proofs.«01_k».proof.Proof.Gen.KernelIdeal.Launch
public import Idealize.ShloMosaic.Lib.Pipeline.FrameBody
public import Idealize.ShloMosaic.Lib.Batch
public import Idealize.ShloMosaic.Lib.Ring
public import Idealize.ShloMosaic.Lib.Tactic

@[expose] public section

noncomputable section

namespace Cert.Proof.Combine

open Cert.KernelIdeal
open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F]

/-! ## The two kinds of rows -/

/-- A landing buffer has 512 rows of `8 × 128`. -/
theorem land_inb (t : Fin 512) : ∀ a, (![t.val, 0, 0] : Fin 3 → Nat) a + S1x8x128.size a ≤ S512x8x128.size a := by
  have := t.isLt; intro a; fin_cases a
  · show t.val + 1 ≤ 512; omega
  · show 0 + 8 ≤ 8; omega
  · show 0 + 128 ≤ 128; omega

/-- The expert outputs have 69632 rows of `8 × 128`. -/
theorem out_inb (r : Fin 69632) : ∀ a, (![r.val, 0, 0] : Fin 3 → Nat) a + S1x8x128.size a ≤ S69632x8x128.size a := by
  have := r.isLt; intro a; fin_cases a
  · show r.val + 1 ≤ 69632; omega
  · show 0 + 8 ≤ 8; omega
  · show 0 + 128 ≤ 128; omega

/-- Row `t` of the landing buffer `a`. -/
def landRow (a : Memref sig .tc .vmem S512x8x128 .f32) (t : Fin 512) : Memref sig .tc .vmem S8x128 .f32 :=
  (a.slice (Rect.unit (s := S512x8x128) ![t.val, 0, 0] S1x8x128.size (land_inb t)) (fun _ => rfl)).squeeze S8x128 Gen.squeezes_S1x8x128_S8x128

/-- Row `r` of the expert outputs `y`. -/
def outRow (y : Memref sig .tc .hbm S69632x8x128 .f32) (r : Fin 69632) : Memref sig .tc .hbm S8x128 .f32 :=
  (y.slice (Rect.unit (s := S69632x8x128) ![r.val, 0, 0] S1x8x128.size (out_inb r)) (fun _ => rfl)).squeeze S8x128 Gen.squeezes_S1x8x128_S8x128

/-! ## The rows of a landing buffer are the buffer -/

/-- Row `t`'s elements: those at leading index `t`. -/
abbrev landSet (t : Fin 512) : Finset S512x8x128.Idx := (Rect.unit (s := S512x8x128) ![t.val, 0, 0] S1x8x128.size (land_inb t)).set

theorem mem_landSet (t : Fin 512) (y : S512x8x128.Idx) : y ∈ landSet t ↔ (y 0).val = t.val := by
  rw [Rect.mem_set_unit]
  have h1 : (y 1).val < 8 := (y 1).isLt
  have h2 : (y 2).val < 128 := (y 2).isLt
  constructor
  · intro H; have a0 : t.val ≤ (y 0).val ∧ (y 0).val < t.val + 1 := H 0; omega
  · intro H a; fin_cases a
    · show t.val ≤ (y 0).val ∧ (y 0).val < t.val + 1; omega
    · show 0 ≤ (y 1).val ∧ (y 1).val < 0 + 8; omega
    · show 0 ≤ (y 2).val ∧ (y 2).val < 0 + 128; omega

theorem landSet_disjoint : ∀ b b' : Fin 512, b ≠ b' → Disjoint (landSet b) (landSet b') := fun b b' hne => by
  rw [Finset.disjoint_left]; intro y hy hy'; rw [mem_landSet] at hy hy'; exact hne (Fin.ext (by omega))

theorem landSet_cover : Finset.univ.biUnion landSet = Finset.univ := by
  ext y; simp only [Finset.mem_biUnion, Finset.mem_univ, true_and, iff_true]; exact ⟨y 0, (mem_landSet _ _).mpr rfl⟩

theorem landRow_set0 (t : Fin 512) : (landRow (Memref.whole cc0_scratch0) t).view.set = landSet t := by
  unfold landRow; exact (View.set_reshape _ _).trans (View.set_slice_whole _ _)
theorem landRow_set1 (t : Fin 512) : (landRow (Memref.whole cc0_scratch1) t).view.set = landSet t := by
  unfold landRow; exact (View.set_reshape _ _).trans (View.set_slice_whole _ _)

/-! ## What a landed row holds -/

variable {Val : EltTy → Type}

/-- Entry `(r, a, b)` of the expert outputs. -/
abbrev outAt (r : Fin 69632) (a : Fin 8) (b : Fin 128) : S69632x8x128.Idx := fun | 0 => r | 1 => a | 2 => b

/-- Landing buffer contents in which row `t` is row `p t` of `Y`. -/
def gathered (p : Fin 512 → Fin 69632) (Y : S69632x8x128.Idx → Val .f32) : S512x8x128.Idx → Val .f32 :=
  fun y => Y (outAt (p (y 0)) (y 1) (y 2))

theorem gathered_row (p : Fin 512 → Fin 69632) (Y : S69632x8x128.Idx → Val .f32) (t : Fin 512) (z : S1x8x128.Idx) :
    gathered p Y ((Rect.unit (s := S512x8x128) ![t.val, 0, 0] S1x8x128.size (land_inb t)).emb z)
      = Y ((Rect.unit (s := S69632x8x128) ![(p t).val, 0, 0] S1x8x128.size (out_inb (p t))).emb z) := by
  have hz : (z 0).val = 0 := by have : (z 0).val < 1 := (z 0).isLt; omega
  have h0 : ((Rect.unit (s := S512x8x128) ![t.val, 0, 0] S1x8x128.size (land_inb t)).emb z) 0 = t := Fin.ext (by
    show t.val + 1 * (z 0).val = t.val; omega)
  refine congrArg Y (funext fun a => Fin.ext ?_)
  fin_cases a
  · show (p (((Rect.unit (s := S512x8x128) ![t.val, 0, 0] S1x8x128.size (land_inb t)).emb z) 0)).val = (p t).val + 1 * (z 0).val
    rw [congrArg p h0]; omega
  · rfl
  · rfl

/-- What a copy of row `p t` of the expert outputs leaves in row `t` of the first landing buffer, -/
theorem landed0 (p : Fin 512 → Fin 69632) (Y : S69632x8x128.Idx → Val .f32) (f : S512x8x128.Idx → Val .f32) (t : Fin 512)
    (i : S512x8x128.Idx) (hi : i ∈ (landRow (Memref.whole cc0_scratch0) t).view.set) :
    (landRow (Memref.whole cc0_scratch0) t).view.write Val f ((outRow (Memref.whole main_arg3) (p t)).view.read Val Y) Finset.univ i = gathered p Y i := by
  obtain ⟨x, -, rfl⟩ := Finset.mem_map.mp hi
  exact (View.write_emb_of_mem (v := (landRow (Memref.whole cc0_scratch0) t).view) (Val := Val) f _ (Finset.mem_univ x)).trans (gathered_row p Y t _).symm

/-- and in row `t` of the second. -/
theorem landed1 (p : Fin 512 → Fin 69632) (Y : S69632x8x128.Idx → Val .f32) (f : S512x8x128.Idx → Val .f32) (t : Fin 512)
    (i : S512x8x128.Idx) (hi : i ∈ (landRow (Memref.whole cc0_scratch1) t).view.set) :
    (landRow (Memref.whole cc0_scratch1) t).view.write Val f ((outRow (Memref.whole main_arg3) (p t)).view.read Val Y) Finset.univ i = gathered p Y i := by
  obtain ⟨x, -, rfl⟩ := Finset.mem_map.mp hi
  exact (View.write_emb_of_mem (v := (landRow (Memref.whole cc0_scratch1) t).view) (Val := Val) f _ (Finset.mem_univ x)).trans (gathered_row p Y t _).symm

end Cert.Proof.Combine

end
-- ==== Proof.Gather.lean ====
/- The issue loop of the combine kernel: trip `t` starts two copies, one on each transfer semaphore, and what the two
   waits after the loop hand back. -/
module

public import proofs.«01_k».proof.Proof.Rows

@[expose] public section

noncomputable section

namespace Cert.Proof.Combine

open Cert.KernelIdeal
open Idealize.ShloMosaic.RefSig (tileCredit)
open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The rows a grid point asks for -/

/-- Entry `n` of the position table. -/
abbrev tabAt (n : ℕ) (h : n < 65536) : S65536.Idx := fun | 0 => (⟨n, h⟩ : Fin 65536)

/-- The row the table names at entry `n`. -/
def rowNamed (tb : S65536.Idx → BitVec 32) (n : ℕ) (h : n < 65536) : Fin 69632 := ⟨(tb (tabAt n h)).toNat % 69632, Nat.mod_lt _ (by omega)⟩

/-- The first and the second expert row of token `t` of block `i`. -/
def firstRow (tb : S65536.Idx → BitVec 32) (i : Fin 64) (t : Fin 512) : Fin 69632 := rowNamed tb (1024 * i.val + 2 * t.val) (by omega)
def secondRow (tb : S65536.Idx → BitVec 32) (i : Fin 64) (t : Fin 512) : Fin 69632 := rowNamed tb (1024 * i.val + 2 * t.val + 1) (by omega)

/-- The table names rows that exist. -/
def RowsNamed (tb : S65536.Idx → BitVec 32) : Prop := ∀ j, (tb j).toNat < 69632

/-! ## What is held, lent and delivered -/

section Names

variable (c : Dev nD)

/-- Row `t` of a landing buffer, at contents `g`. -/
abbrev land0 (g : S512x8x128.Idx → Elt F .f32) (t : Fin 512) : sProp 𝕄 :=
  (landRow (Memref.whole cc0_scratch0) t).view.loc (c : Thread nD τ) ↦[(landRow (Memref.whole cc0_scratch0) t).view.set]{fullShare} g
abbrev land1 (g : S512x8x128.Idx → Elt F .f32) (t : Fin 512) : sProp 𝕄 :=
  (landRow (Memref.whole cc0_scratch1) t).view.loc (c : Thread nD τ) ↦[(landRow (Memref.whole cc0_scratch1) t).view.set]{fullShare} g

/-- Row `r` of the expert outputs, read-only, under token `n`. -/
abbrev lent (Y : S69632x8x128.Idx → Elt F .f32) (r : Fin 69632) (n : ℕ) : sProp 𝕄 :=
  (outRow (Memref.whole main_arg3) r).view.loc (c : Thread nD τ) ↦[(outRow (Memref.whole main_arg3) r).view.set]{Transfers.shareTokN fullShare n} Y

/-- The position table, read-only. -/
abbrev table (tb : S65536.Idx → BitVec 32) : sProp 𝕄 :=
  (Memref.whole main_arg0 : Memref sig .tc .smem S65536 .i32).view.loc (c : Thread nD τ) ↦{fullShare.right} tb

/-- The transfers' deliveries: row `t` of the landing buffer at the row it was asked for, and the read token back. -/
def del0 (Y : S69632x8x128.Idx → Elt F .f32) (p : Fin 512 → Fin 69632) (t : Fin 512) : sProp 𝕄 :=
  iprop(land0 c (gathered p Y) t ∗ lent c Y (p t) (2 * t.val))
def del1 (Y : S69632x8x128.Idx → Elt F .f32) (p : Fin 512 → Fin 69632) (t : Fin 512) : sProp 𝕄 :=
  iprop(land1 c (gathered p Y) t ∗ lent c Y (p t) (2 * t.val + 1))

theorem land0_storable (t : Fin 512) (g : Buf (Elt F) ((landRow (Memref.whole cc0_scratch0) t).view.loc (c : Thread nD τ))) :
    BI.Storable (upEmb : UEmb _ 𝕄) (land0 c g t) := by unfold land0; infer_instance
theorem land1_storable (t : Fin 512) (g : Buf (Elt F) ((landRow (Memref.whole cc0_scratch1) t).view.loc (c : Thread nD τ))) :
    BI.Storable (upEmb : UEmb _ 𝕄) (land1 c g t) := by unfold land1; infer_instance
theorem lent_storable (r : Fin 69632) (n : ℕ) (Y : Buf (Elt F) ((outRow (Memref.whole main_arg3) r).view.loc (c : Thread nD τ))) :
    BI.Storable (upEmb : UEmb _ 𝕄) (lent c Y r n) := by unfold lent; infer_instance

instance del0_storable (Y : S69632x8x128.Idx → Elt F .f32) (p : Fin 512 → Fin 69632) (t : Fin 512) :
    BI.Storable (upEmb : UEmb _ 𝕄) (del0 c Y p t) := by
  unfold del0
  have h1 := land0_storable c t (gathered p Y)
  have h2 := lent_storable c (p t) (2 * t.val) Y
  infer_instance
instance del1_storable (Y : S69632x8x128.Idx → Elt F .f32) (p : Fin 512 → Fin 69632) (t : Fin 512) :
    BI.Storable (upEmb : UEmb _ 𝕄) (del1 c Y p t) := by
  unfold del1
  have h1 := land1_storable c t (gathered p Y)
  have h2 := lent_storable c (p t) (2 * t.val + 1) Y
  infer_instance

/-- A row's credit on a transfer semaphore: its 1024 words of four bytes, by 32. -/
abbrev rowCredit : ℕ := 128

abbrev batch0 (Y : S69632x8x128.Idx → Elt F .f32) (p : Fin 512 → Fin 69632) (j u : ℕ) : sProp 𝕄 :=
  Transfers.Batch (countersEmb (U := Pipeline.UD sig nD τ)) (c : Thread nD τ) (.dma 7) () rowCredit (del0 c Y p) j u
abbrev batch1 (Y : S69632x8x128.Idx → Elt F .f32) (p : Fin 512 → Fin 69632) (j u : ℕ) : sProp 𝕄 :=
  Transfers.Batch (countersEmb (U := Pipeline.UD sig nD τ)) (c : Thread nD τ) (.dma 8) () rowCredit (del1 c Y p) j u

end Names

/-! ## One trip of the loop -/

section Issue

variable (c : Dev nD) (i : grid0.Coords)

/-- Before trip `k`: `k` copies issued on each semaphore, none waited for; the rows of the landing buffers and the read
    tokens from `k` on still in hand. -/
def issueAt (tb : S65536.Idx → BitVec 32) (Y : S69632x8x128.Idx → Elt F .f32) (g0 g1 : S512x8x128.Idx → Elt F .f32) (k : ℕ) (_ : Unit) : sProp 𝕄 :=
  iprop(table c tb ∗ batch0 c Y (firstRow tb (i 0)) k 0 ∗ batch1 c Y (secondRow tb (i 0)) k 0
    ∗ bigSep (Ring.rangeSet 512 k 512) (land0 c g0) ∗ bigSep (Ring.rangeSet 512 k 512) (land1 c g1)
    ∗ bigSep (Ring.rangeSet 512 k 512) (fun t => lent c Y (firstRow tb (i 0) t) (2 * t.val))
    ∗ bigSep (Ring.rangeSet 512 k 512) (fun t => lent c Y (secondRow tb (i 0) t) (2 * t.val + 1)))

theorem trips_eq : k0_t1_loop.trips = 512 := by decide +kernel

/-- A word that names a row passes the kernel's check of it. -/
theorem chk1_of (v : BitVec 32) (h : v.toNat < 69632) : k0_chk1 v := fun a => out_inb ⟨v.toNat, h⟩ a
theorem chk2_of (v : BitVec 32) (h : v.toNat < 69632) : k0_chk2 v := fun a => out_inb ⟨v.toNat, h⟩ a

theorem row_credit (a : Memref sig .tc .vmem S512x8x128 .f32) (t : Fin 512) (sm : DmaSem sig) : (landRow a t).view.amount (.dma sm) = rowCredit := by
  show tileCredit S8x128 .f32 = 128
  decide

/-- The first copy of a trip: row `p t` of the expert outputs into row `t` of the first landing buffer. -/
theorem issue0 (Y : S69632x8x128.Idx → Elt F .f32) (p : Fin 512 → Fin 69632) (g : S512x8x128.Idx → Elt F .f32) (t : Fin 512)
    {src : Memref sig .tc .hbm S8x128 .f32} {dst : Memref sig .tc .vmem S8x128 .f32} {sm : SemLoc sig}
    (hs : src = outRow (Memref.whole main_arg3) (p t)) (hd : dst = landRow (Memref.whole cc0_scratch0) t) (hm : sm = .dma 7)
    {hsrc : src.view.WordExact} {hdst : dst.view.WordExact} {hsem : DmaTarget.Typed (nD := nD) .hbm sm (DmaTarget.here (nD := nD) (p := (Proc.tc : Proc τ)) dst)}
    {k : PUnit → Prog (TpuEff nD τ sig (Elt F) Λ₀ .tc) Unit} {Q : Unit → sProp 𝕄} :
    iprop(lent c Y (p t) (2 * t.val) ∗ land0 c g t ∗ batch0 c Y p t.val 0)
      ⊢ iprop((batch0 c Y p (t.val + 1) 0 -∗ wp frame (wpE (defs₀ (F := F)) Variants.none (c : Thread nD τ) none) Set.univ (k ⟨⟩) Q)
          -∗ wp frame (wpE (defs₀ (F := F)) Variants.none (c : Thread nD τ) none) Set.univ (.op (.enqueueDmaAs src (.here dst) .same sm hsrc hdst hsem) k) Q) := by
  subst hs hd hm
  refine Transfers.wp_dmaBatch (countersEmb (U := Pipeline.UD sig nD τ)) Variants.none (c : Thread nD τ) none () rowCredit (row_credit _ _ _) (Finset.Subset.refl _) t.isLt (Nat.zero_le _) ?_
  unfold del0
  rw [pointsTo_congr (fun i hi => landed0 p Y g t i hi)]

/-- The second copy of a trip, into the second landing buffer. -/
theorem issue1 (Y : S69632x8x128.Idx → Elt F .f32) (p : Fin 512 → Fin 69632) (g : S512x8x128.Idx → Elt F .f32) (t : Fin 512)
    {src : Memref sig .tc .hbm S8x128 .f32} {dst : Memref sig .tc .vmem S8x128 .f32} {sm : SemLoc sig}
    (hs : src = outRow (Memref.whole main_arg3) (p t)) (hd : dst = landRow (Memref.whole cc0_scratch1) t) (hm : sm = .dma 8)
    {hsrc : src.view.WordExact} {hdst : dst.view.WordExact} {hsem : DmaTarget.Typed (nD := nD) .hbm sm (DmaTarget.here (nD := nD) (p := (Proc.tc : Proc τ)) dst)}
    {k : PUnit → Prog (TpuEff nD τ sig (Elt F) Λ₀ .tc) Unit} {Q : Unit → sProp 𝕄} :
    iprop(lent c Y (p t) (2 * t.val + 1) ∗ land1 c g t ∗ batch1 c Y p t.val 0)
      ⊢ iprop((batch1 c Y p (t.val + 1) 0 -∗ wp frame (wpE (defs₀ (F := F)) Variants.none (c : Thread nD τ) none) Set.univ (k ⟨⟩) Q)
          -∗ wp frame (wpE (defs₀ (F := F)) Variants.none (c : Thread nD τ) none) Set.univ (.op (.enqueueDmaAs src (.here dst) .same sm hsrc hdst hsem) k) Q) := by
  subst hs hd hm
  refine Transfers.wp_dmaBatch (countersEmb (U := Pipeline.UD sig nD τ)) Variants.none (c : Thread nD τ) none () rowCredit (row_credit _ _ _) (Finset.Subset.refl _) t.isLt (Nat.zero_le _) ?_
  unfold del1
  rw [pointsTo_congr (fun i hi => landed1 p Y g t i hi)]

/-- Where the kernel's offsets point. -/
theorem src_eq (off : Fin 3 → ℕ) (h : ∀ a, off a + S1x8x128.size a ≤ S69632x8x128.size a) (r : Fin 69632) (hr : off = ![r.val, 0, 0]) :
    ((Memref.whole main_arg3 : Memref sig .tc .hbm S69632x8x128 .f32).slice (Rect.unit (s := S69632x8x128) off S1x8x128.size h) (fun _ => rfl)).squeeze S8x128 Gen.squeezes_S1x8x128_S8x128
      = outRow (Memref.whole main_arg3) r := by subst hr; rfl
theorem dst_eq (a : Memref sig .tc .vmem S512x8x128 .f32) (off : Fin 3 → ℕ) (h : ∀ a, off a + S1x8x128.size a ≤ S512x8x128.size a) (t : Fin 512) (hr : off = ![t.val, 0, 0]) :
    (a.slice (Rect.unit (s := S512x8x128) off S1x8x128.size h) (fun _ => rfl)).squeeze S8x128 Gen.squeezes_S1x8x128_S8x128
      = landRow a t := by subst hr; rfl

/-- A word that names a row, as an offset. -/
theorem off_row (v : BitVec 32) (h : v.toNat < 69632) : (![v.toNat, 0, 0] : Fin 3 → ℕ) = ![v.toNat % 69632, 0, 0] := by
  rw [Nat.mod_eq_of_lt h]

/-- The word loaded at an offset of the table. -/
theorem word1 (tb : S65536.Idx → BitVec 32) (off : Fin 1 → ℕ) (n : ℕ) (ho : off = ![n]) (h : ∀ a, off a + S1.size a ≤ S65536.size a) (hn : n < 65536) (j : S1.Idx) :
    View.readAt (Elt F) (Memref.whole main_arg0 : Memref sig .tc .smem S65536 .i32).view (Rect.unit (s := S65536) off S1.size h).toLoadRect tb j = tb (tabAt n hn) := by
  subst ho
  refine congrArg tb (funext fun a => ?_)
  fin_cases a
  have hj : (j 0).val < 1 := (j 0).isLt
  refine Fin.ext ?_
  show n + 1 * (j 0).val = n
  omega

theorem issue_step (tb : S65536.Idx → BitVec 32) (htb : RowsNamed tb) (Y : S69632x8x128.Idx → Elt F .f32) (g0 g1 : S512x8x128.Idx → Elt F .f32)
    (arg2 : Memref sig .tc .vmem S512x1024 .f32) (harg2 : arg2.IsWhole) (arg3 : Memref sig .tc .vmem S512x128 .f32) (harg3 : arg3.IsWhole)
    (arg5 : Memref sig .tc .vmem S1x1024 .f32) (harg5 : arg5.IsWhole) (arg6 : Memref sig .tc .vmem S512x1024 .f32) (harg6 : arg6.IsWhole)
    (k : Fin k0_t1_loop.trips) (acc : Unit) :
    issueAt c i tb Y g0 g1 k acc ⊢ wp frame (wpE (defs₀ (F := F)) Variants.none (c : Thread nD τ) none) Set.univ
      (Gen.k0_t1_body i (Memref.whole main_arg0) (Memref.isWhole_whole _) arg2 harg2 arg3 harg3 (Memref.whole main_arg3) (Memref.isWhole_whole _)
        arg5 harg5 arg6 harg6 (Memref.whole cc0_scratch0) (Memref.isWhole_whole _) (Memref.whole cc0_scratch1) (Memref.isWhole_whole _) cc0_scratch2 k acc)
      (issueAt c i tb Y g0 g1 (k.val + 1)) := by
  have hk : k.val < 512 := trips_eq ▸ k.isLt
  unfold issueAt
  rw [Ring.bigSep_rangeSet_head (Φ := land0 c g0) hk hk, Ring.bigSep_rangeSet_head (Φ := land1 c g1) hk hk,
    Ring.bigSep_rangeSet_head (Φ := fun t => lent c Y (firstRow tb (i 0) t) (2 * t.val)) hk hk,
    Ring.bigSep_rangeSet_head (Φ := fun t => lent c Y (secondRow tb (i 0) t) (2 * t.val + 1)) hk hk]
  iintro ⟨HT, HB0, HB1, ⟨HL0, HLs0⟩, ⟨HL1, HLs1⟩, ⟨HS0, HSs0⟩, ⟨HS1, HSs1⟩⟩
  sl_unfold [Gen.k0_t1_body]
  sl_exec
  have hv : issue_step.sl.r (F := F) i tb k = tb (tabAt (1024 * (i 0).val + 2 * k.val) (by have : (i 0).val < 64 := (i 0).isLt; omega)) := by
    unfold issue_step.sl.r
    exact word1 tb _ _ (Gen.k0_off1_eq i k) _ _ _
  generalize issue_step.sl.r (F := F) i tb k = v at *
  have hc1 : k0_chk1 v := chk1_of v (by rw [hv]; exact htb _)
  sl_exec
  iapply (issue0 c Y (firstRow tb (i 0)) g0 ⟨k.val, hk⟩ (src_eq _ _ _ (by rw [hv]; exact off_row _ (htb _))) (dst_eq _ _ _ _ (Gen.k0_off2_eq k)) rfl) $$ [HS0 HL0 HB0]
  · isplitl [HS0]
    · iexact HS0
    isplitl [HL0]
    · iexact HL0
    · iexact HB0
  iintro HB0
  sl_exec
  have hv2 : issue_step.sl.r_1 (F := F) i tb k = tb (tabAt (1024 * (i 0).val + 2 * k.val + 1) (by have : (i 0).val < 64 := (i 0).isLt; omega)) := by
    unfold issue_step.sl.r_1
    exact word1 tb _ _ (Gen.k0_off4_eq i k) _ _ _
  generalize issue_step.sl.r_1 (F := F) i tb k = w at *
  have hc2 : k0_chk2 w := chk2_of w (by rw [hv2]; exact htb _)
  sl_exec
  iapply (issue1 c Y (secondRow tb (i 0)) g1 ⟨k.val, hk⟩ (src_eq _ _ _ (by rw [hv2]; exact off_row _ (htb _))) (dst_eq _ _ _ _ (Gen.k0_off5_eq k)) rfl) $$ [HS1 HL1 HB1]
  · isplitl [HS1]
    · iexact HS1
    isplitl [HL1]
    · iexact HL1
    · iexact HB1
  iintro HB1
  sl_exec
  sl_step
  isplitl [HT]
  · iexact HT
  isplitl [HB0]
  · iexact HB0
  isplitl [HB1]
  · iexact HB1
  isplitl [HLs0]
  · iexact HLs0
  isplitl [HLs1]
  · iexact HLs1
  isplitl [HSs0]
  · iexact HSs0
  · iexact HSs1

end Issue

end Cert.Proof.Combine

end
-- ==== Proof.Body.lean ====
/- The combine kernel's body at one grid point: from the two landing buffers, the table, the expert outputs and the two
   transfer semaphores, it leaves the block's result, everything else as it was. -/
module

public import proofs.«01_k».proof.Proof.Gather
public import proofs.«01_k».proof.Proof.Gen.KernelIdeal.Skeleton
public import Idealize.ShloMosaic.Lib.VecWindow

@[expose] public section

set_option maxRecDepth 16384

noncomputable section

namespace Cert.Proof.Combine

open Cert.KernelIdeal
open Idealize.ShloMosaic.RefSig (tileCredit)
open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Split

variable (c : Dev nD)

/-- The landing buffers and the expert outputs, whole. -/
abbrev whole0 (g : S512x8x128.Idx → Elt F .f32) : sProp 𝕄 :=
  (Memref.whole cc0_scratch0 : Memref sig .tc .vmem S512x8x128 .f32).view.loc (c : Thread nD τ) ↦{fullShare} g
abbrev whole1 (g : S512x8x128.Idx → Elt F .f32) : sProp 𝕄 :=
  (Memref.whole cc0_scratch1 : Memref sig .tc .vmem S512x8x128 .f32).view.loc (c : Thread nD τ) ↦{fullShare} g
abbrev outputs (q : PosShare TreeShare) (Y : S69632x8x128.Idx → Elt F .f32) : sProp 𝕄 :=
  (Memref.whole main_arg3 : Memref sig .tc .hbm S69632x8x128 .f32).view.loc (c : Thread nD τ) ↦{q} Y

/-- A landing buffer is its rows. -/
theorem whole0_rows (g : S512x8x128.Idx → Elt F .f32) : (whole0 c g : sProp 𝕄) = bigSep Finset.univ (land0 c g) := by
  refine (Ring.pointsTo_blocks (ℓ := (Memref.whole cc0_scratch0 : Memref sig .tc .vmem S512x8x128 .f32).view.loc (c : Thread nD τ)) (q := fullShare) landSet landSet_disjoint landSet_cover g).trans ?_
  congr 1; funext t
  show _ = ((landRow (Memref.whole cc0_scratch0) t).view.loc (c : Thread nD τ) ↦[(landRow (Memref.whole cc0_scratch0) t).view.set]{fullShare} g : sProp 𝕄)
  rw [landRow_set0]; rfl
theorem whole1_rows (g : S512x8x128.Idx → Elt F .f32) : (whole1 c g : sProp 𝕄) = bigSep Finset.univ (land1 c g) := by
  refine (Ring.pointsTo_blocks (ℓ := (Memref.whole cc0_scratch1 : Memref sig .tc .vmem S512x8x128 .f32).view.loc (c : Thread nD τ)) (q := fullShare) landSet landSet_disjoint landSet_cover g).trans ?_
  congr 1; funext t
  show _ = ((landRow (Memref.whole cc0_scratch1) t).view.loc (c : Thread nD τ) ↦[(landRow (Memref.whole cc0_scratch1) t).view.set]{fullShare} g : sProp 𝕄)
  rw [landRow_set1]; rfl

/-- What is left of the expert outputs under token `n` once row `r` of it is lent. -/
def kept (Y : S69632x8x128.Idx → Elt F .f32) (r : Fin 69632) (n : ℕ) : sProp 𝕄 :=
  (Memref.whole main_arg3 : Memref sig .tc .hbm S69632x8x128 .f32).view.loc (c : Thread nD τ)
    ↦[Finset.univ \ (outRow (Memref.whole main_arg3) r).view.set]{Transfers.shareTokN fullShare n} Y

theorem tok_row (Y : S69632x8x128.Idx → Elt F .f32) (r : Fin 69632) (n : ℕ) :
    (outputs c (Transfers.shareTokN fullShare n) Y : sProp 𝕄) = iprop(lent c Y r n ∗ kept c Y r n) :=
  have h : (outputs c (Transfers.shareTokN fullShare n) Y : sProp 𝕄) ⊣⊢ iprop(lent c Y r n ∗ kept c Y r n) :=
    pointsTo_split_subset (Finset.subset_univ (outRow (Memref.whole main_arg3) r).view.set)
  BI.Entails.antisymm h.1 h.2

/-- A family over numbers below 512 is one over the 512 tokens. -/
theorem bigSep_512 (Φ : Fin 512 → sProp 𝕄) (Ψ : ℕ → sProp 𝕄) (h : ∀ (k : ℕ) (hk : k < 512), Ψ k = Φ ⟨k, hk⟩) :
    bigSep (Finset.range 512) Ψ = bigSep Finset.univ Φ := by
  have e := Ring.bigSep_rangeSet_eq_range (NB := 512) (lo := 0) (hi := 512) (Φ := Φ) le_rfl Ψ (fun k hk => by
    rw [h k (by omega)]; congr 1; exact Fin.ext (by simp))
  rw [Ring.rangeSet_univ] at e; exact e.symm

/-- The expert outputs, whole, are 1024 read tokens with the named row of each lent, and the rest. -/
theorem outputs_lent (Y : S69632x8x128.Idx → Elt F .f32) (p p' : Fin 512 → Fin 69632) :
    (outputs c fullShare Y : sProp 𝕄) = iprop(outputs c (Transfers.shareDrop fullShare 1024) Y
      ∗ (bigSep Finset.univ (fun t => lent c Y (p t) (2 * t.val)) ∗ bigSep Finset.univ (fun t => kept c Y (p t) (2 * t.val)))
      ∗ (bigSep Finset.univ (fun t => lent c Y (p' t) (2 * t.val + 1)) ∗ bigSep Finset.univ (fun t => kept c Y (p' t) (2 * t.val + 1)))) := by
  have h : (outputs c fullShare Y : sProp 𝕄) ⊣⊢ iprop(outputs c (Transfers.shareDrop fullShare 1024) Y
      ∗ bigSep (Finset.range 1024) (fun n => outputs c (Transfers.shareTokN fullShare n) Y)) := Transfers.pointsTo_toks_range fullShare 1024
  refine (BI.Entails.antisymm h.1 h.2).trans ?_
  rw [show (1024 : ℕ) = 2 * 512 from rfl, Ring.bigSep_range_deinterleave 512]
  rw [bigSep_512 (fun t => iprop(lent c Y (p t) (2 * t.val) ∗ kept c Y (p t) (2 * t.val))) _ (fun k hk => tok_row c Y (p ⟨k, hk⟩) (2 * k)),
    bigSep_512 (fun t => iprop(lent c Y (p' t) (2 * t.val + 1) ∗ kept c Y (p' t) (2 * t.val + 1))) _ (fun k hk => tok_row c Y (p' ⟨k, hk⟩) (2 * k + 1))]
  have e := BI.bigSep_sep (M := 𝕄) Finset.univ (fun t => lent c Y (p t) (2 * t.val)) (fun t => kept c Y (p t) (2 * t.val))
  have e' := BI.bigSep_sep (M := 𝕄) Finset.univ (fun t => lent c Y (p' t) (2 * t.val + 1)) (fun t => kept c Y (p' t) (2 * t.val + 1))
  exact congrArg (BI.sep _) (congrArg₂ BI.sep e e')

/-- What the wait hands back on each semaphore: the landing buffer whole, at the rows asked for, and the tokens. -/
theorem del0_all (Y : S69632x8x128.Idx → Elt F .f32) (p : Fin 512 → Fin 69632) :
    (bigSep Finset.univ (del0 c Y p) : sProp 𝕄) = iprop(whole0 c (gathered p Y) ∗ bigSep Finset.univ (fun t => lent c Y (p t) (2 * t.val))) := by
  rw [whole0_rows]; exact BI.bigSep_sep _ _ _
theorem del1_all (Y : S69632x8x128.Idx → Elt F .f32) (p : Fin 512 → Fin 69632) :
    (bigSep Finset.univ (del1 c Y p) : sProp 𝕄) = iprop(whole1 c (gathered p Y) ∗ bigSep Finset.univ (fun t => lent c Y (p t) (2 * t.val + 1))) := by
  rw [whole1_rows]; exact BI.bigSep_sep _ _ _

end Split

/-- The block's result: the kernel's arithmetic on the block of `x`, its weights, the two landed buffers and the gain. -/
def combined (x : FVec F S512x1024 .f32) (w : FVec F S512x128 .f32) (a b : FVec F S512x8x128 .f32) (g : FVec F S1x1024 .f32) : FVec F S512x1024 .f32 :=
  Gen.k0_pay1 (Gen.k0_pay2 w x a b) (Gen.k0_pay3 g) (Gen.k0_pay4 w x a b)

theorem land_credit (a : Memref sig .tc .vmem S512x8x128 .f32) : a.view.dmaCredit = 65536 := by
  show tileCredit S512x8x128 .f32 = 65536
  decide

/-- The wait for all 512 copies on the first semaphore, -/
theorem wait0 (c : Dev nD) (Y : S69632x8x128.Idx → Elt F .f32) (p : Fin 512 → Fin 69632) {W : Waits sig Unit}
    {src : Memref sig .tc .hbm S512x8x128 .f32} {dst : Memref sig .tc .vmem S512x8x128 .f32} {sm : DmaSem sig} (hm : sm = 7)
    {hsrc : src.view.WordExact} {hdst : dst.view.WordExact} {k : PUnit → Prog (TpuEff nD τ sig (Elt F) Λ₀ .tc) Unit} {Q : Unit → sProp 𝕄} :
    iprop(batch0 c Y p 512 0 ∗ owes (c : Thread nD τ) 0 W)
      ⊢ iprop((iprop((whole0 c (gathered p Y) ∗ bigSep Finset.univ (fun t => lent c Y (p t) (2 * t.val))) ∗ semVal ((c : Thread nD τ), SemLoc.dma 7) 0 ∗ owes (c : Thread nD τ) 0 (insert (SemLoc.dma 7, ()) W))
            -∗ wp frame (wpE (defs₀ (F := F)) Variants.none (c : Thread nD τ) none) Set.univ (k ⟨⟩) Q)
          -∗ wp frame (wpE (defs₀ (F := F)) Variants.none (c : Thread nD τ) none) Set.univ (.op (.waitDma2 sm src dst hsrc hdst) k) Q) := by
  subst hm
  rw [← del0_all]
  exact Transfers.wp_waitBatchAll (countersEmb (U := Pipeline.UD sig nD τ)) Variants.none (c : Thread nD τ) none () (land_credit dst) (by decide) (by decide)

/-- and on the second. -/
theorem wait1 (c : Dev nD) (Y : S69632x8x128.Idx → Elt F .f32) (p : Fin 512 → Fin 69632) {W : Waits sig Unit}
    {src : Memref sig .tc .hbm S512x8x128 .f32} {dst : Memref sig .tc .vmem S512x8x128 .f32} {sm : DmaSem sig} (hm : sm = 8)
    {hsrc : src.view.WordExact} {hdst : dst.view.WordExact} {k : PUnit → Prog (TpuEff nD τ sig (Elt F) Λ₀ .tc) Unit} {Q : Unit → sProp 𝕄} :
    iprop(batch1 c Y p 512 0 ∗ owes (c : Thread nD τ) 0 W)
      ⊢ iprop((iprop((whole1 c (gathered p Y) ∗ bigSep Finset.univ (fun t => lent c Y (p t) (2 * t.val + 1))) ∗ semVal ((c : Thread nD τ), SemLoc.dma 8) 0 ∗ owes (c : Thread nD τ) 0 (insert (SemLoc.dma 8, ()) W))
            -∗ wp frame (wpE (defs₀ (F := F)) Variants.none (c : Thread nD τ) none) Set.univ (k ⟨⟩) Q)
          -∗ wp frame (wpE (defs₀ (F := F)) Variants.none (c : Thread nD τ) none) Set.univ (.op (.waitDma2 sm src dst hsrc hdst) k) Q) := by
  subst hm
  rw [← del1_all]
  exact Transfers.wp_waitBatchAll (countersEmb (U := Pipeline.UD sig nD τ)) Variants.none (c : Thread nD τ) none () (land_credit dst) (by decide) (by decide)

section Loop

variable (c : Dev nD) (i : grid0.Coords)

set_option maxHeartbeats 1000000 in
theorem body_run (tb : S65536.Idx → BitVec 32) (htb : RowsNamed tb) (Y : S69632x8x128.Idx → Elt F .f32)
    (arg2 : Memref sig .tc .vmem S512x1024 .f32) (harg2 : arg2.IsWhole) (arg3 : Memref sig .tc .vmem S512x128 .f32) (harg3 : arg3.IsWhole)
    (arg5 : Memref sig .tc .vmem S1x1024 .f32) (harg5 : arg5.IsWhole) (arg6 : Memref sig .tc .vmem S512x1024 .f32) (harg6 : arg6.IsWhole)
    (x : Vec F S512x1024 .f32) (w : Vec F S512x128 .f32) (g : Vec F S1x1024 .f32) (W : Waits sig Unit) (K : PUnit → sProp 𝕄) :
    iprop(owns (c : Thread nD τ) arg2 fullShare x ∗ owns (c : Thread nD τ) arg3 fullShare w ∗ owns (c : Thread nD τ) arg5 fullShare g
        ∗ (∃ d, owns (c : Thread nD τ) arg6 fullShare d) ∗ (∃ d, whole0 c d) ∗ (∃ d, whole1 c d)
        ∗ table c tb ∗ semVal ((c : Thread nD τ), SemLoc.dma 7) 0 ∗ semVal ((c : Thread nD τ), SemLoc.dma 8) 0 ∗ outputs c fullShare Y ∗ owes (c : Thread nD τ) 0 W
        ∗ (iprop(owns (c : Thread nD τ) arg2 fullShare x ∗ owns (c : Thread nD τ) arg3 fullShare w ∗ owns (c : Thread nD τ) arg5 fullShare g
            ∗ owns (c : Thread nD τ) arg6 fullShare (combined x w (gathered (firstRow tb (i 0)) Y) (gathered (secondRow tb (i 0)) Y) g)
            ∗ (∃ d, whole0 c d) ∗ (∃ d, whole1 c d)
            ∗ table c tb ∗ semVal ((c : Thread nD τ), SemLoc.dma 7) 0 ∗ semVal ((c : Thread nD τ), SemLoc.dma 8) 0 ∗ outputs c fullShare Y
            ∗ (∃ W', owes (c : Thread nD τ) 0 W')) -∗ K ⟨⟩))
      ⊢ wp frame (wpE (defs₀ (F := F)) Variants.none (c : Thread nD τ) none) Set.univ
          (cc0_moe_combine i (Memref.whole main_arg0) (Memref.isWhole_whole _) arg2 harg2 arg3 harg3 (Memref.whole main_arg3) (Memref.isWhole_whole _)
            arg5 harg5 arg6 harg6 (Memref.whole cc0_scratch0) (Memref.isWhole_whole _) (Memref.whole cc0_scratch1) (Memref.isWhole_whole _) cc0_scratch2) K := by
  simp only [Gen.cc0_moe_combine_eq_skeleton]; unfold Gen.cc0_moe_combine_skel
  unfold owns
  iintro ⟨⟨%f2, %hf2, H2⟩, ⟨%f3, %hf3, H3⟩, ⟨%f5, %hf5, H5⟩, ⟨%d6, %f6, -, H6⟩, ⟨%f0, HS0⟩, ⟨%f1, HS1⟩, HT, Hq0, Hq1, HY, HW, Hk⟩
  obtain rfl := harg2.eq_unread hf2
  obtain rfl := harg3.eq_unread hf3
  obtain rfl := harg5.eq_unread hf5
  ihave HR0 := (Entails.of_eq (whole0_rows c f0)) $$ HS0
  ihave HR1 := (Entails.of_eq (whole1_rows c f1)) $$ HS1
  ihave HYs := (Entails.of_eq (outputs_lent c Y (firstRow tb (i 0)) (secondRow tb (i 0)))) $$ HY
  icases HYs with ⟨HYd, ⟨HL0, HK0⟩, ⟨HL1, HK1⟩⟩
  imod (Transfers.batch_alloc' (Lvl := ℕ) (countersEmb (U := Pipeline.UD sig nD τ)) (c : Thread nD τ) () rowCredit (del0 c Y (firstRow tb (i 0))) (sm := .dma 7) (E := Set.univ)) $$ Hq0 with HB0
  imod (Transfers.batch_alloc' (Lvl := ℕ) (countersEmb (U := Pipeline.UD sig nD τ)) (c : Thread nD τ) () rowCredit (del1 c Y (secondRow tb (i 0))) (sm := .dma 8) (E := Set.univ)) $$ Hq1 with HB1
  rw [Gen.k0_part1_eq_skeleton]
  sl_unfold [Gen.k0_part1_skel]
  simp only [bind_assoc, pure_bind]
  sl_for (issueAt c i tb Y f0 f1) $$ [HT HB0 HB1 HR0 HR1 HL0 HL1]
  · intro k acc; exact issue_step c i tb htb Y f0 f1 arg2 harg2 arg3 harg3 arg5 harg5 arg6 harg6 k acc
  · unfold issueAt
    rw [Ring.rangeSet_univ]
    isplitl [HT]
    · iexact HT
    isplitl [HB0]
    · iexact HB0
    isplitl [HB1]
    · iexact HB1
    isplitl [HR0]
    · iexact HR0
    isplitl [HR1]
    · iexact HR1
    isplitl [HL0]
    · iexact HL0
    · iexact HL1
  iintro %acc HI
  ihave HI' := (show issueAt c i tb Y f0 f1 k0_t1_loop.trips acc ⊢ iprop(table c tb ∗ batch0 c Y (firstRow tb (i 0)) 512 0 ∗ batch1 c Y (secondRow tb (i 0)) 512 0) from by
      unfold issueAt; rw [trips_eq]; iintro ⟨HT, HB0, HB1, -⟩
      isplitl [HT]
      · iexact HT
      isplitl [HB0] <;> iassumption) $$ HI
  icases HI' with ⟨HT, HB0, HB1⟩
  iapply (wait0 c Y (firstRow tb (i 0)) rfl) $$ [HB0 HW]
  · isplitl [HB0] <;> iassumption
  iintro ⟨⟨HS0, HL0⟩, Hq0, HW⟩
  iapply (wait1 c Y (secondRow tb (i 0)) rfl) $$ [HB1 HW]
  · isplitl [HB1] <;> iassumption
  iintro ⟨⟨HS1, HL1⟩, Hq1, HW⟩
  dsimp only [Prog.bind]
  sl_exec
  have e0 : body_run.sl.x (F := F) i tb Y = gathered (firstRow tb (i 0)) Y := by
    unfold body_run.sl.x
    exact View.readAt_full _ _ _
  have e1 : body_run.sl.x_1 (F := F) i tb Y = gathered (secondRow tb (i 0)) Y := by
    unfold body_run.sl.x_1
    exact View.readAt_full _ _ _
  sl_step
  iapply Hk
  isplitl [H2]
  · iexists _; isplitr; · ipureintro; exact harg2.read_unread _
    iexact H2
  isplitl [H3]
  · iexists _; isplitr; · ipureintro; exact harg3.read_unread _
    iexact H3
  isplitl [H5]
  · iexists _; isplitr; · ipureintro; exact harg5.read_unread _
    iexact H5
  isplitl [H6]
  · iexists _; isplitr; swap; · iexact H6
    ipureintro
    refine (View.read_writes_full _ _ _ _ _).trans ?_
    rw [e0, e1]
    unfold combined
    congr 1
    · congr 1
      · exact (View.readAt_full _ _ _).trans hf3
      · exact (View.readAt_full _ _ _).trans hf2
    · congr 1
      exact (View.readAt_full _ _ _).trans hf5
    · congr 1
      · exact (View.readAt_full _ _ _).trans hf3
      · exact (View.readAt_full _ _ _).trans hf2
  isplitl [HS0]
  · iexists _; iexact HS0
  isplitl [HS1]
  · iexists _; iexact HS1
  isplitl [HT]
  · iexact HT
  isplitl [Hq0]
  · iexact Hq0
  isplitl [Hq1]
  · iexact Hq1
  isplitl [HYd HL0 HK0 HL1 HK1]
  · iapply (Entails.of_eq (outputs_lent c Y (firstRow tb (i 0)) (secondRow tb (i 0))).symm)
    isplitl [HYd]
    · iexact HYd
    isplitl [HL0 HK0]
    · isplitl [HL0]
      · iexact HL0
      · iexact HK0
    · isplitl [HL1]
      · iexact HL1
      · iexact HK1
  iexists _; iexact HW

end Loop

end Cert.Proof.Combine

end
-- ==== Proof.Launch.lean ====
/- The combine kernel launched: the region's proof data, the body at every grid point, the run of the program, and its
   frame. -/
module

public import proofs.«01_k».proof.Proof.Body
public import proofs.«01_k».proof.Proof.Gen.KernelIdeal.Launch
public import Idealize.ShloMosaic.Lib.Pipeline.FrameBody
public import Idealize.ShloMosaic.Lib.Pipeline.Value
public import Idealize.ShloMosaic.Lib.StableHlo.RunRead
public import Idealize.ShloMosaic.Lib.Claim

@[expose] public section

set_option maxRecDepth 16384

noncomputable section

namespace Cert.Proof.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

/-- The host line allocates nothing. -/
theorem hostOps0_fresh : (hostOps0 (F := F)).Forall fun op => op.fresh = ∅ := rfl

/-- Core `c`'s buffers when the region is entered: as launched, but for the gain laid out as one row. -/
def V (c : Dev nD) (b : Ref sig .tc) : Buf (Elt F) ((c : Thread nD τ).loc b) :=
  StableHlo.after (hostOps0 (F := F)) (fun b => m (c, b)) b

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh fun c => (main_chain c).trans rfl

theorem V_other (c : Dev nD) (b : Ref sig .tc) (hb : b ∉ [main_v0]) : V m c b = m ((c : Thread nD τ).loc b) :=
  StableHlo.after_unwritten (ops := hostOps0 (F := F)) [main_v0] rfl hb _
theorem V_main_arg0 (c : Dev nD) : V m c main_arg0 = m ((c : Thread nD τ).loc main_arg0) := V_other m c _ (by decide)
theorem V_main_arg1 (c : Dev nD) : V m c main_arg1 = m ((c : Thread nD τ).loc main_arg1) := V_other m c _ (by decide)
theorem V_main_arg2 (c : Dev nD) : V m c main_arg2 = m ((c : Thread nD τ).loc main_arg2) := V_other m c _ (by decide)
theorem V_main_arg3 (c : Dev nD) : V m c main_arg3 = m ((c : Thread nD τ).loc main_arg3) := V_other m c _ (by decide)
theorem V_main_arg4 (c : Dev nD) : V m c main_arg4 = m ((c : Thread nD τ).loc main_arg4) := V_other m c _ (by decide)

/-! ## The table -/

/-- The table's contents when the region is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev adm : (pcfg0 (F := F)).Adm := ⟨tbl m, trivial⟩
abbrev cfgM : Pipeline.Cfg sig Λ₀ := cfg0 (adm m)

/-- The same contents, read as the row numbers they are. -/
def rowsTable : S65536.Idx → BitVec 32 := tbl m 0

theorem rowsTable_eq : rowsTable m = m (((0 : Dev nD) : Thread nD τ).loc main_arg0) := V_main_arg0 m 0

theorem PhiT0_eq (c : Dev nD) : (Pipeline.ΦT pre0 (tbl m) c : sProp 𝕄) = table c (rowsTable m) := by
  unfold Pipeline.ΦT Pipeline.prefHeld
  rw [show (Finset.univ : Finset (Fin 1)) = {(0 : Fin 1)} from by decide, bigSep_singleton]
  rfl

/-! ## The windows' blocks -/

def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The block the body leaves at point `t`. -/
def oblk (c : Dev nD) (t : Fin (cfgM m).N) : Vec F S512x1024 .f32 :=
  combined (iblk m c 0 t) (iblk m c 1 t) (gathered (firstRow (rowsTable m) (grid0.coords t 0)) (V m c main_arg3))
    (gathered (secondRow (rowsTable m) (grid0.coords t 0)) (V m c main_arg3)) (iblk m c 2 t)

theorem before0_0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The kernel's own semaphores and operands -/

abbrev osem0 : Fin 2 → SemLoc sig := fun j => (![SemLoc.dma 7, SemLoc.dma 8] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 7) 0 ∗ semVal ((c : Thread nD τ), SemLoc.dma 8) 0) := by
  rw [Pipeline.ownSems0_eq_of_list c osem0 [0, 1] (by decide) (by decide)]; rfl
def H0 : Finset (Ref sig .tc) := {main_arg3}
theorem H0_sub : H0 ⊆ Pipeline.restRefsP sig pre0 spec0 := by decide
theorem hbmPts0_eq (c : Dev nD) :
    (bigSep H0 (fun b => ((c : Thread nD τ).loc b) ↦{fullShare} V m c b) : sProp 𝕄) = outputs c fullShare (V m c main_arg3) := by
  rw [BI.bigSep_eq_bigSepL_of_eq [main_arg3] (by decide) (by decide)]; rfl

theorem PhiD0_eq (c : Dev nD) :
    (Pipeline.ΦD osem0 spec0 H0 (V m) c : sProp 𝕄)
      = iprop(iprop((∃ d, whole0 c d) ∗ (∃ d, whole1 c d)) ∗ (∃ r, prngReg c r)
        ∗ iprop(semVal ((c : Thread nD τ), SemLoc.dma 7) 0 ∗ semVal ((c : Thread nD τ), SemLoc.dma 8) 0) ∗ outputs c fullShare (V m c main_arg3)) := by
  rw [Pipeline.ΦD_eq, scopedRest0_eq, ownSems00_eq, hbmPts0_eq]; try rfl

/-! ## The proof data -/

def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => oblk m c t
  Φ _ := iprop(Pipeline.ΦD osem0 spec0 H0 (V m) c ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) : (dats m 0 c).after 3 t = oblk m c t := by dsimp only [dats]; try rfl
theorem before0_0 (c : Dev nD) (t : Fin (cfgM m).N) (d) : (dats m 0 c).before 0 t d = iblk m c 0 t :=
  before0_0_of m (dats m 0 c) (A_eq m c 0) (after0_0 m c) t d
theorem before0_1 (c : Dev nD) (t : Fin (cfgM m).N) (d) : (dats m 0 c).before 1 t d = iblk m c 1 t :=
  before0_1_of m (dats m 0 c) (A_eq m c 1) (after0_1 m c) t d
theorem before0_2 (c : Dev nD) (t : Fin (cfgM m).N) (d) : (dats m 0 c).before 2 t d = iblk m c 2 t :=
  before0_2_of m (dats m 0 c) (A_eq m c 2) (after0_2 m c) t d

/-! ## The body at every point -/

abbrev ms0_0 (t : Fin (cfgM m).N) : Memref sig .tc .vmem S512x1024 .f32 := spec0_0.stage ((cfgM m).slots t 0)
abbrev ms0_1 (t : Fin (cfgM m).N) : Memref sig .tc .vmem S512x128 .f32 := spec0_1.stage ((cfgM m).slots t 1)
abbrev ms0_2 (t : Fin (cfgM m).N) : Memref sig .tc .vmem S1x1024 .f32 := spec0_2.stage ((cfgM m).slots t 2)
abbrev ms0_3 (t : Fin (cfgM m).N) : Memref sig .tc .vmem S512x1024 .f32 := spec0_3.stage ((cfgM m).slots t 3)

abbrev bodyAt0 (t : Fin (cfgM m).N) : Prog (TpuEff nD τ sig (Elt F) Λ₀ .tc) PUnit :=
  cc0_moe_combine (grid0.coords t) (Memref.whole main_arg0) (Memref.isWhole_whole _) (ms0_0 m t) (hstage0_0 (((cfgM m).slots t 0).cast nbuf0_0))
    (ms0_1 m t) (hstage0_1 (((cfgM m).slots t 1).cast nbuf0_1)) (Memref.whole main_arg3) (Memref.isWhole_whole _)
    (ms0_2 m t) (hstage0_2 (((cfgM m).slots t 2).cast nbuf0_2)) (ms0_3 m t) (hstage0_3 (((cfgM m).slots t 3).cast nbuf0_3))
    (Memref.whole cc0_scratch0) (Memref.isWhole_whole _) (Memref.whole cc0_scratch1) (Memref.isWhole_whole _) cc0_scratch2

def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d))
    ∗ (∃ d, owns (c : Thread nD τ) (ms0_3 m t) fullShare ((dats m 0 c).before 3 t d)))

def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ owns (c : Thread nD τ) (ms0_2 m t) fullShare ((dats m 0 c).after 2 t)
    ∗ owns (c : Thread nD τ) (ms0_3 m t) fullShare ((dats m 0 c).after 3 t))

variable (hT : RowsNamed (rowsTable m))
include hT

theorem sound_body (c : Dev nD) (t : Fin (cfgM m).N) :
    bodyPre m c t ⊢ wp frame (wpE (defs₀ (F := F)) Variants.none c none) Set.univ (bodyAt0 m t) (fun _ => bodyPost m c t) := by
  unfold bodyPre bodyPost bodyAt0
  simp only [before0_0, before0_1, before0_2]
  rw [show (dats m 0 c).Φ t.succ = (dats m 0 c).Φ t.castSucc from rfl, after0_0, after0_1, after0_2, after0_3]
  rw [show (dats m 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats m 0 c).owed t.castSucc = 0 from rfl, show (dats m 0 c).owed t.succ = 0 from rfl]
  iintro ⟨⟨⟨⟨HS0, HS1⟩, Hg, ⟨Hq0, Hq1⟩, Hh0⟩, HT0⟩, ⟨%W, -, HW⟩, ⟨%d0, H0⟩, ⟨%d1, H1⟩, ⟨%d2, H2⟩, ⟨%d3, H3⟩⟩
  iapply (body_run c (grid0.coords t) (rowsTable m) hT (V m c main_arg3) _ _ _ _ _ _ _ _ (iblk m c 0 t) (iblk m c 1 t) (iblk m c 2 t) W _)
  isplitl [H0]; · iexact H0
  isplitl [H1]; · iexact H1
  isplitl [H2]; · iexact H2
  isplitl [H3]; · iexists _; iexact H3
  isplitl [HS0]; · iexact HS0
  isplitl [HS1]; · iexact HS1
  isplitl [HT0]; · iexact HT0
  isplitl [Hq0]; · iexact Hq0
  isplitl [Hq1]; · iexact Hq1
  isplitl [Hh0]; · iexact Hh0
  isplitl [HW]; · iexact HW
  iintro ⟨H0, H1, H2, H3, HS0, HS1, HT0, Hq0, Hq1, Hh0, ⟨%W', HW'⟩⟩
  isplitl [HS0 HS1 Hg Hq0 Hq1 Hh0 HT0]
  · isplitl [HS0 HS1 Hg Hq0 Hq1 Hh0]
    · isplitl [HS0 HS1]
      · isplitl [HS0]; · iexact HS0
        iexact HS1
      isplitl [Hg]
      · iexact Hg
      isplitl [Hq0 Hq1]
      · isplitl [Hq0]; · iexact Hq0
        iexact Hq1
      iexact Hh0
    iexact HT0
  isplitl [HW']
  · iexists W'; isplitr; · ipureintro; exact fun _ _ => Or.inl trivial
    iexact HW'
  isplitl [H0]; · iexact H0
  isplitl [H1]; · iexact H1
  isplitl [H2]; · iexact H2
  iexact H3

omit hT in
theorem defs₀_row (t : Fin (cfgM m).N) :
    defs₀ (F := F) .tc (cfgM m).body ((cfgM m).bodyArgs t ((cfgM m).slots t)) = bodyAt0 m t := by
  unfold defs₀; rw [Defs.onTc_tc]

theorem body_obligation (c : Dev nD) : BodyObligation (dats (F := F) m 0 c) (defs₀ (F := F)) Variants.none () Set.univ := fun t => by
  rw [bigSep_W0, bigSep_W0, defs₀_row m]
  exact triple_restated (sound_body m hT c t) rfl .rfl fun _ => .rfl

/-! ## The run -/

set_option backward.isDefEq.respectTransparency.types false in
theorem run_main : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP_dma (Q' := _) pcfgs (fun _ => adm m) (dats m) (0 : Fin 1) launch0 osem0 defs₀ Variants.none ownSemFacts0 H0 H0_sub m ρ main
    (hbody := fun c => (body_obligation m hT c).loose) (hshare := fun c => (dats m 0 c).share_full fun _ => rfl)
    (howed := fun _ _ => rfl) (V := V m) (hmain := hmain m Variants.none) (hA := A_eq m) (hpf := V_pre m) (hin := fun _ => .rfl)
    (hout := fun c => by change iprop(_ ∗ _) ⊢ _; iintro ⟨HD, -⟩; iexact HD)

/-- The arguments end unchanged, the counters at zero, and the result's array is what the region's writes make it. -/
theorem run_read : θ_run defs (onTc (τ := τ) (main (F := F))) (s₀ m ρ) (fun r => (∀ c : Dev nD,
      r.2.mem ((c : Thread nD τ).loc main_v1) = (dats m 0 c).arrAt 3 (cfgM m).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.sem = fun _ => 0) :=
  (θ_run defs _ _).mono (fun _ h => ⟨fun c => ⟨(h.1 c).1 3,
      ((h.1 c).2 main_arg0 (by decide : main_arg0 ∈ Pipeline.restRefs sig spec0)).trans (V_main_arg0 m c),
      ((h.1 c).1 0).trans (((dats m 0 c).arrAt_in 0 rfl _).trans ((A_eq m c 0).trans (V_main_arg1 m c))),
      ((h.1 c).1 1).trans (((dats m 0 c).arrAt_in 1 rfl _).trans ((A_eq m c 1).trans (V_main_arg2 m c))),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c)⟩, h.2⟩) (run_main m ρ hT)

end Cert.Proof.Combine

end
-- ==== Proof.Spec.lean ====
/- What the combine call computes, element by element, over the extended reals; and the reference's row gather read at an
   index. -/
module

public import Idealize.ShloMosaic.Lib.Pointwise.Tactic
public import Idealize.ShloMosaic.Lib.Pointwise.Reshape
public import Idealize.ShloMosaic.Lib.Pointwise.Reduce
public import Idealize.ShloMosaic.Lib.ValueIdxCore
public import Idealize.ShloMosaic.PureOps

@[expose] public section
noncomputable section
namespace Cert.Proof.Combine
open Idealize.ShloMosaic

/-- Entry `(n, q)` before the normalisation: the input plus its two expert rows, each at its weight. -/
def mixedAt (x : (⟨2, ![32768, 1024]⟩ : Shape).Idx → EReal) (w : (⟨2, ![33280, 128]⟩ : Shape).Idx → EReal)
    (Y : (⟨3, ![69632, 8, 128]⟩ : Shape).Idx → EReal) (p1 p2 : Fin 32768 → Fin 69632) (n : Fin 32768) (q : Fin 1024) : EReal :=
  x (ix2 n q) + w (ix2 ⟨n.val, by omega⟩ (2 : Fin 128)) * Y (ix3 (p1 n) (⟨q.val / 128, by omega⟩ : Fin 8) (⟨q.val % 128, by omega⟩ : Fin 128))
    + w (ix2 ⟨n.val, by omega⟩ (3 : Fin 128)) * Y (ix3 (p2 n) (⟨q.val / 128, by omega⟩ : Fin 8) (⟨q.val % 128, by omega⟩ : Fin 128))

/-- Entry `(n, q)` of the result: normalised along the row, times the gain. -/
def resultAt (x : (⟨2, ![32768, 1024]⟩ : Shape).Idx → EReal) (w : (⟨2, ![33280, 128]⟩ : Shape).Idx → EReal)
    (Y : (⟨3, ![69632, 8, 128]⟩ : Shape).Idx → EReal) (g : (⟨1, ![1024]⟩ : Shape).Idx → EReal) (p1 p2 : Fin 32768 → Fin 69632)
    (n : Fin 32768) (q : Fin 1024) : EReal :=
  mixedAt x w Y p1 p2 n q
    * Ideal.rsqrt (Ideal.div (∑ k : Fin 1024, mixedAt x w Y p1 p2 n k * mixedAt x w Y p1 p2 n k) (Ideal.ofBits .f32 1149239296#32) + Ideal.ofBits .f32 897988541#32)
    * g (ix1 q)

/-- Entry `j` of a table of row numbers, as a row. -/
def rowOf (tb : (⟨1, ![65536]⟩ : Shape).Idx → BitVec 32) (j : ℕ) (hj : j < 65536) : Fin 69632 :=
  ⟨(tb (ix1 ⟨j, hj⟩)).toNat % 69632, Nat.mod_lt _ (by omega)⟩

/-- The rows of token `n`. -/
def row1 (tb : (⟨1, ![65536]⟩ : Shape).Idx → BitVec 32) (n : Fin 32768) : Fin 69632 := rowOf tb (2 * n.val) (by omega)
def row2 (tb : (⟨1, ![65536]⟩ : Shape).Idx → BitVec 32) (n : Fin 32768) : Fin 69632 := rowOf tb (2 * n.val + 1) (by omega)

/-! ## Rows of a rank-2 array at a rank-2 array of row numbers -/

section Take
variable {α : Type}

abbrev takeRowDims (N R K C : Nat) (wf : GatherDims.WF ⟨2, ![N, C]⟩ ⟨3, ![R, K, 1]⟩ ⟨3, ![R, K, C]⟩ [2] [0] [] [0] [] 2 ![1, C]) :
    GatherDims ⟨2, ![N, C]⟩ ⟨3, ![R, K, 1]⟩ ⟨3, ![R, K, C]⟩ where
  offsetDims := [2]
  collapsedSliceDims := [0]
  operandBatchingDims := []
  startIndicesBatchingDims := []
  startIndexMap := [0]
  indexVectorDim := 2
  sliceSizes := ![1, C]
  wf := wf

/-- Entry `(t, j, q)` of the gather is entry `q` of the row the start index names, read signed and clamped. -/
theorem take_row_apply {N R K C w : Nat} (hN : 0 < N)
    (wf : GatherDims.WF ⟨2, ![N, C]⟩ ⟨3, ![R, K, 1]⟩ ⟨3, ![R, K, C]⟩ [2] [0] [] [0] [] 2 ![1, C])
    (x : (⟨2, ![N, C]⟩ : Shape).Idx → α) (idx : IVec ⟨3, ![R, K, 1]⟩ w) (t : Fin R) (j : Fin K) (q : Fin C) :
    Host.gather (takeRowDims N R K C wf) x idx (ix3 t j q)
      = x (ix2 ⟨min (idx (ix3 t j (0 : Fin 1))).toInt.toNat (N - 1), by omega⟩ q) := by
  unfold Host.gather
  congr 1
  funext a
  refine Fin.ext ?_
  show (takeRowDims N R K C wf).start (ix3 t j q) idx a + (takeRowDims N R K C wf).batchCoord (ix3 t j q) a
      + (takeRowDims N R K C wf).offCoord (ix3 t j q) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRowDims N R K C wf).startIndexMap from List.mem_singleton.mpr rfl)]
    have hsi : (takeRowDims N R K C wf).siIdx (ix3 t j q) ⟨List.idxOf (0 : Fin 2) (takeRowDims N R K C wf).startIndexMap,
        List.idxOf_lt_length_iff.2 (List.mem_singleton.mpr rfl)⟩ = ix3 t j (0 : Fin 1) := by
      funext b; refine Fin.ext ?_
      match b with
      | ⟨0, _⟩ => rfl
      | ⟨1, _⟩ => rfl
      | ⟨2, _⟩ => rfl
    rw [hsi]
    rfl
  · rw [GatherDims.batchCoord_eq_zero _ _ _ List.not_mem_nil]
    have hs : (takeRowDims N R K C wf).start (ix3 t j q) idx (1 : Fin 2) = 0 := by
      unfold GatherDims.start
      rw [dif_neg (show (1 : Fin 2) ∉ [(0 : Fin 2)] by decide)]
    rw [hs]
    simp only [Nat.zero_add]
    unfold GatherDims.offCoord
    have hk : (1 : Fin 2) ∈ (takeRowDims N R K C wf).sKept := by
      rw [GatherDims.mem_sKept]; exact ⟨show (1 : Fin 2) ∉ [(0 : Fin 2)] by decide, List.not_mem_nil⟩
    rw [dif_pos hk]
    rfl

end Take

end Cert.Proof.Combine
end
-- ==== Proof.Value.lean ====
/- The kernel's result array, element by element. -/
module

public import proofs.«01_k».proof.Proof.Launch
public import proofs.«01_k».proof.Proof.Spec
public import Idealize.ShloMosaic.Lib.Pointwise.Reshape
public import Idealize.ShloMosaic.Lib.Pointwise.Reduce
public import Idealize.ShloMosaic.Lib.Pointwise.Tactic

@[expose] public section
set_option maxRecDepth 16384
noncomputable section
namespace Cert.Proof.Combine
open Cert.KernelIdeal Cert.KernelIdeal.Gen
open Idealize.ShloMosaic Idealize.ShloMosaic.TcCoe

theorem coords_val : ∀ t : Fin grid0.N, (grid0.coords t 0).val = t.val := by decide
theorem transform_0_val : ∀ t : Fin grid0.N, cc0_transform_0 (grid0.coords t) = ![t.val, 0] := by decide
theorem transform_1_val : ∀ t : Fin grid0.N, cc0_transform_1 (grid0.coords t) = ![t.val, 0] := by decide
theorem transform_4_val : ∀ t : Fin grid0.N, cc0_transform_4 (grid0.coords t) = ![t.val, 0] := by decide

/-- The block's result at an index. -/
theorem combined_apply (x : FVec Ideal S512x1024 .f32) (w : FVec Ideal S512x128 .f32) (a b : FVec Ideal S512x8x128 .f32) (g : FVec Ideal S1x1024 .f32) (r : Fin 512) (q : Fin 1024)
    (mix : Fin 1024 → EReal)
    (hmix : ∀ k : Fin 1024, x (ix2 r k) + w (ix2 r (2 : Fin 128)) * a (ix3 r (⟨k.val / 128, by omega⟩ : Fin 8) (⟨k.val % 128, by omega⟩ : Fin 128))
      + w (ix2 r (3 : Fin 128)) * b (ix3 r (⟨k.val / 128, by omega⟩ : Fin 8) (⟨k.val % 128, by omega⟩ : Fin 128)) = mix k) :
    combined (F := Ideal) x w a b g (ix2 r q)
      = mix q * Ideal.rsqrt (Ideal.div (∑ k : Fin 1024, mix k * mix k) (Ideal.ofBits .f32 1149239296#32) + Ideal.ofBits .f32 897988541#32) * g (ix2 (0 : Fin 1) q) := by
  have hp (k : Fin 1024) : k0_pay2 (F := Ideal) w x a b (ix2 r k) = mix k := by
    rw [← hmix k]
    unfold k0_pay2
    simp only [pointwise]
    have hr : (⟨0 + r.val, by omega⟩ : Fin 512) = r := Fin.ext (Nat.zero_add _)
    exact congrArg₂ (· + ·) (congrArg₂ (· + ·) rfl (congrArg₂ (· * ·) (congrArg (fun z => w (ix2 z (2 : Fin 128))) hr) rfl))
      (congrArg₂ (· * ·) (congrArg (fun z => w (ix2 z (3 : Fin 128))) hr) rfl)
  have hs : multiReduction (F := Ideal) .add [1] S512 (mulf (k0_pay2 w x a b) (k0_pay2 w x a b)) 0x00000000#32 reduces_S512x1024_S512 (.inl rfl) rfl (ix1 r)
      = ∑ k : Fin 1024, mix k * mix k := by
    refine (multiReduction_add_apply _ _ _ _ _ _).trans ?_
    simp only [pointwise]
    exact Finset.sum_congr rfl fun k _ => congrArg₂ (· * ·) (hp k) (hp k)
  unfold combined k0_pay1 k0_pay4 k0_pay3
  simp only [pointwise]
  rw [← hs, ← hp q]
  rfl

variable (m : (ℓ : Loc nD τ sig) → Buf (Elt Ideal) ℓ) (c : Dev nD)

theorem iblk0_apply (t : Fin (cfgM m).N) (r : Fin 512) (q : Fin 1024) (hn : 512 * t.val + r.val < 32768) :
    (iblk m c 0 t : S512x1024.Idx → EReal) (ix2 r q) = (m ((c : Thread nD τ).loc main_arg1) : S32768x1024.Idx → EReal) (ix2 ⟨512 * t.val + r.val, hn⟩ q) := by
  refine Eq.trans ?_ (congrFun (V_main_arg1 m c) _)
  show V m c main_arg1 ((((cfgM m).win 0).rect t).emb (ix2 r q)) = V m c main_arg1 _
  refine congrArg (V m c main_arg1) ?_
  funext a
  apply Fin.ext
  refine (Pipeline.Window.rect_emb_val _ _ _ _).trans ?_
  have ht := transform_0_val t
  match a with
  | ⟨0, _⟩ => show cc0_transform_0 (grid0.coords t) 0 * 512 + r.val = _; rw [ht]; show t.val * 512 + r.val = 512 * t.val + r.val; omega
  | ⟨1, _⟩ => show cc0_transform_0 (grid0.coords t) 1 * 1024 + q.val = _; rw [ht]; show 0 * 1024 + q.val = q.val; omega

theorem iblk1_apply (t : Fin (cfgM m).N) (r : Fin 512) (q : Fin 128) (hn : 512 * t.val + r.val < 33280) :
    (iblk m c 1 t : S512x128.Idx → EReal) (ix2 r q) = (m ((c : Thread nD τ).loc main_arg2) : S33280x128.Idx → EReal) (ix2 ⟨512 * t.val + r.val, hn⟩ q) := by
  refine Eq.trans ?_ (congrFun (V_main_arg2 m c) _)
  show V m c main_arg2 ((((cfgM m).win 1).rect t).emb (ix2 r q)) = V m c main_arg2 _
  refine congrArg (V m c main_arg2) ?_
  funext a
  apply Fin.ext
  refine (Pipeline.Window.rect_emb_val _ _ _ _).trans ?_
  have ht := transform_1_val t
  match a with
  | ⟨0, _⟩ => show cc0_transform_1 (grid0.coords t) 0 * 512 + r.val = _; rw [ht]; show t.val * 512 + r.val = 512 * t.val + r.val; omega
  | ⟨1, _⟩ => show cc0_transform_1 (grid0.coords t) 1 * 128 + q.val = _; rw [ht]; show 0 * 128 + q.val = q.val; omega

/-- The gain as the region finds it: the vector laid out as one row. -/
theorem V_main_v0 (q : Fin 1024) : (V m c main_v0 : S1x1024.Idx → EReal) (ix2 (0 : Fin 1) q) = (m ((c : Thread nD τ).loc main_arg4) : S1024.Idx → EReal) (ix1 q) := by
  have e : (V m c main_v0 : S1x1024.Idx → EReal) = shapeCast S1x1024 (m ((c : Thread nD τ).loc main_arg4) : S1024.Idx → EReal) shapeCasts_S1024_S1x1024 := by
    unfold V
    after_results_simp <;> rfl
  rw [e]
  simp only [pointwise]

theorem iblk2_apply (t : Fin (cfgM m).N) (q : Fin 1024) :
    (iblk m c 2 t : S1x1024.Idx → EReal) (ix2 (0 : Fin 1) q) = (m ((c : Thread nD τ).loc main_arg4) : S1024.Idx → EReal) (ix1 q) := by
  refine Eq.trans ?_ (V_main_v0 m c q)
  show V m c main_v0 ((((cfgM m).win 2).rect t).emb (ix2 (0 : Fin 1) q)) = V m c main_v0 _
  refine congrArg (V m c main_v0) ?_
  funext a
  apply Fin.ext
  refine (Pipeline.Window.rect_emb_val _ _ _ _).trans ?_
  match a with
  | ⟨0, _⟩ => show 0 * 1 + 0 = 0; rfl
  | ⟨1, _⟩ => show 0 * 1024 + q.val = q.val; omega

theorem tabAt_eq (n : ℕ) (h : n < 65536) : tabAt n h = ix1 (⟨n, h⟩ : Fin 65536) := by
  funext a
  match a with
  | ⟨0, _⟩ => rfl
theorem outAt_eq (p : Fin 69632) (a : Fin 8) (b : Fin 128) : outAt p a b = ix3 p a b := by
  funext z
  match z with
  | ⟨0, _⟩ => rfl
  | ⟨1, _⟩ => rfl
  | ⟨2, _⟩ => rfl

theorem firstRow_eq (t : Fin (cfgM m).N) (r : Fin 512) (hn : 512 * t.val + r.val < 32768) :
    firstRow (rowsTable m) (grid0.coords t 0) r = row1 (rowsTable m) ⟨512 * t.val + r.val, hn⟩ := by
  apply Fin.ext
  have e := coords_val t
  unfold firstRow rowNamed
  refine (congrArg (fun z => (rowsTable m z).toNat % 69632) (tabAt_eq _ _)).trans ?_
  refine congrArg (fun z : Fin 65536 => (rowsTable m (ix1 z)).toNat % 69632) (Fin.ext ?_)
  show 1024 * (grid0.coords t 0).val + 2 * r.val = 2 * (512 * t.val + r.val)
  rw [e]; omega

theorem secondRow_eq (t : Fin (cfgM m).N) (r : Fin 512) (hn : 512 * t.val + r.val < 32768) :
    secondRow (rowsTable m) (grid0.coords t 0) r = row2 (rowsTable m) ⟨512 * t.val + r.val, hn⟩ := by
  apply Fin.ext
  have e := coords_val t
  unfold secondRow rowNamed
  refine (congrArg (fun z => (rowsTable m z).toNat % 69632) (tabAt_eq _ _)).trans ?_
  refine congrArg (fun z : Fin 65536 => (rowsTable m (ix1 z)).toNat % 69632) (Fin.ext ?_)
  show 1024 * (grid0.coords t 0).val + 2 * r.val + 1 = 2 * (512 * t.val + r.val) + 1
  rw [e]; omega

/-- The result, at an index. -/
def wanted : S32768x1024.Idx → EReal := fun i =>
  resultAt (m ((c : Thread nD τ).loc main_arg1)) (m ((c : Thread nD τ).loc main_arg2)) (m ((c : Thread nD τ).loc main_arg3)) (m ((c : Thread nD τ).loc main_arg4))
    (row1 (rowsTable m)) (row2 (rowsTable m)) (i 0) (i 1)

theorem oblk_apply (t : Fin (cfgM m).N) (r : Fin 512) (q : Fin 1024) (hn : 512 * t.val + r.val < 32768) :
    oblk m c t (ix2 r q) = wanted m c (ix2 ⟨512 * t.val + r.val, hn⟩ q) := by
  have h3 := V_main_arg3 m c
  have g1 : ∀ a b, gathered (firstRow (rowsTable m) (grid0.coords t 0)) (V m c main_arg3) (ix3 r a b)
      = (m ((c : Thread nD τ).loc main_arg3) : S69632x8x128.Idx → EReal) (ix3 (row1 (rowsTable m) ⟨512 * t.val + r.val, hn⟩) a b) := fun a b => by
    rw [← firstRow_eq m t r hn, h3, ← outAt_eq]; rfl
  have g2 : ∀ a b, gathered (secondRow (rowsTable m) (grid0.coords t 0)) (V m c main_arg3) (ix3 r a b)
      = (m ((c : Thread nD τ).loc main_arg3) : S69632x8x128.Idx → EReal) (ix3 (row2 (rowsTable m) ⟨512 * t.val + r.val, hn⟩) a b) := fun a b => by
    rw [← secondRow_eq m t r hn, h3, ← outAt_eq]; rfl
  refine (combined_apply (iblk m c 0 t) (iblk m c 1 t) (gathered (firstRow (rowsTable m) (grid0.coords t 0)) (V m c main_arg3))
    (gathered (secondRow (rowsTable m) (grid0.coords t 0)) (V m c main_arg3)) (iblk m c 2 t) r q
    (mixedAt (m ((c : Thread nD τ).loc main_arg1)) (m ((c : Thread nD τ).loc main_arg2)) (m ((c : Thread nD τ).loc main_arg3))
      (row1 (rowsTable m)) (row2 (rowsTable m)) ⟨512 * t.val + r.val, hn⟩) ?_).trans (congrArg (fun z : EReal => (_ : EReal) * z) (iblk2_apply m c t q))
  intro k
  exact congrArg₂ (· + ·) (congrArg₂ (· + ·) (iblk0_apply m c t r k hn) (congrArg₂ (· * ·) (iblk1_apply m c t r 2 (by omega)) (g1 _ _)))
    (congrArg₂ (· * ·) (iblk1_apply m c t r 3 (by omega)) (g2 _ _))

theorem block_index (t : Fin (cfgM m).N) (r : Fin 512) (q : Fin 1024) (hn : 512 * t.val + r.val < 32768) :
    (((cfgM m).win 3).rect t).emb (ix2 r q : S512x1024.Idx) = (ix2 ⟨512 * t.val + r.val, hn⟩ q : S32768x1024.Idx) := by
  funext a
  apply Fin.ext
  refine (Pipeline.Window.rect_emb_val _ _ _ _).trans ?_
  have ht := transform_4_val t
  match a with
  | ⟨0, _⟩ => show cc0_transform_4 (grid0.coords t) 0 * 512 + r.val = _; rw [ht]; show t.val * 512 + r.val = 512 * t.val + r.val; omega
  | ⟨1, _⟩ => show cc0_transform_4 (grid0.coords t) 1 * 1024 + q.val = _; rw [ht]; show 0 * 1024 + q.val = q.val; omega

theorem flush_all (t : Fin (cfgM m).N) : ((cfgM m).win 3).flush t = true := by
  show (true && (decide (t.val + 1 = 64) || decide (∃ h : t.val + 1 < 64, cc0_transform_4 (grid0.coords ⟨t.val + 1, h⟩) ≠ cc0_transform_4 (grid0.coords t)))) = true
  have ht : t.val < 64 := t.isLt
  rw [Bool.true_and, Bool.or_eq_true, decide_eq_true_iff, decide_eq_true_iff]
  by_cases h : t.val + 1 = 64
  · exact .inl h
  · refine .inr ⟨by omega, fun e => ?_⟩
    have e0 := congrFun e 0
    rw [transform_4_val, transform_4_val] at e0
    have : t.val + 1 = t.val := e0
    omega

theorem final_eq : (dats m 0 c).arrAt 3 (cfgM m).N = wanted m c := by
  refine (dats m 0 c).arrAt_eq_of_cover 3 (wanted m c) ?_ ?_
  · intro t _
    show (oblk m c t : S512x1024.Idx → EReal) = fun y => wanted m c ((((cfgM m).win 3).rect t).emb y)
    funext y
    have ht : t.val < 64 := t.isLt
    obtain ⟨r, q, rfl⟩ : ∃ (r : Fin 512) (q : Fin 1024), y = ix2 r q := ⟨y 0, y 1, by funext a; match a with | ⟨0, _⟩ => rfl | ⟨1, _⟩ => rfl⟩
    exact (oblk_apply m c t r q (by omega)).trans (congrArg (wanted m c) (block_index m t r q (by omega)).symm)
  · intro (i : S32768x1024.Idx)
    have h0 : (i 0).val < 32768 := (i 0).isLt
    let t : Fin (cfgM m).N := ⟨(i 0).val / 512, by show (i 0).val / 512 < 64; omega⟩
    have e := block_index m t ⟨(i 0).val % 512, by omega⟩ (i 1) (by show 512 * ((i 0).val / 512) + (i 0).val % 512 < 32768; omega)
    have ei : (ix2 ⟨512 * ((i 0).val / 512) + (i 0).val % 512, by omega⟩ (i 1) : S32768x1024.Idx) = i := by
      funext a
      match a with
      | ⟨0, _⟩ => exact Fin.ext (by show 512 * ((i 0).val / 512) + (i 0).val % 512 = (i 0).val; omega)
      | ⟨1, _⟩ => rfl
    refine ⟨t, flush_all m t, ?_⟩
    have := (((cfgM m).win 3).blk t).view.emb_mem_set (ix2 (⟨(i 0).val % 512, by omega⟩ : Fin 512) (i 1) : S512x1024.Idx)
    exact (e.trans ei) ▸ this

/-- The launch's run, its result read at an index. -/
theorem run_value (ρ : Dev nD → PrngReg) (hT : RowsNamed (rowsTable m)) :
    θ_run defs (onTc main) (s₀ m ρ) (fun r => ∀ c : Dev nD,
      r.2.mem ((c : Thread nD τ).loc main_v1) = wanted m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨(h.1 c).1.trans (final_eq m c), (h.1 c).2⟩) (run_read m ρ hT)

end Cert.Proof.Combine
end
-- ==== Proof.RefValue.lean ====
/- The reference's result, element by element. -/
module

public import proofs.«01_k».proof.Proof.Spec
public import proofs.«01_k».proof.Proof.Gen.ReferenceIdeal.Run
public import Idealize.ShloMosaic.Lib.StableHlo.Predicate

@[expose] public section
set_option maxRecDepth 16384
noncomputable section
namespace Cert.Proof.Combine
open Cert.ReferenceIdeal Cert.ReferenceIdeal.Facts₀
open Idealize.ShloMosaic Idealize.ShloMosaic.TcCoe

/-- The reference's rows before the normalisation. -/
def refMixed (d : IVec S65536 32) (x : FVec Ideal S32768x1024 .f32) (w : FVec Ideal S33280x128 .f32) (Y : FVec Ideal S69632x8x128 .f32) : FVec Ideal S32768x1024 .f32 :=
  addf x (Host.reduceAdd (mulf (broadcastInDim S32768x2x1024 ![0, 1, 2] bcast_S32768x2x1_S32768x2x1024_0_1_2 (broadcastInDim S32768x2x1 ![0, 1] bcast_S32768x2_S32768x2x1_0_1 (extractStridedSlice S32768x2 ![0, 2] w slices_S33280x128_S32768x2_0_2))) (Host.gather gather_S69632x1024_S32768x2x1_S32768x2x1024_2_0_n_n_0_2_11024 (shapeCast _ Y shapeCasts_S69632x8x128_S69632x1024) (broadcastInDim S32768x2x1 ![0, 1] bcast_S32768x2_S32768x2x1_0_1 (select (cmpi .slt (shapeCast _ d shapeCasts_S65536_S32768x2) (broadcastInDim S32768x2 ![] bcast_S_S32768x2 (constantI S_ 32 0#32))) (addi (shapeCast _ d shapeCasts_S65536_S32768x2) (broadcastInDim S32768x2 ![] bcast_S_S32768x2 (constantI S_ 32 69632#32))) (shapeCast _ d shapeCasts_S65536_S32768x2))))) (constant S_ .f32 0x00000000#32) reducesTo_S32768x2x1024_S32768x1024_d1 h_S_)

/-- The reference's result. -/
def refResult (d : IVec S65536 32) (x : FVec Ideal S32768x1024 .f32) (w : FVec Ideal S33280x128 .f32) (Y : FVec Ideal S69632x8x128 .f32) (g : FVec Ideal S1024 .f32) : FVec Ideal S32768x1024 .f32 :=
  mulf (mulf (refMixed d x w Y) (broadcastInDim S32768x1024 ![0, 1] bcast_S32768x1_S32768x1024_0_1 (Host.rsqrt (addf (Host.divf (broadcastInDim S32768x1 ![0] bcast_S32768_S32768x1_0 (Host.reduceAdd (mulf (refMixed d x w Y) (refMixed d x w Y)) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

/-- The row a start index in range names. -/
theorem start_row (d : IVec S65536 32) (hd : ∀ j, (d j).toNat < 69632) (n : Fin 32768) (j : Fin 2) :
    min ((broadcastInDim S32768x2x1 ![0, 1] bcast_S32768x2_S32768x2x1_0_1 (select (cmpi .slt (shapeCast S32768x2 d shapeCasts_S65536_S32768x2) (broadcastInDim S32768x2 ![] bcast_S_S32768x2 (constantI S_ 32 0#32))) (addi (shapeCast S32768x2 d shapeCasts_S65536_S32768x2) (broadcastInDim S32768x2 ![] bcast_S_S32768x2 (constantI S_ 32 69632#32))) (shapeCast S32768x2 d shapeCasts_S65536_S32768x2)) : IVec S32768x2x1 32) (ix3 n j (0 : Fin 1))).toInt.toNat (69632 - 1)
      = (rowOf d (2 * n.val + j.val) (by omega)).val := by
  simp only [pointwise]
  have e : ∀ z : Fin 65536, z.val = 2 * n.val + j.val → d (ix1 z) = d (ix1 ⟨2 * n.val + j.val, by omega⟩) := fun z hz => congrArg d (congrArg ix1 (Fin.ext hz))
  rw [e _ (show n.val * 2 + j.val = _ by omega)]
  have hb := hd (ix1 ⟨2 * n.val + j.val, by omega⟩)
  have hlt : ¬ IntOp.cmpi .slt (d (ix1 ⟨2 * n.val + j.val, by omega⟩)) 0#32 = 1#1 := by
    rw [StableHlo.Predicate.slt_iff_toNat (by omega) (by decide)]; exact Nat.not_lt_zero _
  rw [ValueIdx.eq_zero_of_ne_one hlt, ValueIdx.select_zero, StableHlo.Predicate.toInt_eq_toNat_of_lt (by omega)]
  unfold rowOf
  rw [Int.toNat_natCast]
  show min _ _ = (d _).toNat % 69632
  rw [Nat.mod_eq_of_lt hb]
  exact Nat.min_eq_left (by omega)

/-- So the reference's gather reads that row. -/
theorem gather_row (d : IVec S65536 32) (hd : ∀ j, (d j).toNat < 69632) (Y : FVec Ideal S69632x8x128 .f32) (n : Fin 32768) (j : Fin 2) (q : Fin 1024) :
    Host.gather gather_S69632x1024_S32768x2x1_S32768x2x1024_2_0_n_n_0_2_11024 (shapeCast S69632x1024 Y shapeCasts_S69632x8x128_S69632x1024) (broadcastInDim S32768x2x1 ![0, 1] bcast_S32768x2_S32768x2x1_0_1 (select (cmpi .slt (shapeCast S32768x2 d shapeCasts_S65536_S32768x2) (broadcastInDim S32768x2 ![] bcast_S_S32768x2 (constantI S_ 32 0#32))) (addi (shapeCast S32768x2 d shapeCasts_S65536_S32768x2) (broadcastInDim S32768x2 ![] bcast_S_S32768x2 (constantI S_ 32 69632#32))) (shapeCast S32768x2 d shapeCasts_S65536_S32768x2))) (ix3 n j q)
      = Y (ix3 (rowOf d (2 * n.val + j.val) (by omega)) (⟨q.val / 128, by omega⟩ : Fin 8) (⟨q.val % 128, by omega⟩ : Fin 128)) := by
  refine (take_row_apply (N := 69632) (R := 32768) (K := 2) (C := 1024) (by decide) gather_S69632x1024_S32768x2x1_S32768x2x1024_2_0_n_n_0_2_11024_wf _ _ n j q).trans ?_
  have hr : ∀ (k : ℕ) (hk : k < 69632), k = (rowOf d (2 * n.val + j.val) (by omega)).val → (⟨k, hk⟩ : Fin 69632) = rowOf d (2 * n.val + j.val) (by omega) := fun k hk e => Fin.ext e
  rw [hr _ _ (start_row d hd n j)]
  simp only [pointwise]

theorem refMixed_apply (d : IVec S65536 32) (hd : ∀ j, (d j).toNat < 69632) (x : FVec Ideal S32768x1024 .f32) (w : FVec Ideal S33280x128 .f32) (Y : FVec Ideal S69632x8x128 .f32)
    (n : Fin 32768) (q : Fin 1024) : refMixed d x w Y (ix2 n q) = mixedAt x w Y (row1 d) (row2 d) n q := by
  unfold refMixed mixedAt
  simp only [pointwise, Fin.sum_univ_two, gather_row d hd]
  rw [zero_add, ← add_assoc]
  have hn : (⟨0 + n.val, by omega⟩ : Fin 33280) = ⟨n.val, by omega⟩ := Fin.ext (Nat.zero_add _)
  exact congrArg₂ (· + ·) (congrArg₂ (· + ·) rfl (congrArg₂ (· * ·) (congrArg (fun z => w (ix2 z (2 : Fin 128))) hn) rfl))
    (congrArg₂ (· * ·) (congrArg (fun z => w (ix2 z (3 : Fin 128))) hn) rfl)

theorem refResult_apply (d : IVec S65536 32) (hd : ∀ j, (d j).toNat < 69632) (x : FVec Ideal S32768x1024 .f32) (w : FVec Ideal S33280x128 .f32) (Y : FVec Ideal S69632x8x128 .f32)
    (g : FVec Ideal S1024 .f32) (n : Fin 32768) (q : Fin 1024) : refResult d x w Y g (ix2 n q) = resultAt x w Y g (row1 d) (row2 d) n q := by
  unfold refResult resultAt
  simp only [pointwise, zero_add]
  simp only [← refMixed_apply d hd]
  rfl

end Cert.Proof.Combine
end
-- ==== Proof.RefRun.lean ====
/- The reference's run, its result read at an index. -/
module

public import proofs.«01_k».proof.Proof.RefValue
public import Idealize.ShloMosaic.Lib.Quiescent

@[expose] public section
noncomputable section
namespace Cert.Proof.Combine
open Cert.ReferenceIdeal
open Idealize.ShloMosaic Idealize.ShloMosaic.TcCoe

theorem ref_run (m : (ℓ : Loc nD τ sig) → Buf (Elt Ideal) ℓ) (ρ : Dev nD → PrngReg)
    (hd : ∀ c : Dev nD, ∀ j, ((m ((c : Thread nD τ).loc main_arg0) : S65536.Idx → BitVec 32) j).toNat < 69632) :
    θ_run defs (onTc (τ := τ) (main (F := Ideal))) ⟨m, fun _ => 0, ρ⟩ fun r => ∀ c : Dev nD,
      r.2.mem ((c : Thread nD τ).loc main_v27) = (fun i : S32768x1024.Idx => resultAt (m ((c : Thread nD τ).loc main_arg1)) (m ((c : Thread nD τ).loc main_arg2))
        (m ((c : Thread nD τ).loc main_arg3)) (m ((c : Thread nD τ).loc main_arg4)) (row1 (m ((c : Thread nD τ).loc main_arg0))) (row2 (m ((c : Thread nD τ).loc main_arg0))) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ⟨(h c).1.trans ?_, (h c).2⟩) (Value.run (F := Ideal) m ρ)
  show refResult (m ((c : Thread nD τ).loc main_arg0)) (m ((c : Thread nD τ).loc main_arg1)) (m ((c : Thread nD τ).loc main_arg2)) (m ((c : Thread nD τ).loc main_arg3)) (m ((c : Thread nD τ).loc main_arg4)) = _
  funext (i : S32768x1024.Idx)
  have ei : (ix2 (i 0) (i 1) : S32768x1024.Idx) = i := by
    funext a
    match a with
    | ⟨0, _⟩ => rfl
    | ⟨1, _⟩ => rfl
  exact (congrArg _ ei.symm).trans (refResult_apply _ (hd c) _ _ _ _ (i 0) (i 1))

/-- The reference's frame: a straight-line program that declares no semaphore. -/
theorem ref_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0 :=
  (θ_run defs _ _).mono (fun r h => ⟨fun c => (h c).2, sem_eq_zero_of_no_sems (by decide) r.2⟩) (Value.run (F := Ideal) m ρ)

end Cert.Proof.Combine
end
-- ==== Proof.Pre.lean ====
/- The precondition, decoded: every entry of the table names a row. -/
module

public import proofs.«01_k».proof.Defs
public import proofs.«01_k».proof.Proof.Gen.Pre_rows_named
public import Idealize.ShloMosaic.Lib.ReduceAll
public import Idealize.ShloMosaic.Lib.StableHlo.Predicate

@[expose] public section
noncomputable section
namespace Cert.Proof.Combine
open Cert.Pre_rows_named Cert.Pre_rows_named.Facts
open Idealize.ShloMosaic

theorem word_in_range (a : BitVec 32) (h0 : a.toInt ≥ 0) (h1 : a.toInt < 69632) : a.toNat < 69632 := by
  have := BitVec.toInt_eq_toNat_cond a
  split at this <;> omega

theorem rows_of_fn {F : FTy → Type} [FloatOps F] [Cert.Pre_rows_named.Facts] (d : IVec S65536 32) (x1 : FVec F S32768x1024 .f32) (x2 : FVec F S33280x128 .f32) (x3 : FVec F S69632x8x128 .f32) (x4 : FVec F S1024 .f32)
    (h : Cert.Pre_rows_named.fn (F := F) d x1 x2 x3 x4 = fun _ => 1#1) (j : S65536.Idx) : (d j).toNat < 69632 := by
  haveI : Subsingleton S_.Idx := ⟨fun y z => funext fun a => a.elim0⟩
  have e := Host.reduce_andi_all _ _ _ _ (fun a => a.elim0) (congrFun h (fun a => a.elim0)) j
  simp only [andi, cmpi, broadcastInDim, constantI, IntOp.cmpi] at e
  have e' : ∀ p q : Bool, IntOp.andi (BitVec.ofBool p) (BitVec.ofBool q) = 1#1 → p = true ∧ q = true := by decide
  obtain ⟨p, q⟩ := e' _ _ e
  refine word_in_range _ ?_ ?_
  · simpa [IntOp.cmpi, BitVec.sle] using p
  · simpa [IntOp.cmpi, BitVec.slt] using q

end Cert.Proof.Combine
end
-- ==== Proof.ExpertsRows.lean ====
/- The rows one grid point of the expert kernel moves: row `t` of slot `s` of the landing buffer, row `r` of the tokens'
   rows, the element sets they are, and what a landed row holds. -/
module

public import proofs.«01_k».proof.Proof.Gen.ExpertsIdeal.Loops
public import proofs.«01_k».proof.Proof.Gen.ExpertsIdeal.Launch
public import Idealize.ShloMosaic.Lib.Pipeline.FrameBody
public import Idealize.ShloMosaic.Lib.Batch
public import Idealize.ShloMosaic.Lib.Ring
public import Idealize.ShloMosaic.Lib.ValueLayout
public import Idealize.ShloMosaic.Lib.Tactic

@[expose] public section

noncomputable section

namespace Cert.Proof.Experts

open Cert.ExpertsIdeal
open Idealize.ShloMosaic Idealize.ShloMosaic.ValueIdx Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F]

/-! ## The slots, their semaphores, the two kinds of rows -/

/-- The other slot. -/
def oth (s : Fin 2) : Fin 2 := ⟨1 - s.val, by omega⟩

theorem oth_oth (s : Fin 2) : oth (oth s) = s := by revert s; decide
theorem oth_ne (s : Fin 2) : oth s ≠ s := by revert s; decide

/-- Slot `s`'s transfer semaphore. -/
def slotSem (s : Fin 2) : DmaSem sig := ⟨8 + s.val, by have := s.isLt; show 8 + s.val < 10; omega⟩

/-- The landing buffer has two slots of 512 rows of `8 × 128`. -/
theorem land_inb (s : Fin 2) (t : Fin 512) : ∀ a, (![s.val, t.val, 0, 0] : Fin 4 → Nat) a + S1x1x8x128.size a ≤ S2x512x8x128.size a := by
  have := t.isLt; have := s.isLt; intro a; fin_cases a
  · show s.val + 1 ≤ 2; omega
  · show t.val + 1 ≤ 512; omega
  · show 0 + 8 ≤ 8; omega
  · show 0 + 128 ≤ 128; omega

/-- The tokens' array has 33280 rows of `8 × 128`. -/
theorem tok_inb (r : Fin 33280) : ∀ a, (![r.val, 0, 0] : Fin 3 → Nat) a + S1x8x128.size a ≤ S33280x8x128.size a := by
  have := r.isLt; intro a; fin_cases a
  · show r.val + 1 ≤ 33280; omega
  · show 0 + 8 ≤ 8; omega
  · show 0 + 128 ≤ 128; omega

/-- Row `t` of slot `s` of the landing buffer. -/
def landRow (s : Fin 2) (t : Fin 512) : Memref sig .tc .vmem S8x128 .f32 :=
  ((Memref.whole cc0_scratch0 : Memref sig .tc .vmem S2x512x8x128 .f32).slice (Rect.unit (s := S2x512x8x128) ![s.val, t.val, 0, 0] S1x1x8x128.size (land_inb s t)) (fun _ => rfl)).squeeze S8x128 Gen.squeezes_S1x1x8x128_S8x128

/-- Row `r` of the tokens' array. -/
def tokRow (r : Fin 33280) : Memref sig .tc .hbm S8x128 .f32 :=
  ((Memref.whole main_arg2 : Memref sig .tc .hbm S33280x8x128 .f32).slice (Rect.unit (s := S33280x8x128) ![r.val, 0, 0] S1x8x128.size (tok_inb r)) (fun _ => rfl)).squeeze S8x128 Gen.squeezes_S1x8x128_S8x128

/-! ## The rows of a slot are the slot, the slots are the buffer -/

/-- The elements of row `t` of slot `s`. -/
abbrev landSet (s : Fin 2) (t : Fin 512) : Finset S2x512x8x128.Idx := (Rect.unit (s := S2x512x8x128) ![s.val, t.val, 0, 0] S1x1x8x128.size (land_inb s t)).set

/-- The elements of slot `s`. -/
def slotSet (s : Fin 2) : Finset S2x512x8x128.Idx := Finset.univ.biUnion (landSet s)

theorem mem_landSet (s : Fin 2) (t : Fin 512) (y : S2x512x8x128.Idx) : y ∈ landSet s t ↔ (y 0).val = s.val ∧ (y 1).val = t.val := by
  rw [Rect.mem_set_unit]
  have h1 : (y 2).val < 8 := (y 2).isLt
  have h2 : (y 3).val < 128 := (y 3).isLt
  constructor
  · intro H
    have a0 : s.val ≤ (y 0).val ∧ (y 0).val < s.val + 1 := H 0
    have a1 : t.val ≤ (y 1).val ∧ (y 1).val < t.val + 1 := H 1
    omega
  · intro H a; fin_cases a
    · show s.val ≤ (y 0).val ∧ (y 0).val < s.val + 1; omega
    · show t.val ≤ (y 1).val ∧ (y 1).val < t.val + 1; omega
    · show 0 ≤ (y 2).val ∧ (y 2).val < 0 + 8; omega
    · show 0 ≤ (y 3).val ∧ (y 3).val < 0 + 128; omega

theorem mem_slotSet (s : Fin 2) (y : S2x512x8x128.Idx) : y ∈ slotSet s ↔ (y 0).val = s.val := by
  unfold slotSet
  simp only [Finset.mem_biUnion, Finset.mem_univ, true_and, mem_landSet]
  exact ⟨fun ⟨_, h, _⟩ => h, fun h => ⟨y 1, h, rfl⟩⟩

theorem landSet_disjoint (s : Fin 2) : ∀ b b' : Fin 512, b ≠ b' → Disjoint (landSet s b) (landSet s b') := fun b b' hne => by
  rw [Finset.disjoint_left]; intro y hy hy'; rw [mem_landSet] at hy hy'; exact hne (Fin.ext (by omega))

theorem slotSet_disjoint : ∀ b b' : Fin 2, b ≠ b' → Disjoint (slotSet b) (slotSet b') := fun b b' hne => by
  rw [Finset.disjoint_left]; intro y hy hy'; rw [mem_slotSet] at hy hy'; exact hne (Fin.ext (by omega))

theorem slotSet_cover : Finset.univ.biUnion slotSet = Finset.univ := by
  ext y; simp only [Finset.mem_biUnion, Finset.mem_univ, true_and, iff_true]; exact ⟨y 0, (mem_slotSet _ _).mpr rfl⟩

theorem landRow_set (s : Fin 2) (t : Fin 512) : (landRow s t).view.set = landSet s t := by
  unfold landRow; exact (View.set_reshape _ _).trans (View.set_slice_whole _ _)

/-! ## What a landed row holds -/

variable {Val : EltTy → Type}

/-- Entry `(r, a, b)` of the tokens' array. -/
abbrev tokAt (r : Fin 33280) (a : Fin 8) (b : Fin 128) : S33280x8x128.Idx := fun | 0 => r | 1 => a | 2 => b

/-- Landing buffer contents in which row `t`, of either slot, is row `p t` of `Y`. -/
def gathered (p : Fin 512 → Fin 33280) (Y : S33280x8x128.Idx → Val .f32) : S2x512x8x128.Idx → Val .f32 :=
  fun y => Y (tokAt (p (y 1)) (y 2) (y 3))

/-- Entry `(a, b)` of the only row of a row's box, in a slot and in the tokens' array. -/
theorem gathered_row (p : Fin 512 → Fin 33280) (Y : S33280x8x128.Idx → Val .f32) (s : Fin 2) (t : Fin 512) (z : S1x1x8x128.Idx) (z' : S1x8x128.Idx)
    (h2 : (z 2).val = (z' 1).val) (h3 : (z 3).val = (z' 2).val) :
    gathered p Y ((Rect.unit (s := S2x512x8x128) ![s.val, t.val, 0, 0] S1x1x8x128.size (land_inb s t)).emb z)
      = Y ((Rect.unit (s := S33280x8x128) ![(p t).val, 0, 0] S1x8x128.size (tok_inb (p t))).emb z') := by
  have hz : (z 1).val = 0 := by have : (z 1).val < 1 := (z 1).isLt; omega
  have hz' : (z' 0).val = 0 := by have : (z' 0).val < 1 := (z' 0).isLt; omega
  have h0 : ((Rect.unit (s := S2x512x8x128) ![s.val, t.val, 0, 0] S1x1x8x128.size (land_inb s t)).emb z) 1 = t := Fin.ext (by
    show t.val + 1 * (z 1).val = t.val; omega)
  refine congrArg Y (funext fun a => Fin.ext ?_)
  fin_cases a
  · show (p (((Rect.unit (s := S2x512x8x128) ![s.val, t.val, 0, 0] S1x1x8x128.size (land_inb s t)).emb z) 1)).val = (p t).val + 1 * (z' 0).val
    rw [congrArg p h0]; omega
  · show 0 + 1 * (z 2).val = 0 + 1 * (z' 1).val; omega
  · show 0 + 1 * (z 3).val = 0 + 1 * (z' 2).val; omega

/-- What a copy of row `p t` of the tokens' array leaves in row `t` of slot `s`. -/
theorem landed (p : Fin 512 → Fin 33280) (Y : S33280x8x128.Idx → Val .f32) (f : S2x512x8x128.Idx → Val .f32) (s : Fin 2) (t : Fin 512)
    (i : S2x512x8x128.Idx) (hi : i ∈ (landRow s t).view.set) :
    (landRow s t).view.write Val f ((tokRow (p t)).view.read Val Y) Finset.univ i = gathered p Y i := by
  obtain ⟨x, -, rfl⟩ := Finset.mem_map.mp hi
  refine (View.write_emb_of_mem (v := (landRow s t).view) (Val := Val) f _ (Finset.mem_univ x)).trans ?_
  have e4 := reshapeEquiv_ix2_11ab (Shape.Squeezes.numel_eq Gen.squeezes_S1x1x8x128_S8x128) (x 0) (x 1)
  have e3 := reshapeEquiv_ix2_1ab (Shape.Squeezes.numel_eq Gen.squeezes_S1x8x128_S8x128) (x 0) (x 1)
  have ex : (ix2 (x 0) (x 1) : S8x128.Idx) = x := by
    funext a
    match a with
    | ⟨0, _⟩ => rfl
    | ⟨1, _⟩ => rfl
  refine (gathered_row p Y s t (Shape.reshapeEquiv (Shape.Squeezes.numel_eq Gen.squeezes_S1x1x8x128_S8x128) x)
    (Shape.reshapeEquiv (Shape.Squeezes.numel_eq Gen.squeezes_S1x8x128_S8x128) x) ?_ ?_).symm
  · rw [← ex]
    exact (congrArg (fun z : S1x1x8x128.Idx => (z 2).val) e4).trans (congrArg (fun z : S1x8x128.Idx => (z 1).val) e3).symm
  · rw [← ex]
    exact (congrArg (fun z : S1x1x8x128.Idx => (z 3).val) e4).trans (congrArg (fun z : S1x8x128.Idx => (z 2).val) e3).symm

end Cert.Proof.Experts

end
-- ==== Proof.ExpertsGather.lean ====
/- The two issue loops of the expert kernel: each starts 512 copies, the rows of one block of the padded token order, into
   one slot of the landing buffer; the copies of the next block stay in flight across grid points. -/
module

public import proofs.«01_k».proof.Proof.ExpertsRows

@[expose] public section

noncomputable section

namespace Cert.Proof.Experts

open Cert.ExpertsIdeal
open Idealize.ShloMosaic.RefSig (tileCredit)
open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The rows a block asks for -/

/-- Entry `n` of the table of tokens. -/
abbrev tabAt (n : ℕ) (h : n < 69632) : S69632.Idx := fun | 0 => (⟨n, h⟩ : Fin 69632)

/-- The row the table names at entry `n` (counted modulo its length, so that it is defined for every block). -/
def rowNamed (tb : S69632.Idx → BitVec 32) (n : ℕ) : Fin 33280 :=
  ⟨(tb (tabAt (n % 69632) (Nat.mod_lt _ (by omega)))).toNat % 33280, Nat.mod_lt _ (by omega)⟩

/-- The row of token `t` of block `n`. -/
def blockRow (tb : S69632.Idx → BitVec 32) (n : ℕ) (t : Fin 512) : Fin 33280 := rowNamed tb (512 * n + t.val)

/-- The table names rows that exist. -/
def RowsNamed (tb : S69632.Idx → BitVec 32) : Prop := ∀ j, (tb j).toNat < 33280

/-! ## What is held, lent and delivered -/

section Names

variable (c : Dev nD)

/-- Row `t` of slot `s`, at contents `g`. -/
abbrev land (s : Fin 2) (g : S2x512x8x128.Idx → Elt F .f32) (t : Fin 512) : sProp 𝕄 :=
  (landRow s t).view.loc (c : Thread nD τ) ↦[(landRow s t).view.set]{fullShare} g

/-- Row `r` of the tokens' array, read-only, under token `n`. -/
abbrev lent (Y : S33280x8x128.Idx → Elt F .f32) (r : Fin 33280) (n : ℕ) : sProp 𝕄 :=
  (tokRow r).view.loc (c : Thread nD τ) ↦[(tokRow r).view.set]{Transfers.shareTokN fullShare n} Y

/-- The table of tokens, read-only. -/
abbrev table (tb : S69632.Idx → BitVec 32) : sProp 𝕄 :=
  (Memref.whole main_arg1 : Memref sig .tc .smem S69632 .i32).view.loc (c : Thread nD τ) ↦{fullShare.right} tb

/-- A transfer's delivery: row `t` of the slot at the row it was asked for, and the read token back. -/
def del (s : Fin 2) (Y : S33280x8x128.Idx → Elt F .f32) (p : Fin 512 → Fin 33280) (t : Fin 512) : sProp 𝕄 :=
  iprop(land c s (gathered p Y) t ∗ lent c Y (p t) t.val)

theorem land_storable (s : Fin 2) (t : Fin 512) (g : Buf (Elt F) ((landRow s t).view.loc (c : Thread nD τ))) :
    BI.Storable (upEmb : UEmb _ 𝕄) (land c s g t) := by unfold land; infer_instance
theorem lent_storable (r : Fin 33280) (n : ℕ) (Y : Buf (Elt F) ((tokRow r).view.loc (c : Thread nD τ))) :
    BI.Storable (upEmb : UEmb _ 𝕄) (lent c Y r n) := by unfold lent; infer_instance

instance del_storable (s : Fin 2) (Y : S33280x8x128.Idx → Elt F .f32) (p : Fin 512 → Fin 33280) (t : Fin 512) :
    BI.Storable (upEmb : UEmb _ 𝕄) (del c s Y p t) := by
  unfold del
  have h1 := land_storable c s t (gathered p Y)
  have h2 := lent_storable c (p t) t.val Y
  infer_instance

/-- A row's credit on a transfer semaphore: its 1024 words of four bytes, by 32. -/
abbrev rowCredit : ℕ := 128

abbrev batch (s : Fin 2) (Y : S33280x8x128.Idx → Elt F .f32) (p : Fin 512 → Fin 33280) (j u : ℕ) : sProp 𝕄 :=
  Transfers.Batch (countersEmb (U := Pipeline.UD sig nD τ)) (c : Thread nD τ) (.dma (slotSem s)) () rowCredit (del c s Y p) j u

/-- Slot `s` of the landing buffer; the tokens' array under a share. -/
abbrev slot (s : Fin 2) (g : S2x512x8x128.Idx → Elt F .f32) : sProp 𝕄 :=
  (Memref.whole cc0_scratch0 : Memref sig .tc .vmem S2x512x8x128 .f32).view.loc (c : Thread nD τ) ↦[slotSet s]{fullShare} g
abbrev tokens (q : PosShare TreeShare) (Y : S33280x8x128.Idx → Elt F .f32) : sProp 𝕄 :=
  (Memref.whole main_arg2 : Memref sig .tc .hbm S33280x8x128 .f32).view.loc (c : Thread nD τ) ↦{q} Y

/-- A slot is its rows. -/
theorem slot_rows (s : Fin 2) (g : S2x512x8x128.Idx → Elt F .f32) : (slot c s g : sProp 𝕄) = bigSep Finset.univ (land c s g) := by
  refine (Ring.pointsTo_sub_blocks (ℓ := (Memref.whole cc0_scratch0 : Memref sig .tc .vmem S2x512x8x128 .f32).view.loc (c : Thread nD τ)) (q := fullShare) (landSet s) (landSet_disjoint s) (slotSet s) rfl g).trans ?_
  congr 1; funext t
  show _ = ((landRow s t).view.loc (c : Thread nD τ) ↦[(landRow s t).view.set]{fullShare} g : sProp 𝕄)
  rw [landRow_set]; rfl

/-- What is left of the tokens' array under token `n` once row `r` of it is lent. -/
def kept (Y : S33280x8x128.Idx → Elt F .f32) (r : Fin 33280) (n : ℕ) : sProp 𝕄 :=
  (Memref.whole main_arg2 : Memref sig .tc .hbm S33280x8x128 .f32).view.loc (c : Thread nD τ)
    ↦[Finset.univ \ (tokRow r).view.set]{Transfers.shareTokN fullShare n} Y

theorem tok_row (Y : S33280x8x128.Idx → Elt F .f32) (r : Fin 33280) (n : ℕ) :
    (tokens c (Transfers.shareTokN fullShare n) Y : sProp 𝕄) = iprop(lent c Y r n ∗ kept c Y r n) :=
  have h : (tokens c (Transfers.shareTokN fullShare n) Y : sProp 𝕄) ⊣⊢ iprop(lent c Y r n ∗ kept c Y r n) :=
    pointsTo_split_subset (Finset.subset_univ (tokRow r).view.set)
  BI.Entails.antisymm h.1 h.2

/-- A family over numbers below 512 is one over the 512 tokens. -/
theorem bigSep_512 (Φ : Fin 512 → sProp 𝕄) (Ψ : ℕ → sProp 𝕄) (h : ∀ (k : ℕ) (hk : k < 512), Ψ k = Φ ⟨k, hk⟩) :
    bigSep (Finset.range 512) Ψ = bigSep Finset.univ Φ := by
  have e := Ring.bigSep_rangeSet_eq_range (NB := 512) (lo := 0) (hi := 512) (Φ := Φ) le_rfl Ψ (fun k hk => by
    rw [h k (by omega)]; congr 1; exact Fin.ext (by simp))
  rw [Ring.rangeSet_univ] at e; exact e.symm

/-- What stays behind of the tokens' array while the copies of a block are in flight. -/
def stays (Y : S33280x8x128.Idx → Elt F .f32) (p : Fin 512 → Fin 33280) : sProp 𝕄 :=
  iprop(tokens c (Transfers.shareDrop fullShare 512) Y ∗ bigSep Finset.univ (fun t : Fin 512 => kept c Y (p t) t.val))

/-- The tokens' array, whole, is 512 read tokens with the named row of each lent, and the rest. -/
theorem tokens_lent (Y : S33280x8x128.Idx → Elt F .f32) (p : Fin 512 → Fin 33280) :
    (tokens c fullShare Y : sProp 𝕄) = iprop(bigSep Finset.univ (fun t : Fin 512 => lent c Y (p t) t.val) ∗ stays c Y p) := by
  have h : (tokens c fullShare Y : sProp 𝕄) ⊣⊢ iprop(tokens c (Transfers.shareDrop fullShare 512) Y
      ∗ bigSep (Finset.range 512) (fun n => tokens c (Transfers.shareTokN fullShare n) Y)) := Transfers.pointsTo_toks_range fullShare 512
  refine (BI.Entails.antisymm h.1 h.2).trans ?_
  rw [bigSep_512 (fun t => iprop(lent c Y (p t) t.val ∗ kept c Y (p t) t.val)) _ (fun k hk => tok_row c Y (p ⟨k, hk⟩) k)]
  have e := BI.bigSep_sep (M := 𝕄) Finset.univ (fun t => lent c Y (p t) t.val) (fun t => kept c Y (p t) t.val)
  refine (congrArg (fun X : sProp 𝕄 => iprop(tokens c (Transfers.shareDrop fullShare 512) Y ∗ X)) e).trans ?_
  unfold stays
  have h1 : (iprop(tokens c (Transfers.shareDrop fullShare 512) Y ∗ bigSep Finset.univ (fun t : Fin 512 => lent c Y (p t) t.val)
        ∗ bigSep Finset.univ (fun t : Fin 512 => kept c Y (p t) t.val)) : sProp 𝕄)
      ⊢ iprop(bigSep Finset.univ (fun t : Fin 512 => lent c Y (p t) t.val) ∗ tokens c (Transfers.shareDrop fullShare 512) Y
        ∗ bigSep Finset.univ (fun t : Fin 512 => kept c Y (p t) t.val)) := by
    iintro ⟨HD, HL, HK⟩
    isplitl [HL]; · iexact HL
    isplitl [HD]; · iexact HD
    iexact HK
  have h2 : (iprop(bigSep Finset.univ (fun t : Fin 512 => lent c Y (p t) t.val) ∗ tokens c (Transfers.shareDrop fullShare 512) Y
        ∗ bigSep Finset.univ (fun t : Fin 512 => kept c Y (p t) t.val)) : sProp 𝕄)
      ⊢ iprop(tokens c (Transfers.shareDrop fullShare 512) Y ∗ bigSep Finset.univ (fun t : Fin 512 => lent c Y (p t) t.val)
        ∗ bigSep Finset.univ (fun t : Fin 512 => kept c Y (p t) t.val)) := by
    iintro ⟨HL, HD, HK⟩
    isplitl [HD]; · iexact HD
    isplitl [HL]; · iexact HL
    iexact HK
  exact BI.Entails.antisymm h1 h2

/-- What the wait hands back: the slot whole, at the rows asked for, and the tokens. -/
theorem del_all (s : Fin 2) (Y : S33280x8x128.Idx → Elt F .f32) (p : Fin 512 → Fin 33280) :
    (bigSep Finset.univ (del c s Y p) : sProp 𝕄) = iprop(slot c s (gathered p Y) ∗ bigSep Finset.univ (fun t : Fin 512 => lent c Y (p t) t.val)) := by
  rw [slot_rows]; exact BI.bigSep_sep _ _ _

/-- The landing buffer is its two slots. -/
theorem slots_whole (s : Fin 2) (g : S2x512x8x128.Idx → Elt F .f32) :
    ((Memref.whole cc0_scratch0 : Memref sig .tc .vmem S2x512x8x128 .f32).view.loc (c : Thread nD τ) ↦{fullShare} g : sProp 𝕄)
      = iprop(slot c s g ∗ slot c (oth s) g) := by
  have e : Finset.univ \ slotSet s = slotSet (oth s) := by
    ext y
    have h0 : (y 0).val < 2 := (y 0).isLt
    have hs := s.isLt
    have ho : (oth s).val = 1 - s.val := rfl
    simp only [Finset.mem_sdiff, Finset.mem_univ, true_and, mem_slotSet]
    omega
  have h : ((Memref.whole cc0_scratch0 : Memref sig .tc .vmem S2x512x8x128 .f32).view.loc (c : Thread nD τ) ↦{fullShare} g : sProp 𝕄)
      ⊣⊢ iprop(slot c s g ∗ ((Memref.whole cc0_scratch0 : Memref sig .tc .vmem S2x512x8x128 .f32).view.loc (c : Thread nD τ) ↦[Finset.univ \ slotSet s]{fullShare} g)) :=
    pointsTo_split_subset (Finset.subset_univ (slotSet s))
  refine (BI.Entails.antisymm h.1 h.2).trans ?_
  rw [e]

end Names

/-! ## What is in flight -/

section Flight

variable (c : Dev nD)

/-- Nothing in flight; `s` only fixes the order the slots are named in. -/
def idleAt (s : Fin 2) (Y : S33280x8x128.Idx → Elt F .f32) : sProp 𝕄 :=
  iprop((∃ g, slot c s g) ∗ (∃ g, slot c (oth s) g) ∗ semVal ((c : Thread nD τ), SemLoc.dma (slotSem s)) 0
    ∗ semVal ((c : Thread nD τ), SemLoc.dma (slotSem (oth s))) 0 ∗ tokens c fullShare Y)

/-- The 512 copies of the rows `p` into slot `s` in flight. -/
def pendAt (s : Fin 2) (p : Fin 512 → Fin 33280) (Y : S33280x8x128.Idx → Elt F .f32) : sProp 𝕄 :=
  iprop(batch c s Y p 512 0 ∗ (∃ g, slot c (oth s) g) ∗ semVal ((c : Thread nD τ), SemLoc.dma (slotSem (oth s))) 0 ∗ stays c Y p)

theorem idleAt_oth (s : Fin 2) (Y : S33280x8x128.Idx → Elt F .f32) : (idleAt c (oth s) Y : sProp 𝕄) ⊢ idleAt c s Y := by
  unfold idleAt
  rw [oth_oth]
  iintro ⟨H1, H2, H3, H4, H5⟩
  isplitl [H2]; · iexact H2
  isplitl [H1]; · iexact H1
  isplitl [H4]; · iexact H4
  isplitl [H3]; · iexact H3
  iexact H5

/-- The slot block `n` lands in. -/
def slotOf (n : ℕ) : Fin 2 := ⟨n % 2, Nat.mod_lt _ (by omega)⟩

theorem slotOf_succ (n : ℕ) : slotOf (n + 1) = oth (slotOf n) := Fin.ext (by show (n + 1) % 2 = 1 - n % 2; omega)

/-- Before the body's work on block `n`: its copies in flight, but for the first block's and past the last. -/
def flight (tb : S69632.Idx → BitVec 32) (Y : S33280x8x128.Idx → Elt F .f32) (n : ℕ) : sProp 𝕄 :=
  if n = 0 then idleAt c (slotOf 0) Y
  else if n < 136 then pendAt c (slotOf n) (blockRow tb n) Y
  else idleAt c (slotOf 0) Y

end Flight

/-! ## One trip of a loop -/

section Issue

variable (c : Dev nD) (i : grid0.Coords)

/-- Before trip `k`: `k` copies issued, none waited for; the rows of the slot and the read tokens from `k` on in hand. -/
def issueAt (s : Fin 2) (p : Fin 512 → Fin 33280) (tb : S69632.Idx → BitVec 32) (Y : S33280x8x128.Idx → Elt F .f32) (g : S2x512x8x128.Idx → Elt F .f32) (k : ℕ) (_ : Unit) : sProp 𝕄 :=
  iprop(table c tb ∗ batch c s Y p k 0 ∗ bigSep (Ring.rangeSet 512 k 512) (land c s g)
    ∗ bigSep (Ring.rangeSet 512 k 512) (fun t : Fin 512 => lent c Y (p t) t.val))

theorem trips1 : k0_t1_loop.trips = 512 := by decide +kernel
theorem trips2 : k0_t2_loop.trips = 512 := by decide +kernel

theorem row_credit (s : Fin 2) (t : Fin 512) (sm : DmaSem sig) : (landRow s t).view.amount (.dma sm) = rowCredit := by
  show tileCredit S8x128 .f32 = 128
  decide

/-- A copy: row `p t` of the tokens' array into row `t` of slot `s`. -/
theorem issue (s : Fin 2) (Y : S33280x8x128.Idx → Elt F .f32) (p : Fin 512 → Fin 33280) (g : S2x512x8x128.Idx → Elt F .f32) (t : Fin 512)
    {src : Memref sig .tc .hbm S8x128 .f32} {dst : Memref sig .tc .vmem S8x128 .f32} {sm : SemLoc sig}
    (hs : src = tokRow (p t)) (hd : dst = landRow s t) (hm : sm = .dma (slotSem s))
    {hsrc : src.view.WordExact} {hdst : dst.view.WordExact} {hsem : DmaTarget.Typed (nD := nD) .hbm sm (DmaTarget.here (nD := nD) (p := (Proc.tc : Proc τ)) dst)}
    {k : PUnit → Prog (TpuEff nD τ sig (Elt F) Λ₀ .tc) Unit} {Q : Unit → sProp 𝕄} :
    iprop(lent c Y (p t) t.val ∗ land c s g t ∗ batch c s Y p t.val 0)
      ⊢ iprop((batch c s Y p (t.val + 1) 0 -∗ wp frame (wpE (defs₀ (F := F)) Variants.none (c : Thread nD τ) none) Set.univ (k ⟨⟩) Q)
          -∗ wp frame (wpE (defs₀ (F := F)) Variants.none (c : Thread nD τ) none) Set.univ (.op (.enqueueDmaAs src (.here dst) .same sm hsrc hdst hsem) k) Q) := by
  subst hs hd hm
  refine Transfers.wp_dmaBatch (countersEmb (U := Pipeline.UD sig nD τ)) Variants.none (c : Thread nD τ) none () rowCredit (row_credit _ _ _) (Finset.Subset.refl _) t.isLt (Nat.zero_le _) ?_
  unfold del
  rw [pointsTo_congr (fun i hi => landed p Y g s t i hi)]

/-- Where the kernel's offsets point. -/
theorem src_eq (off : Fin 3 → ℕ) (h : ∀ a, off a + S1x8x128.size a ≤ S33280x8x128.size a) (r : Fin 33280) (hr : off = ![r.val, 0, 0]) :
    ((Memref.whole main_arg2 : Memref sig .tc .hbm S33280x8x128 .f32).slice (Rect.unit (s := S33280x8x128) off S1x8x128.size h) (fun _ => rfl)).squeeze S8x128 Gen.squeezes_S1x8x128_S8x128
      = tokRow r := by subst hr; rfl
theorem dst_eq (off : Fin 4 → ℕ) (h : ∀ a, off a + S1x1x8x128.size a ≤ S2x512x8x128.size a) (s : Fin 2) (t : Fin 512) (hr : off = ![s.val, t.val, 0, 0]) :
    ((Memref.whole cc0_scratch0 : Memref sig .tc .vmem S2x512x8x128 .f32).slice (Rect.unit (s := S2x512x8x128) off S1x1x8x128.size h) (fun _ => rfl)).squeeze S8x128 Gen.squeezes_S1x1x8x128_S8x128
      = landRow s t := by subst hr; rfl
theorem sem_eq (off : Fin 1 → ℕ) (h : ∀ a, off a + S1.size a ≤ S2.size a) (s : Fin 2) (hr : off = ![s.val]) :
    ((cc0_scratch3.slice (Rect.unit (s := S2) off S1.size h)).squeeze S_ Gen.squeezes_S1_S_).sem = slotSem s := by
  subst hr; revert s; decide

/-- A word that names a row, as an offset. -/
theorem off_row (v : BitVec 32) (h : v.toNat < 33280) : (![v.toNat, 0, 0] : Fin 3 → ℕ) = ![v.toNat % 33280, 0, 0] := by
  rw [Nat.mod_eq_of_lt h]

/-- A word that names a row passes the kernel's checks of it. -/
theorem inb_of (v : BitVec 32) (h : v.toNat < 33280) : ∀ a, (![v.toNat, 0, 0] : Fin 3 → ℕ) a + S1x8x128.size a ≤ S33280x8x128.size a :=
  fun a => tok_inb ⟨v.toNat, h⟩ a
theorem chk1_of (v : BitVec 32) (h : v.toNat < 33280) : k0_chk1 i v := fun _ _ a => inb_of v h a
theorem chk2_of (v : BitVec 32) (h : v.toNat < 33280) : k0_chk2 i v := fun _ _ a => inb_of v h a

/-- The word loaded at an offset of the table. -/
theorem word (tb : S69632.Idx → BitVec 32) (off : Fin 1 → ℕ) (n : ℕ) (ho : off = ![n]) (h : ∀ a, off a + S1.size a ≤ S69632.size a) (hn : n < 69632) (j : S1.Idx) :
    View.readAt (Elt F) (Memref.whole main_arg1 : Memref sig .tc .smem S69632 .i32).view (Rect.unit (s := S69632) off S1.size h).toLoadRect tb j
      = tb (tabAt (n % 69632) (Nat.mod_lt _ (by omega))) := by
  subst ho
  refine congrArg tb (funext fun a => ?_)
  fin_cases a
  have hj : (j 0).val < 1 := (j 0).isLt
  refine Fin.ext ?_
  show n + 1 * (j 0).val = n % 69632
  rw [Nat.mod_eq_of_lt hn]; omega

/-! ### The kernel's slot arithmetic -/

theorem off5_eq : ∀ i : grid0.Coords, k0_off5 i = ![(i 0).val % 2] := by decide +kernel
theorem off6_eq : ∀ i : grid0.Coords, k0_off6 i = ![(i 0).val % 2, 0, 0, 0] := by decide +kernel
theorem off7_eq : ∀ i : grid0.Coords, k0_off7 i = ![(i 0).val % 2, 0, 0, 0] := by decide +kernel
theorem off9_eq : ∀ i : grid0.Coords, k0_off9 i = ![((i 0).val + 1) % 2] := by decide +kernel
theorem iv2_eq : ∀ k : Fin k0_t2_loop.trips, (Scf.iv 0#32 1#32 k.val).toNat = k.val := by decide +kernel
theorem off10_eq (i : grid0.Coords) (k : Fin k0_t2_loop.trips) : k0_off10 i k = ![((i 0).val + 1) % 2, k.val, 0, 0] := by
  have e : k0_off10 i k = ![k0_off9 i 0, (Scf.iv 0#32 1#32 k.val).toNat, 0, 0] := rfl
  rw [e, off9_eq, iv2_eq]; rfl

theorem cond1_iff : ∀ i : grid0.Coords, k0_cond1 i = 1#1 ↔ (i 1).val = 0 := by decide +kernel
theorem cond2_iff : ∀ i : grid0.Coords, k0_cond2 i = 1#1 ↔ (i 0).val = 0 := by decide +kernel
theorem cond3_iff : ∀ i : grid0.Coords, k0_cond3 i = 1#1 ↔ (i 0).val + 1 < 136 := by decide +kernel
theorem cond4_iff : ∀ i : grid0.Coords, k0_cond4 i = 1#1 ↔ (i 1).val = 1 := by decide +kernel

/-! ### The two loops' trips -/

set_option maxHeartbeats 1000000 in
theorem first_step (tb : S69632.Idx → BitVec 32) (htb : RowsNamed tb) (Y : S33280x8x128.Idx → Elt F .f32) (g : S2x512x8x128.Idx → Elt F .f32)
    (arg2 : Memref sig .tc .smem S136 .i32) (harg2 : arg2.IsWhole)
    (arg5 : Memref sig .tc .vmem S1x1024x1792 .bf16) (harg5 : arg5.IsWhole) (arg6 : Memref sig .tc .vmem S1x1024x1792 .bf16) (harg6 : arg6.IsWhole)
    (arg7 : Memref sig .tc .vmem S1x1792x1024 .bf16) (harg7 : arg7.IsWhole) (arg8 : Memref sig .tc .vmem S512x8x128 .f32) (harg8 : arg8.IsWhole)
    (arg0 : BitVec 32) (h1 : k0_cond1 i = 1#1) (h2 : k0_cond2 i = 1#1)
    (k : Fin k0_t1_loop.trips) (acc : Unit) :
    issueAt c (slotOf 0) (blockRow tb 0) tb Y g k acc ⊢ wp frame (wpE (defs₀ (F := F)) Variants.none (c : Thread nD τ) none) Set.univ
      (Gen.k0_t1_body i arg2 harg2 (Memref.whole main_arg1) (Memref.isWhole_whole _) (Memref.whole main_arg2) (Memref.isWhole_whole _)
        arg5 harg5 arg6 harg6 arg7 harg7 arg8 harg8 (Memref.whole cc0_scratch0) (Memref.isWhole_whole _) (Memref.whole cc0_scratch1) (Memref.isWhole_whole _)
        (Memref.whole cc0_scratch2) (Memref.isWhole_whole _) cc0_scratch3 arg0 h1 h2 k acc)
      (issueAt c (slotOf 0) (blockRow tb 0) tb Y g (k.val + 1)) := by
  have hk : k.val < 512 := trips1 ▸ k.isLt
  unfold issueAt
  rw [Ring.bigSep_rangeSet_head (Φ := land c (slotOf 0) g) hk hk, Ring.bigSep_rangeSet_head (Φ := fun t => lent c Y (blockRow tb 0 t) t.val) hk hk]
  iintro ⟨HT, HB, ⟨HL, HLs⟩, ⟨HS, HSs⟩⟩
  sl_unfold [Gen.k0_t1_body]
  sl_exec
  have hv : first_step.sl.r (F := F) i tb h1 h2 k = tb (tabAt ((512 * 0 + k.val) % 69632) (Nat.mod_lt _ (by omega))) := by
    unfold first_step.sl.r
    exact word tb _ _ ((Gen.k0_off2_eq k).trans (by rw [Nat.mul_zero, Nat.zero_add])) _ (by omega) _
  generalize first_step.sl.r (F := F) i tb h1 h2 k = v at *
  have hc : k0_chk1 i v := chk1_of i v (by rw [hv]; exact htb _)
  sl_exec
  iapply (issue c (slotOf 0) Y (blockRow tb 0) g ⟨k.val, hk⟩ (src_eq _ _ _ (by rw [hv]; exact off_row _ (htb _))) (dst_eq _ _ _ _ (Gen.k0_off3_eq k)) rfl) $$ [HS HL HB]
  · isplitl [HS]
    · iexact HS
    isplitl [HL]
    · iexact HL
    · iexact HB
  iintro HB
  sl_exec
  sl_step
  isplitl [HT]
  · iexact HT
  isplitl [HB]
  · iexact HB
  isplitl [HLs]
  · iexact HLs
  · iexact HSs

set_option maxHeartbeats 1000000 in
theorem next_step (tb : S69632.Idx → BitVec 32) (htb : RowsNamed tb) (Y : S33280x8x128.Idx → Elt F .f32) (g : S2x512x8x128.Idx → Elt F .f32)
    (arg2 : Memref sig .tc .smem S136 .i32) (harg2 : arg2.IsWhole)
    (arg5 : Memref sig .tc .vmem S1x1024x1792 .bf16) (harg5 : arg5.IsWhole) (arg6 : Memref sig .tc .vmem S1x1024x1792 .bf16) (harg6 : arg6.IsWhole)
    (arg7 : Memref sig .tc .vmem S1x1792x1024 .bf16) (harg7 : arg7.IsWhole) (arg8 : Memref sig .tc .vmem S512x8x128 .f32) (harg8 : arg8.IsWhole)
    (h1 : k0_cond1 i = 1#1) (h3 : k0_cond3 i = 1#1)
    (k : Fin k0_t2_loop.trips) (acc : Unit) :
    issueAt c (slotOf ((i 0).val + 1)) (blockRow tb ((i 0).val + 1)) tb Y g k acc ⊢ wp frame (wpE (defs₀ (F := F)) Variants.none (c : Thread nD τ) none) Set.univ
      (Gen.k0_t2_body i arg2 harg2 (Memref.whole main_arg1) (Memref.isWhole_whole _) (Memref.whole main_arg2) (Memref.isWhole_whole _)
        arg5 harg5 arg6 harg6 arg7 harg7 arg8 harg8 (Memref.whole cc0_scratch0) (Memref.isWhole_whole _) (Memref.whole cc0_scratch1) (Memref.isWhole_whole _)
        (Memref.whole cc0_scratch2) (Memref.isWhole_whole _) cc0_scratch3 h1 h3 k acc)
      (issueAt c (slotOf ((i 0).val + 1)) (blockRow tb ((i 0).val + 1)) tb Y g (k.val + 1)) := by
  have hk : k.val < 512 := trips2 ▸ k.isLt
  have hi : (i 0).val + 1 < 136 := (cond3_iff i).mp h3
  unfold issueAt
  rw [Ring.bigSep_rangeSet_head (Φ := land c (slotOf ((i 0).val + 1)) g) hk hk,
    Ring.bigSep_rangeSet_head (Φ := fun t => lent c Y (blockRow tb ((i 0).val + 1) t) t.val) hk hk]
  iintro ⟨HT, HB, ⟨HL, HLs⟩, ⟨HS, HSs⟩⟩
  sl_unfold [Gen.k0_t2_body]
  sl_exec
  have hv : next_step.sl.r (F := F) i tb h1 h3 k = tb (tabAt ((512 * ((i 0).val + 1) + k.val) % 69632) (Nat.mod_lt _ (by omega))) := by
    unfold next_step.sl.r
    exact word tb _ _ ((Gen.k0_off8_eq i k).trans (by rw [show 512 * (i 0).val + k.val + 512 = 512 * ((i 0).val + 1) + k.val from by omega])) _ (by omega) _
  generalize next_step.sl.r (F := F) i tb h1 h3 k = v at *
  have hc : k0_chk2 i v := chk2_of i v (by rw [hv]; exact htb _)
  sl_exec
  iapply (issue c (slotOf ((i 0).val + 1)) Y (blockRow tb ((i 0).val + 1)) g ⟨k.val, hk⟩ (src_eq _ _ _ (by rw [hv]; exact off_row _ (htb _))) (dst_eq _ _ _ _ (off10_eq i k))
    (congrArg SemLoc.dma (sem_eq _ _ (slotOf ((i 0).val + 1)) (off9_eq i)))) $$ [HS HL HB]
  · isplitl [HS]
    · iexact HS
    isplitl [HL]
    · iexact HL
    · iexact HB
  iintro HB
  sl_exec
  sl_step
  isplitl [HT]
  · iexact HT
  isplitl [HB]
  · iexact HB
  isplitl [HLs]
  · iexact HLs
  · iexact HSs

end Issue

end Cert.Proof.Experts

end
-- ==== Proof.ExpertsBody.lean ====
/- The expert kernel's body at a grid point: at the first half of a block's hidden width it waits for the block's rows,
   starts the copies of the next block's and clears the accumulator; at both halves it adds the half's contribution; at the
   second it stores the block. -/
module

public import proofs.«01_k».proof.Proof.ExpertsGather
public import Idealize.ShloMosaic.Lib.VecWindow

@[expose] public section

noncomputable section

namespace Cert.Proof.Experts

open Cert.ExpertsIdeal
open Idealize.ShloMosaic.RefSig (tileCredit)
open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A program run in two pieces. -/
theorem cut {α β : Type} (c : Dev nD) {p : Prog (TpuEff nD τ sig (Elt F) Λ₀ .tc) α} {k : α → Prog (TpuEff nD τ sig (Elt F) Λ₀ .tc) β}
    {Q : β → sProp 𝕄} {P : sProp 𝕄} {R : α → sProp 𝕄}
    (h : P ⊢ wp frame (wpE (defs₀ (F := F)) Variants.none (c : Thread nD τ) none) Set.univ p R) :
    iprop(P ∗ (∀ a, R a -∗ wp frame (wpE (defs₀ (F := F)) Variants.none (c : Thread nD τ) none) Set.univ (k a) Q))
      ⊢ wp frame (wpE (defs₀ (F := F)) Variants.none (c : Thread nD τ) none) Set.univ (p >>= k) Q := by
  rw [wp_bind_eq]
  refine Entails.trans ?_ (wp_wand_r (Q := R) _ _ _)
  iintro ⟨HP, HK⟩
  isplitl [HP]
  · iapply h; iexact HP
  iexact HK

theorem pieces {α β : Type} (c : Dev nD) {p : Prog (TpuEff nD τ sig (Elt F) Λ₀ .tc) α} {k : α → Prog (TpuEff nD τ sig (Elt F) Λ₀ .tc) β} {Q : β → sProp 𝕄} :
    wp frame (wpE (defs₀ (F := F)) Variants.none (c : Thread nD τ) none) Set.univ p (fun a => wp frame (wpE (defs₀ (F := F)) Variants.none (c : Thread nD τ) none) Set.univ (k a) Q)
      ⊢ wp frame (wpE (defs₀ (F := F)) Variants.none (c : Thread nD τ) none) Set.univ (p >>= k) Q := by
  rw [wp_bind_eq]
  exact .rfl

section Pieces

variable (c : Dev nD)

/-- What stays in hand while the 512 copies into slot `s` are in flight. -/
def aside (s : Fin 2) (p : Fin 512 → Fin 33280) (Y : S33280x8x128.Idx → Elt F .f32) : sProp 𝕄 :=
  iprop((∃ g, slot c (oth s) g) ∗ semVal ((c : Thread nD τ), SemLoc.dma (slotSem (oth s))) 0 ∗ stays c Y p)

/-- Before a loop: the slot's rows, the rows to read, and a batch with none issued. -/
theorem start (s : Fin 2) (p : Fin 512 → Fin 33280) (Y : S33280x8x128.Idx → Elt F .f32) (tb : S69632.Idx → BitVec 32) :
    iprop(table c tb ∗ idleAt c s Y) ⊢ iprop(|={(Set.univ : Set ℕ)}=> ∃ g, issueAt c s p tb Y g 0 () ∗ aside c s p Y) := by
  unfold idleAt aside issueAt
  rw [Ring.rangeSet_univ, tokens_lent c Y p]
  iintro ⟨HT, ⟨%g, HS⟩, HO, Hq, Hq', HL, HY⟩
  ihave HR := (Entails.of_eq (slot_rows c s g)) $$ HS
  imod (Transfers.batch_alloc' (Lvl := ℕ) (countersEmb (U := Pipeline.UD sig nD τ)) (c : Thread nD τ) () rowCredit (del c s Y p) (sm := .dma (slotSem s)) (E := Set.univ)) $$ Hq with HB
  imodintro
  iexists g
  isplitl [HT HB HR HL]
  · isplitl [HT]; · iexact HT
    isplitl [HB]; · iexact HB
    isplitl [HR]; · iexact HR
    iexact HL
  isplitl [HO]; · iexact HO
  isplitl [Hq']; · iexact Hq'
  iexact HY

theorem finish (s : Fin 2) (p : Fin 512 → Fin 33280) (Y : S33280x8x128.Idx → Elt F .f32) (tb : S69632.Idx → BitVec 32) (g : S2x512x8x128.Idx → Elt F .f32) (u : Unit) :
    iprop(issueAt c s p tb Y g 512 u ∗ aside c s p Y) ⊢ iprop(table c tb ∗ pendAt c s p Y) := by
  unfold pendAt aside issueAt
  iintro ⟨⟨HT, HB, -⟩, HO, Hq', HY⟩
  isplitl [HT]; · iexact HT
  isplitl [HB]; · iexact HB
  isplitl [HO]; · iexact HO
  isplitl [Hq']; · iexact Hq'
  iexact HY

theorem land_credit (a : Memref sig .tc .vmem S512x8x128 .f32) : a.view.dmaCredit = 65536 := by
  show tileCredit S512x8x128 .f32 = 65536
  decide

/-- The wait for all 512 copies: the slot whole and the read rows back, -/
theorem wait_batch {β : Type} (s : Fin 2) (Y : S33280x8x128.Idx → Elt F .f32) (p : Fin 512 → Fin 33280) {W : Waits sig Unit}
    {src : Memref sig .tc .hbm S512x8x128 .f32} {dst : Memref sig .tc .vmem S512x8x128 .f32}
    {hsrc : src.view.WordExact} {hdst : dst.view.WordExact} {k : PUnit → Prog (TpuEff nD τ sig (Elt F) Λ₀ .tc) β} {Q : β → sProp 𝕄} :
    iprop(batch c s Y p 512 0 ∗ owes (c : Thread nD τ) 0 W)
      ⊢ iprop((iprop((slot c s (gathered p Y) ∗ bigSep Finset.univ (fun t : Fin 512 => lent c Y (p t) t.val)) ∗ semVal ((c : Thread nD τ), SemLoc.dma (slotSem s)) 0
              ∗ owes (c : Thread nD τ) 0 (insert (SemLoc.dma (slotSem s), ()) W))
            -∗ wp frame (wpE (defs₀ (F := F)) Variants.none (c : Thread nD τ) none) Set.univ (k ⟨⟩) Q)
          -∗ wp frame (wpE (defs₀ (F := F)) Variants.none (c : Thread nD τ) none) Set.univ (.op (.waitDma2 (slotSem s) src dst hsrc hdst) k) Q) := by
  rw [← del_all]
  exact Transfers.wp_waitBatchAll (countersEmb (U := Pipeline.UD sig nD τ)) Variants.none (c : Thread nD τ) none () (land_credit dst) (by decide) (by decide)

/-- and with them the tokens' array. -/
theorem wait {β : Type} (s : Fin 2) (Y : S33280x8x128.Idx → Elt F .f32) (p : Fin 512 → Fin 33280) {W : Waits sig Unit}
    {src : Memref sig .tc .hbm S512x8x128 .f32} {dst : Memref sig .tc .vmem S512x8x128 .f32} {sm : DmaSem sig} (hm : sm = slotSem s)
    {hsrc : src.view.WordExact} {hdst : dst.view.WordExact} {k : PUnit → Prog (TpuEff nD τ sig (Elt F) Λ₀ .tc) β} {Q : β → sProp 𝕄} :
    iprop(pendAt c s p Y ∗ owes (c : Thread nD τ) 0 W)
      ⊢ iprop((iprop(slot c s (gathered p Y) ∗ (∃ g, slot c (oth s) g) ∗ semVal ((c : Thread nD τ), SemLoc.dma (slotSem s)) 0
              ∗ semVal ((c : Thread nD τ), SemLoc.dma (slotSem (oth s))) 0 ∗ tokens c fullShare Y ∗ owes (c : Thread nD τ) 0 (insert (SemLoc.dma (slotSem s), ()) W))
            -∗ wp frame (wpE (defs₀ (F := F)) Variants.none (c : Thread nD τ) none) Set.univ (k ⟨⟩) Q)
          -∗ wp frame (wpE (defs₀ (F := F)) Variants.none (c : Thread nD τ) none) Set.univ (.op (.waitDma2 sm src dst hsrc hdst) k) Q) := by
  subst hm
  unfold pendAt
  iintro ⟨⟨HB, HO, Hq', HY⟩, HW⟩ Hk
  iapply (wait_batch c s Y p) $$ [HB HW]
  · isplitl [HB]; · iexact HB
    iexact HW
  iintro ⟨⟨HS, HL⟩, Hq, HW⟩
  iapply Hk
  isplitl [HS]; · iexact HS
  isplitl [HO]; · iexact HO
  isplitl [Hq]; · iexact Hq
  isplitl [Hq']; · iexact Hq'
  isplitl [HL HY]
  · iapply (Entails.of_eq (tokens_lent c Y p).symm)
    isplitl [HL]; · iexact HL
    iexact HY
  iexact HW

/-- The landing buffer, the block in the products' format and the accumulator, whole. -/
abbrev landing (g : S2x512x8x128.Idx → Elt F .f32) : sProp 𝕄 :=
  (Memref.whole cc0_scratch0 : Memref sig .tc .vmem S2x512x8x128 .f32).view.loc (c : Thread nD τ) ↦{fullShare} g
abbrev xbuf (d : S512x1024.Idx → Elt F .bf16) : sProp 𝕄 :=
  (Memref.whole cc0_scratch1 : Memref sig .tc .vmem S512x1024 .bf16).view.loc (c : Thread nD τ) ↦{fullShare} d
abbrev accu (d : S512x1024.Idx → Elt F .f32) : sProp 𝕄 :=
  (Memref.whole cc0_scratch2 : Memref sig .tc .vmem S512x1024 .f32).view.loc (c : Thread nD τ) ↦{fullShare} d

/-- The rows a slot holds, as the kernel loads them. -/
def blockRows (p : Fin 512 → Fin 33280) (Y : S33280x8x128.Idx → Elt F .f32) : Vec F S1x512x8x128 .f32 := fun z => Y (tokAt (p (z 1)) (z 2) (z 3))

/-- The landing buffer, with slot `s` filled and whatever the other holds. -/
def filled (s : Fin 2) (p : Fin 512 → Fin 33280) (Y : S33280x8x128.Idx → Elt F .f32) (g : S2x512x8x128.Idx → Elt F .f32) : S2x512x8x128.Idx → Elt F .f32 :=
  fun y => if (y 0).val = s.val then gathered p Y y else g y

theorem filled_whole (s : Fin 2) (p : Fin 512 → Fin 33280) (Y : S33280x8x128.Idx → Elt F .f32) (g : S2x512x8x128.Idx → Elt F .f32) :
    iprop(slot c s (gathered p Y) ∗ slot c (oth s) g) ⊢ landing c (filled s p Y g) := by
  refine Entails.trans ?_ (Entails.of_eq (slots_whole c s (filled s p Y g)).symm)
  have e1 : (slot c s (gathered p Y) : sProp 𝕄) = slot c s (filled s p Y g) :=
    pointsTo_congr fun y hy => (if_pos ((mem_slotSet s y).mp hy)).symm
  have e2 : (slot c (oth s) g : sProp 𝕄) = slot c (oth s) (filled s p Y g) :=
    pointsTo_congr fun y hy => (if_neg (fun h => oth_ne s (Fin.ext (((mem_slotSet (oth s) y).mp hy).symm.trans h)))).symm
  rw [e1, e2]

theorem filled_read (i : grid0.Coords) (p : Fin 512 → Fin 33280) (Y : S33280x8x128.Idx → Elt F .f32) (g : S2x512x8x128.Idx → Elt F .f32)
    (h : ∀ a, k0_off7 i a + S1x512x8x128.size a ≤ S2x512x8x128.size a) :
    View.readAt (Elt F) (Memref.whole cc0_scratch0 : Memref sig .tc .vmem S2x512x8x128 .f32).view (Rect.unit (s := S2x512x8x128) (k0_off7 i) S1x512x8x128.size h).toLoadRect
      (filled (slotOf (i 0).val) p Y g) = blockRows p Y := by
  generalize ho : k0_off7 i = off at h
  rw [off7_eq i] at ho
  subst ho
  funext z
  have hz : (z 0).val = 0 := by have : (z 0).val < 1 := (z 0).isLt; omega
  show filled (slotOf (i 0).val) p Y g ((Rect.unit (s := S2x512x8x128) ![(i 0).val % 2, 0, 0, 0] S1x512x8x128.size h).emb z) = _
  unfold filled
  refine (if_pos (show (i 0).val % 2 + 1 * (z 0).val = (i 0).val % 2 by omega)).trans ?_
  unfold gathered blockRows
  have h1 : ((Rect.unit (s := S2x512x8x128) ![(i 0).val % 2, 0, 0, 0] S1x512x8x128.size h).emb z) 1 = z 1 := Fin.ext (by show 0 + 1 * (z 1).val = _; omega)
  have h2 : ((Rect.unit (s := S2x512x8x128) ![(i 0).val % 2, 0, 0, 0] S1x512x8x128.size h).emb z) 2 = z 2 := Fin.ext (by show 0 + 1 * (z 2).val = _; omega)
  have h3 : ((Rect.unit (s := S2x512x8x128) ![(i 0).val % 2, 0, 0, 0] S1x512x8x128.size h).emb z) 3 = z 3 := Fin.ext (by show 0 + 1 * (z 3).val = _; omega)
  rw [h1, h2, h3]

end Pieces

section Gathers

variable (c : Dev nD) (i : grid0.Coords)
variable (arg2 : Memref sig .tc .smem S136 .i32) (harg2 : arg2.IsWhole)
    (arg5 : Memref sig .tc .vmem S1x1024x1792 .bf16) (harg5 : arg5.IsWhole) (arg6 : Memref sig .tc .vmem S1x1024x1792 .bf16) (harg6 : arg6.IsWhole)
    (arg7 : Memref sig .tc .vmem S1x1792x1024 .bf16) (harg7 : arg7.IsWhole) (arg8 : Memref sig .tc .vmem S512x8x128 .f32) (harg8 : arg8.IsWhole)

set_option maxHeartbeats 1000000 in
/-- The first block's copies, started at the first point. -/
theorem first_gather (tb : S69632.Idx → BitVec 32) (htb : RowsNamed tb) (Y : S33280x8x128.Idx → Elt F .f32) (arg0 : BitVec 32) (h1 : k0_cond1 i = 1#1)
    {β : Type} (K : Prog (TpuEff nD τ sig (Elt F) Λ₀ .tc) β) (Q : β → sProp 𝕄) :
    iprop((table c tb ∗ flight c tb Y (i 0).val)
      ∗ (iprop(table c tb ∗ pendAt c (slotOf (i 0).val) (blockRow tb (i 0).val) Y) -∗ wp frame (wpE (defs₀ (F := F)) Variants.none (c : Thread nD τ) none) Set.univ K Q)) ⊢ wp frame (wpE (defs₀ (F := F)) Variants.none (c : Thread nD τ) none) Set.univ
      (if k0_h2 : k0_cond2 i = 1#1 then do
        Scf.Loop.for k0_t1_loop (Gen.k0_t1_ok i h1 k0_h2) ⟨⟩ (Gen.k0_t1_body i arg2 harg2 (Memref.whole main_arg1) (Memref.isWhole_whole _) (Memref.whole main_arg2) (Memref.isWhole_whole _)
          arg5 harg5 arg6 harg6 arg7 harg7 arg8 harg8 (Memref.whole cc0_scratch0) (Memref.isWhole_whole _) (Memref.whole cc0_scratch1) (Memref.isWhole_whole _)
          (Memref.whole cc0_scratch2) (Memref.isWhole_whole _) cc0_scratch3 arg0 h1 k0_h2)
        K
      else K : Prog (TpuEff nD τ sig (Elt F) Λ₀ .tc) β) Q := by
  by_cases h2 : k0_cond2 i = 1#1
  · have h0 := (cond2_iff i).mp h2
    rw [dif_pos h2, h0]
    unfold flight
    rw [if_pos rfl]
    iintro ⟨⟨HT, HF⟩, Hk⟩
    imod (start c (slotOf 0) (blockRow tb 0) Y tb) $$ [HT HF] with ⟨%g, HI, HA⟩
    · isplitl [HT]; · iexact HT
      iexact HF
    sl_for (issueAt c (slotOf 0) (blockRow tb 0) tb Y g) $$ [HI]
    · intro k acc; exact first_step c i tb htb Y g arg2 harg2 arg5 harg5 arg6 harg6 arg7 harg7 arg8 harg8 arg0 h1 h2 k acc
    · iexact HI
    iintro %acc HI
    iapply Hk
    iapply (finish c (slotOf 0) (blockRow tb 0) Y tb g acc)
    isplitl [HI]
    · rw [← trips1]; iexact HI
    iexact HA
  · have h0 : (i 0).val ≠ 0 := fun h => h2 ((cond2_iff i).mpr h)
    have hlt : (i 0).val < 136 := (i 0).isLt
    rw [dif_neg h2]
    unfold flight
    rw [if_neg h0, if_pos hlt]
    iintro ⟨H, Hk⟩
    iapply Hk
    iexact H

set_option maxHeartbeats 1000000 in
/-- The next block's copies, started once the block's own have landed. -/
theorem next_gather (tb : S69632.Idx → BitVec 32) (htb : RowsNamed tb) (Y : S33280x8x128.Idx → Elt F .f32) (h1 : k0_cond1 i = 1#1)
    {β : Type} (K : Prog (TpuEff nD τ sig (Elt F) Λ₀ .tc) β) (Q : β → sProp 𝕄) :
    iprop((table c tb ∗ idleAt c (slotOf (i 0).val) Y)
      ∗ (iprop(table c tb ∗ flight c tb Y ((i 0).val + 1)) -∗ wp frame (wpE (defs₀ (F := F)) Variants.none (c : Thread nD τ) none) Set.univ K Q)) ⊢ wp frame (wpE (defs₀ (F := F)) Variants.none (c : Thread nD τ) none) Set.univ
      (if k0_h3 : k0_cond3 i = 1#1 then do
        Scf.Loop.for k0_t2_loop (Gen.k0_t2_ok i h1 k0_h3) ⟨⟩ (Gen.k0_t2_body i arg2 harg2 (Memref.whole main_arg1) (Memref.isWhole_whole _) (Memref.whole main_arg2) (Memref.isWhole_whole _)
          arg5 harg5 arg6 harg6 arg7 harg7 arg8 harg8 (Memref.whole cc0_scratch0) (Memref.isWhole_whole _) (Memref.whole cc0_scratch1) (Memref.isWhole_whole _)
          (Memref.whole cc0_scratch2) (Memref.isWhole_whole _) cc0_scratch3 h1 k0_h3)
        K
      else K : Prog (TpuEff nD τ sig (Elt F) Λ₀ .tc) β) Q := by
  by_cases h3 : k0_cond3 i = 1#1
  · have hlt := (cond3_iff i).mp h3
    rw [dif_pos h3]
    unfold flight
    rw [if_neg (Nat.succ_ne_zero _), if_pos hlt]
    have es : slotOf (i 0).val = oth (slotOf ((i 0).val + 1)) := by rw [slotOf_succ, oth_oth]
    rw [es]
    have e := idleAt_oth c (slotOf ((i 0).val + 1)) Y
    iintro ⟨⟨HT, HF⟩, Hk⟩
    ihave HF' := e $$ HF
    imod (start c (slotOf ((i 0).val + 1)) (blockRow tb ((i 0).val + 1)) Y tb) $$ [HT HF'] with ⟨%g, HI, HA⟩
    · isplitl [HT]; · iexact HT
      iexact HF'
    sl_for (issueAt c (slotOf ((i 0).val + 1)) (blockRow tb ((i 0).val + 1)) tb Y g) $$ [HI]
    · intro k acc; exact next_step c i tb htb Y g arg2 harg2 arg5 harg5 arg6 harg6 arg7 harg7 arg8 harg8 h1 h3 k acc
    · iexact HI
    iintro %acc HI
    iapply Hk
    iapply (finish c (slotOf ((i 0).val + 1)) (blockRow tb ((i 0).val + 1)) Y tb g acc)
    isplitl [HI]
    · rw [← trips2]; iexact HI
    iexact HA
  · have hlt : ¬ (i 0).val + 1 < 136 := fun h => h3 ((cond3_iff i).mpr h)
    rw [dif_neg h3]
    unfold flight
    rw [if_neg (Nat.succ_ne_zero _), if_neg hlt]
    have hs : slotOf (i 0).val = oth (slotOf 0) := by
      have : (i 0).val < 136 := (i 0).isLt
      refine Fin.ext ?_
      show (i 0).val % 2 = 1 - 0 % 2
      omega
    rw [hs]
    have e := idleAt_oth c (slotOf 0) Y
    iintro ⟨⟨HT, HF⟩, Hk⟩
    iapply Hk
    isplitl [HT]; · iexact HT
    iapply e; iexact HF

/-- The block of rows in the format of the products. -/
def xblk (tb : S69632.Idx → BitVec 32) (Y : S33280x8x128.Idx → Elt F .f32) (n : ℕ) : Vec F S512x1024 .bf16 := Gen.k0_pay2 (blockRows (blockRow tb n) Y)

set_option maxHeartbeats 2000000 in
theorem part1_run (tb : S69632.Idx → BitVec 32) (htb : RowsNamed tb) (Y : S33280x8x128.Idx → Elt F .f32) (arg0 : BitVec 32) (h1 : k0_cond1 i = 1#1) (W : Waits sig Unit) :
    iprop(table c tb ∗ flight c tb Y (i 0).val ∗ (∃ d, xbuf c d) ∗ (∃ d, accu c d) ∗ owes (c : Thread nD τ) 0 W)
      ⊢ wp frame (wpE (defs₀ (F := F)) Variants.none (c : Thread nD τ) none) Set.univ
      (k0_part1 i arg2 harg2 (Memref.whole main_arg1) (Memref.isWhole_whole _) (Memref.whole main_arg2) (Memref.isWhole_whole _)
          arg5 harg5 arg6 harg6 arg7 harg7 arg8 harg8 (Memref.whole cc0_scratch0) (Memref.isWhole_whole _) (Memref.whole cc0_scratch1) (Memref.isWhole_whole _)
          (Memref.whole cc0_scratch2) (Memref.isWhole_whole _) cc0_scratch3 arg0 h1)
      (fun _ => iprop(table c tb ∗ idleAt c (slotOf (i 0).val) Y
        ∗ xbuf c (xblk tb Y (i 0).val) ∗ accu c (Gen.k0_pay3 (F := F)) ∗ (∃ W', owes (c : Thread nD τ) 0 W'))) := by
  rw [Gen.k0_part1_eq_skeleton]
  unfold Gen.k0_part1_skel
  dsimp only
  iintro ⟨HT, HF, ⟨%d1, H1⟩, ⟨%d2, H2⟩, HW⟩
  iapply (first_gather c i arg2 harg2 arg5 harg5 arg6 harg6 arg7 harg7 arg8 harg8 tb htb Y arg0 h1)
  isplitl [HT HF]
  · isplitl [HT]; · iexact HT
    iexact HF
  iintro ⟨HT, HP⟩
  dsimp only [Prog.bind]
  iapply (wait c (slotOf (i 0).val) Y (blockRow tb (i 0).val) (sem_eq _ _ (slotOf (i 0).val) (off5_eq i))) $$ [HP HW]
  · isplitl [HP]; · iexact HP
    iexact HW
  iintro ⟨HS, ⟨%g, HO⟩, Hq, Hq', HY, HW⟩
  ihave HL := (filled_whole c (slotOf (i 0).val) (blockRow tb (i 0).val) Y g) $$ [HS HO]
  · isplitl [HS]; · iexact HS
    iexact HO
  dsimp only [Prog.bind]
  sl_exec
  sl_step
  have e1 : Gen.k0_pay2 (part1_run.sl.v50 i tb Y h1 g) = xblk tb Y (i 0).val := by
    unfold xblk part1_run.sl.v50
    exact congrArg Gen.k0_pay2 (filled_read i _ _ _ _)
  ihave HSO := (Entails.of_eq (slots_whole c (slotOf (i 0).val) _)) $$ HL
  icases HSO with ⟨HS, HO⟩
  isplitl [HT]; · iexact HT
  isplitl [HS HO Hq Hq' HY]
  · unfold idleAt
    isplitl [HS]; · iexists _; iexact HS
    isplitl [HO]; · iexists _; iexact HO
    isplitl [Hq]; · iexact Hq
    isplitl [Hq']; · iexact Hq'
    iexact HY
  isplitl [H1]
  · iapply (Entails.of_eq (congrArg (xbuf c) ((View.read_writes_full (Val := Elt F) (Memref.whole cc0_scratch1 : Memref sig .tc .vmem S512x1024 .bf16).view _ _ _ _).trans e1)))
    iexact H1
  isplitl [H2]
  · iapply (Entails.of_eq (congrArg (accu c) (View.read_writes_full (Val := Elt F) (Memref.whole cc0_scratch2 : Memref sig .tc .vmem S512x1024 .f32).view _ _ _ _)))
    iexact H2
  iexists _; iexact HW

omit c i in
theorem pay4_congr {x x' : Vec F S512x1024 .bf16} {g g' u u' : Vec F S1x1024x1792 .bf16} {a a' : Vec F S512x1024 .f32} {w w' : Vec F S1x1792x1024 .bf16}
    (hx : x = x') (hg : g = g') (hu : u = u') (ha : a = a') (hw : w = w') : Gen.k0_pay4 x g u a w = Gen.k0_pay4 x' g' u' a' w' := by
  rw [hx, hg, hu, ha, hw]

set_option maxHeartbeats 2000000 in
/-- The first half of a block's work: its rows taken, the next block's asked for, the first half's contribution in the accumulator. -/
theorem body_first (tb : S69632.Idx → BitVec 32) (htb : RowsNamed tb) (Y : S33280x8x128.Idx → Elt F .f32) (hi : (i 1).val = 0) (W : Waits sig Unit)
    (wg wu : Vec F S1x1024x1792 .bf16) (wd : Vec F S1x1792x1024 .bf16) (K : PUnit → sProp 𝕄) :
    iprop(table c tb ∗ flight c tb Y (i 0).val ∗ (∃ d, xbuf c d) ∗ (∃ d, accu c d) ∗ owes (c : Thread nD τ) 0 W
        ∗ owns (c : Thread nD τ) arg5 fullShare wg ∗ owns (c : Thread nD τ) arg6 fullShare wu ∗ owns (c : Thread nD τ) arg7 fullShare wd
        ∗ (iprop(table c tb ∗ flight c tb Y ((i 0).val + 1) ∗ xbuf c (xblk tb Y (i 0).val)
            ∗ accu c (Gen.k0_pay4 (xblk tb Y (i 0).val) wg wu (Gen.k0_pay3 (F := F)) wd) ∗ (∃ W', owes (c : Thread nD τ) 0 W')
            ∗ owns (c : Thread nD τ) arg5 fullShare wg ∗ owns (c : Thread nD τ) arg6 fullShare wu ∗ owns (c : Thread nD τ) arg7 fullShare wd) -∗ K ⟨⟩))
      ⊢ wp frame (wpE (defs₀ (F := F)) Variants.none (c : Thread nD τ) none) Set.univ
      (cc0_moe_experts i arg2 harg2 (Memref.whole main_arg1) (Memref.isWhole_whole _) (Memref.whole main_arg2) (Memref.isWhole_whole _)
          arg5 harg5 arg6 harg6 arg7 harg7 arg8 harg8 (Memref.whole cc0_scratch0) (Memref.isWhole_whole _) (Memref.whole cc0_scratch1) (Memref.isWhole_whole _)
          (Memref.whole cc0_scratch2) (Memref.isWhole_whole _) cc0_scratch3) K := by
  have h1 : k0_cond1 i = 1#1 := (cond1_iff i).mpr hi
  have h4 : ¬ k0_cond4 i = 1#1 := fun h => by have := (cond4_iff i).mp h; omega
  rw [Gen.cc0_moe_experts_eq_skeleton]
  unfold Gen.cc0_moe_experts_skel
  rw [Gen.k0_part2_eq_skeleton]
  unfold Gen.k0_part2_skel owns
  dsimp only
  rw [dif_pos h1, dif_neg h4]
  simp only [bind_assoc]
  iintro ⟨HT, HF, H1, H2, HW, ⟨%f5, %hf5, H5⟩, ⟨%f6, %hf6, H6⟩, ⟨%f7, %hf7, H7⟩, Hk⟩
  obtain rfl := harg5.eq_unread hf5
  obtain rfl := harg6.eq_unread hf6
  obtain rfl := harg7.eq_unread hf7
  iapply (cut c (part1_run c i arg2 harg2 arg5 harg5 arg6 harg6 arg7 harg7 arg8 harg8 tb htb Y _ h1 W))
  isplitl [HT HF H1 H2 HW]
  · isplitl [HT]; · iexact HT
    isplitl [HF]; · iexact HF
    isplitl [H1]; · iexact H1
    isplitl [H2]; · iexact H2
    iexact HW
  iintro %a ⟨HT, HF, H1, H2, ⟨%W', HW⟩⟩
  iapply (pieces c)
  iapply (next_gather c i arg2 harg2 arg5 harg5 arg6 harg6 arg7 harg7 arg8 harg8 tb htb Y h1)
  isplitl [HT HF]
  · isplitl [HT]; · iexact HT
    iexact HF
  iintro ⟨HT, HF⟩
  sl_exec
  sl_step
  have e3 : body_first.sl.v3 (F := F) i tb Y = xblk tb Y (i 0).val := by
    unfold body_first.sl.v3
    exact View.readAt_full _ _ _
  have e5 := (View.readAt_full arg5.view (harg5.unread wg) Gen.inb_S1x1024x1792_S1x1024x1792_0_0_0).trans hf5
  have e6 := (View.readAt_full arg6.view (harg6.unread wu) Gen.inb_S1x1024x1792_S1x1024x1792_0_0_0).trans hf6
  have e7 := (View.readAt_full arg7.view (harg7.unread wd) Gen.inb_S1x1792x1024_S1x1792x1024_0_0_0).trans hf7
  have ea := View.readAt_full (Val := Elt F) (Memref.whole cc0_scratch2 : Memref sig .tc .vmem S512x1024 .f32).view (Gen.k0_pay3 (F := F)) Gen.inb_S512x1024_S512x1024_0_0
  iapply Hk
  isplitl [HT]; · iexact HT
  isplitl [HF]; · iexact HF
  isplitl [H1]; · iexact H1
  isplitl [H2]
  · iapply (Entails.of_eq (congrArg (accu c) ((View.read_writes_full (Val := Elt F) (Memref.whole cc0_scratch2 : Memref sig .tc .vmem S512x1024 .f32).view _ _ _ _).trans
      (pay4_congr e3 e5 e6 ea e7))))
    iexact H2
  isplitl [HW]; · iexists _; iexact HW
  isplitl [H5]
  · iexists _; isplitr; · ipureintro; exact harg5.read_unread _
    iexact H5
  isplitl [H6]
  · iexists _; isplitr; · ipureintro; exact harg6.read_unread _
    iexact H6
  iexists _; isplitr; · ipureintro; exact harg7.read_unread _
  iexact H7

set_option maxHeartbeats 2000000 in
/-- The second half of a block's work: its contribution added, the block written. -/
theorem body_second (hi : (i 1).val = 1) (W : Waits sig Unit) (xb : Vec F S512x1024 .bf16) (acc : Vec F S512x1024 .f32)
    (wg wu : Vec F S1x1024x1792 .bf16) (wd : Vec F S1x1792x1024 .bf16) (K : PUnit → sProp 𝕄) :
    iprop(xbuf c xb ∗ accu c acc ∗ owes (c : Thread nD τ) 0 W
        ∗ owns (c : Thread nD τ) arg5 fullShare wg ∗ owns (c : Thread nD τ) arg6 fullShare wu ∗ owns (c : Thread nD τ) arg7 fullShare wd
        ∗ (∃ d, owns (c : Thread nD τ) arg8 fullShare d)
        ∗ (iprop((∃ d, xbuf c d) ∗ (∃ d, accu c d) ∗ (∃ W', owes (c : Thread nD τ) 0 W')
            ∗ owns (c : Thread nD τ) arg5 fullShare wg ∗ owns (c : Thread nD τ) arg6 fullShare wu ∗ owns (c : Thread nD τ) arg7 fullShare wd
            ∗ owns (c : Thread nD τ) arg8 fullShare (Gen.k0_pay1 (Gen.k0_pay4 xb wg wu acc wd))) -∗ K ⟨⟩))
      ⊢ wp frame (wpE (defs₀ (F := F)) Variants.none (c : Thread nD τ) none) Set.univ
      (cc0_moe_experts i arg2 harg2 (Memref.whole main_arg1) (Memref.isWhole_whole _) (Memref.whole main_arg2) (Memref.isWhole_whole _)
          arg5 harg5 arg6 harg6 arg7 harg7 arg8 harg8 (Memref.whole cc0_scratch0) (Memref.isWhole_whole _) (Memref.whole cc0_scratch1) (Memref.isWhole_whole _)
          (Memref.whole cc0_scratch2) (Memref.isWhole_whole _) cc0_scratch3) K := by
  have h1 : ¬ k0_cond1 i = 1#1 := fun h => by have := (cond1_iff i).mp h; omega
  have h4 : k0_cond4 i = 1#1 := (cond4_iff i).mpr hi
  rw [Gen.cc0_moe_experts_eq_skeleton]
  unfold Gen.cc0_moe_experts_skel
  rw [Gen.k0_part2_eq_skeleton]
  unfold Gen.k0_part2_skel owns
  dsimp only
  rw [dif_neg h1, dif_pos h4]
  simp only [bind_assoc]
  iintro ⟨H1, H2, HW, ⟨%f5, %hf5, H5⟩, ⟨%f6, %hf6, H6⟩, ⟨%f7, %hf7, H7⟩, ⟨%d8, %f8, %hf8, H8⟩, Hk⟩
  obtain rfl := harg5.eq_unread hf5
  obtain rfl := harg6.eq_unread hf6
  obtain rfl := harg7.eq_unread hf7
  sl_exec
  sl_step
  have e5 := (View.readAt_full arg5.view (harg5.unread wg) Gen.inb_S1x1024x1792_S1x1024x1792_0_0_0).trans hf5
  have e6 := (View.readAt_full arg6.view (harg6.unread wu) Gen.inb_S1x1024x1792_S1x1024x1792_0_0_0).trans hf6
  have e7 := (View.readAt_full arg7.view (harg7.unread wd) Gen.inb_S1x1792x1024_S1x1792x1024_0_0_0).trans hf7
  have ea := View.readAt_full (Val := Elt F) (Memref.whole cc0_scratch2 : Memref sig .tc .vmem S512x1024 .f32).view acc Gen.inb_S512x1024_S512x1024_0_0
  have ex := View.readAt_full (Val := Elt F) (Memref.whole cc0_scratch1 : Memref sig .tc .vmem S512x1024 .bf16).view xb Gen.inb_S512x1024_S512x1024_0_0
  have ev : body_second.sl.v31 arg5 harg5 arg6 harg6 arg7 harg7 xb acc wg wu wd = Gen.k0_pay4 xb wg wu acc wd := by
    unfold body_second.sl.v31 body_second.sl.H2_1
    exact (View.readCov_full (Val := Elt F) (Memref.whole cc0_scratch2 : Memref sig .tc .vmem S512x1024 .f32).view Gen.inb_S512x1024_S512x1024_0_0
      Gen.inb_S512x1024_S512x1024_0_0 _ []).trans (pay4_congr ex e5 e6 ea e7)
  iapply Hk
  isplitl [H1]; · iexists _; iexact H1
  isplitl [H2]; · iexists _; iexact H2
  isplitl [HW]; · iexists _; iexact HW
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr; swap; · iexact H8
  ipureintro
  refine (View.read_writes_full _ _ _ _ _).trans ?_
  rw [ev]

end Gathers

end Cert.Proof.Experts

end
-- ==== Proof.ExpertsLaunch.lean ====
/- The expert kernel launched: the blocks the tables choose, the region's proof data, the body at every grid point, the run
   of the program, and its frame. -/
module

public import proofs.«01_k».proof.Proof.ExpertsBody
public import proofs.«01_k».proof.Proof.Gen.ExpertsIdeal.Launch
public import Idealize.ShloMosaic.Lib.PairWhole
public import Idealize.ShloMosaic.Lib.Pipeline.FrameBody
public import Idealize.ShloMosaic.Lib.Pipeline.Value
public import Idealize.ShloMosaic.Lib.StableHlo.RunRead
public import Idealize.ShloMosaic.Lib.Claim

@[expose] public section

set_option maxRecDepth 16384

noncomputable section

namespace Cert.Proof.Experts

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## The blocks the table of experts chooses -/

/-- Entry `n` of the table of experts. -/
abbrev expAt (n : ℕ) (h : n < 136) : S136.Idx := fun | 0 => (⟨n, h⟩ : Fin 136)

/-- The expert of block `n`. -/
def expertOf (bl : S136.Idx → BitVec 32) (n : ℕ) : ℕ := (bl (expAt (n % 136) (Nat.mod_lt _ (by omega)))).toNat

/-- The table names experts that exist. -/
def ExpertsNamed (bl : S136.Idx → BitVec 32) : Prop := ∀ j, (bl j).toNat < 8

theorem first_off : ∀ i : grid0.Coords, (![(Scalar.indexCast (BitVec.ofNat 32 (i 0).val)).toNat] : Fin 1 → ℕ) = ![(i 0).val] := by decide +kernel
theorem col_val : ∀ i : grid0.Coords, (BitVec.ofNat 32 (i 1).val).toNat = (i 1).val := by decide +kernel
theorem col2_val : ∀ i : grid0.Coords, (Scalar.addi 2#32 (BitVec.ofNat 32 (i 1).val)).toNat = 2 + (i 1).val := by decide +kernel

theorem word_expert (pf : pre0.Contents (Elt F)) (off : Fin 1 → ℕ) (n : ℕ) (hn : n < 136) (ho : off = ![n]) (h : ∀ a, off a + S1.size a ≤ S136.size a) :
    (pf.at 0 (Rect.unit (s := S136) off S1.size h) numel1_S1 : BitVec 32).toNat = expertOf (pf 0) n := by
  subst ho
  unfold expertOf
  refine congrArg BitVec.toNat ?_
  show pf 0 _ = pf 0 _
  refine congrArg (pf 0) (funext fun a => ?_)
  have hz : ∀ z : S1.Idx, (z 0).val = 0 := fun z => by have : (z 0).val < 1 := (z 0).isLt; omega
  fin_cases a
  refine Fin.ext ?_
  refine (congrArg (fun k => n + 1 * k) (hz _)).trans ?_
  show n + 1 * 0 = n % 136
  rw [Nat.mod_eq_of_lt hn]; omega

theorem three {a a' b b' e e' : ℕ} (ha : a = a') (hb : b = b') (he : e = e') : (![a, b, e] : Fin 3 → ℕ) = ![a', b', e'] := by rw [ha, hb, he]

theorem transform_1_eq (pf : pre0.Contents (Elt F)) (i : grid0.Coords) :
    cc0_transform_1 k0_off1_inb numel1_S1 pf i = ![expertOf (pf 0) (i 0).val, 0, (i 1).val] :=
  three (word_expert pf _ _ (i 0).isLt (first_off i) _) rfl (col_val i)
theorem transform_2_eq (pf : pre0.Contents (Elt F)) (i : grid0.Coords) :
    cc0_transform_2 k0_off1_inb numel1_S1 pf i = ![expertOf (pf 0) (i 0).val, 0, 2 + (i 1).val] :=
  three (word_expert pf _ _ (i 0).isLt (first_off i) _) rfl (col2_val i)
theorem transform_3_eq (pf : pre0.Contents (Elt F)) (i : grid0.Coords) :
    cc0_transform_3 k0_off1_inb numel1_S1 pf i = ![expertOf (pf 0) (i 0).val, (i 1).val, 0] :=
  three (word_expert pf _ _ (i 0).isLt (first_off i) _) (col_val i) rfl

theorem words_gu (off : Fin 3 → ℕ) (x y : ℕ) (hx : x < 8) (hy : y < 4) (ho : off = ![x, 0, y]) :
    ∃ h : (∀ a, (off a + 1) * S1x1024x1792.size a ≤ S8x1024x7168.size a), EltTy.bits .bf16 = 32 ∨ (Rect.block (s := S8x1024x7168) S1x1024x1792.size off h).WholeWords (EltTy.packing .bf16) := by
  subst ho
  refine ⟨fun a => ?_, Or.inr ?_⟩
  · fin_cases a
    · show (x + 1) * 1 ≤ 8; omega
    · show (0 + 1) * 1024 ≤ 1024; omega
    · show (y + 1) * 1792 ≤ 7168; omega
  · refine Or.inr ⟨by decide, rfl, rfl, rfl⟩

theorem words_d (off : Fin 3 → ℕ) (x y : ℕ) (hx : x < 8) (hy : y < 2) (ho : off = ![x, y, 0]) :
    ∃ h : (∀ a, (off a + 1) * S1x1792x1024.size a ≤ S8x3584x1024.size a), EltTy.bits .bf16 = 32 ∨ (Rect.block (s := S8x3584x1024) S1x1792x1024.size off h).WholeWords (EltTy.packing .bf16) := by
  subst ho
  refine ⟨fun a => ?_, Or.inr ?_⟩
  · fin_cases a
    · show (x + 1) * 1 ≤ 8; omega
    · show (y + 1) * 1792 ≤ 3584; omega
    · show (0 + 1) * 1024 ≤ 1024; omega
  · refine Or.inl (Or.inr ⟨by decide, rfl, Or.inl ⟨?_, ?_⟩⟩)
    · show 2 ∣ y * 1792; omega
    · show 2 ∣ 1792; omega

theorem ok_of (pf : pre0.Contents (Elt F)) (h : ExpertsNamed (pf 0)) : ok0 pf :=
  ⟨fun i => words_gu _ _ _ (h _) (by have : (i 1).val < 2 := (i 1).isLt; omega) (transform_1_eq pf i),
   fun i => words_gu _ _ _ (h _) (by have : (i 1).val < 2 := (i 1).isLt; omega) (transform_2_eq pf i),
   fun i => words_d _ _ _ (h _) (i 1).isLt (transform_3_eq pf i)⟩

/-! ## Core `c`'s buffers when the region is entered: as launched -/

variable (m : (ℓ : Loc nD τ sig) → Buf (Elt F) ℓ) (ρ : Dev nD → PrngReg)

def V (c : Dev nD) (b : Ref sig .tc) : Buf (Elt F) ((c : Thread nD τ).loc b) := m ((c : Thread nD τ).loc b)

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

/-- The tables' contents. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- The table of experts and the table of tokens. -/
def expTable : S136.Idx → BitVec 32 := tbl m 0
def tokTable : S69632.Idx → BitVec 32 := tbl m 1
theorem expTable_eq : expTable m = m (((0 : Dev nD) : Thread nD τ).loc main_arg0) := rfl
theorem tokTable_eq : tokTable m = m (((0 : Dev nD) : Thread nD τ).loc main_arg1) := rfl

/-- The table of experts, read-only. -/
abbrev experts (c : Dev nD) (bl : S136.Idx → BitVec 32) : sProp 𝕄 :=
  (Memref.whole main_arg0 : Memref sig .tc .smem S136 .i32).view.loc (c : Thread nD τ) ↦{fullShare.right} bl

theorem PhiT0_eq (c : Dev nD) : (Pipeline.ΦT pre0 (tbl m) c : sProp 𝕄) = iprop(experts c (expTable m) ∗ table c (tokTable m)) := by
  unfold Pipeline.ΦT Pipeline.prefHeld
  rw [bigSep_univ_eq_bigSepL [(0 : Fin 2), (1 : Fin 2)] (by decide) (by decide)]
  rfl

variable (hE : ExpertsNamed (expTable m))

abbrev adm : (pcfg0 (F := F)).Adm := ⟨tbl m, ok_of (tbl m) hE⟩
abbrev cfgM : Pipeline.Cfg sig Λ₀ := cfg0 (adm m hE)

/-! ## The grid -/

theorem coord0 : ∀ t : Fin grid0.N, (grid0.coords t 0).val = t.val / 2 := by decide +kernel
theorem coord1 : ∀ t : Fin grid0.N, (grid0.coords t 1).val = t.val % 2 := by decide +kernel
theorem transform_4_val : ∀ t : Fin grid0.N, cc0_transform_4 (grid0.coords t) = ![t.val / 2, 0, 0] := by decide +kernel

/-- The point before point `n`. -/
def prev (n : ℕ) : Fin grid0.N := ⟨(n - 1) % 272, Nat.mod_lt _ (by omega)⟩
theorem prev_succ (t : Fin grid0.N) : prev (t.val + 1) = t := Fin.ext (Nat.mod_eq_of_lt (by have : t.val < 272 := t.isLt; omega))

/-! ## The windows' blocks -/

def iblk (c : Dev nD) (w : Fin (cfgM m hE).W) (t : Fin (cfgM m hE).N) :
    (((cfgM m hE).win w).xblock ((cfgM m hE).grid.coords t)).Idx → Elt F ((cfgM m hE).win w).elt :=
  (((cfgM m hE).win w).blk t).view.read (Elt F) (V m c (Pipeline.arrRef spec0 w))

/-- The tokens' rows of block `n`. -/
def rowsOf (c : Dev nD) (n : ℕ) : Vec F S512x1024 .bf16 := xblk (tokTable m) (V m c main_arg2) n

/-- The accumulator after the first half of the block of the point `t`. -/
def half (c : Dev nD) (t : Fin (cfgM m hE).N) : Vec F S512x1024 .f32 :=
  Gen.k0_pay4 (rowsOf m c (t.val / 2)) (iblk m hE c 0 t) (iblk m hE c 1 t) (Gen.k0_pay3 (F := F)) (iblk m hE c 2 t)

/-- The block the body leaves at point `t`, the second of its block. -/
def oblk (c : Dev nD) (t : Fin (cfgM m hE).N) : Vec F S512x8x128 .f32 :=
  Gen.k0_pay1 (Gen.k0_pay4 (rowsOf m c (t.val / 2)) (iblk m hE c 0 t) (iblk m hE c 1 t) (half m hE c (prev t.val)) (iblk m hE c 2 t))

/-- The two working buffers before point `n`. -/
def between (c : Dev nD) (n : ℕ) : sProp 𝕄 :=
  if n % 2 = 1 then iprop(xbuf c (rowsOf m c (n / 2)) ∗ accu c (half m hE c (prev n)))
  else iprop((∃ d, xbuf c d) ∗ (∃ d, accu c d))

theorem before0_0_of {c : Dev nD} (dat : Dat τ (Elt F) Unit ℕ (Pipeline.UD sig nD τ) ℕ (cfgM m hE) c) (hA : dat.A 0 = V m c (Pipeline.arrRef spec0 0))
    (hafter : ∀ t, dat.after 0 t = iblk m hE c 0 t) (t : Fin (cfgM m hE).N) (d) : dat.before 0 t d = iblk m hE c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ (cfgM m hE) c) (hA : dat.A 1 = V m c (Pipeline.arrRef spec0 1))
    (hafter : ∀ t, dat.after 1 t = iblk m hE c 1 t) (t : Fin (cfgM m hE).N) (d) : dat.before 1 t d = iblk m hE c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ (cfgM m hE) c) (hA : dat.A 2 = V m c (Pipeline.arrRef spec0 2))
    (hafter : ∀ t, dat.after 2 t = iblk m hE c 2 t) (t : Fin (cfgM m hE).N) (d) : dat.before 2 t d = iblk m hE c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The kernel's own semaphores and operands -/

abbrev osem0 : Fin 2 → SemLoc sig := fun j => (![SemLoc.dma 8, SemLoc.dma 9] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (slotSem (slotOf 0))) 0 ∗ semVal ((c : Thread nD τ), SemLoc.dma (slotSem (oth (slotOf 0)))) 0) := by
  rw [Pipeline.ownSems0_eq_of_list c osem0 [0, 1] (by decide) (by decide)]; rfl
def H0 : Finset (Ref sig .tc) := {main_arg2}
theorem H0_sub : H0 ⊆ Pipeline.restRefsP sig pre0 spec0 := by decide
theorem hbmPts0_eq (c : Dev nD) :
    (bigSep H0 (fun b => ((c : Thread nD τ).loc b) ↦{fullShare} V m c b) : sProp 𝕄) = tokens c fullShare (V m c main_arg2) := by
  rw [BI.bigSep_eq_bigSepL_of_eq [main_arg2] (by decide) (by decide)]; rfl

theorem PhiD0_eq (c : Dev nD) :
    (Pipeline.ΦD osem0 spec0 H0 (V m) c : sProp 𝕄)
      = iprop(iprop((∃ d, landing c d) ∗ (∃ d, xbuf c d) ∗ (∃ d, accu c d)) ∗ (∃ r, prngReg c r)
        ∗ iprop(semVal ((c : Thread nD τ), SemLoc.dma (slotSem (slotOf 0))) 0 ∗ semVal ((c : Thread nD τ), SemLoc.dma (slotSem (oth (slotOf 0)))) 0)
        ∗ tokens c fullShare (V m c main_arg2)) := by
  rw [Pipeline.ΦD_eq, scopedRest0_eq, ownSems00_eq, hbmPts0_eq]; try rfl

/-! ## The proof data -/

/-- What is kept between points: the working buffers, the copies in flight, and what nothing writes. -/
def inv (c : Dev nD) (n : ℕ) : sProp 𝕄 :=
  iprop(between m hE c n ∗ flight c (tokTable m) (V m c main_arg2) ((n + 1) / 2) ∗ (∃ r, prngReg c r) ∗ experts c (expTable m) ∗ table c (tokTable m))

def dats (_ : Fin 1) (c : Dev nD) : Dat τ (Elt F) Unit ℕ (Pipeline.UD sig nD τ) ℕ (cfgM m hE) c where
  A w := V m c (Pipeline.arrRef spec0 w)
  after w t := match w with
    | ⟨0, _⟩ => iblk m hE c 0 t
    | ⟨1, _⟩ => iblk m hE c 1 t
    | ⟨2, _⟩ => iblk m hE c 2 t
    | ⟨3, _⟩ => oblk m hE c t
  Φ t := inv m hE c t.val
  q := Pipeline.shareOf spec0
  owed _ := 0

theorem A_eq (c : Dev nD) (w : Fin (cfgM m hE).W) : (dats m hE 0 c).A w = V m c (Pipeline.arrRef spec0 w) := by
  dsimp only [dats]
theorem after0_0 (c : Dev nD) (t : Fin (cfgM m hE).N) : (dats m hE 0 c).after 0 t = iblk m hE c 0 t := by dsimp only [dats]; try rfl
theorem after0_1 (c : Dev nD) (t : Fin (cfgM m hE).N) : (dats m hE 0 c).after 1 t = iblk m hE c 1 t := by dsimp only [dats]; try rfl
theorem after0_2 (c : Dev nD) (t : Fin (cfgM m hE).N) : (dats m hE 0 c).after 2 t = iblk m hE c 2 t := by dsimp only [dats]; try rfl
theorem after0_3 (c : Dev nD) (t : Fin (cfgM m hE).N) : (dats m hE 0 c).after 3 t = oblk m hE c t := by dsimp only [dats]; try rfl
theorem before0_0 (c : Dev nD) (t : Fin (cfgM m hE).N) (d) : (dats m hE 0 c).before 0 t d = iblk m hE c 0 t :=
  before0_0_of m hE (dats m hE 0 c) (A_eq m hE c 0) (after0_0 m hE c) t d
theorem before0_1 (c : Dev nD) (t : Fin (cfgM m hE).N) (d) : (dats m hE 0 c).before 1 t d = iblk m hE c 1 t :=
  before0_1_of m hE (dats m hE 0 c) (A_eq m hE c 1) (after0_1 m hE c) t d
theorem before0_2 (c : Dev nD) (t : Fin (cfgM m hE).N) (d) : (dats m hE 0 c).before 2 t d = iblk m hE c 2 t :=
  before0_2_of m hE (dats m hE 0 c) (A_eq m hE c 2) (after0_2 m hE c) t d

/-! ## The points that write a block back -/

theorem flush_odd (t : Fin (cfgM m hE).N) (ht : t.val % 2 = 1) : ((cfgM m hE).win 3).flush t = true := by
  show (true && (decide (t.val + 1 = 272) || decide (∃ h : t.val + 1 < 272, cc0_transform_4 (grid0.coords ⟨t.val + 1, h⟩) ≠ cc0_transform_4 (grid0.coords t)))) = true
  have hN : t.val < 272 := t.isLt
  rw [Bool.true_and, Bool.or_eq_true, decide_eq_true_iff, decide_eq_true_iff]
  by_cases h : t.val + 1 = 272
  · exact .inl h
  · refine .inr ⟨by omega, fun e => ?_⟩
    have e0 := congrFun e 0
    rw [transform_4_val, transform_4_val] at e0
    have : (t.val + 1) / 2 = t.val / 2 := e0
    omega

theorem flush_even (t : Fin (cfgM m hE).N) (ht : t.val % 2 = 0) : ((cfgM m hE).win 3).flush t = false := by
  show (true && (decide (t.val + 1 = 272) || decide (∃ h : t.val + 1 < 272, cc0_transform_4 (grid0.coords ⟨t.val + 1, h⟩) ≠ cc0_transform_4 (grid0.coords t)))) = false
  have hN : t.val < 272 := t.isLt
  rw [Bool.true_and, Bool.or_eq_false_iff, decide_eq_false_iff_not, decide_eq_false_iff_not]
  refine ⟨by omega, fun ⟨h, e⟩ => e ?_⟩
  rw [transform_4_val, transform_4_val]
  have : (t.val + 1) / 2 = t.val / 2 := by omega
  show ![(t.val + 1) / 2, 0, 0] = _
  rw [this]

theorem idle_even (t : Fin (cfgM m hE).N) (ht : t.val % 2 = 0) : (cfgM m hE).idle 3 ((cfgM m hE).grid.coords t) = true := by
  show (!(k0_cond4 (grid0.coords t) == 1#1)) = true
  have h : ¬ k0_cond4 (grid0.coords t) = 1#1 := fun h => by have := (cond4_iff _).mp h; rw [coord1] at this; omega
  rw [beq_eq_false_iff_ne.mpr h]; rfl
theorem idle_odd (t : Fin (cfgM m hE).N) (ht : t.val % 2 = 1) : (cfgM m hE).idle 3 ((cfgM m hE).grid.coords t) = false := by
  show (!(k0_cond4 (grid0.coords t) == 1#1)) = false
  rw [(cond4_iff (grid0.coords t)).mpr (by rw [coord1]; exact ht)]; rfl

/-! ## The body at every point -/

abbrev ms0_0 (t : Fin (cfgM m hE).N) : Memref sig .tc .vmem S1x1024x1792 .bf16 := spec0_0.stage ((cfgM m hE).slots t 0)
abbrev ms0_1 (t : Fin (cfgM m hE).N) : Memref sig .tc .vmem S1x1024x1792 .bf16 := spec0_1.stage ((cfgM m hE).slots t 1)
abbrev ms0_2 (t : Fin (cfgM m hE).N) : Memref sig .tc .vmem S1x1792x1024 .bf16 := spec0_2.stage ((cfgM m hE).slots t 2)
abbrev ms0_3 (t : Fin (cfgM m hE).N) : Memref sig .tc .vmem S512x8x128 .f32 := spec0_3.stage ((cfgM m hE).slots t 3)

abbrev bodyAt0 (t : Fin (cfgM m hE).N) : Prog (TpuEff nD τ sig (Elt F) Λ₀ .tc) PUnit :=
  cc0_moe_experts (grid0.coords t) (Memref.whole main_arg0) (Memref.isWhole_whole _) (Memref.whole main_arg1) (Memref.isWhole_whole _)
    (Memref.whole main_arg2) (Memref.isWhole_whole _) (ms0_0 m hE t) (hstage0_0 (((cfgM m hE).slots t 0).cast nbuf0_0))
    (ms0_1 m hE t) (hstage0_1 (((cfgM m hE).slots t 1).cast nbuf0_1)) (ms0_2 m hE t) (hstage0_2 (((cfgM m hE).slots t 2).cast nbuf0_2))
    (ms0_3 m hE t) (hstage0_3 (((cfgM m hE).slots t 3).cast nbuf0_3))
    (Memref.whole cc0_scratch0) (Memref.isWhole_whole _) (Memref.whole cc0_scratch1) (Memref.isWhole_whole _)
    (Memref.whole cc0_scratch2) (Memref.isWhole_whole _) cc0_scratch3

def bodyPre (c : Dev nD) (t : Fin (cfgM m hE).N) : sProp 𝕄 :=
  iprop((dats m hE 0 c).Φ t.castSucc ∗ (dats m hE 0 c).owesAt () t.castSucc
    ∗ (∃ d, owns (c : Thread nD τ) (ms0_0 m hE t) fullShare ((dats m hE 0 c).before 0 t d))
    ∗ (∃ d, owns (c : Thread nD τ) (ms0_1 m hE t) fullShare ((dats m hE 0 c).before 1 t d))
    ∗ (∃ d, owns (c : Thread nD τ) (ms0_2 m hE t) fullShare ((dats m hE 0 c).before 2 t d))
    ∗ (∃ d, owns (c : Thread nD τ) (ms0_3 m hE t) fullShare ((dats m hE 0 c).before 3 t d)))

def bodyPost (c : Dev nD) (t : Fin (cfgM m hE).N) : sProp 𝕄 :=
  iprop((dats m hE 0 c).Φ t.succ ∗ (dats m hE 0 c).owesAt () t.succ
    ∗ owns (c : Thread nD τ) (ms0_0 m hE t) fullShare ((dats m hE 0 c).after 0 t)
    ∗ owns (c : Thread nD τ) (ms0_1 m hE t) fullShare ((dats m hE 0 c).after 1 t)
    ∗ owns (c : Thread nD τ) (ms0_2 m hE t) fullShare ((dats m hE 0 c).after 2 t)
    ∗ (dats m hE 0 c).leavesExact 3 t)

variable (hT : RowsNamed (tokTable m))
include hT

theorem sound_even (c : Dev nD) (t : Fin (cfgM m hE).N) (ht : t.val % 2 = 0) :
    bodyPre m hE c t ⊢ wp frame (wpE (defs₀ (F := F)) Variants.none c none) Set.univ (bodyAt0 m hE t) (fun _ => bodyPost m hE c t) := by
  unfold bodyPre bodyPost bodyAt0
  have c0 : (grid0.coords t 0).val = t.val / 2 := coord0 t
  simp only [before0_0, before0_1, before0_2]
  rw [(dats m hE 0 c).leavesExact_idle 3 t (idle_even m hE t ht) (flush_even m hE t ht), after0_0, after0_1, after0_2]
  rw [show (dats m hE 0 c).Φ t.castSucc = inv m hE c t.val from rfl, show (dats m hE 0 c).Φ t.succ = inv m hE c (t.val + 1) from rfl]
  unfold inv between Dat.owesAt Pipeline.owesWithin
  rw [show (dats m hE 0 c).owed t.castSucc = 0 from rfl, show (dats m hE 0 c).owed t.succ = 0 from rfl]
  rw [if_neg (by omega), if_pos (by omega), show (t.val + 1 + 1) / 2 = (grid0.coords t 0).val + 1 by omega,
    show (t.val + 1) / 2 = (grid0.coords t 0).val by omega, prev_succ]
  iintro ⟨⟨⟨H1, H2⟩, HF, Hg, HE, HT⟩, ⟨%W, -, HW⟩, ⟨%d0, H5⟩, ⟨%d1, H6⟩, ⟨%d2, H7⟩, H8⟩
  iapply (body_first c (grid0.coords t) _ _ _ _ _ _ _ _ _ _ (tokTable m) hT (V m c main_arg2) ((coord1 t).trans ht) W (iblk m hE c 0 t) (iblk m hE c 1 t) (iblk m hE c 2 t) _)
  isplitl [HT]; · iexact HT
  isplitl [HF]; · iexact HF
  isplitl [H1]; · iexact H1
  isplitl [H2]; · iexact H2
  isplitl [HW]; · iexact HW
  isplitl [H5]; · iexact H5
  isplitl [H6]; · iexact H6
  isplitl [H7]; · iexact H7
  iintro ⟨HT, HF, H1, H2, ⟨%W', HW⟩, H5, H6, H7⟩
  isplitl [HT HF H1 H2 Hg HE]
  · isplitl [H1 H2]
    · isplitl [H1]
      · iexact H1
      unfold half rowsOf
      rw [← c0]
      iexact H2
    isplitl [HF]; · iexact HF
    isplitl [Hg]; · iexact Hg
    isplitl [HE]; · iexact HE
    iexact HT
  isplitl [HW]
  · iexists W'; isplitr; · ipureintro; exact fun _ _ => Or.inl trivial
    iexact HW
  isplitl [H5]; · iexact H5
  isplitl [H6]; · iexact H6
  isplitl [H7]; · iexact H7
  iexact H8

omit hT in
theorem sound_odd (c : Dev nD) (t : Fin (cfgM m hE).N) (ht : t.val % 2 = 1) :
    bodyPre m hE c t ⊢ wp frame (wpE (defs₀ (F := F)) Variants.none c none) Set.univ (bodyAt0 m hE t) (fun _ => bodyPost m hE c t) := by
  unfold bodyPre bodyPost bodyAt0
  simp only [before0_0, before0_1, before0_2]
  have eL : (dats m hE 0 c).leavesExact 3 t = owns (c : Thread nD τ) (ms0_3 m hE t) fullShare (oblk m hE c t) := by
    unfold Dat.leavesExact; rw [idle_odd m hE t ht, after0_3]; rfl
  rw [eL, after0_0, after0_1, after0_2]
  rw [show (dats m hE 0 c).Φ t.castSucc = inv m hE c t.val from rfl, show (dats m hE 0 c).Φ t.succ = inv m hE c (t.val + 1) from rfl]
  unfold inv between Dat.owesAt Pipeline.owesWithin
  rw [show (dats m hE 0 c).owed t.castSucc = 0 from rfl, show (dats m hE 0 c).owed t.succ = 0 from rfl]
  rw [if_pos ht, if_neg (by omega), show (t.val + 1 + 1) / 2 = (t.val + 1) / 2 by omega]
  iintro ⟨⟨⟨H1, H2⟩, HF, Hg, HE, HT⟩, ⟨%W, -, HW⟩, ⟨%d0, H5⟩, ⟨%d1, H6⟩, ⟨%d2, H7⟩, ⟨%d3, H8⟩⟩
  iapply (body_second c (grid0.coords t) _ _ _ _ _ _ _ _ _ _ ((coord1 t).trans ht) W (rowsOf m c (t.val / 2)) (half m hE c (prev t.val))
    (iblk m hE c 0 t) (iblk m hE c 1 t) (iblk m hE c 2 t) _)
  isplitl [H1]; · iexact H1
  isplitl [H2]; · iexact H2
  isplitl [HW]; · iexact HW
  isplitl [H5]; · iexact H5
  isplitl [H6]; · iexact H6
  isplitl [H7]; · iexact H7
  isplitl [H8]; · iexists _; iexact H8
  iintro ⟨H1, H2, ⟨%W', HW⟩, H5, H6, H7, H8⟩
  isplitl [HT HF H1 H2 Hg HE]
  · isplitl [H1 H2]
    · isplitl [H1]; · iexact H1
      iexact H2
    isplitl [HF]; · iexact HF
    isplitl [Hg]; · iexact Hg
    isplitl [HE]; · iexact HE
    iexact HT
  isplitl [HW]
  · iexists W'; isplitr; · ipureintro; exact fun _ _ => Or.inl trivial
    iexact HW
  isplitl [H5]; · iexact H5
  isplitl [H6]; · iexact H6
  isplitl [H7]; · iexact H7
  iexact H8

theorem sound_body (c : Dev nD) (t : Fin (cfgM m hE).N) :
    bodyPre m hE c t ⊢ wp frame (wpE (defs₀ (F := F)) Variants.none c none) Set.univ (bodyAt0 m hE t) (fun _ => bodyPost m hE c t) := by
  rcases Nat.mod_two_eq_zero_or_one t.val with h | h
  · exact sound_even m hE hT c t h
  · exact sound_odd m hE c t h

omit hT in
theorem defs₀_row (t : Fin (cfgM m hE).N) :
    defs₀ (F := F) .tc (cfgM m hE).body ((cfgM m hE).bodyArgs t ((cfgM m hE).slots t)) = bodyAt0 m hE t := by
  unfold defs₀; rw [Defs.onTc_tc]

theorem body_obligation (c : Dev nD) : BodyObligation (dats (F := F) m hE 0 c) (defs₀ (F := F)) Variants.none () Set.univ := fun t => by
  rw [bigSep_W0, bigSep_W0, defs₀_row m]
  exact triple_restated (sound_body m hE hT c t) rfl .rfl fun _ => .rfl

/-! ## The run -/

omit hT in
theorem enter (c : Dev nD) : iprop(Pipeline.ΦD osem0 spec0 H0 (V m) c ∗ Pipeline.ΦT pre0 (tbl m) c) ⊢ inv m hE c 0 := by
  rw [PhiD0_eq, PhiT0_eq]
  unfold inv between flight
  rw [if_neg (by omega), if_pos rfl]
  unfold idleAt
  iintro ⟨⟨⟨⟨%g, HS⟩, H1, H2⟩, Hg, ⟨Hq, Hq'⟩, HY⟩, HE, HT⟩
  ihave HSO := (Entails.of_eq (slots_whole c (slotOf 0) g)) $$ HS
  icases HSO with ⟨HS, HO⟩
  isplitl [H1 H2]
  · isplitl [H1]; · iexact H1
    iexact H2
  isplitl [HS HO Hq Hq' HY]
  · isplitl [HS]; · iexists _; iexact HS
    isplitl [HO]; · iexists _; iexact HO
    isplitl [Hq]; · iexact Hq
    isplitl [Hq']; · iexact Hq'
    iexact HY
  isplitl [Hg]; · iexact Hg
  isplitl [HE]; · iexact HE
  iexact HT

omit hT in
theorem slots_join (c : Dev nD) (s : Fin 2) (f g : S2x512x8x128.Idx → Elt F .f32) : iprop(slot c s f ∗ slot c (oth s) g) ⊢ (∃ d, landing c d : sProp 𝕄) := by
  have e1 : (slot c s f : sProp 𝕄) = slot c s (fun y => if (y 0).val = s.val then f y else g y) :=
    pointsTo_congr fun y hy => (if_pos ((mem_slotSet s y).mp hy)).symm
  have e2 : (slot c (oth s) g : sProp 𝕄) = slot c (oth s) (fun y => if (y 0).val = s.val then f y else g y) :=
    pointsTo_congr fun y hy => (if_neg (fun h => oth_ne s (Fin.ext (((mem_slotSet (oth s) y).mp hy).symm.trans h)))).symm
  rw [e1, e2]
  refine BIBase.Entails.trans (Entails.of_eq (slots_whole c s _).symm) ?_
  iintro H; iexists _; iexact H

omit hT in
theorem leave (c : Dev nD) : inv m hE c 272 ⊢ Pipeline.ΦD osem0 spec0 H0 (V m) c := by
  rw [PhiD0_eq]
  unfold inv between flight
  rw [if_neg (by omega), if_neg (by omega), if_neg (by omega)]
  unfold idleAt
  iintro ⟨⟨H1, H2⟩, ⟨⟨%f, HS⟩, ⟨%g, HO⟩, Hq, Hq', HY⟩, Hg, -, -⟩
  ihave HL := (slots_join c (slotOf 0) f g) $$ [HS HO]
  · isplitl [HS]; · iexact HS
    iexact HO
  isplitl [HL H1 H2]
  · isplitl [HL]; · iexact HL
    isplitl [H1]; · iexact H1
    iexact H2
  isplitl [Hg]; · iexact Hg
  isplitl [Hq Hq']
  · isplitl [Hq]; · iexact Hq
    iexact Hq'
  iexact HY

set_option backward.isDefEq.respectTransparency.types false in
theorem run_main : θ_run defs (onTc (τ := τ) (main (F := F))) (s₀ m ρ)
    (fun r => Pipeline.FramePost (Pipeline.pin pcfgs fun _ => adm m hE) (dats m hE) 0 (V m) r ∧ r.2.sem = fun _ => 0) :=
  Pipeline.θ_run_frameP_dma_shared (Q' := _) pcfgs (fun _ => adm m hE) (dats m hE) (0 : Fin 1) launch₀0 osem0 defs₀ Variants.none ownSemFacts0 H0 H0_sub m ρ main
    (hbody := fun c => (body_obligation m hE hT c).loose) (hq := fun _ _ _ => rfl)
    (howed := fun _ _ => rfl) (V := V m) (hmain := hmain m Variants.none) (hA := A_eq m hE) (hpf := V_pre m) (hin := fun c => enter m hE c)
    (hout := fun c => leave m hE c)

/-- The arguments end unchanged, the counters at zero, and the result's array is what the region's writes make it. -/
theorem run_read : θ_run defs (onTc (τ := τ) (main (F := F))) (s₀ m ρ) (fun r => (∀ c : Dev nD,
      r.2.mem ((c : Thread nD τ).loc main_v0) = (dats m hE 0 c).arrAt 3 (cfgM m hE).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.sem = fun _ => 0) :=
  (θ_run defs _ _).mono (fun _ h => ⟨fun c => ⟨(h.1 c).1 3,
      (h.1 c).2 main_arg0 (by decide : main_arg0 ∈ Pipeline.restRefs sig spec0),
      (h.1 c).2 main_arg1 (by decide : main_arg1 ∈ Pipeline.restRefs sig spec0),
      (h.1 c).2 main_arg2 (by decide : main_arg2 ∈ Pipeline.restRefs sig spec0),
      ((h.1 c).1 0).trans (((dats m hE 0 c).arrAt_in 0 rfl _).trans (A_eq m hE c 0)),
      ((h.1 c).1 2).trans (((dats m hE 0 c).arrAt_in 2 rfl _).trans (A_eq m hE c 2))⟩, h.2⟩) (run_main m ρ hE hT)

end Cert.Proof.Experts

end
-- ==== Proof.ExpertsSpec.lean ====
/- What the expert call computes, element by element, over the extended reals; and the reference's gathers read at an
   index. -/
module

public import Idealize.ShloMosaic.Lib.Pointwise.Tactic
public import Idealize.ShloMosaic.Lib.Pointwise.Reshape
public import Idealize.ShloMosaic.Lib.ValueIdxCore
public import Idealize.ShloMosaic.PureOps

@[expose] public section
noncomputable section
namespace Cert.Proof.Experts
open Idealize.ShloMosaic

/-- The gated product of one entry: `g · sigmoid(g) · u`. -/
def gated (g u : EReal) : EReal := g * Ideal.div 1 (1 + Ideal.exp (-g)) * u

/-- Column `j` of the first product of the expert `e` on a token `x`. -/
def hiddenAt (W : (⟨3, ![8, 1024, 7168]⟩ : Shape).Idx → EReal) (e : Fin 8) (x : Fin 1024 → EReal) (j : Fin 7168) : EReal :=
  ∑ k : Fin 1024, x k * W (ix3 e k j)

/-- The gated hidden entry `j`. -/
def actAt (W : (⟨3, ![8, 1024, 7168]⟩ : Shape).Idx → EReal) (e : Fin 8) (x : Fin 1024 → EReal) (j : Fin 3584) : EReal :=
  gated (hiddenAt W e x ⟨j.val, by omega⟩) (hiddenAt W e x ⟨3584 + j.val, by omega⟩)

/-- Entry `q` of the expert `e` applied to the token `x`. -/
def expertAt (W : (⟨3, ![8, 1024, 7168]⟩ : Shape).Idx → EReal) (D : (⟨3, ![8, 3584, 1024]⟩ : Shape).Idx → EReal) (e : Fin 8)
    (x : Fin 1024 → EReal) (q : Fin 1024) : EReal :=
  ∑ j : Fin 3584, actAt W e x j * D (ix3 e j q)

/-- The expert of block `i`, and the token of row `n`. -/
def blockExpert (bl : (⟨1, ![136]⟩ : Shape).Idx → BitVec 32) (i : Fin 136) : Fin 8 := ⟨(bl (ix1 i)).toNat % 8, Nat.mod_lt _ (by omega)⟩
def rowToken (tb : (⟨1, ![69632]⟩ : Shape).Idx → BitVec 32) (n : Fin 69632) : Fin 33280 := ⟨(tb (ix1 n)).toNat % 33280, Nat.mod_lt _ (by omega)⟩

/-- The token `p`, its 8 by 128 entries in a row. -/
def tokenAt (Y : (⟨3, ![33280, 8, 128]⟩ : Shape).Idx → EReal) (p : Fin 33280) (k : Fin 1024) : EReal :=
  Y (ix3 p (⟨k.val / 128, by omega⟩ : Fin 8) (⟨k.val % 128, by omega⟩ : Fin 128))

/-- Entry `(n, a, b)` of the result: row `n`'s token through the expert of its block of 512 rows. -/
def rowsAt (bl : (⟨1, ![136]⟩ : Shape).Idx → BitVec 32) (tb : (⟨1, ![69632]⟩ : Shape).Idx → BitVec 32)
    (Y : (⟨3, ![33280, 8, 128]⟩ : Shape).Idx → EReal) (W : (⟨3, ![8, 1024, 7168]⟩ : Shape).Idx → EReal)
    (D : (⟨3, ![8, 3584, 1024]⟩ : Shape).Idx → EReal) (n : Fin 69632) (a : Fin 8) (b : Fin 128) : EReal :=
  expertAt W D (blockExpert bl ⟨n.val / 512, by omega⟩) (tokenAt Y (rowToken tb n)) ⟨128 * a.val + b.val, by omega⟩

/-! ## Rows of a rank-2 array, and slabs of a rank-3 array, at a column of numbers -/

section Take
variable {α : Type}

abbrev takeRowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry `(t, q)` of the gather is entry `q` of the row the start index names, read signed and clamped. -/
theorem take_row_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (t : Fin R) (q : Fin C) :
    Host.gather (takeRowDims N R C wf) x idx (ix2 t q) = x (ix2 ⟨min (idx (ix2 t (0 : Fin 1))).toInt.toNat (N - 1), by omega⟩ q) := by
  unfold Host.gather
  congr 1
  funext a
  refine Fin.ext ?_
  show (takeRowDims N R C wf).start (ix2 t q) idx a + (takeRowDims N R C wf).batchCoord (ix2 t q) a + (takeRowDims N R C wf).offCoord (ix2 t q) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRowDims N R C wf).startIndexMap from List.mem_singleton.mpr rfl)]
    have hsi : (takeRowDims N R C wf).siIdx (ix2 t q) ⟨List.idxOf (0 : Fin 2) (takeRowDims N R C wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl
  · rw [GatherDims.batchCoord_eq_zero _ _ _ List.not_mem_nil]
    have hs : (takeRowDims N R C wf).start (ix2 t q) idx (1 : Fin 2) = 0 := by
      unfold GatherDims.start
      rw [dif_neg (show (1 : Fin 2) ∉ [(0 : Fin 2)] by decide)]
    rw [hs]
    simp only [Nat.zero_add]
    unfold GatherDims.offCoord
    have hk : (1 : Fin 2) ∈ (takeRowDims N R C wf).sKept := by
      rw [GatherDims.mem_sKept]; exact ⟨show (1 : Fin 2) ∉ [(0 : Fin 2)] by decide, List.not_mem_nil⟩
    rw [dif_pos hk]
    rfl

abbrev takeSlabDims (N R A C : Nat) (wf : GatherDims.WF ⟨3, ![N, A, C]⟩ ⟨2, ![R, 1]⟩ ⟨3, ![R, A, C]⟩ [1, 2] [0] [] [0] [] 1 ![1, A, C]) :
    GatherDims ⟨3, ![N, A, C]⟩ ⟨2, ![R, 1]⟩ ⟨3, ![R, A, C]⟩ where
  offsetDims := [1, 2]
  collapsedSliceDims := [0]
  operandBatchingDims := []
  startIndicesBatchingDims := []
  startIndexMap := [0]
  indexVectorDim := 1
  sliceSizes := ![1, A, C]
  wf := wf

/-- Entry `(t, p, q)` of the gather is entry `(p, q)` of the slab the start index names, read signed and clamped. -/
theorem take_slab_apply {N R A C w : Nat} (hN : 0 < N)
    (wf : GatherDims.WF ⟨3, ![N, A, C]⟩ ⟨2, ![R, 1]⟩ ⟨3, ![R, A, C]⟩ [1, 2] [0] [] [0] [] 1 ![1, A, C])
    (x : (⟨3, ![N, A, C]⟩ : Shape).Idx → α) (idx : IVec ⟨2, ![R, 1]⟩ w) (t : Fin R) (p : Fin A) (q : Fin C) :
    Host.gather (takeSlabDims N R A C wf) x idx (ix3 t p q) = x (ix3 ⟨min (idx (ix2 t (0 : Fin 1))).toInt.toNat (N - 1), by omega⟩ p q) := by
  unfold Host.gather
  congr 1
  funext a
  refine Fin.ext ?_
  show (takeSlabDims N R A C wf).start (ix3 t p q) idx a + (takeSlabDims N R A C wf).batchCoord (ix3 t p q) a + (takeSlabDims N R A C wf).offCoord (ix3 t p q) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (takeSlabDims N R A C wf).startIndexMap from List.mem_singleton.mpr rfl)]
    have hsi : (takeSlabDims N R A C wf).siIdx (ix3 t p q) ⟨List.idxOf (0 : Fin 3) (takeSlabDims N R A C wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl
  · rw [GatherDims.batchCoord_eq_zero _ _ _ List.not_mem_nil]
    have hs : (takeSlabDims N R A C wf).start (ix3 t p q) idx (1 : Fin 3) = 0 := by
      unfold GatherDims.start
      rw [dif_neg (show (1 : Fin 3) ∉ [(0 : Fin 3)] by decide)]
    rw [hs]
    simp only [Nat.zero_add]
    unfold GatherDims.offCoord
    have hk : (1 : Fin 3) ∈ (takeSlabDims N R A C wf).sKept := by
      rw [GatherDims.mem_sKept]; exact ⟨show (1 : Fin 3) ∉ [(0 : Fin 3)] by decide, List.not_mem_nil⟩
    rw [dif_pos hk]
    rfl
  · rw [GatherDims.batchCoord_eq_zero _ _ _ List.not_mem_nil]
    have hs : (takeSlabDims N R A C wf).start (ix3 t p q) idx (2 : Fin 3) = 0 := by
      unfold GatherDims.start
      rw [dif_neg (show (2 : Fin 3) ∉ [(0 : Fin 3)] by decide)]
    rw [hs]
    simp only [Nat.zero_add]
    unfold GatherDims.offCoord
    have hk : (2 : Fin 3) ∈ (takeSlabDims N R A C wf).sKept := by
      rw [GatherDims.mem_sKept]; exact ⟨show (2 : Fin 3) ∉ [(0 : Fin 3)] by decide, List.not_mem_nil⟩
    rw [dif_pos hk]
    rfl

end Take

end Cert.Proof.Experts
end
-- ==== Proof.ExpertsValue.lean ====
/- The expert kernel's result array, element by element. -/
module

public import proofs.«01_k».proof.Proof.ExpertsLaunch
public import proofs.«01_k».proof.Proof.ExpertsSpec
public import Idealize.ShloMosaic.Lib.Pointwise.Reshape
public import Idealize.ShloMosaic.Lib.Pointwise.Reduce
public import Idealize.ShloMosaic.Lib.Pointwise.Contract
public import Idealize.ShloMosaic.Lib.Pointwise.Tactic

@[expose] public section
set_option maxRecDepth 16384
noncomputable section
namespace Cert.Proof.Experts
open Cert.ExpertsIdeal Cert.ExpertsIdeal.Gen
open Idealize.ShloMosaic Idealize.ShloMosaic.TcCoe

/-- One half of the product at an index: what was accumulated plus the gated columns times their rows. -/
theorem pay4_apply (x : FVec Ideal S512x1024 .bf16) (wg wu : FVec Ideal S1x1024x1792 .bf16) (acc : FVec Ideal S512x1024 .f32) (wd : FVec Ideal S1x1792x1024 .bf16)
    (r : Fin 512) (q : Fin 1024) :
    k0_pay4 (F := Ideal) x wg wu acc wd (ix2 r q)
      = acc (ix2 r q) + ∑ j : Fin 1792, gated (∑ k : Fin 1024, x (ix2 r k) * wg (ix3 (0 : Fin 1) k j)) (∑ k : Fin 1024, x (ix2 r k) * wu (ix3 (0 : Fin 1) k j)) * wd (ix3 (0 : Fin 1) j q) := by
  unfold k0_pay4 gated
  simp only [pointwise, zero_add, zero_sub]

theorem pay2_apply (v : FVec Ideal S1x512x8x128 .f32) (r : Fin 512) (k : Fin 1024) :
    k0_pay2 (F := Ideal) v (ix2 r k) = v (ix4 (0 : Fin 1) r (⟨k.val / 128, by omega⟩ : Fin 8) (⟨k.val % 128, by omega⟩ : Fin 128)) := by
  unfold k0_pay2
  simp only [pointwise]

theorem pay1_apply (v : FVec Ideal S512x1024 .f32) (r : Fin 512) (a : Fin 8) (b : Fin 128) :
    k0_pay1 (F := Ideal) v (ix3 r a b) = v (ix2 r ⟨128 * a.val + b.val, by omega⟩) := by
  unfold k0_pay1
  simp only [pointwise]
  exact congrArg (fun z => v (ix2 r z)) (Fin.ext (by show a.val * 128 + b.val = 128 * a.val + b.val; omega))

theorem pay3_apply (r : Fin 512) (q : Fin 1024) : (k0_pay3 (F := Ideal)) (ix2 r q) = (0 : EReal) := by
  unfold k0_pay3
  simp only [pointwise]

variable (m : (ℓ : Loc nD τ sig) → Buf (Elt Ideal) ℓ) (hE : ExpertsNamed (expTable m)) (c : Dev nD)

/-! ## The tables -/

theorem expAt_eq (n : ℕ) (h : n < 136) : expAt n h = ix1 (⟨n, h⟩ : Fin 136) := by
  funext a
  match a with
  | ⟨0, _⟩ => rfl
theorem entryAt_eq (n : ℕ) (h : n < 69632) : tabAt n h = ix1 (⟨n, h⟩ : Fin 69632) := by
  funext a
  match a with
  | ⟨0, _⟩ => rfl
theorem tokAt_eq (p : Fin 33280) (a : Fin 8) (b : Fin 128) : tokAt p a b = ix3 p a b := by
  funext z
  match z with
  | ⟨0, _⟩ => rfl
  | ⟨1, _⟩ => rfl
  | ⟨2, _⟩ => rfl

theorem expertOf_eq (bl : S136.Idx → BitVec 32) (h : ExpertsNamed bl) (i : Fin 136) : expertOf bl i.val = (blockExpert bl i).val := by
  unfold expertOf blockExpert
  refine (congrArg (fun z => (bl z).toNat) (expAt_eq _ _)).trans ?_
  have e : (⟨i.val % 136, Nat.mod_lt _ (by omega)⟩ : Fin 136) = i := Fin.ext (Nat.mod_eq_of_lt i.isLt)
  rw [e]
  exact (Nat.mod_eq_of_lt (h _)).symm

theorem rowNamed_eq (tb : S69632.Idx → BitVec 32) (n : Fin 69632) : rowNamed tb n.val = rowToken tb n := by
  apply Fin.ext
  unfold rowNamed rowToken
  refine (congrArg (fun z => (tb z).toNat % 33280) (entryAt_eq _ _)).trans ?_
  exact congrArg (fun z : Fin 69632 => (tb (ix1 z)).toNat % 33280) (Fin.ext (Nat.mod_eq_of_lt n.isLt))

include hE in
theorem exp0 (t : Fin grid0.N) (ht : t.val / 2 < 136) : expertOf (expTable m) (grid0.coords t 0).val = (blockExpert (expTable m) ⟨t.val / 2, ht⟩).val := by
  rw [coord0]
  exact expertOf_eq _ hE ⟨t.val / 2, ht⟩

/-! ## The blocks the body reads -/

theorem rowsOf_apply (n : ℕ) (r : Fin 512) (k : Fin 1024) (hn : 512 * n + r.val < 69632) :
    (rowsOf m c n : S512x1024.Idx → EReal) (ix2 r k) = tokenAt (m ((c : Thread nD τ).loc main_arg2)) (rowToken (tokTable m) ⟨512 * n + r.val, hn⟩) k := by
  unfold rowsOf xblk
  refine (pay2_apply _ r k).trans ?_
  unfold tokenAt
  rw [← rowNamed_eq, ← tokAt_eq]
  rfl

theorem iblk0_apply (t : Fin (cfgM m hE).N) (k : Fin 1024) (j : Fin 1792) (ht : t.val / 2 < 136) :
    (iblk m hE c 0 t : S1x1024x1792.Idx → EReal) (ix3 (0 : Fin 1) k j)
      = (m ((c : Thread nD τ).loc main_arg3) : S8x1024x7168.Idx → EReal) (ix3 (blockExpert (expTable m) ⟨t.val / 2, ht⟩) k ⟨1792 * (t.val % 2) + j.val, by omega⟩) := by
  show V m c main_arg3 ((((cfgM m hE).win 0).rect t).emb (ix3 (0 : Fin 1) k j)) = V m c main_arg3 _
  refine congrArg (V m c main_arg3) ?_
  funext a
  apply Fin.ext
  refine (Pipeline.Window.rect_emb_val _ _ _ _).trans ?_
  have e := transform_1_eq (tbl m) (grid0.coords t)
  have e0 := exp0 m hE t ht
  have e1 := coord1 t
  match a with
  | ⟨0, _⟩ => show cc0_transform_1 k0_off1_inb numel1_S1 (tbl m) (grid0.coords t) 0 * 1 + 0 = _; rw [e]; show expertOf (expTable m) (grid0.coords t 0).val * 1 + 0 = _; rw [e0, Nat.mul_one]; rfl
  | ⟨1, _⟩ => show cc0_transform_1 k0_off1_inb numel1_S1 (tbl m) (grid0.coords t) 1 * 1024 + k.val = _; rw [e]; show 0 * 1024 + k.val = k.val; omega
  | ⟨2, _⟩ => show cc0_transform_1 k0_off1_inb numel1_S1 (tbl m) (grid0.coords t) 2 * 1792 + j.val = _; rw [e]; show (grid0.coords t 1).val * 1792 + j.val = 1792 * (t.val % 2) + j.val; rw [e1]; omega

theorem iblk1_apply (t : Fin (cfgM m hE).N) (k : Fin 1024) (j : Fin 1792) (ht : t.val / 2 < 136) :
    (iblk m hE c 1 t : S1x1024x1792.Idx → EReal) (ix3 (0 : Fin 1) k j)
      = (m ((c : Thread nD τ).loc main_arg3) : S8x1024x7168.Idx → EReal) (ix3 (blockExpert (expTable m) ⟨t.val / 2, ht⟩) k ⟨3584 + (1792 * (t.val % 2) + j.val), by omega⟩) := by
  show V m c main_arg3 ((((cfgM m hE).win 1).rect t).emb (ix3 (0 : Fin 1) k j)) = V m c main_arg3 _
  refine congrArg (V m c main_arg3) ?_
  funext a
  apply Fin.ext
  refine (Pipeline.Window.rect_emb_val _ _ _ _).trans ?_
  have e := transform_2_eq (tbl m) (grid0.coords t)
  have e0 := exp0 m hE t ht
  have e1 := coord1 t
  match a with
  | ⟨0, _⟩ => show cc0_transform_2 k0_off1_inb numel1_S1 (tbl m) (grid0.coords t) 0 * 1 + 0 = _; rw [e]; show expertOf (expTable m) (grid0.coords t 0).val * 1 + 0 = _; rw [e0, Nat.mul_one]; rfl
  | ⟨1, _⟩ => show cc0_transform_2 k0_off1_inb numel1_S1 (tbl m) (grid0.coords t) 1 * 1024 + k.val = _; rw [e]; show 0 * 1024 + k.val = k.val; omega
  | ⟨2, _⟩ => show cc0_transform_2 k0_off1_inb numel1_S1 (tbl m) (grid0.coords t) 2 * 1792 + j.val = _; rw [e]; show (2 + (grid0.coords t 1).val) * 1792 + j.val = 3584 + (1792 * (t.val % 2) + j.val); rw [e1]; omega

theorem iblk2_apply (t : Fin (cfgM m hE).N) (j : Fin 1792) (q : Fin 1024) (ht : t.val / 2 < 136) :
    (iblk m hE c 2 t : S1x1792x1024.Idx → EReal) (ix3 (0 : Fin 1) j q)
      = (m ((c : Thread nD τ).loc main_arg4) : S8x3584x1024.Idx → EReal) (ix3 (blockExpert (expTable m) ⟨t.val / 2, ht⟩) ⟨1792 * (t.val % 2) + j.val, by omega⟩ q) := by
  show V m c main_arg4 ((((cfgM m hE).win 2).rect t).emb (ix3 (0 : Fin 1) j q)) = V m c main_arg4 _
  refine congrArg (V m c main_arg4) ?_
  funext a
  apply Fin.ext
  refine (Pipeline.Window.rect_emb_val _ _ _ _).trans ?_
  have e := transform_3_eq (tbl m) (grid0.coords t)
  have e0 := exp0 m hE t ht
  have e1 := coord1 t
  match a with
  | ⟨0, _⟩ => show cc0_transform_3 k0_off1_inb numel1_S1 (tbl m) (grid0.coords t) 0 * 1 + 0 = _; rw [e]; show expertOf (expTable m) (grid0.coords t 0).val * 1 + 0 = _; rw [e0, Nat.mul_one]; rfl
  | ⟨1, _⟩ => show cc0_transform_3 k0_off1_inb numel1_S1 (tbl m) (grid0.coords t) 1 * 1792 + j.val = _; rw [e]; show (grid0.coords t 1).val * 1792 + j.val = 1792 * (t.val % 2) + j.val; rw [e1]; omega
  | ⟨2, _⟩ => show cc0_transform_3 k0_off1_inb numel1_S1 (tbl m) (grid0.coords t) 2 * 1024 + q.val = _; rw [e]; show 0 * 1024 + q.val = q.val; omega

/-! ## The block the body leaves -/

/-- What half `f` of a block adds to entry `q` of row `n`. -/
def halfSum (n : Fin 69632) (f : ℕ) (hf : f < 2) (q : Fin 1024) : EReal :=
  ∑ j : Fin 1792, actAt (m ((c : Thread nD τ).loc main_arg3)) (blockExpert (expTable m) ⟨n.val / 512, by omega⟩)
      (tokenAt (m ((c : Thread nD τ).loc main_arg2)) (rowToken (tokTable m) n)) ⟨1792 * f + j.val, by omega⟩
    * (m ((c : Thread nD τ).loc main_arg4) : S8x3584x1024.Idx → EReal) (ix3 (blockExpert (expTable m) ⟨n.val / 512, by omega⟩) ⟨1792 * f + j.val, by omega⟩ q)

theorem step_apply (t : Fin (cfgM m hE).N) (acc : FVec Ideal S512x1024 .f32) (r : Fin 512) (q : Fin 1024) (n : Fin 69632) (hn : n.val = 512 * (t.val / 2) + r.val) :
    k0_pay4 (F := Ideal) (rowsOf m c (t.val / 2)) (iblk m hE c 0 t) (iblk m hE c 1 t) acc (iblk m hE c 2 t) (ix2 r q)
      = acc (ix2 r q) + halfSum m c n (t.val % 2) (Nat.mod_lt _ (by omega)) q := by
  refine (pay4_apply _ _ _ _ _ r q).trans (congrArg (fun z : EReal => acc (ix2 r q) + z) ?_)
  have ht : t.val / 2 < 136 := by have : t.val < 272 := t.isLt; omega
  have en : n = ⟨512 * (t.val / 2) + r.val, by omega⟩ := Fin.ext hn
  have eb : (⟨n.val / 512, by omega⟩ : Fin 136) = ⟨t.val / 2, ht⟩ := Fin.ext (by show n.val / 512 = t.val / 2; omega)
  unfold halfSum actAt hiddenAt
  rw [eb]
  refine Finset.sum_congr rfl fun j _ => congrArg₂ (· * ·) (congrArg₂ gated ?_ ?_) (iblk2_apply m hE c t j q ht)
  · refine Finset.sum_congr rfl fun k _ => congrArg₂ (· * ·) ?_ (iblk0_apply m hE c t k j ht)
    rw [en]; exact rowsOf_apply m c _ r k _
  · refine Finset.sum_congr rfl fun k _ => congrArg₂ (· * ·) ?_ (iblk1_apply m hE c t k j ht)
    rw [en]; exact rowsOf_apply m c _ r k _

/-- The result, at an index. -/
def wanted : S69632x8x128.Idx → EReal := fun i =>
  rowsAt (expTable m) (tokTable m) (m ((c : Thread nD τ).loc main_arg2)) (m ((c : Thread nD τ).loc main_arg3)) (m ((c : Thread nD τ).loc main_arg4)) (i 0) (i 1) (i 2)

/-- The two halves make the whole sum. -/
theorem halves (n : Fin 69632) (a : Fin 8) (b : Fin 128) :
    halfSum m c n 0 (by omega) ⟨128 * a.val + b.val, by omega⟩ + halfSum m c n 1 (by omega) ⟨128 * a.val + b.val, by omega⟩ = wanted m c (ix3 n a b) := by
  show _ = expertAt _ _ _ _ _
  unfold expertAt
  refine Eq.trans ?_ (Fin.sum_univ_add (a := 1792) (b := 1792) _).symm
  refine congrArg₂ (· + ·) ?_ ?_
  · unfold halfSum
    refine Finset.sum_congr rfl fun j _ => ?_
    have e : (⟨1792 * 0 + j.val, by omega⟩ : Fin 3584) = Fin.castAdd 1792 j := Fin.ext (by show 1792 * 0 + j.val = j.val; omega)
    rw [e]
    rfl
  · unfold halfSum
    refine Finset.sum_congr rfl fun j _ => ?_
    have e : (⟨1792 * 1 + j.val, by omega⟩ : Fin 3584) = Fin.natAdd 1792 j := Fin.ext (by show 1792 * 1 + j.val = 1792 + j.val; omega)
    rw [e]
    rfl

theorem oblk_apply (t : Fin (cfgM m hE).N) (hodd : t.val % 2 = 1) (r : Fin 512) (a : Fin 8) (b : Fin 128) (hn : 512 * (t.val / 2) + r.val < 69632) :
    oblk m hE c t (ix3 r a b) = wanted m c (ix3 ⟨512 * (t.val / 2) + r.val, hn⟩ a b) := by
  have hN : t.val < 272 := t.isLt
  unfold oblk
  refine (pay1_apply _ r a b).trans ((step_apply m hE c t _ r _ ⟨512 * (t.val / 2) + r.val, hn⟩ rfl).trans ?_)
  refine Eq.trans ?_ (halves m c ⟨512 * (t.val / 2) + r.val, hn⟩ a b)
  have hp : (prev t.val).val = t.val - 1 := Nat.mod_eq_of_lt (by omega)
  refine congrArg₂ (· + ·) ?_ ?_
  · unfold half
    refine (step_apply m hE c (prev t.val) _ r _ ⟨512 * (t.val / 2) + r.val, hn⟩ (by show 512 * (t.val / 2) + r.val = 512 * ((prev t.val).val / 2) + r.val; rw [hp]; omega)).trans ?_
    rw [pay3_apply, zero_add]
    have e : (prev t.val).val % 2 = 0 := by rw [hp]; omega
    simp only [e]
  · simp only [hodd]

/-! ## The array -/

theorem block_index (t : Fin (cfgM m hE).N) (r : Fin 512) (a : Fin 8) (b : Fin 128) (hn : 512 * (t.val / 2) + r.val < 69632) :
    (((cfgM m hE).win 3).rect t).emb (ix3 r a b : S512x8x128.Idx) = (ix3 ⟨512 * (t.val / 2) + r.val, hn⟩ a b : S69632x8x128.Idx) := by
  funext z
  apply Fin.ext
  refine (Pipeline.Window.rect_emb_val _ _ _ _).trans ?_
  have ht := transform_4_val t
  match z with
  | ⟨0, _⟩ => show cc0_transform_4 (grid0.coords t) 0 * 512 + r.val = _; rw [ht]; show t.val / 2 * 512 + r.val = 512 * (t.val / 2) + r.val; omega
  | ⟨1, _⟩ => show cc0_transform_4 (grid0.coords t) 1 * 8 + a.val = _; rw [ht]; show 0 * 8 + a.val = a.val; omega
  | ⟨2, _⟩ => show cc0_transform_4 (grid0.coords t) 2 * 128 + b.val = _; rw [ht]; show 0 * 128 + b.val = b.val; omega

theorem final_eq : (dats m hE 0 c).arrAt 3 (cfgM m hE).N = wanted m c := by
  refine (dats m hE 0 c).arrAt_eq_of_cover 3 (wanted m c) ?_ ?_
  · intro t hfl
    have hodd : t.val % 2 = 1 := by
      rcases Nat.mod_two_eq_zero_or_one t.val with h | h
      · exact absurd hfl (by rw [flush_even m hE t h]; exact Bool.false_ne_true)
      · exact h
    show (oblk m hE c t : S512x8x128.Idx → EReal) = fun y => wanted m c ((((cfgM m hE).win 3).rect t).emb y)
    funext y
    have ht : t.val < 272 := t.isLt
    obtain ⟨r, a, b, rfl⟩ : ∃ (r : Fin 512) (a : Fin 8) (b : Fin 128), y = ix3 r a b :=
      ⟨y 0, y 1, y 2, by funext z; match z with | ⟨0, _⟩ => rfl | ⟨1, _⟩ => rfl | ⟨2, _⟩ => rfl⟩
    exact (oblk_apply m hE c t hodd r a b (by omega)).trans (congrArg (wanted m c) (block_index m hE t r a b (by omega)).symm)
  · intro (i : S69632x8x128.Idx)
    have h0 : (i 0).val < 69632 := (i 0).isLt
    have ht2 : (2 * ((i 0).val / 512) + 1) / 2 = (i 0).val / 512 := by omega
    let t : Fin (cfgM m hE).N := ⟨2 * ((i 0).val / 512) + 1, by show 2 * ((i 0).val / 512) + 1 < 272; omega⟩
    have hr : 512 * (t.val / 2) + (i 0).val % 512 = (i 0).val := by show 512 * ((2 * ((i 0).val / 512) + 1) / 2) + (i 0).val % 512 = (i 0).val; omega
    have e := block_index m hE t ⟨(i 0).val % 512, by omega⟩ (i 1) (i 2) (by show 512 * (t.val / 2) + (i 0).val % 512 < 69632; omega)
    have ei : (ix3 ⟨512 * (t.val / 2) + (i 0).val % 512, by omega⟩ (i 1) (i 2) : S69632x8x128.Idx) = i := by
      funext a
      match a with
      | ⟨0, _⟩ => exact Fin.ext hr
      | ⟨1, _⟩ => rfl
      | ⟨2, _⟩ => rfl
    refine ⟨t, flush_odd m hE t (by show (2 * ((i 0).val / 512) + 1) % 2 = 1; omega), ?_⟩
    have := (((cfgM m hE).win 3).blk t).view.emb_mem_set (ix3 (⟨(i 0).val % 512, by omega⟩ : Fin 512) (i 1) (i 2) : S512x8x128.Idx)
    exact (e.trans ei) ▸ this

include hE in
/-- The launch's run, its result read at an index. -/
theorem run_value (ρ : Dev nD → PrngReg) (hT : RowsNamed (tokTable m)) :
    θ_run defs (onTc (τ := τ) main) ⟨m, fun _ => 0, ρ⟩ (fun r => ∀ c : Dev nD,
      r.2.mem ((c : Thread nD τ).loc main_v0) = wanted m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨(h.1 c).1.trans (final_eq m hE c), (h.1 c).2⟩) (run_read m ρ hE hT)

end Cert.Proof.Experts
end
-- ==== Proof.ExpertsRefValue.lean ====
/- The expert reference's result, element by element. -/
module

public import proofs.«01_k».proof.Proof.ExpertsSpec
public import proofs.«01_k».proof.Proof.Gen.ExpertsReferenceIdeal.Run
public import Idealize.ShloMosaic.Lib.Pointwise.Contract
public import Idealize.ShloMosaic.Lib.StableHlo.Predicate
public import Idealize.ShloMosaic.Lib.Quiescent

@[expose] public section
set_option maxRecDepth 16384
noncomputable section
namespace Cert.Proof.Experts
open Cert.ExpertsReferenceIdeal Cert.ExpertsReferenceIdeal.Facts₀
open Idealize.ShloMosaic Idealize.ShloMosaic.TcCoe

/-- The reference's start indices: the tables, a negative entry counted from the end. -/
def expertStarts (bl : IVec S136 32) : IVec S136x1 32 :=
  broadcastInDim S136x1 ![0] bcast_S136_S136x1_0 (select (cmpi .slt bl (broadcastInDim S136 ![] bcast_S_S136 (constantI S_ 32 0#32))) (addi bl (broadcastInDim S136 ![] bcast_S_S136 (constantI S_ 32 8#32))) bl)
def tokenStarts (tb : IVec S69632 32) : IVec S69632x1 32 :=
  broadcastInDim S69632x1 ![0] bcast_S69632_S69632x1_0 (select (cmpi .slt tb (broadcastInDim S69632 ![] bcast_S_S69632 (constantI S_ 32 0#32))) (addi tb (broadcastInDim S69632 ![] bcast_S_S69632 (constantI S_ 32 33280#32))) tb)

/-- The reference's first product. -/
def refHidden (bl : IVec S136 32) (tb : IVec S69632 32) (Y : FVec Ideal S33280x8x128 .f32) (W : FVec Ideal S8x1024x7168 .bf16) : FVec Ideal S136x512x7168 .f32 :=
  Host.dotGeneral dot_S136x512x1024_S136x1024x7168_S136x512x7168_2_1_1_2_0_0 none (shapeCast _ (Host.gather gather_S33280x1024_S69632x1_S69632x1024_1_0_n_n_0_1_11024 (shapeCast _ Y shapeCasts_S33280x8x128_S33280x1024) (tokenStarts tb)) shapeCasts_S69632x1024_S136x512x1024) (Host.gather gather_S8x1024x7168_S136x1_S136x1024x7168_12_0_n_n_0_1_110247168 (extf .f32 W bitsLt_bf16_f32) (expertStarts bl))

/-- The reference's gated hidden entries. -/
def refAct (H : FVec Ideal S136x512x7168 .f32) : FVec Ideal S136x512x3584 .f32 :=
  mulf (mulf (extractStridedSlice S136x512x3584 ![0, 0, 0] H slices_S136x512x7168_S136x512x3584_0_0_0) (Host.divf (broadcastInDim S136x512x3584 ![] bcast_S_S136x512x3584 (constant S_ .f32 0x3F800000#32)) (addf (broadcastInDim S136x512x3584 ![] bcast_S_S136x512x3584 (constant S_ .f32 0x3F800000#32)) (Host.exp (Host.negf (extractStridedSlice S136x512x3584 ![0, 0, 0] H slices_S136x512x7168_S136x512x3584_0_0_0)))))) (extractStridedSlice S136x512x3584 ![0, 0, 3584] H slices_S136x512x7168_S136x512x3584_0_0_3584)

/-- The reference's result. -/
def refRows (bl : IVec S136 32) (tb : IVec S69632 32) (Y : FVec Ideal S33280x8x128 .f32) (W : FVec Ideal S8x1024x7168 .bf16) (D : FVec Ideal S8x3584x1024 .bf16) : FVec Ideal S69632x8x128 .f32 :=
  shapeCast _ (Host.dotGeneral dot_S136x512x3584_S136x3584x1024_S136x512x1024_2_1_1_2_0_0 none (refAct (refHidden bl tb Y W)) (Host.gather gather_S8x3584x1024_S136x1_S136x3584x1024_12_0_n_n_0_1_135841024 (extf .f32 D bitsLt_bf16_f32) (expertStarts bl))) shapeCasts_S136x512x1024_S69632x8x128

/-- An entry that is not negative is its own start index. -/
theorem expertStarts_apply (bl : IVec S136 32) (h : ∀ j, (bl j).toNat < 8) (i : Fin 136) : expertStarts bl (ix2 i (0 : Fin 1)) = bl (ix1 i) := by
  have hz : ∀ z : S136.Idx, z = ix1 i → Scalar.select (IntOp.cmpi .slt (bl z) 0#32) (IntOp.addi (bl z) 8#32) (bl z) = bl (ix1 i) := by
    rintro _ rfl
    have hb := h (ix1 i)
    have hlt : ¬ IntOp.cmpi .slt (bl (ix1 i)) 0#32 = 1#1 := by
      rw [StableHlo.Predicate.slt_iff_toNat (by omega) (by decide)]; exact Nat.not_lt_zero _
    rw [ValueIdx.eq_zero_of_ne_one hlt, ValueIdx.select_zero]
  unfold expertStarts
  simp only [pointwise]
  exact hz _ (by funext a; match a with | ⟨0, _⟩ => rfl)

theorem tokenStarts_apply (tb : IVec S69632 32) (h : ∀ j, (tb j).toNat < 33280) (n : Fin 69632) : tokenStarts tb (ix2 n (0 : Fin 1)) = tb (ix1 n) := by
  have hz : ∀ z : S69632.Idx, z = ix1 n → Scalar.select (IntOp.cmpi .slt (tb z) 0#32) (IntOp.addi (tb z) 33280#32) (tb z) = tb (ix1 n) := by
    rintro _ rfl
    have hb := h (ix1 n)
    have hlt : ¬ IntOp.cmpi .slt (tb (ix1 n)) 0#32 = 1#1 := by
      rw [StableHlo.Predicate.slt_iff_toNat (by omega) (by decide)]; exact Nat.not_lt_zero _
    rw [ValueIdx.eq_zero_of_ne_one hlt, ValueIdx.select_zero]
  unfold tokenStarts
  simp only [pointwise]
  exact hz _ (by funext a; match a with | ⟨0, _⟩ => rfl)

/-- The expert a start index in range names. -/
theorem expert_start (bl : IVec S136 32) (h : ∀ j, (bl j).toNat < 8) (i : Fin 136) :
    min (expertStarts bl (ix2 i (0 : Fin 1))).toInt.toNat (8 - 1) = (blockExpert bl i).val := by
  have hb := h (ix1 i)
  rw [expertStarts_apply bl h i, StableHlo.Predicate.toInt_eq_toNat_of_lt (by omega), Int.toNat_natCast]
  show min _ _ = (bl _).toNat % 8
  rw [Nat.mod_eq_of_lt hb]
  exact Nat.min_eq_left (by omega)

/-- The token a start index in range names. -/
theorem token_start (tb : IVec S69632 32) (h : ∀ j, (tb j).toNat < 33280) (n : Fin 69632) :
    min (tokenStarts tb (ix2 n (0 : Fin 1))).toInt.toNat (33280 - 1) = (rowToken tb n).val := by
  have hb := h (ix1 n)
  rw [tokenStarts_apply tb h n, StableHlo.Predicate.toInt_eq_toNat_of_lt (by omega), Int.toNat_natCast]
  show min _ _ = (tb _).toNat % 33280
  rw [Nat.mod_eq_of_lt hb]
  exact Nat.min_eq_left (by omega)

theorem token_row (tb : IVec S69632 32) (h : ∀ j, (tb j).toNat < 33280) (Y : FVec Ideal S33280x8x128 .f32) (n : Fin 69632) (k : Fin 1024) :
    Host.gather gather_S33280x1024_S69632x1_S69632x1024_1_0_n_n_0_1_11024 (shapeCast S33280x1024 Y shapeCasts_S33280x8x128_S33280x1024) (tokenStarts tb) (ix2 n k)
      = tokenAt Y (rowToken tb n) k := by
  refine (take_row_apply (N := 33280) (R := 69632) (C := 1024) (by decide) gather_S33280x1024_S69632x1_S69632x1024_1_0_n_n_0_1_11024_wf _ _ n k).trans ?_
  have hr : ∀ (z : ℕ) (hz : z < 33280), z = (rowToken tb n).val → (⟨z, hz⟩ : Fin 33280) = rowToken tb n := fun z hz e => Fin.ext e
  rw [hr _ _ (token_start tb h n)]
  unfold tokenAt
  simp only [pointwise]

theorem gu_slab (bl : IVec S136 32) (h : ∀ j, (bl j).toNat < 8) (W : FVec Ideal S8x1024x7168 .bf16) (i : Fin 136) (k : Fin 1024) (j : Fin 7168) :
    Host.gather gather_S8x1024x7168_S136x1_S136x1024x7168_12_0_n_n_0_1_110247168 (extf (F := Ideal) .f32 W bitsLt_bf16_f32) (expertStarts bl) (ix3 i k j)
      = W (ix3 (blockExpert bl i) k j) := by
  refine (take_slab_apply (N := 8) (R := 136) (A := 1024) (C := 7168) (by decide) gather_S8x1024x7168_S136x1_S136x1024x7168_12_0_n_n_0_1_110247168_wf _ _ i k j).trans ?_
  have hr : ∀ (z : ℕ) (hz : z < 8), z = (blockExpert bl i).val → (⟨z, hz⟩ : Fin 8) = blockExpert bl i := fun z hz e => Fin.ext e
  rw [hr _ _ (expert_start bl h i)]
  rfl

theorem d_slab (bl : IVec S136 32) (h : ∀ j, (bl j).toNat < 8) (D : FVec Ideal S8x3584x1024 .bf16) (i : Fin 136) (j : Fin 3584) (q : Fin 1024) :
    Host.gather gather_S8x3584x1024_S136x1_S136x3584x1024_12_0_n_n_0_1_135841024 (extf (F := Ideal) .f32 D bitsLt_bf16_f32) (expertStarts bl) (ix3 i j q)
      = D (ix3 (blockExpert bl i) j q) := by
  refine (take_slab_apply (N := 8) (R := 136) (A := 3584) (C := 1024) (by decide) gather_S8x3584x1024_S136x1_S136x3584x1024_12_0_n_n_0_1_135841024_wf _ _ i j q).trans ?_
  have hr : ∀ (z : ℕ) (hz : z < 8), z = (blockExpert bl i).val → (⟨z, hz⟩ : Fin 8) = blockExpert bl i := fun z hz e => Fin.ext e
  rw [hr _ _ (expert_start bl h i)]
  rfl

theorem refHidden_apply (bl : IVec S136 32) (hb : ∀ j, (bl j).toNat < 8) (tb : IVec S69632 32) (ht : ∀ j, (tb j).toNat < 33280) (Y : FVec Ideal S33280x8x128 .f32) (W : FVec Ideal S8x1024x7168 .bf16)
    (i : Fin 136) (r : Fin 512) (j : Fin 7168) :
    refHidden bl tb Y W (ix3 i r j) = hiddenAt W (blockExpert bl i) (tokenAt Y (rowToken tb ⟨512 * i.val + r.val, by omega⟩)) j := by
  unfold refHidden hiddenAt
  simp only [pointwise, zero_add]
  refine Finset.sum_congr rfl fun k _ => congrArg₂ (· * ·) ?_ (gu_slab bl hb W i k j)
  refine Eq.trans ?_ (token_row tb ht Y ⟨512 * i.val + r.val, by omega⟩ k)
  exact congrArg (fun z : Fin 69632 => Host.gather gather_S33280x1024_S69632x1_S69632x1024_1_0_n_n_0_1_11024 (shapeCast S33280x1024 Y shapeCasts_S33280x8x128_S33280x1024) (tokenStarts tb) (ix2 z k))
    (Fin.ext (by show i.val * 512 + r.val = 512 * i.val + r.val; omega))

theorem refAct_apply (H : FVec Ideal S136x512x7168 .f32) (i : Fin 136) (r : Fin 512) (j : Fin 3584) :
    refAct H (ix3 i r j) = gated (H (ix3 i r ⟨j.val, by omega⟩)) (H (ix3 i r ⟨3584 + j.val, by omega⟩)) := by
  unfold refAct gated
  simp only [pointwise]
  have e3 : ∀ (a : Fin 136) (b : Fin 512) (d d' : Fin 7168), a.val = i.val → b.val = r.val → d.val = d'.val → H (ix3 a b d) = H (ix3 i r d') := by
    intro a b d d' h1 h2 h3
    rw [Fin.ext h1, Fin.ext h2, Fin.ext h3]
  exact congrArg₂ (fun g u : EReal => g * Ideal.div 1 (1 + Ideal.exp (-g)) * u) (e3 _ _ _ _ (Nat.zero_add _) (Nat.zero_add _) (Nat.zero_add _))
    (e3 _ _ _ _ (Nat.zero_add _) (Nat.zero_add _) rfl)

theorem refRows_apply (bl : IVec S136 32) (hb : ∀ j, (bl j).toNat < 8) (tb : IVec S69632 32) (ht : ∀ j, (tb j).toNat < 33280) (Y : FVec Ideal S33280x8x128 .f32) (W : FVec Ideal S8x1024x7168 .bf16)
    (D : FVec Ideal S8x3584x1024 .bf16) (n : Fin 69632) (a : Fin 8) (b : Fin 128) :
    refRows bl tb Y W D (ix3 n a b) = rowsAt bl tb Y W D n a b := by
  unfold refRows rowsAt expertAt
  simp only [pointwise, zero_add]
  have en : (⟨512 * (n.val / 512) + n.val % 512, by omega⟩ : Fin 69632) = n := Fin.ext (Nat.div_add_mod _ _)
  have eq : (⟨a.val * 128 + b.val, by omega⟩ : Fin 1024) = ⟨128 * a.val + b.val, by omega⟩ := Fin.ext (by show a.val * 128 + b.val = 128 * a.val + b.val; omega)
  refine Finset.sum_congr rfl fun j _ => congrArg₂ (· * ·) ((refAct_apply _ _ _ j).trans ?_) ((d_slab bl hb D _ j _).trans ?_)
  · unfold actAt
    rw [refHidden_apply bl hb tb ht, refHidden_apply bl hb tb ht]
    exact congrArg (fun z => gated (hiddenAt W (blockExpert bl ⟨n.val / 512, by omega⟩) (tokenAt Y (rowToken tb z)) ⟨j.val, by omega⟩)
      (hiddenAt W (blockExpert bl ⟨n.val / 512, by omega⟩) (tokenAt Y (rowToken tb z)) ⟨3584 + j.val, by omega⟩)) en
  · exact congrArg (fun z => D (ix3 (blockExpert bl ⟨n.val / 512, by omega⟩) j z)) eq

theorem ref_run (m : (ℓ : Loc nD τ sig) → Buf (Elt Ideal) ℓ) (ρ : Dev nD → PrngReg)
    (hb : ∀ c : Dev nD, ∀ j, ((m ((c : Thread nD τ).loc main_arg0) : S136.Idx → BitVec 32) j).toNat < 8)
    (ht : ∀ c : Dev nD, ∀ j, ((m ((c : Thread nD τ).loc main_arg1) : S69632.Idx → BitVec 32) j).toNat < 33280) :
    θ_run defs (onTc (τ := τ) (main (F := Ideal))) ⟨m, fun _ => 0, ρ⟩ fun r => ∀ c : Dev nD,
      r.2.mem ((c : Thread nD τ).loc main_v31) = (fun i : S69632x8x128.Idx => rowsAt (m ((c : Thread nD τ).loc main_arg0)) (m ((c : Thread nD τ).loc main_arg1))
        (m ((c : Thread nD τ).loc main_arg2)) (m ((c : Thread nD τ).loc main_arg3)) (m ((c : Thread nD τ).loc main_arg4)) (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ⟨(h c).1.trans ?_, (h c).2⟩) (Value.run (F := Ideal) m ρ)
  unfold Value.res_main_v31
  show refRows (m ((c : Thread nD τ).loc main_arg0)) (m ((c : Thread nD τ).loc main_arg1)) (m ((c : Thread nD τ).loc main_arg2)) (m ((c : Thread nD τ).loc main_arg3)) (m ((c : Thread nD τ).loc main_arg4)) = _
  funext (i : S69632x8x128.Idx)
  have ei : (ix3 (i 0) (i 1) (i 2) : S69632x8x128.Idx) = i := by
    funext a
    match a with
    | ⟨0, _⟩ => rfl
    | ⟨1, _⟩ => rfl
    | ⟨2, _⟩ => rfl
  exact (congrArg _ ei.symm).trans (refRows_apply _ (hb c) _ (ht c) _ _ _ (i 0) (i 1) (i 2))

/-- The reference's frame: a straight-line program that declares no semaphore. -/
theorem ref_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0 :=
  (θ_run defs _ _).mono (fun r h => ⟨fun c => (h c).2, sem_eq_zero_of_no_sems (by decide) r.2⟩) (Value.run (F := Ideal) m ρ)

end Cert.Proof.Experts
end
-- ==== Proof.ExpertsPre.lean ====
/- The expert call's precondition, decoded: the tables name experts and rows that exist. -/
module

public import proofs.«01_k».proof.Defs
public import proofs.«01_k».proof.Proof.Gen.Pre_tables_named
public import Idealize.ShloMosaic.Lib.ReduceAll
public import Idealize.ShloMosaic.Lib.StableHlo.Predicate

@[expose] public section
noncomputable section
namespace Cert.Proof.Experts
open Cert.Pre_tables_named Cert.Pre_tables_named.Facts
open Idealize.ShloMosaic

theorem word_below (a : BitVec 32) (n : ℕ) (h0 : a.toInt ≥ 0) (h1 : a.toInt < n) : a.toNat < n := by
  have := BitVec.toInt_eq_toNat_cond a
  split at this <;> omega

theorem both_of_and : ∀ p q : BitVec 1, IntOp.andi p q = 1#1 → p = 1#1 ∧ q = 1#1 := by decide
theorem bools_of_and : ∀ p q : Bool, IntOp.andi (BitVec.ofBool p) (BitVec.ofBool q) = 1#1 → p = true ∧ q = true := by decide

theorem tables_of_fn {F : FTy → Type} [FloatOps F] [Cert.Pre_tables_named.Facts] (bl : IVec S136 32) (tb : IVec S69632 32) (x2 : FVec F S33280x8x128 .f32) (x3 : FVec F S8x1024x7168 .bf16)
    (x4 : FVec F S8x3584x1024 .bf16) (h : Cert.Pre_tables_named.fn (F := F) bl tb x2 x3 x4 = fun _ => 1#1) :
    (∀ j : S136.Idx, (bl j).toNat < 8) ∧ ∀ j : S69632.Idx, (tb j).toNat < 33280 := by
  haveI : Subsingleton S_.Idx := ⟨fun y z => funext fun a => a.elim0⟩
  obtain ⟨h1, h2⟩ := both_of_and _ _ (congrFun h (fun a => a.elim0))
  constructor <;> intro j
  · have e := Host.reduce_andi_all _ _ _ _ (fun a => a.elim0) h1 j
    simp only [andi, cmpi, broadcastInDim, constantI, IntOp.cmpi] at e
    obtain ⟨p, q⟩ := bools_of_and _ _ e
    refine word_below _ _ ?_ ?_
    · simpa [IntOp.cmpi, BitVec.sle] using p
    · simpa [IntOp.cmpi, BitVec.slt] using q
  · have e := Host.reduce_andi_all _ _ _ _ (fun a => a.elim0) h2 j
    simp only [andi, cmpi, broadcastInDim, constantI, IntOp.cmpi] at e
    obtain ⟨p, q⟩ := bools_of_and _ _ e
    refine word_below _ _ ?_ ?_
    · simpa [IntOp.cmpi, BitVec.sle] using p
    · simpa [IntOp.cmpi, BitVec.slt] using q

end Cert.Proof.Experts
end
-- ==== Proof.FeedForwardBody.lean ====
/- What the feed-forward kernel's body leaves at a grid point, as its stored terms. -/
module

public import proofs.«01_k».proof.Proof.Gen.FeedForwardIdeal.Value

@[expose] public section
set_option maxRecDepth 16384
noncomputable section
namespace Cert.Proof.FeedForward
open Cert.FeedForwardIdeal Cert.FeedForwardIdeal.Gen
open Idealize.ShloMosaic Idealize.ShloMosaic.TcCoe

theorem hz : (![0, 0] : Fin 2 → Nat) = fun _ => 0 := funext fun a => by fin_cases a <;> rfl

variable {F : FTy → Type} [FloatOps F]
variable (c : Dev nD) (i : grid0.Coords) (a2 : Memref sig .tc .vmem S512x1024 .f32) (h2 : a2.IsWhole) (a3 : Memref sig .tc .vmem S1x1024 .f32) (h3 : a3.IsWhole)
  (a4 : Memref sig .tc .vmem S1024x1408 .bf16) (h4 : a4.IsWhole) (a5 : Memref sig .tc .vmem S1024x1408 .bf16) (h5 : a5.IsWhole) (a6 : Memref sig .tc .vmem S1408x1024 .bf16) (h6 : a6.IsWhole)
  (a7 : Memref sig .tc .vmem S512x1024 .f32) (h7 : a7.IsWhole) (a8 : Memref sig .tc .vmem S512x1024 .bf16) (h8 : a8.IsWhole) (a9 : Memref sig .tc .vmem S512x1024 .f32) (h9 : a9.IsWhole)
  (x0 : FVec F S512x1024 .f32) (x1 : FVec F S1x1024 .f32) (x2 x3 : FVec F S1024x1408 .bf16) (x4 : FVec F S1408x1024 .bf16)

/-- After the first half: the normalised rows. -/
theorem first_rows (hc0 : cond0_0 i) (hc1 : ¬cond0_1 i) :
    sout0_A_0 (F := F) c i a2 h2 a3 h3 a4 h4 a5 h5 a6 h6 a7 h7 a8 h8 a9 h9 hc0 hc1 x0 x1 x2 x3 x4 = k0_pay1 x0 x1 := by
  unfold sout0_A_0
  rw [View.read_writes_eq_canon _ _ _ (scover0_A_0 c i a2 h2 a3 h3 a4 h4 a5 h5 a6 h6 a7 h7 a8 h8 a9 h9 hc0 hc1 x0 x1 x2 x3 x4)]
  unfold kernelRun0_A
  dsimp only
  sl_unfold_words
  rw [View.canon_unit_zero hz]
  simp only [View.readAt_eq_ld, h2.read_unread, h3.read_unread, View.ld_unit_zero (S := S512x1024) hz, View.ld_unit_zero (S := S1x1024) hz]

/-- After the first half: its part of the second product. -/
theorem first_sum (hc0 : cond0_0 i) (hc1 : ¬cond0_1 i) :
    sout0_A_1 (F := F) c i a2 h2 a3 h3 a4 h4 a5 h5 a6 h6 a7 h7 a8 h8 a9 h9 hc0 hc1 x0 x1 x2 x3 x4 = k0_pay3 (k0_pay1 x0 x1) x2 x3 k0_pay2 x4 := by
  unfold sout0_A_1
  rw [View.read_writes_eq_canon _ _ _ (scover0_A_1 c i a2 h2 a3 h3 a4 h4 a5 h5 a6 h6 a7 h7 a8 h8 a9 h9 hc0 hc1 x0 x1 x2 x3 x4)]
  unfold kernelRun0_A
  dsimp only
  sl_unfold_words
  rw [View.canon_cons_unit_zero (S := S512x1024) hz, View.readCov_unit_zero (S := S512x1024) _ hz, View.readCov_unit_zero (S := S512x1024) _ hz]
  simp only [View.readAt_eq_ld, h2.read_unread, h3.read_unread, h4.read_unread, h5.read_unread, h6.read_unread, View.ld_unit_zero (S := S512x1024) hz, View.ld_unit_zero (S := S1x1024) hz,
    View.ld_unit_zero (S := S1024x1408) hz, View.ld_unit_zero (S := S1408x1024) hz]

/-- After the second half: the block of the result. -/
theorem second_out (hc0 : ¬cond0_0 i) (hc1 : cond0_1 i) (s0 : FVec F S512x1024 .bf16) (s1 : FVec F S512x1024 .f32) :
    out0_B_5 (F := F) c i a2 h2 a3 h3 a4 h4 a5 h5 a6 h6 a7 h7 a8 h8 a9 h9 hc0 hc1 x0 x1 x2 x3 x4 s0 s1 = k0_pay4 x0 (k0_pay3 s0 x2 x3 s1 x4) := by
  unfold out0_B_5
  rw [View.read_writes_eq_canon _ _ _ (cover0_B_5 c i a2 h2 a3 h3 a4 h4 a5 h5 a6 h6 a7 h7 a8 h8 a9 h9 hc0 hc1 x0 x1 x2 x3 x4 s0 s1)]
  unfold kernelRun0_B
  dsimp only
  sl_unfold_words
  rw [View.canon_unit_zero hz, View.readCov_unit_zero (S := S512x1024) _ hz]
  simp only [View.readAt_eq_ld, h2.read_unread, h4.read_unread, h5.read_unread, h6.read_unread, h8.read_unread, h9.read_unread, View.ld_unit_zero (S := S512x1024) hz,
    View.ld_unit_zero (S := S1024x1408) hz, View.ld_unit_zero (S := S1408x1024) hz]

variable (m : (ℓ : Loc nD τ sig) → Buf (Elt F) ℓ)

/-- What the first point of a block leaves in the kernel's two buffers. -/
theorem first_point_rows (t : Fin cfg0.N) (h0 : t.val % 2 = 0) (h1 : ¬t.val % 2 = 1) :
    (outsAt0 m c t.val t.isLt).2.1 = k0_pay1 (F := F) (iblk m c 0 t) (iblk m c 1 t) := by
  rw [outsAt0_A m c t h0 h1]
  dsimp only
  rw [first_rows]

theorem first_point_sum (t : Fin cfg0.N) (h0 : t.val % 2 = 0) (h1 : ¬t.val % 2 = 1) :
    (outsAt0 m c t.val t.isLt).2.2 = k0_pay3 (F := F) (k0_pay1 (F := F) (iblk m c 0 t) (iblk m c 1 t)) (iblk m c 2 t) (iblk m c 3 t) (k0_pay2 (F := F)) (iblk m c 4 t) := by
  rw [outsAt0_A m c t h0 h1]
  dsimp only
  rw [first_sum]

/-- What the second point of a block leaves in the output's buffer. -/
theorem second_point (t : Fin cfg0.N) (h0 : ¬t.val % 2 = 0) (h1 : t.val % 2 = 1) (s0 : FVec F S512x1024 .bf16) (s1 : FVec F S512x1024 .f32)
    (e0 : (outsAt0 m c (t.val - 1) (Nat.lt_of_le_of_lt (Nat.sub_le _ _) t.isLt)).2.1 = s0)
    (e1 : (outsAt0 m c (t.val - 1) (Nat.lt_of_le_of_lt (Nat.sub_le _ _) t.isLt)).2.2 = s1) :
    (outsAt0 m c t.val t.isLt).1 = k0_pay4 (F := F) (iblk m c 0 t) (k0_pay3 (F := F) s0 (iblk m c 2 t) (iblk m c 3 t) s1 (iblk m c 4 t)) := by
  rw [outsAt0_B m c t h0 h1]
  dsimp only
  rw [second_out, e0, e1]

end Cert.Proof.FeedForward
end
-- ==== Proof.FeedForwardSpec.lean ====
/- What the dense feed-forward call computes, element by element, over the extended reals. -/
module

public import Idealize.ShloMosaic.Lib.Pointwise.Tactic
public import Idealize.ShloMosaic.Lib.ValueIdxCore
public import Idealize.ShloMosaic.PureOps

@[expose] public section
noncomputable section
namespace Cert.Proof.FeedForward
open Idealize.ShloMosaic

/-- The gated product of one entry: `g · sigmoid(g) · u`. -/
def gated (g u : EReal) : EReal := g * Ideal.div 1 (1 + Ideal.exp (-g)) * u

/-- Entry `k` of a row normalised along its 1024 entries, times the gain. -/
def normed (x g : Fin 1024 → EReal) (k : Fin 1024) : EReal :=
  x k * Ideal.rsqrt (Ideal.div (∑ l : Fin 1024, x l * x l) (Ideal.ofBits .f32 1149239296#32) + Ideal.ofBits .f32 897988541#32) * g k

/-- Entry `j` of the row's first product: gates in the first 2816 columns, values in the last 2816. -/
def hidden (W : (⟨2, ![1024, 5632]⟩ : Shape).Idx → EReal) (h : Fin 1024 → EReal) (j : Fin 5632) : EReal :=
  ∑ k : Fin 1024, h k * W (ix2 k j)

/-- The gated hidden entry `j`. -/
def act (W : (⟨2, ![1024, 5632]⟩ : Shape).Idx → EReal) (h : Fin 1024 → EReal) (j : Fin 2816) : EReal :=
  gated (hidden W h ⟨j.val, by omega⟩) (hidden W h ⟨2816 + j.val, by omega⟩)

/-- Entry `(n, q)` of the result: the input plus the second product of its normalised row. -/
def resultAt (x : (⟨2, ![32768, 1024]⟩ : Shape).Idx → EReal) (g : (⟨1, ![1024]⟩ : Shape).Idx → EReal)
    (W : (⟨2, ![1024, 5632]⟩ : Shape).Idx → EReal) (D : (⟨2, ![2816, 1024]⟩ : Shape).Idx → EReal) (n : Fin 32768) (q : Fin 1024) : EReal :=
  x (ix2 n q) + ∑ j : Fin 2816, act W (normed (fun k => x (ix2 n k)) (fun k => g (ix1 k))) j * D (ix2 j q)

/-- A sum over the 2816 hidden entries in the two halves the kernel takes. -/
theorem sum_halves (f : Fin 2816 → EReal) :
    ∑ j : Fin 2816, f j = (∑ j : Fin 1408, f ⟨j.val, by omega⟩) + ∑ j : Fin 1408, f ⟨1408 + j.val, by omega⟩ := by
  have e : ∑ j : Fin 2816, f j = ∑ j : Fin (1408 + 1408), f j := rfl
  rw [e, Fin.sum_univ_add]
  rfl

end Cert.Proof.FeedForward
end
-- ==== Proof.FeedForwardValue.lean ====
/- The dense feed-forward kernel's result array, element by element. -/
module

public import proofs.«01_k».proof.Proof.FeedForwardBody
public import proofs.«01_k».proof.Proof.FeedForwardSpec
public import Idealize.ShloMosaic.Lib.Pointwise.Reshape
public import Idealize.ShloMosaic.Lib.Pointwise.Reduce
public import Idealize.ShloMosaic.Lib.Pointwise.Contract
public import Idealize.ShloMosaic.Lib.Pointwise.Tactic

@[expose] public section
set_option maxRecDepth 16384
noncomputable section
namespace Cert.Proof.FeedForward
open Cert.FeedForwardIdeal Cert.FeedForwardIdeal.Gen
open Idealize.ShloMosaic Idealize.ShloMosaic.TcCoe

/-! ## The stored terms at an index -/

theorem pay1_apply (x : FVec Ideal S512x1024 .f32) (g : FVec Ideal S1x1024 .f32) (r : Fin 512) (k : Fin 1024) :
    k0_pay1 (F := Ideal) x g (ix2 r k) = normed (fun l => x (ix2 r l)) (fun l => g (ix2 (0 : Fin 1) l)) k := by
  have hs : multiReduction (F := Ideal) .add [1] S512 (mulf x x) 0x00000000#32 reduces_S512x1024_S512 (.inl rfl) rfl (ix1 r)
      = ∑ l : Fin 1024, x (ix2 r l) * x (ix2 r l) := by
    refine (multiReduction_add_apply _ _ _ _ _ _).trans ?_
    simp only [pointwise]
  unfold normed k0_pay1
  simp only [pointwise]
  rw [← hs]
  rfl

theorem pay2_apply (r : Fin 512) (q : Fin 1024) : (k0_pay2 (F := Ideal)) (ix2 r q) = (0 : EReal) := by
  unfold k0_pay2
  simp only [pointwise]

/-- One half of the second product at an index: what was accumulated plus the gated columns times their rows. -/
theorem pay3_apply (h : FVec Ideal S512x1024 .bf16) (wg wu : FVec Ideal S1024x1408 .bf16) (acc : FVec Ideal S512x1024 .f32) (wd : FVec Ideal S1408x1024 .bf16)
    (r : Fin 512) (q : Fin 1024) :
    k0_pay3 (F := Ideal) h wg wu acc wd (ix2 r q)
      = acc (ix2 r q) + ∑ j : Fin 1408, gated (∑ k : Fin 1024, h (ix2 r k) * wg (ix2 k j)) (∑ k : Fin 1024, h (ix2 r k) * wu (ix2 k j)) * wd (ix2 j q) := by
  unfold k0_pay3 gated
  simp only [pointwise, zero_add, zero_sub]

variable (m : (ℓ : Loc nD τ sig) → Buf (Elt Ideal) ℓ) (c : Dev nD)

/-! ## The arrays the host prepared -/

theorem V_main_v0 (q : Fin 1024) : (V m c main_v0 : S1x1024.Idx → EReal) (ix2 (0 : Fin 1) q) = (m ((c : Thread nD τ).loc main_arg1) : S1024.Idx → EReal) (ix1 q) := by
  have e : (V m c main_v0 : S1x1024.Idx → EReal) = shapeCast S1x1024 (m ((c : Thread nD τ).loc main_arg1) : S1024.Idx → EReal) shapeCasts_S1024_S1x1024 := by
    unfold V
    after_results_simp <;> rfl
  rw [e]
  simp only [pointwise]

theorem V_main_v1 : (V m c main_v1 : S1024x5632.Idx → EReal) = (m ((c : Thread nD τ).loc main_arg2) : S1024x5632.Idx → EReal) := by
  unfold V
  after_results_simp <;> rfl

theorem V_main_v2 : (V m c main_v2 : S2816x1024.Idx → EReal) = (m ((c : Thread nD τ).loc main_arg3) : S2816x1024.Idx → EReal) := by
  unfold V
  after_results_simp <;> rfl

/-! ## The blocks the body reads -/

theorem index0 : ∀ t : Fin grid0.N, cc0_transform_0 (grid0.coords t) = ![t.val / 2, 0] := by decide +kernel
theorem index2 : ∀ t : Fin grid0.N, cc0_transform_2 (grid0.coords t) = ![0, t.val % 2] := by decide +kernel
theorem index3 : ∀ t : Fin grid0.N, cc0_transform_3 (grid0.coords t) = ![0, 2 + t.val % 2] := by decide +kernel
theorem index4 : ∀ t : Fin grid0.N, cc0_transform_4 (grid0.coords t) = ![t.val % 2, 0] := by decide +kernel

theorem iblk0_apply (t : Fin cfg0.N) (r : Fin 512) (k : Fin 1024) (n : Fin 32768) (hn : n.val = 512 * (t.val / 2) + r.val) :
    (iblk m c 0 t : S512x1024.Idx → EReal) (ix2 r k) = (m ((c : Thread nD τ).loc main_arg0) : S32768x1024.Idx → EReal) (ix2 n k) := by
  refine Eq.trans ?_ (congrFun (V_main_arg0 m c) _)
  show V m c main_arg0 (((cfg0.win 0).rect t).emb (ix2 r k)) = V m c main_arg0 _
  refine congrArg (V m c main_arg0) ?_
  funext a
  apply Fin.ext
  refine (Pipeline.Window.rect_emb_val _ _ _ _).trans ?_
  have e := index0 t
  match a with
  | ⟨0, _⟩ => show cc0_transform_0 (grid0.coords t) 0 * 512 + r.val = n.val; rw [e, hn]; show t.val / 2 * 512 + r.val = _; omega
  | ⟨1, _⟩ => show cc0_transform_0 (grid0.coords t) 1 * 1024 + k.val = k.val; rw [e]; show 0 * 1024 + k.val = k.val; omega

theorem iblk1_apply (t : Fin cfg0.N) (q : Fin 1024) :
    (iblk m c 1 t : S1x1024.Idx → EReal) (ix2 (0 : Fin 1) q) = (m ((c : Thread nD τ).loc main_arg1) : S1024.Idx → EReal) (ix1 q) := by
  refine Eq.trans ?_ (V_main_v0 m c q)
  show V m c main_v0 (((cfg0.win 1).rect t).emb (ix2 (0 : Fin 1) q)) = V m c main_v0 _
  refine congrArg (V m c main_v0) ?_
  funext a
  apply Fin.ext
  refine (Pipeline.Window.rect_emb_val _ _ _ _).trans ?_
  match a with
  | ⟨0, _⟩ => show 0 * 1 + 0 = 0; rfl
  | ⟨1, _⟩ => show 0 * 1024 + q.val = q.val; omega

theorem iblk2_apply (t : Fin cfg0.N) (k : Fin 1024) (j : Fin 1408) (z : Fin 5632) (hz : z.val = 1408 * (t.val % 2) + j.val) :
    (iblk m c 2 t : S1024x1408.Idx → EReal) (ix2 k j) = (m ((c : Thread nD τ).loc main_arg2) : S1024x5632.Idx → EReal) (ix2 k z) := by
  refine Eq.trans ?_ (congrFun (V_main_v1 m c) _)
  show V m c main_v1 (((cfg0.win 2).rect t).emb (ix2 k j)) = V m c main_v1 _
  refine congrArg (V m c main_v1) ?_
  funext a
  apply Fin.ext
  refine (Pipeline.Window.rect_emb_val _ _ _ _).trans ?_
  have e := index2 t
  match a with
  | ⟨0, _⟩ => show cc0_transform_2 (grid0.coords t) 0 * 1024 + k.val = k.val; rw [e]; show 0 * 1024 + k.val = k.val; omega
  | ⟨1, _⟩ => show cc0_transform_2 (grid0.coords t) 1 * 1408 + j.val = z.val; rw [e, hz]; show t.val % 2 * 1408 + j.val = _; omega

theorem iblk3_apply (t : Fin cfg0.N) (k : Fin 1024) (j : Fin 1408) (z : Fin 5632) (hz : z.val = 2816 + (1408 * (t.val % 2) + j.val)) :
    (iblk m c 3 t : S1024x1408.Idx → EReal) (ix2 k j) = (m ((c : Thread nD τ).loc main_arg2) : S1024x5632.Idx → EReal) (ix2 k z) := by
  refine Eq.trans ?_ (congrFun (V_main_v1 m c) _)
  show V m c main_v1 (((cfg0.win 3).rect t).emb (ix2 k j)) = V m c main_v1 _
  refine congrArg (V m c main_v1) ?_
  funext a
  apply Fin.ext
  refine (Pipeline.Window.rect_emb_val _ _ _ _).trans ?_
  have e := index3 t
  match a with
  | ⟨0, _⟩ => show cc0_transform_3 (grid0.coords t) 0 * 1024 + k.val = k.val; rw [e]; show 0 * 1024 + k.val = k.val; omega
  | ⟨1, _⟩ => show cc0_transform_3 (grid0.coords t) 1 * 1408 + j.val = z.val; rw [e, hz]; show (2 + t.val % 2) * 1408 + j.val = _; omega

theorem iblk4_apply (t : Fin cfg0.N) (j : Fin 1408) (q : Fin 1024) (z : Fin 2816) (hz : z.val = 1408 * (t.val % 2) + j.val) :
    (iblk m c 4 t : S1408x1024.Idx → EReal) (ix2 j q) = (m ((c : Thread nD τ).loc main_arg3) : S2816x1024.Idx → EReal) (ix2 z q) := by
  refine Eq.trans ?_ (congrFun (V_main_v2 m c) _)
  show V m c main_v2 (((cfg0.win 4).rect t).emb (ix2 j q)) = V m c main_v2 _
  refine congrArg (V m c main_v2) ?_
  funext a
  apply Fin.ext
  refine (Pipeline.Window.rect_emb_val _ _ _ _).trans ?_
  have e := index4 t
  match a with
  | ⟨0, _⟩ => show cc0_transform_4 (grid0.coords t) 0 * 1408 + j.val = z.val; rw [e, hz]; show t.val % 2 * 1408 + j.val = _; omega
  | ⟨1, _⟩ => show cc0_transform_4 (grid0.coords t) 1 * 1024 + q.val = q.val; rw [e]; show 0 * 1024 + q.val = q.val; omega

/-! ## The block the body leaves -/

/-- Row `n`, normalised. -/
def rowAt (n : Fin 32768) : Fin 1024 → EReal :=
  normed (fun k => (m ((c : Thread nD τ).loc main_arg0) : S32768x1024.Idx → EReal) (ix2 n k)) (fun k => (m ((c : Thread nD τ).loc main_arg1) : S1024.Idx → EReal) (ix1 k))

theorem rows_apply (t : Fin cfg0.N) (r : Fin 512) (k : Fin 1024) (n : Fin 32768) (hn : n.val = 512 * (t.val / 2) + r.val) :
    k0_pay1 (F := Ideal) (iblk m c 0 t) (iblk m c 1 t) (ix2 r k) = rowAt m c n k := by
  refine (pay1_apply _ _ r k).trans ?_
  unfold rowAt
  refine congrArg₂ (fun a b => normed a b k) (funext fun l => iblk0_apply m c t r l n hn) (funext fun l => iblk1_apply m c t l)

/-- What half `f` adds to entry `q` of row `n`. -/
def halfSum (n : Fin 32768) (f : ℕ) (hf : f < 2) (q : Fin 1024) : EReal :=
  ∑ j : Fin 1408, act (m ((c : Thread nD τ).loc main_arg2)) (rowAt m c n) ⟨1408 * f + j.val, by omega⟩
    * (m ((c : Thread nD τ).loc main_arg3) : S2816x1024.Idx → EReal) (ix2 ⟨1408 * f + j.val, by omega⟩ q)

theorem step_apply (t : Fin cfg0.N) (h : FVec Ideal S512x1024 .bf16) (acc : FVec Ideal S512x1024 .f32) (r : Fin 512) (q : Fin 1024) (n : Fin 32768)
    (hh : ∀ k : Fin 1024, h (ix2 r k) = rowAt m c n k) :
    k0_pay3 (F := Ideal) h (iblk m c 2 t) (iblk m c 3 t) acc (iblk m c 4 t) (ix2 r q)
      = acc (ix2 r q) + halfSum m c n (t.val % 2) (Nat.mod_lt _ (by omega)) q := by
  refine (pay3_apply _ _ _ _ _ r q).trans (congrArg (fun z : EReal => acc (ix2 r q) + z) ?_)
  unfold halfSum act hidden
  refine Finset.sum_congr rfl fun j _ => congrArg₂ (· * ·) (congrArg₂ gated ?_ ?_) (iblk4_apply m c t j q _ rfl)
  · exact Finset.sum_congr rfl fun k _ => congrArg₂ (· * ·) (hh k) (iblk2_apply m c t k j _ rfl)
  · exact Finset.sum_congr rfl fun k _ => congrArg₂ (· * ·) (hh k) (iblk3_apply m c t k j _ rfl)

theorem pay4_apply (x a : FVec Ideal S512x1024 .f32) (r : Fin 512) (q : Fin 1024) : k0_pay4 (F := Ideal) x a (ix2 r q) = x (ix2 r q) + a (ix2 r q) := by
  unfold k0_pay4
  simp only [pointwise]

theorem halfSum_congr (n : Fin 32768) (f g : ℕ) (hf : f < 2) (hg : g < 2) (e : f = g) (q : Fin 1024) : halfSum m c n f hf q = halfSum m c n g hg q := by
  subst e; rfl

/-- The two halves make up the whole second product. -/
theorem halves_eq (n : Fin 32768) (q : Fin 1024) :
    halfSum m c n 0 (by omega) q + halfSum m c n 1 (by omega) q
      = ∑ j : Fin 2816, act (m ((c : Thread nD τ).loc main_arg2)) (rowAt m c n) j * (m ((c : Thread nD τ).loc main_arg3) : S2816x1024.Idx → EReal) (ix2 j q) := by
  rw [sum_halves]
  unfold halfSum
  refine congrArg₂ (· + ·) (Finset.sum_congr rfl fun j _ => ?_) (Finset.sum_congr rfl fun j _ => ?_)
  · have ej : (⟨1408 * 0 + j.val, by omega⟩ : Fin 2816) = ⟨j.val, by omega⟩ := Fin.ext (by show 1408 * 0 + j.val = j.val; omega)
    rw [ej]
  · have ej : (⟨1408 * 1 + j.val, by omega⟩ : Fin 2816) = ⟨1408 + j.val, by omega⟩ := Fin.ext (by show 1408 * 1 + j.val = 1408 + j.val; omega)
    rw [ej]

/-- What the two points `t`, `t'` of a block leave in the output's buffer. -/
theorem block_apply (t t' : Fin cfg0.N) (ht : t.val % 2 = 1) (ht' : t'.val = t.val - 1) (r : Fin 512) (q : Fin 1024) (n : Fin 32768) (hn : n.val = 512 * (t.val / 2) + r.val) :
    (outsAt0 m c t.val t.isLt).1 (ix2 r q)
      = resultAt (m ((c : Thread nD τ).loc main_arg0)) (m ((c : Thread nD τ).loc main_arg1)) (m ((c : Thread nD τ).loc main_arg2)) (m ((c : Thread nD τ).loc main_arg3)) n q := by
  have hn' : n.val = 512 * (t'.val / 2) + r.val := by omega
  have ho : outsAt0 m c (t.val - 1) (Nat.lt_of_le_of_lt (Nat.sub_le _ _) t.isLt) = outsAt0 m c t'.val t'.isLt := by simp only [ht']
  rw [second_point c m t (by omega) ht _ _ ((congrArg (fun z => z.2.1) ho).trans (first_point_rows c m t' (by omega) (by omega))) ((congrArg (fun z => z.2.2) ho).trans (first_point_sum c m t' (by omega) (by omega)))]
  refine (pay4_apply _ _ r q).trans ?_
  unfold resultAt
  refine congrArg₂ (· + ·) (iblk0_apply m c t r q n hn) ?_
  refine (step_apply m c t _ _ r q n fun k => rows_apply m c t' r k n hn').trans ?_
  rw [step_apply m c t' _ _ r q n fun k => rows_apply m c t' r k n hn']
  rw [pay2_apply, zero_add, halfSum_congr m c n (t'.val % 2) 0 _ (by omega) (by omega), halfSum_congr m c n (t.val % 2) 1 _ (by omega) ht]
  exact halves_eq m c n q

/-- The result array the launch leaves. -/
theorem G5_eq : (Value.G5 m c : S32768x1024.Idx → EReal) = fun i : S32768x1024.Idx =>
    resultAt (m ((c : Thread nD τ).loc main_arg0)) (m ((c : Thread nD τ).loc main_arg1)) (m ((c : Thread nD τ).loc main_arg2)) (m ((c : Thread nD τ).loc main_arg3)) (i 0) (i 1) := by
  funext i
  have h0 : (i 0).val < 32768 := (i 0).isLt
  have h1 : (i 1).val < 1024 := (i 1).isLt
  have hp : Value.pt5Of i = 2 * ((i 0).val / 512) + 1 := by
    show 2 * (1 * ((i 0).val / 512 - 0) + 1 * ((i 1).val / 1024 - 0)) + 1 = _
    omega
  have hN : cfg0.N = 128 := N_0
  have hlt : Value.pt5Of i < cfg0.N := by rw [hp, hN]; omega
  have hlt' : 2 * ((i 0).val / 512) + 1 < cfg0.N := by rw [hN]; omega
  have el : Value.loc5Of i = ix2 (⟨(i 0).val % 512, Nat.mod_lt _ (by omega)⟩ : Fin 512) (i 1) := by
    funext a
    match a with
    | ⟨0, _⟩ => rfl
    | ⟨1, _⟩ => exact Fin.ext (Nat.mod_eq_of_lt h1)
  unfold Value.G5
  rw [dif_pos hlt, ← Value.outsAt0_sweep m c _ hlt, el]
  have ho : ∀ (a b : ℕ) (ha : a < cfg0.N) (hb : b < cfg0.N), a = b → outsAt0 m c a ha = outsAt0 m c b hb := by
    rintro a _ ha hb rfl; rfl
  rw [ho _ _ hlt hlt' hp]
  exact block_apply m c ⟨2 * ((i 0).val / 512) + 1, hlt'⟩ ⟨2 * ((i 0).val / 512), Nat.lt_of_succ_lt hlt'⟩ (by show (2 * ((i 0).val / 512) + 1) % 2 = 1; omega)
    (by show 2 * ((i 0).val / 512) = 2 * ((i 0).val / 512) + 1 - 1; omega) _ (i 1) (i 0)
    (by show (i 0).val = 512 * ((2 * ((i 0).val / 512) + 1) / 2) + (i 0).val % 512; omega)

theorem kernel_run (ρ : Dev nD → PrngReg) :
    θ_run defs (onTc (τ := τ) (main (F := Ideal))) ⟨m, fun _ => 0, ρ⟩ fun r => ∀ c : Dev nD,
      r.2.mem ((c : Thread nD τ).loc main_v3) = (fun i : S32768x1024.Idx => resultAt (m ((c : Thread nD τ).loc main_arg0)) (m ((c : Thread nD τ).loc main_arg1))
        (m ((c : Thread nD τ).loc main_arg2)) (m ((c : Thread nD τ).loc main_arg3)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (G5_eq m c), (h c).2⟩) (Value.run (F := Ideal) m ρ)

end Cert.Proof.FeedForward
end
-- ==== Proof.FeedForwardRefValue.lean ====
/- The dense feed-forward reference's result, element by element. -/
module

public import proofs.«01_k».proof.Proof.FeedForwardSpec
public import proofs.«01_k».proof.Proof.Gen.FeedForwardReferenceIdeal.Run
public import Idealize.ShloMosaic.Lib.Pointwise.Reshape
public import Idealize.ShloMosaic.Lib.Pointwise.Reduce
public import Idealize.ShloMosaic.Lib.Pointwise.Contract
public import Idealize.ShloMosaic.Lib.Quiescent

@[expose] public section
set_option maxRecDepth 16384
noncomputable section
namespace Cert.Proof.FeedForward
open Cert.FeedForwardReferenceIdeal Cert.FeedForwardReferenceIdeal.Facts₀
open Idealize.ShloMosaic Idealize.ShloMosaic.TcCoe

/-- The reference's normalised rows. -/
def refNormed (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

/-- The reference's first product. -/
def refHidden (x : FVec Ideal S32768x1024 .f32) (g : FVec Ideal S1024 .f32) (W : FVec Ideal S1024x5632 .f32) : FVec Ideal S32768x5632 .f32 :=
  Host.dotGeneral dot_S32768x1024_S1024x5632_S32768x5632_1_0_0_1_n_n none (refNormed x g) W

/-- The reference's gated hidden entries. -/
def refAct (H : FVec Ideal S32768x5632 .f32) : FVec Ideal S32768x2816 .f32 :=
  mulf (mulf (extractStridedSlice S32768x2816 ![0, 0] H slices_S32768x5632_S32768x2816_0_0) (Host.divf (broadcastInDim S32768x2816 ![] bcast_S_S32768x2816 (constant S_ .f32 0x3F800000#32)) (addf (broadcastInDim S32768x2816 ![] bcast_S_S32768x2816 (constant S_ .f32 0x3F800000#32)) (Host.exp (Host.negf (extractStridedSlice S32768x2816 ![0, 0] H slices_S32768x5632_S32768x2816_0_0)))))) (extractStridedSlice S32768x2816 ![0, 2816] H slices_S32768x5632_S32768x2816_0_2816)

/-- The reference's result. -/
def refResult (x : FVec Ideal S32768x1024 .f32) (g : FVec Ideal S1024 .f32) (W : FVec Ideal S1024x5632 .f32) (D : FVec Ideal S2816x1024 .f32) : FVec Ideal S32768x1024 .f32 :=
  addf x (Host.dotGeneral dot_S32768x2816_S2816x1024_S32768x1024_1_0_0_1_n_n none (refAct (refHidden x g W)) D)

theorem refNormed_apply (x : FVec Ideal S32768x1024 .f32) (g : FVec Ideal S1024 .f32) (n : Fin 32768) (k : Fin 1024) :
    refNormed x g (ix2 n k) = normed (fun l => x (ix2 n l)) (fun l => g (ix1 l)) k := by
  unfold refNormed normed
  simp only [pointwise, zero_add]
  rfl

theorem refHidden_apply (x : FVec Ideal S32768x1024 .f32) (g : FVec Ideal S1024 .f32) (W : FVec Ideal S1024x5632 .f32) (n : Fin 32768) (j : Fin 5632) :
    refHidden x g W (ix2 n j) = hidden W (normed (fun l => x (ix2 n l)) (fun l => g (ix1 l))) j := by
  unfold refHidden hidden
  simp only [pointwise, zero_add]
  exact Finset.sum_congr rfl fun k _ => congrArg (fun z : EReal => z * W (ix2 k j)) (refNormed_apply x g n k)

theorem refAct_apply (H : FVec Ideal S32768x5632 .f32) (n : Fin 32768) (j : Fin 2816) :
    refAct H (ix2 n j) = gated (H (ix2 n ⟨j.val, by omega⟩)) (H (ix2 n ⟨2816 + j.val, by omega⟩)) := by
  unfold refAct gated
  simp only [pointwise]
  have e2 : ∀ (a : Fin 32768) (d d' : Fin 5632), a.val = n.val → d.val = d'.val → H (ix2 a d) = H (ix2 n d') := by
    intro a d d' h1 h2
    rw [Fin.ext h1, Fin.ext h2]
  exact congrArg₂ (fun g u : EReal => g * Ideal.div 1 (1 + Ideal.exp (-g)) * u) (e2 _ _ _ (Nat.zero_add _) (Nat.zero_add _))
    (e2 _ _ _ (Nat.zero_add _) rfl)

theorem refResult_apply (x : FVec Ideal S32768x1024 .f32) (g : FVec Ideal S1024 .f32) (W : FVec Ideal S1024x5632 .f32) (D : FVec Ideal S2816x1024 .f32) (n : Fin 32768) (q : Fin 1024) :
    refResult x g W D (ix2 n q) = resultAt x g W D n q := by
  unfold refResult resultAt
  simp only [pointwise, zero_add]
  refine congrArg (fun z : EReal => x (ix2 n q) + z) (Finset.sum_congr rfl fun j _ => congrArg (fun z : EReal => z * D (ix2 j q)) ((refAct_apply _ n j).trans ?_))
  unfold act
  rw [refHidden_apply, refHidden_apply]

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v19) = (fun i : S32768x1024.Idx => resultAt (m ((c : Thread nD τ).loc main_arg0)) (m ((c : Thread nD τ).loc main_arg1))
        (m ((c : Thread nD τ).loc main_arg2)) (m ((c : Thread nD τ).loc main_arg3)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨(h c).1.trans ?_, (h c).2⟩) (Value.run (F := Ideal) m ρ)
  show refResult (m ((c : Thread nD τ).loc main_arg0)) (m ((c : Thread nD τ).loc main_arg1)) (m ((c : Thread nD τ).loc main_arg2)) (m ((c : Thread nD τ).loc main_arg3)) = _
  funext (i : S32768x1024.Idx)
  have ei : (ix2 (i 0) (i 1) : S32768x1024.Idx) = i := by
    funext a
    match a with
    | ⟨0, _⟩ => rfl
    | ⟨1, _⟩ => rfl
  exact (congrArg _ ei.symm).trans (refResult_apply _ _ _ _ (i 0) (i 1))

/-- The reference's frame: a straight-line program that declares no semaphore. -/
theorem ref_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0 :=
  (θ_run defs _ _).mono (fun r h => ⟨fun c => (h c).2, sem_eq_zero_of_no_sems (by decide) r.2⟩) (Value.run (F := Ideal) m ρ)

end Cert.Proof.FeedForward
end
-- ==== Proof.InProjectionBody.lean ====
/- What the input projection's body leaves in each output block, as its stored terms. -/
module

public import proofs.«01_k».proof.Proof.Gen.InProjectionIdeal.Value
public import Idealize.ShloMosaic.Lib.Pipeline.ValueKit.Tiles
public import Idealize.ShloMosaic.Lib.Pointwise.Reshape
public import Idealize.ShloMosaic.Lib.Pointwise.Tactic

@[expose] public section
set_option maxRecDepth 65536
noncomputable section
namespace Cert.Proof.InProjection
open Cert.InProjectionIdeal Cert.InProjectionIdeal.Gen
open Idealize.ShloMosaic Idealize.ShloMosaic.TcCoe

theorem hz : (![0, 0] : Fin 2 → Nat) = fun _ => 0 := funext fun a => by fin_cases a <;> rfl

variable {F : FTy → Type} [FloatOps F]

/-! ## The chunk buffer -/

/-- The chunk buffer's contents: chunk `j` holds columns `128·j … 128·j + 127` of `D`. -/
def chunks (D : FVec F S512x768 .f32) : FVec F S6x512x128 .f32 := fun i =>
  D (ix2 (⟨(i 1).val, (i 1).isLt⟩ : Fin 512) (⟨128 * (i 0).val + (i 2).val, by have h0 : (i 0).val < 6 := (i 0).isLt; have h2 : (i 2).val < 128 := (i 2).isLt; omega⟩ : Fin 768))

theorem chunk_at (D : FVec F S512x768 .f32) (v7 : View sig .tc .vmem S512x768 .f32) (y : S6x512x128.Idx) (j o : ℕ) (ho : o = 128 * j) (inb0) (inb)
    (hs : S512x128.ShapeCasts S512x128) (hs' : S512x128.ShapeCasts S1x512x128) :
    View.TileAt (Val := Elt F) (e := .f32) y ![j, 0, 0] S1x512x128.size
      (shapeCast S1x512x128 (shapeCast S512x128 (v7.readCov [⟨Rect.unit ![0, 0] S512x768.size inb0, D⟩] (Rect.unit (s := S512x768) ![0, o] S512x128.size inb).toLoadRect) hs) hs')
      (chunks D y) := by
  intro x hx
  have e0 : (y 0).val = j + (x 0).val := hx 0
  have e1 : (y 1).val = 0 + (x 1).val := hx 1
  have e2 : (y 2).val = 0 + (x 2).val := hx 2
  have hx0 : (x 0).val < 1 := (x 0).isLt
  have ex : x = ix3 (0 : Fin 1) (⟨(x 1).val, (x 1).isLt⟩ : Fin 512) (⟨(x 2).val, (x 2).isLt⟩ : Fin 128) := by
    funext a
    match a with
    | ⟨0, _⟩ => exact Fin.ext (by show (x 0).val = 0; omega)
    | ⟨1, _⟩ => rfl
    | ⟨2, _⟩ => rfl
  rw [ex]
  simp only [pointwise]
  rw [View.readCov_eq_canon', View.canon_unit_zero hz]
  refine congrArg D ?_
  funext a
  apply Fin.ext
  match a with
  | ⟨0, _⟩ => show 0 + 1 * (x 1).val = (y 1).val; omega
  | ⟨1, _⟩ => show o + 1 * (x 2).val = 128 * (y 0).val + (y 2).val; omega

theorem chunks_read (D : FVec F S512x768 .f32) (v11 : View sig .tc .vmem S6x512x128 .f32) (v7 : View sig .tc .vmem S512x768 .f32) (B : LoadRect S6x512x128) :
    v11.readCov (Val := Elt F)
      [⟨Rect.unit ![5, 0, 0] S1x512x128.size inb_S6x512x128_S1x512x128_5_0_0, k0_pay14 (v7.readCov [⟨Rect.unit ![0, 0] S512x768.size inb_S512x768_S512x768_0_0, D⟩] (Rect.unit (s := S512x768) ![0, 640] S512x128.size inb_S512x768_S512x128_0_640).toLoadRect)⟩,
       ⟨Rect.unit ![4, 0, 0] S1x512x128.size inb_S6x512x128_S1x512x128_4_0_0, k0_pay13 (v7.readCov [⟨Rect.unit ![0, 0] S512x768.size inb_S512x768_S512x768_0_0, D⟩] (Rect.unit (s := S512x768) ![0, 512] S512x128.size inb_S512x768_S512x128_0_512).toLoadRect)⟩,
       ⟨Rect.unit ![3, 0, 0] S1x512x128.size inb_S6x512x128_S1x512x128_3_0_0, k0_pay12 (v7.readCov [⟨Rect.unit ![0, 0] S512x768.size inb_S512x768_S512x768_0_0, D⟩] (Rect.unit (s := S512x768) ![0, 384] S512x128.size inb_S512x768_S512x128_0_384).toLoadRect)⟩,
       ⟨Rect.unit ![2, 0, 0] S1x512x128.size inb_S6x512x128_S1x512x128_2_0_0, k0_pay11 (v7.readCov [⟨Rect.unit ![0, 0] S512x768.size inb_S512x768_S512x768_0_0, D⟩] (Rect.unit (s := S512x768) ![0, 256] S512x128.size inb_S512x768_S512x128_0_256).toLoadRect)⟩,
       ⟨Rect.unit ![1, 0, 0] S1x512x128.size inb_S6x512x128_S1x512x128_1_0_0, k0_pay10 (v7.readCov [⟨Rect.unit ![0, 0] S512x768.size inb_S512x768_S512x768_0_0, D⟩] (Rect.unit (s := S512x768) ![0, 128] S512x128.size inb_S512x768_S512x128_0_128).toLoadRect)⟩,
       ⟨Rect.unit ![0, 0, 0] S1x512x128.size inb_S6x512x128_S1x512x128_0_0_0, k0_pay9 (v7.readCov [⟨Rect.unit ![0, 0] S512x768.size inb_S512x768_S512x768_0_0, D⟩] (Rect.unit (s := S512x768) ![0, 0] S512x128.size inb_S512x768_S512x128_0_0).toLoadRect)⟩] B
      = fun j => chunks D (B.idx j) := by
  rw [View.readCov_eq_canon']
  funext j
  refine View.canon_eq_of_allAt _ _ _ (View.cover_of_tiled_head _ _ _ (by rfl) _) ?_
  iterate 6 refine View.allAt_cons_unit _ _ _ _ _ (chunk_at D v7 _ _ _ (by rfl) _ _ _ _) ?_
  exact View.allAt_nil _ _

/-! ## The strided pieces -/

theorem every4_at (D : FVec F S512x768 .f32) (y : S1x4x128x768.Idx) (p j o : ℕ) (ho : o = 128 * j) (inb) (w : FVec F S1x128x128 .f32)
    (hw : w = fun i => chunks D ((⟨![j, p, 0], S1x128x128.size, ![1, 4, 1], inb⟩ : LoadRect S6x512x128).idx i))
    (hs : S1x128x128.ShapeCasts S128x128) (hs' : S128x128.ShapeCasts S1x1x128x128) :
    View.TileAt (Val := Elt F) (e := .f32) y ![0, p, 0, o] S1x1x128x128.size (shapeCast S1x1x128x128 (shapeCast S128x128 w hs) hs')
      (D (ix2 (⟨(y 1).val + 4 * (y 2).val, by have h1 : (y 1).val < 4 := (y 1).isLt; have h2 : (y 2).val < 128 := (y 2).isLt; omega⟩ : Fin 512) (⟨(y 3).val, (y 3).isLt⟩ : Fin 768))) := by
  intro x hx
  have e1 : (y 1).val = p + (x 1).val := hx 1
  have e2 : (y 2).val = 0 + (x 2).val := hx 2
  have e3 : (y 3).val = o + (x 3).val := hx 3
  have hx0 : (x 0).val < 1 := (x 0).isLt
  have hx1 : (x 1).val < 1 := (x 1).isLt
  have ex : x = ix4 (0 : Fin 1) (0 : Fin 1) (⟨(x 2).val, (x 2).isLt⟩ : Fin 128) (⟨(x 3).val, (x 3).isLt⟩ : Fin 128) := by
    funext a
    match a with
    | ⟨0, _⟩ => exact Fin.ext (by show (x 0).val = 0; omega)
    | ⟨1, _⟩ => exact Fin.ext (by show (x 1).val = 0; omega)
    | ⟨2, _⟩ => rfl
    | ⟨3, _⟩ => rfl
  rw [ex]
  simp only [pointwise]
  rw [hw]
  unfold chunks
  refine congrArg D ?_
  funext a
  apply Fin.ext
  match a with
  | ⟨0, _⟩ => show p + 4 * (x 2).val = (y 1).val + 4 * (y 2).val; omega
  | ⟨1, _⟩ => show 128 * (j + 1 * 0) + (0 + 1 * (x 3).val) = (y 3).val; omega

theorem every16_at (D : FVec F S512x768 .f32) (y : S1x16x32x768.Idx) (p j o : ℕ) (ho : o = 128 * j) (inb) (w : FVec F S1x32x128 .f32)
    (hw : w = fun i => chunks D ((⟨![j, p, 0], S1x32x128.size, ![1, 16, 1], inb⟩ : LoadRect S6x512x128).idx i))
    (hs : S1x32x128.ShapeCasts S32x128) (hs' : S32x128.ShapeCasts S1x1x32x128) :
    View.TileAt (Val := Elt F) (e := .f32) y ![0, p, 0, o] S1x1x32x128.size (shapeCast S1x1x32x128 (shapeCast S32x128 w hs) hs')
      (D (ix2 (⟨(y 1).val + 16 * (y 2).val, by have h1 : (y 1).val < 16 := (y 1).isLt; have h2 : (y 2).val < 32 := (y 2).isLt; omega⟩ : Fin 512) (⟨(y 3).val, (y 3).isLt⟩ : Fin 768))) := by
  intro x hx
  have e1 : (y 1).val = p + (x 1).val := hx 1
  have e2 : (y 2).val = 0 + (x 2).val := hx 2
  have e3 : (y 3).val = o + (x 3).val := hx 3
  have hx0 : (x 0).val < 1 := (x 0).isLt
  have hx1 : (x 1).val < 1 := (x 1).isLt
  have ex : x = ix4 (0 : Fin 1) (0 : Fin 1) (⟨(x 2).val, (x 2).isLt⟩ : Fin 32) (⟨(x 3).val, (x 3).isLt⟩ : Fin 128) := by
    funext a
    match a with
    | ⟨0, _⟩ => exact Fin.ext (by show (x 0).val = 0; omega)
    | ⟨1, _⟩ => exact Fin.ext (by show (x 1).val = 0; omega)
    | ⟨2, _⟩ => rfl
    | ⟨3, _⟩ => rfl
  rw [ex]
  simp only [pointwise]
  rw [hw]
  unfold chunks
  refine congrArg D ?_
  funext a
  apply Fin.ext
  match a with
  | ⟨0, _⟩ => show p + 16 * (x 2).val = (y 1).val + 16 * (y 2).val; omega
  | ⟨1, _⟩ => show 128 * (j + 1 * 0) + (0 + 1 * (x 3).val) = (y 3).val; omega

variable (c : Dev nD) (i : grid0.Coords) (a1 : Memref sig .tc .vmem S512x1024 .f32) (h1 : a1.IsWhole) (a2 : Memref sig .tc .vmem S1x1024 .f32) (h2 : a2.IsWhole)
  (a3 : Memref sig .tc .vmem S1024x3456 .bf16) (h3 : a3.IsWhole) (a4 : Memref sig .tc .vmem S512x1024 .f32) (h4 : a4.IsWhole) (a5 : Memref sig .tc .vmem S512x512 .f32) (h5 : a5.IsWhole)
  (a6 : Memref sig .tc .vmem S512x1024 .f32) (h6 : a6.IsWhole) (a7 : Memref sig .tc .vmem S512x768 .f32) (h7 : a7.IsWhole) (a8 : Memref sig .tc .vmem S512x128 .f32) (h8 : a8.IsWhole)
  (a9 : Memref sig .tc .vmem S1x4x128x768 .f32) (h9 : a9.IsWhole) (a10 : Memref sig .tc .vmem S1x16x32x768 .f32) (h10 : a10.IsWhole) (a11 : Memref sig .tc .vmem S6x512x128 .f32) (h11 : a11.IsWhole)
  (x0 : FVec F S512x1024 .f32) (x1 : FVec F S1x1024 .f32) (x2 : FVec F S1024x3456 .bf16)

/-! ## The seven outputs -/

theorem out_a : out0_A_3 (F := F) c i a1 h1 a2 h2 a3 h3 a4 h4 a5 h5 a6 h6 a7 h7 a8 h8 a9 h9 a10 h10 a11 h11 x0 x1 x2
    = k0_pay4 x0 x1 (View.ld x2 (Rect.unit (s := S1024x3456) ![0, 0] S1024x1024.size inb_S1024x3456_S1024x1024_0_0)) := by
  unfold out0_A_3
  rw [View.read_writes_eq_canon _ _ _ (cover0_A_3 c i a1 h1 a2 h2 a3 h3 a4 h4 a5 h5 a6 h6 a7 h7 a8 h8 a9 h9 a10 h10 a11 h11 x0 x1 x2)]
  unfold kernelRun0_A
  dsimp only
  sl_unfold_words
  rw [View.canon_unit_zero hz]
  simp only [View.readAt_eq_ld, h1.read_unread, h2.read_unread, h3.read_unread, View.ld_unit_zero (S := S512x1024) hz, View.ld_unit_zero (S := S1x1024) hz]

theorem out_b : out0_A_4 (F := F) c i a1 h1 a2 h2 a3 h3 a4 h4 a5 h5 a6 h6 a7 h7 a8 h8 a9 h9 a10 h10 a11 h11 x0 x1 x2
    = k0_pay5 x0 x1 (View.ld x2 (Rect.unit (s := S1024x3456) ![0, 1024] S1024x512.size inb_S1024x3456_S1024x512_0_1024)) := by
  unfold out0_A_4
  rw [View.read_writes_eq_canon _ _ _ (cover0_A_4 c i a1 h1 a2 h2 a3 h3 a4 h4 a5 h5 a6 h6 a7 h7 a8 h8 a9 h9 a10 h10 a11 h11 x0 x1 x2)]
  unfold kernelRun0_A
  dsimp only
  sl_unfold_words
  rw [View.canon_unit_zero hz]
  simp only [View.readAt_eq_ld, h1.read_unread, h2.read_unread, h3.read_unread, View.ld_unit_zero (S := S512x1024) hz, View.ld_unit_zero (S := S1x1024) hz]

theorem out_c : out0_A_5 (F := F) c i a1 h1 a2 h2 a3 h3 a4 h4 a5 h5 a6 h6 a7 h7 a8 h8 a9 h9 a10 h10 a11 h11 x0 x1 x2
    = k0_pay6 x0 x1 (View.ld x2 (Rect.unit (s := S1024x3456) ![0, 1536] S1024x1024.size inb_S1024x3456_S1024x1024_0_1536)) := by
  unfold out0_A_5
  rw [View.read_writes_eq_canon _ _ _ (cover0_A_5 c i a1 h1 a2 h2 a3 h3 a4 h4 a5 h5 a6 h6 a7 h7 a8 h8 a9 h9 a10 h10 a11 h11 x0 x1 x2)]
  unfold kernelRun0_A
  dsimp only
  sl_unfold_words
  rw [View.canon_unit_zero hz]
  simp only [View.readAt_eq_ld, h1.read_unread, h2.read_unread, h3.read_unread, View.ld_unit_zero (S := S512x1024) hz, View.ld_unit_zero (S := S1x1024) hz]

theorem out_d : out0_A_6 (F := F) c i a1 h1 a2 h2 a3 h3 a4 h4 a5 h5 a6 h6 a7 h7 a8 h8 a9 h9 a10 h10 a11 h11 x0 x1 x2
    = k0_pay7 x0 x1 (View.ld x2 (Rect.unit (s := S1024x3456) ![0, 2560] S1024x768.size inb_S1024x3456_S1024x768_0_2560)) := by
  unfold out0_A_6
  rw [View.read_writes_eq_canon _ _ _ (cover0_A_6 c i a1 h1 a2 h2 a3 h3 a4 h4 a5 h5 a6 h6 a7 h7 a8 h8 a9 h9 a10 h10 a11 h11 x0 x1 x2)]
  unfold kernelRun0_A
  dsimp only
  sl_unfold_words
  rw [View.canon_unit_zero hz]
  simp only [View.readAt_eq_ld, h1.read_unread, h2.read_unread, h3.read_unread, View.ld_unit_zero (S := S512x1024) hz, View.ld_unit_zero (S := S1x1024) hz]

theorem out_ba : out0_A_7 (F := F) c i a1 h1 a2 h2 a3 h3 a4 h4 a5 h5 a6 h6 a7 h7 a8 h8 a9 h9 a10 h10 a11 h11 x0 x1 x2
    = k0_pay8 (k0_pay3 x0 x1) (View.ld x2 (Rect.unit (s := S1024x3456) ![0, 3328] S1024x128.size inb_S1024x3456_S1024x128_0_3328)) := by
  unfold out0_A_7
  rw [View.read_writes_eq_canon _ _ _ (cover0_A_7 c i a1 h1 a2 h2 a3 h3 a4 h4 a5 h5 a6 h6 a7 h7 a8 h8 a9 h9 a10 h10 a11 h11 x0 x1 x2)]
  unfold kernelRun0_A
  dsimp only
  sl_unfold_words
  rw [View.canon_unit_zero hz]
  simp only [View.readAt_eq_ld, h1.read_unread, h2.read_unread, h3.read_unread, View.ld_unit_zero (S := S512x1024) hz, View.ld_unit_zero (S := S1x1024) hz]

/-- The rows the strided outputs hold are `D`'s, as the body computed it. -/
theorem d_eq : (k0_pay7 (View.readAt (Elt F) a1.view (Rect.unit ![0, 0] S512x1024.size inb_S512x1024_S512x1024_0_0).toLoadRect (h1.unread x0))
      (View.readAt (Elt F) a2.view (Rect.unit ![0, 0] S1x1024.size inb_S1x1024_S1x1024_0_0).toLoadRect (h2.unread x1))
      (View.readAt (Elt F) a3.view (Rect.unit (s := S1024x3456) ![0, 2560] S1024x768.size inb_S1024x3456_S1024x768_0_2560).toLoadRect (h3.unread x2)))
    = k0_pay7 x0 x1 (View.ld x2 (Rect.unit (s := S1024x3456) ![0, 2560] S1024x768.size inb_S1024x3456_S1024x768_0_2560)) := by
  simp only [View.readAt_eq_ld, h1.read_unread, h2.read_unread, h3.read_unread, View.ld_unit_zero (S := S512x1024) hz, View.ld_unit_zero (S := S1x1024) hz]

end Cert.Proof.InProjection
end
-- ==== Proof.InProjectionStrided.lean ====
/- What the input projection's body leaves in the two outputs that hold every fourth and every sixteenth row. -/
module

public import proofs.«01_k».proof.Proof.InProjectionBody

@[expose] public section
set_option maxRecDepth 65536
noncomputable section
namespace Cert.Proof.InProjection
open Cert.InProjectionIdeal Cert.InProjectionIdeal.Gen
open Idealize.ShloMosaic Idealize.ShloMosaic.TcCoe

variable {F : FTy → Type} [FloatOps F]
variable (c : Dev nD) (i : grid0.Coords) (a1 : Memref sig .tc .vmem S512x1024 .f32) (h1 : a1.IsWhole) (a2 : Memref sig .tc .vmem S1x1024 .f32) (h2 : a2.IsWhole)
  (a3 : Memref sig .tc .vmem S1024x3456 .bf16) (h3 : a3.IsWhole) (a4 : Memref sig .tc .vmem S512x1024 .f32) (h4 : a4.IsWhole) (a5 : Memref sig .tc .vmem S512x512 .f32) (h5 : a5.IsWhole)
  (a6 : Memref sig .tc .vmem S512x1024 .f32) (h6 : a6.IsWhole) (a7 : Memref sig .tc .vmem S512x768 .f32) (h7 : a7.IsWhole) (a8 : Memref sig .tc .vmem S512x128 .f32) (h8 : a8.IsWhole)
  (a9 : Memref sig .tc .vmem S1x4x128x768 .f32) (h9 : a9.IsWhole) (a10 : Memref sig .tc .vmem S1x16x32x768 .f32) (h10 : a10.IsWhole) (a11 : Memref sig .tc .vmem S6x512x128 .f32) (h11 : a11.IsWhole)
  (x0 : FVec F S512x1024 .f32) (x1 : FVec F S1x1024 .f32) (x2 : FVec F S1024x3456 .bf16)

set_option maxHeartbeats 1600000 in
theorem out_every4 (y : S1x4x128x768.Idx) : out0_A_8 (F := F) c i a1 h1 a2 h2 a3 h3 a4 h4 a5 h5 a6 h6 a7 h7 a8 h8 a9 h9 a10 h10 a11 h11 x0 x1 x2 y
    = k0_pay7 x0 x1 (View.ld x2 (Rect.unit (s := S1024x3456) ![0, 2560] S1024x768.size inb_S1024x3456_S1024x768_0_2560))
        (ix2 (⟨(y 1).val + 4 * (y 2).val, by have h1 : (y 1).val < 4 := (y 1).isLt; have h2 : (y 2).val < 128 := (y 2).isLt; omega⟩ : Fin 512) (⟨(y 3).val, (y 3).isLt⟩ : Fin 768)) := by
  rw [← d_eq a1 h1 a2 h2 a3 h3 x0 x1 x2]
  unfold out0_A_8
  rw [View.read_writes_eq_canon _ _ _ (cover0_A_8 c i a1 h1 a2 h2 a3 h3 a4 h4 a5 h5 a6 h6 a7 h7 a8 h8 a9 h9 a10 h10 a11 h11 x0 x1 x2)]
  refine View.canon_eq_of_allAt _ _ _ (cover0_A_8 c i a1 h1 a2 h2 a3 h3 a4 h4 a5 h5 a6 h6 a7 h7 a8 h8 a9 h9 a10 h10 a11 h11 x0 x1 x2 y) ?_
  unfold kernelRun0_A
  dsimp only
  sl_unfold_words
  generalize k0_pay7 (F := F) _ _ _ = D
  refine View.allAt_cons_unit _ _ _ _ _ ?_ ?_
  · exact every4_at D y 3 5 640 rfl inb_S6x512x128_S1x128x128_5_3_0_s_1_4_1 _ (chunks_read D a11.view a7.view ⟨![5, 3, 0], S1x128x128.size, ![1, 4, 1], inb_S6x512x128_S1x128x128_5_3_0_s_1_4_1⟩) shapeCasts_S1x128x128_S128x128 shapeCasts_S128x128_S1x1x128x128
  refine View.allAt_cons_unit _ _ _ _ _ ?_ ?_
  · exact every4_at D y 3 4 512 rfl inb_S6x512x128_S1x128x128_4_3_0_s_1_4_1 _ (chunks_read D a11.view a7.view ⟨![4, 3, 0], S1x128x128.size, ![1, 4, 1], inb_S6x512x128_S1x128x128_4_3_0_s_1_4_1⟩) shapeCasts_S1x128x128_S128x128 shapeCasts_S128x128_S1x1x128x128
  refine View.allAt_cons_unit _ _ _ _ _ ?_ ?_
  · exact every4_at D y 3 3 384 rfl inb_S6x512x128_S1x128x128_3_3_0_s_1_4_1 _ (chunks_read D a11.view a7.view ⟨![3, 3, 0], S1x128x128.size, ![1, 4, 1], inb_S6x512x128_S1x128x128_3_3_0_s_1_4_1⟩) shapeCasts_S1x128x128_S128x128 shapeCasts_S128x128_S1x1x128x128
  refine View.allAt_cons_unit _ _ _ _ _ ?_ ?_
  · exact every4_at D y 3 2 256 rfl inb_S6x512x128_S1x128x128_2_3_0_s_1_4_1 _ (chunks_read D a11.view a7.view ⟨![2, 3, 0], S1x128x128.size, ![1, 4, 1], inb_S6x512x128_S1x128x128_2_3_0_s_1_4_1⟩) shapeCasts_S1x128x128_S128x128 shapeCasts_S128x128_S1x1x128x128
  refine View.allAt_cons_unit _ _ _ _ _ ?_ ?_
  · exact every4_at D y 3 1 128 rfl inb_S6x512x128_S1x128x128_1_3_0_s_1_4_1 _ (chunks_read D a11.view a7.view ⟨![1, 3, 0], S1x128x128.size, ![1, 4, 1], inb_S6x512x128_S1x128x128_1_3_0_s_1_4_1⟩) shapeCasts_S1x128x128_S128x128 shapeCasts_S128x128_S1x1x128x128
  refine View.allAt_cons_unit _ _ _ _ _ ?_ ?_
  · exact every4_at D y 3 0 0 rfl inb_S6x512x128_S1x128x128_0_3_0_s_1_4_1 _ (chunks_read D a11.view a7.view ⟨![0, 3, 0], S1x128x128.size, ![1, 4, 1], inb_S6x512x128_S1x128x128_0_3_0_s_1_4_1⟩) shapeCasts_S1x128x128_S128x128 shapeCasts_S128x128_S1x1x128x128
  refine View.allAt_cons_unit _ _ _ _ _ ?_ ?_
  · exact every4_at D y 2 5 640 rfl inb_S6x512x128_S1x128x128_5_2_0_s_1_4_1 _ (chunks_read D a11.view a7.view ⟨![5, 2, 0], S1x128x128.size, ![1, 4, 1], inb_S6x512x128_S1x128x128_5_2_0_s_1_4_1⟩) shapeCasts_S1x128x128_S128x128 shapeCasts_S128x128_S1x1x128x128
  refine View.allAt_cons_unit _ _ _ _ _ ?_ ?_
  · exact every4_at D y 2 4 512 rfl inb_S6x512x128_S1x128x128_4_2_0_s_1_4_1 _ (chunks_read D a11.view a7.view ⟨![4, 2, 0], S1x128x128.size, ![1, 4, 1], inb_S6x512x128_S1x128x128_4_2_0_s_1_4_1⟩) shapeCasts_S1x128x128_S128x128 shapeCasts_S128x128_S1x1x128x128
  refine View.allAt_cons_unit _ _ _ _ _ ?_ ?_
  · exact every4_at D y 2 3 384 rfl inb_S6x512x128_S1x128x128_3_2_0_s_1_4_1 _ (chunks_read D a11.view a7.view ⟨![3, 2, 0], S1x128x128.size, ![1, 4, 1], inb_S6x512x128_S1x128x128_3_2_0_s_1_4_1⟩) shapeCasts_S1x128x128_S128x128 shapeCasts_S128x128_S1x1x128x128
  refine View.allAt_cons_unit _ _ _ _ _ ?_ ?_
  · exact every4_at D y 2 2 256 rfl inb_S6x512x128_S1x128x128_2_2_0_s_1_4_1 _ (chunks_read D a11.view a7.view ⟨![2, 2, 0], S1x128x128.size, ![1, 4, 1], inb_S6x512x128_S1x128x128_2_2_0_s_1_4_1⟩) shapeCasts_S1x128x128_S128x128 shapeCasts_S128x128_S1x1x128x128
  refine View.allAt_cons_unit _ _ _ _ _ ?_ ?_
  · exact every4_at D y 2 1 128 rfl inb_S6x512x128_S1x128x128_1_2_0_s_1_4_1 _ (chunks_read D a11.view a7.view ⟨![1, 2, 0], S1x128x128.size, ![1, 4, 1], inb_S6x512x128_S1x128x128_1_2_0_s_1_4_1⟩) shapeCasts_S1x128x128_S128x128 shapeCasts_S128x128_S1x1x128x128
  refine View.allAt_cons_unit _ _ _ _ _ ?_ ?_
  · exact every4_at D y 2 0 0 rfl inb_S6x512x128_S1x128x128_0_2_0_s_1_4_1 _ (chunks_read D a11.view a7.view ⟨![0, 2, 0], S1x128x128.size, ![1, 4, 1], inb_S6x512x128_S1x128x128_0_2_0_s_1_4_1⟩) shapeCasts_S1x128x128_S128x128 shapeCasts_S128x128_S1x1x128x128
  refine View.allAt_cons_unit _ _ _ _ _ ?_ ?_
  · exact every4_at D y 1 5 640 rfl inb_S6x512x128_S1x128x128_5_1_0_s_1_4_1 _ (chunks_read D a11.view a7.view ⟨![5, 1, 0], S1x128x128.size, ![1, 4, 1], inb_S6x512x128_S1x128x128_5_1_0_s_1_4_1⟩) shapeCasts_S1x128x128_S128x128 shapeCasts_S128x128_S1x1x128x128
  refine View.allAt_cons_unit _ _ _ _ _ ?_ ?_
  · exact every4_at D y 1 4 512 rfl inb_S6x512x128_S1x128x128_4_1_0_s_1_4_1 _ (chunks_read D a11.view a7.view ⟨![4, 1, 0], S1x128x128.size, ![1, 4, 1], inb_S6x512x128_S1x128x128_4_1_0_s_1_4_1⟩) shapeCasts_S1x128x128_S128x128 shapeCasts_S128x128_S1x1x128x128
  refine View.allAt_cons_unit _ _ _ _ _ ?_ ?_
  · exact every4_at D y 1 3 384 rfl inb_S6x512x128_S1x128x128_3_1_0_s_1_4_1 _ (chunks_read D a11.view a7.view ⟨![3, 1, 0], S1x128x128.size, ![1, 4, 1], inb_S6x512x128_S1x128x128_3_1_0_s_1_4_1⟩) shapeCasts_S1x128x128_S128x128 shapeCasts_S128x128_S1x1x128x128
  refine View.allAt_cons_unit _ _ _ _ _ ?_ ?_
  · exact every4_at D y 1 2 256 rfl inb_S6x512x128_S1x128x128_2_1_0_s_1_4_1 _ (chunks_read D a11.view a7.view ⟨![2, 1, 0], S1x128x128.size, ![1, 4, 1], inb_S6x512x128_S1x128x128_2_1_0_s_1_4_1⟩) shapeCasts_S1x128x128_S128x128 shapeCasts_S128x128_S1x1x128x128
  refine View.allAt_cons_unit _ _ _ _ _ ?_ ?_
  · exact every4_at D y 1 1 128 rfl inb_S6x512x128_S1x128x128_1_1_0_s_1_4_1 _ (chunks_read D a11.view a7.view ⟨![1, 1, 0], S1x128x128.size, ![1, 4, 1], inb_S6x512x128_S1x128x128_1_1_0_s_1_4_1⟩) shapeCasts_S1x128x128_S128x128 shapeCasts_S128x128_S1x1x128x128
  refine View.allAt_cons_unit _ _ _ _ _ ?_ ?_
  · exact every4_at D y 1 0 0 rfl inb_S6x512x128_S1x128x128_0_1_0_s_1_4_1 _ (chunks_read D a11.view a7.view ⟨![0, 1, 0], S1x128x128.size, ![1, 4, 1], inb_S6x512x128_S1x128x128_0_1_0_s_1_4_1⟩) shapeCasts_S1x128x128_S128x128 shapeCasts_S128x128_S1x1x128x128
  refine View.allAt_cons_unit _ _ _ _ _ ?_ ?_
  · exact every4_at D y 0 5 640 rfl inb_S6x512x128_S1x128x128_5_0_0_s_1_4_1 _ (chunks_read D a11.view a7.view ⟨![5, 0, 0], S1x128x128.size, ![1, 4, 1], inb_S6x512x128_S1x128x128_5_0_0_s_1_4_1⟩) shapeCasts_S1x128x128_S128x128 shapeCasts_S128x128_S1x1x128x128
  refine View.allAt_cons_unit _ _ _ _ _ ?_ ?_
  · exact every4_at D y 0 4 512 rfl inb_S6x512x128_S1x128x128_4_0_0_s_1_4_1 _ (chunks_read D a11.view a7.view ⟨![4, 0, 0], S1x128x128.size, ![1, 4, 1], inb_S6x512x128_S1x128x128_4_0_0_s_1_4_1⟩) shapeCasts_S1x128x128_S128x128 shapeCasts_S128x128_S1x1x128x128
  refine View.allAt_cons_unit _ _ _ _ _ ?_ ?_
  · exact every4_at D y 0 3 384 rfl inb_S6x512x128_S1x128x128_3_0_0_s_1_4_1 _ (chunks_read D a11.view a7.view ⟨![3, 0, 0], S1x128x128.size, ![1, 4, 1], inb_S6x512x128_S1x128x128_3_0_0_s_1_4_1⟩) shapeCasts_S1x128x128_S128x128 shapeCasts_S128x128_S1x1x128x128
  refine View.allAt_cons_unit _ _ _ _ _ ?_ ?_
  · exact every4_at D y 0 2 256 rfl inb_S6x512x128_S1x128x128_2_0_0_s_1_4_1 _ (chunks_read D a11.view a7.view ⟨![2, 0, 0], S1x128x128.size, ![1, 4, 1], inb_S6x512x128_S1x128x128_2_0_0_s_1_4_1⟩) shapeCasts_S1x128x128_S128x128 shapeCasts_S128x128_S1x1x128x128
  refine View.allAt_cons_unit _ _ _ _ _ ?_ ?_
  · exact every4_at D y 0 1 128 rfl inb_S6x512x128_S1x128x128_1_0_0_s_1_4_1 _ (chunks_read D a11.view a7.view ⟨![1, 0, 0], S1x128x128.size, ![1, 4, 1], inb_S6x512x128_S1x128x128_1_0_0_s_1_4_1⟩) shapeCasts_S1x128x128_S128x128 shapeCasts_S128x128_S1x1x128x128
  refine View.allAt_cons_unit _ _ _ _ _ ?_ ?_
  · exact every4_at D y 0 0 0 rfl inb_S6x512x128_S1x128x128_0_0_0_s_1_4_1 _ (chunks_read D a11.view a7.view ⟨![0, 0, 0], S1x128x128.size, ![1, 4, 1], inb_S6x512x128_S1x128x128_0_0_0_s_1_4_1⟩) shapeCasts_S1x128x128_S128x128 shapeCasts_S128x128_S1x1x128x128
  exact View.allAt_nil _ _

set_option maxHeartbeats 1600000 in
theorem out_every16 (y : S1x16x32x768.Idx) : out0_A_9 (F := F) c i a1 h1 a2 h2 a3 h3 a4 h4 a5 h5 a6 h6 a7 h7 a8 h8 a9 h9 a10 h10 a11 h11 x0 x1 x2 y
    = k0_pay7 x0 x1 (View.ld x2 (Rect.unit (s := S1024x3456) ![0, 2560] S1024x768.size inb_S1024x3456_S1024x768_0_2560))
        (ix2 (⟨(y 1).val + 16 * (y 2).val, by have h1 : (y 1).val < 16 := (y 1).isLt; have h2 : (y 2).val < 32 := (y 2).isLt; omega⟩ : Fin 512) (⟨(y 3).val, (y 3).isLt⟩ : Fin 768)) := by
  rw [← d_eq a1 h1 a2 h2 a3 h3 x0 x1 x2]
  unfold out0_A_9
  rw [View.read_writes_eq_canon _ _ _ (cover0_A_9 c i a1 h1 a2 h2 a3 h3 a4 h4 a5 h5 a6 h6 a7 h7 a8 h8 a9 h9 a10 h10 a11 h11 x0 x1 x2)]
  refine View.canon_eq_of_allAt _ _ _ (cover0_A_9 c i a1 h1 a2 h2 a3 h3 a4 h4 a5 h5 a6 h6 a7 h7 a8 h8 a9 h9 a10 h10 a11 h11 x0 x1 x2 y) ?_
  unfold kernelRun0_A
  dsimp only
  sl_unfold_words
  generalize k0_pay7 (F := F) _ _ _ = D
  refine View.allAt_cons_unit _ _ _ _ _ ?_ ?_
  · exact every16_at D y 15 5 640 rfl inb_S6x512x128_S1x32x128_5_15_0_s_1_16_1 _ (chunks_read D a11.view a7.view ⟨![5, 15, 0], S1x32x128.size, ![1, 16, 1], inb_S6x512x128_S1x32x128_5_15_0_s_1_16_1⟩) shapeCasts_S1x32x128_S32x128 shapeCasts_S32x128_S1x1x32x128
  refine View.allAt_cons_unit _ _ _ _ _ ?_ ?_
  · exact every16_at D y 15 4 512 rfl inb_S6x512x128_S1x32x128_4_15_0_s_1_16_1 _ (chunks_read D a11.view a7.view ⟨![4, 15, 0], S1x32x128.size, ![1, 16, 1], inb_S6x512x128_S1x32x128_4_15_0_s_1_16_1⟩) shapeCasts_S1x32x128_S32x128 shapeCasts_S32x128_S1x1x32x128
  refine View.allAt_cons_unit _ _ _ _ _ ?_ ?_
  · exact every16_at D y 15 3 384 rfl inb_S6x512x128_S1x32x128_3_15_0_s_1_16_1 _ (chunks_read D a11.view a7.view ⟨![3, 15, 0], S1x32x128.size, ![1, 16, 1], inb_S6x512x128_S1x32x128_3_15_0_s_1_16_1⟩) shapeCasts_S1x32x128_S32x128 shapeCasts_S32x128_S1x1x32x128
  refine View.allAt_cons_unit _ _ _ _ _ ?_ ?_
  · exact every16_at D y 15 2 256 rfl inb_S6x512x128_S1x32x128_2_15_0_s_1_16_1 _ (chunks_read D a11.view a7.view ⟨![2, 15, 0], S1x32x128.size, ![1, 16, 1], inb_S6x512x128_S1x32x128_2_15_0_s_1_16_1⟩) shapeCasts_S1x32x128_S32x128 shapeCasts_S32x128_S1x1x32x128
  refine View.allAt_cons_unit _ _ _ _ _ ?_ ?_
  · exact every16_at D y 15 1 128 rfl inb_S6x512x128_S1x32x128_1_15_0_s_1_16_1 _ (chunks_read D a11.view a7.view ⟨![1, 15, 0], S1x32x128.size, ![1, 16, 1], inb_S6x512x128_S1x32x128_1_15_0_s_1_16_1⟩) shapeCasts_S1x32x128_S32x128 shapeCasts_S32x128_S1x1x32x128
  refine View.allAt_cons_unit _ _ _ _ _ ?_ ?_
  · exact every16_at D y 15 0 0 rfl inb_S6x512x128_S1x32x128_0_15_0_s_1_16_1 _ (chunks_read D a11.view a7.view ⟨![0, 15, 0], S1x32x128.size, ![1, 16, 1], inb_S6x512x128_S1x32x128_0_15_0_s_1_16_1⟩) shapeCasts_S1x32x128_S32x128 shapeCasts_S32x128_S1x1x32x128
  refine View.allAt_cons_unit _ _ _ _ _ ?_ ?_
  · exact every16_at D y 14 5 640 rfl inb_S6x512x128_S1x32x128_5_14_0_s_1_16_1 _ (chunks_read D a11.view a7.view ⟨![5, 14, 0], S1x32x128.size, ![1, 16, 1], inb_S6x512x128_S1x32x128_5_14_0_s_1_16_1⟩) shapeCasts_S1x32x128_S32x128 shapeCasts_S32x128_S1x1x32x128
  refine View.allAt_cons_unit _ _ _ _ _ ?_ ?_
  · exact every16_at D y 14 4 512 rfl inb_S6x512x128_S1x32x128_4_14_0_s_1_16_1 _ (chunks_read D a11.view a7.view ⟨![4, 14, 0], S1x32x128.size, ![1, 16, 1], inb_S6x512x128_S1x32x128_4_14_0_s_1_16_1⟩) shapeCasts_S1x32x128_S32x128 shapeCasts_S32x128_S1x1x32x128
  refine View.allAt_cons_unit _ _ _ _ _ ?_ ?_
  · exact every16_at D y 14 3 384 rfl inb_S6x512x128_S1x32x128_3_14_0_s_1_16_1 _ (chunks_read D a11.view a7.view ⟨![3, 14, 0], S1x32x128.size, ![1, 16, 1], inb_S6x512x128_S1x32x128_3_14_0_s_1_16_1⟩) shapeCasts_S1x32x128_S32x128 shapeCasts_S32x128_S1x1x32x128
  refine View.allAt_cons_unit _ _ _ _ _ ?_ ?_
  · exact every16_at D y 14 2 256 rfl inb_S6x512x128_S1x32x128_2_14_0_s_1_16_1 _ (chunks_read D a11.view a7.view ⟨![2, 14, 0], S1x32x128.size, ![1, 16, 1], inb_S6x512x128_S1x32x128_2_14_0_s_1_16_1⟩) shapeCasts_S1x32x128_S32x128 shapeCasts_S32x128_S1x1x32x128
  refine View.allAt_cons_unit _ _ _ _ _ ?_ ?_
  · exact every16_at D y 14 1 128 rfl inb_S6x512x128_S1x32x128_1_14_0_s_1_16_1 _ (chunks_read D a11.view a7.view ⟨![1, 14, 0], S1x32x128.size, ![1, 16, 1], inb_S6x512x128_S1x32x128_1_14_0_s_1_16_1⟩) shapeCasts_S1x32x128_S32x128 shapeCasts_S32x128_S1x1x32x128
  refine View.allAt_cons_unit _ _ _ _ _ ?_ ?_
  · exact every16_at D y 14 0 0 rfl inb_S6x512x128_S1x32x128_0_14_0_s_1_16_1 _ (chunks_read D a11.view a7.view ⟨![0, 14, 0], S1x32x128.size, ![1, 16, 1], inb_S6x512x128_S1x32x128_0_14_0_s_1_16_1⟩) shapeCasts_S1x32x128_S32x128 shapeCasts_S32x128_S1x1x32x128
  refine View.allAt_cons_unit _ _ _ _ _ ?_ ?_
  · exact every16_at D y 13 5 640 rfl inb_S6x512x128_S1x32x128_5_13_0_s_1_16_1 _ (chunks_read D a11.view a7.view ⟨![5, 13, 0], S1x32x128.size, ![1, 16, 1], inb_S6x512x128_S1x32x128_5_13_0_s_1_16_1⟩) shapeCasts_S1x32x128_S32x128 shapeCasts_S32x128_S1x1x32x128
  refine View.allAt_cons_unit _ _ _ _ _ ?_ ?_
  · exact every16_at D y 13 4 512 rfl inb_S6x512x128_S1x32x128_4_13_0_s_1_16_1 _ (chunks_read D a11.view a7.view ⟨![4, 13, 0], S1x32x128.size, ![1, 16, 1], inb_S6x512x128_S1x32x128_4_13_0_s_1_16_1⟩) shapeCasts_S1x32x128_S32x128 shapeCasts_S32x128_S1x1x32x128
  refine View.allAt_cons_unit _ _ _ _ _ ?_ ?_
  · exact every16_at D y 13 3 384 rfl inb_S6x512x128_S1x32x128_3_13_0_s_1_16_1 _ (chunks_read D a11.view a7.view ⟨![3, 13, 0], S1x32x128.size, ![1, 16, 1], inb_S6x512x128_S1x32x128_3_13_0_s_1_16_1⟩) shapeCasts_S1x32x128_S32x128 shapeCasts_S32x128_S1x1x32x128
  refine View.allAt_cons_unit _ _ _ _ _ ?_ ?_
  · exact every16_at D y 13 2 256 rfl inb_S6x512x128_S1x32x128_2_13_0_s_1_16_1 _ (chunks_read D a11.view a7.view ⟨![2, 13, 0], S1x32x128.size, ![1, 16, 1], inb_S6x512x128_S1x32x128_2_13_0_s_1_16_1⟩) shapeCasts_S1x32x128_S32x128 shapeCasts_S32x128_S1x1x32x128
  refine View.allAt_cons_unit _ _ _ _ _ ?_ ?_
  · exact every16_at D y 13 1 128 rfl inb_S6x512x128_S1x32x128_1_13_0_s_1_16_1 _ (chunks_read D a11.view a7.view ⟨![1, 13, 0], S1x32x128.size, ![1, 16, 1], inb_S6x512x128_S1x32x128_1_13_0_s_1_16_1⟩) shapeCasts_S1x32x128_S32x128 shapeCasts_S32x128_S1x1x32x128
  refine View.allAt_cons_unit _ _ _ _ _ ?_ ?_
  · exact every16_at D y 13 0 0 rfl inb_S6x512x128_S1x32x128_0_13_0_s_1_16_1 _ (chunks_read D a11.view a7.view ⟨![0, 13, 0], S1x32x128.size, ![1, 16, 1], inb_S6x512x128_S1x32x128_0_13_0_s_1_16_1⟩) shapeCasts_S1x32x128_S32x128 shapeCasts_S32x128_S1x1x32x128
  refine View.allAt_cons_unit _ _ _ _ _ ?_ ?_
  · exact every16_at D y 12 5 640 rfl inb_S6x512x128_S1x32x128_5_12_0_s_1_16_1 _ (chunks_read D a11.view a7.view ⟨![5, 12, 0], S1x32x128.size, ![1, 16, 1], inb_S6x512x128_S1x32x128_5_12_0_s_1_16_1⟩) shapeCasts_S1x32x128_S32x128 shapeCasts_S32x128_S1x1x32x128
  refine View.allAt_cons_unit _ _ _ _ _ ?_ ?_
  · exact every16_at D y 12 4 512 rfl inb_S6x512x128_S1x32x128_4_12_0_s_1_16_1 _ (chunks_read D a11.view a7.view ⟨![4, 12, 0], S1x32x128.size, ![1, 16, 1], inb_S6x512x128_S1x32x128_4_12_0_s_1_16_1⟩) shapeCasts_S1x32x128_S32x128 shapeCasts_S32x128_S1x1x32x128
  refine View.allAt_cons_unit _ _ _ _ _ ?_ ?_
  · exact every16_at D y 12 3 384 rfl inb_S6x512x128_S1x32x128_3_12_0_s_1_16_1 _ (chunks_read D a11.view a7.view ⟨![3, 12, 0], S1x32x128.size, ![1, 16, 1], inb_S6x512x128_S1x32x128_3_12_0_s_1_16_1⟩) shapeCasts_S1x32x128_S32x128 shapeCasts_S32x128_S1x1x32x128
  refine View.allAt_cons_unit _ _ _ _ _ ?_ ?_
  · exact every16_at D y 12 2 256 rfl inb_S6x512x128_S1x32x128_2_12_0_s_1_16_1 _ (chunks_read D a11.view a7.view ⟨![2, 12, 0], S1x32x128.size, ![1, 16, 1], inb_S6x512x128_S1x32x128_2_12_0_s_1_16_1⟩) shapeCasts_S1x32x128_S32x128 shapeCasts_S32x128_S1x1x32x128
  refine View.allAt_cons_unit _ _ _ _ _ ?_ ?_
  · exact every16_at D y 12 1 128 rfl inb_S6x512x128_S1x32x128_1_12_0_s_1_16_1 _ (chunks_read D a11.view a7.view ⟨![1, 12, 0], S1x32x128.size, ![1, 16, 1], inb_S6x512x128_S1x32x128_1_12_0_s_1_16_1⟩) shapeCasts_S1x32x128_S32x128 shapeCasts_S32x128_S1x1x32x128
  refine View.allAt_cons_unit _ _ _ _ _ ?_ ?_
  · exact every16_at D y 12 0 0 rfl inb_S6x512x128_S1x32x128_0_12_0_s_1_16_1 _ (chunks_read D a11.view a7.view ⟨![0, 12, 0], S1x32x128.size, ![1, 16, 1], inb_S6x512x128_S1x32x128_0_12_0_s_1_16_1⟩) shapeCasts_S1x32x128_S32x128 shapeCasts_S32x128_S1x1x32x128
  refine View.allAt_cons_unit _ _ _ _ _ ?_ ?_
  · exact every16_at D y 11 5 640 rfl inb_S6x512x128_S1x32x128_5_11_0_s_1_16_1 _ (chunks_read D a11.view a7.view ⟨![5, 11, 0], S1x32x128.size, ![1, 16, 1], inb_S6x512x128_S1x32x128_5_11_0_s_1_16_1⟩) shapeCasts_S1x32x128_S32x128 shapeCasts_S32x128_S1x1x32x128
  refine View.allAt_cons_unit _ _ _ _ _ ?_ ?_
  · exact every16_at D y 11 4 512 rfl inb_S6x512x128_S1x32x128_4_11_0_s_1_16_1 _ (chunks_read D a11.view a7.view ⟨![4, 11, 0], S1x32x128.size, ![1, 16, 1], inb_S6x512x128_S1x32x128_4_11_0_s_1_16_1⟩) shapeCasts_S1x32x128_S32x128 shapeCasts_S32x128_S1x1x32x128
  refine View.allAt_cons_unit _ _ _ _ _ ?_ ?_
  · exact every16_at D y 11 3 384 rfl inb_S6x512x128_S1x32x128_3_11_0_s_1_16_1 _ (chunks_read D a11.view a7.view ⟨![3, 11, 0], S1x32x128.size, ![1, 16, 1], inb_S6x512x128_S1x32x128_3_11_0_s_1_16_1⟩) shapeCasts_S1x32x128_S32x128 shapeCasts_S32x128_S1x1x32x128
  refine View.allAt_cons_unit _ _ _ _ _ ?_ ?_
  · exact every16_at D y 11 2 256 rfl inb_S6x512x128_S1x32x128_2_11_0_s_1_16_1 _ (chunks_read D a11.view a7.view ⟨![2, 11, 0], S1x32x128.size, ![1, 16, 1], inb_S6x512x128_S1x32x128_2_11_0_s_1_16_1⟩) shapeCasts_S1x32x128_S32x128 shapeCasts_S32x128_S1x1x32x128
  refine View.allAt_cons_unit _ _ _ _ _ ?_ ?_
  · exact every16_at D y 11 1 128 rfl inb_S6x512x128_S1x32x128_1_11_0_s_1_16_1 _ (chunks_read D a11.view a7.view ⟨![1, 11, 0], S1x32x128.size, ![1, 16, 1], inb_S6x512x128_S1x32x128_1_11_0_s_1_16_1⟩) shapeCasts_S1x32x128_S32x128 shapeCasts_S32x128_S1x1x32x128
  refine View.allAt_cons_unit _ _ _ _ _ ?_ ?_
  · exact every16_at D y 11 0 0 rfl inb_S6x512x128_S1x32x128_0_11_0_s_1_16_1 _ (chunks_read D a11.view a7.view ⟨![0, 11, 0], S1x32x128.size, ![1, 16, 1], inb_S6x512x128_S1x32x128_0_11_0_s_1_16_1⟩) shapeCasts_S1x32x128_S32x128 shapeCasts_S32x128_S1x1x32x128
  refine View.allAt_cons_unit _ _ _ _ _ ?_ ?_
  · exact every16_at D y 10 5 640 rfl inb_S6x512x128_S1x32x128_5_10_0_s_1_16_1 _ (chunks_read D a11.view a7.view ⟨![5, 10, 0], S1x32x128.size, ![1, 16, 1], inb_S6x512x128_S1x32x128_5_10_0_s_1_16_1⟩) shapeCasts_S1x32x128_S32x128 shapeCasts_S32x128_S1x1x32x128
  refine View.allAt_cons_unit _ _ _ _ _ ?_ ?_
  · exact every16_at D y 10 4 512 rfl inb_S6x512x128_S1x32x128_4_10_0_s_1_16_1 _ (chunks_read D a11.view a7.view ⟨![4, 10, 0], S1x32x128.size, ![1, 16, 1], inb_S6x512x128_S1x32x128_4_10_0_s_1_16_1⟩) shapeCasts_S1x32x128_S32x128 shapeCasts_S32x128_S1x1x32x128
  refine View.allAt_cons_unit _ _ _ _ _ ?_ ?_
  · exact every16_at D y 10 3 384 rfl inb_S6x512x128_S1x32x128_3_10_0_s_1_16_1 _ (chunks_read D a11.view a7.view ⟨![3, 10, 0], S1x32x128.size, ![1, 16, 1], inb_S6x512x128_S1x32x128_3_10_0_s_1_16_1⟩) shapeCasts_S1x32x128_S32x128 shapeCasts_S32x128_S1x1x32x128
  refine View.allAt_cons_unit _ _ _ _ _ ?_ ?_
  · exact every16_at D y 10 2 256 rfl inb_S6x512x128_S1x32x128_2_10_0_s_1_16_1 _ (chunks_read D a11.view a7.view ⟨![2, 10, 0], S1x32x128.size, ![1, 16, 1], inb_S6x512x128_S1x32x128_2_10_0_s_1_16_1⟩) shapeCasts_S1x32x128_S32x128 shapeCasts_S32x128_S1x1x32x128
  refine View.allAt_cons_unit _ _ _ _ _ ?_ ?_
  · exact every16_at D y 10 1 128 rfl inb_S6x512x128_S1x32x128_1_10_0_s_1_16_1 _ (chunks_read D a11.view a7.view ⟨![1, 10, 0], S1x32x128.size, ![1, 16, 1], inb_S6x512x128_S1x32x128_1_10_0_s_1_16_1⟩) shapeCasts_S1x32x128_S32x128 shapeCasts_S32x128_S1x1x32x128
  refine View.allAt_cons_unit _ _ _ _ _ ?_ ?_
  · exact every16_at D y 10 0 0 rfl inb_S6x512x128_S1x32x128_0_10_0_s_1_16_1 _ (chunks_read D a11.view a7.view ⟨![0, 10, 0], S1x32x128.size, ![1, 16, 1], inb_S6x512x128_S1x32x128_0_10_0_s_1_16_1⟩) shapeCasts_S1x32x128_S32x128 shapeCasts_S32x128_S1x1x32x128
  refine View.allAt_cons_unit _ _ _ _ _ ?_ ?_
  · exact every16_at D y 9 5 640 rfl inb_S6x512x128_S1x32x128_5_9_0_s_1_16_1 _ (chunks_read D a11.view a7.view ⟨![5, 9, 0], S1x32x128.size, ![1, 16, 1], inb_S6x512x128_S1x32x128_5_9_0_s_1_16_1⟩) shapeCasts_S1x32x128_S32x128 shapeCasts_S32x128_S1x1x32x128
  refine View.allAt_cons_unit _ _ _ _ _ ?_ ?_
  · exact every16_at D y 9 4 512 rfl inb_S6x512x128_S1x32x128_4_9_0_s_1_16_1 _ (chunks_read D a11.view a7.view ⟨![4, 9, 0], S1x32x128.size, ![1, 16, 1], inb_S6x512x128_S1x32x128_4_9_0_s_1_16_1⟩) shapeCasts_S1x32x128_S32x128 shapeCasts_S32x128_S1x1x32x128
  refine View.allAt_cons_unit _ _ _ _ _ ?_ ?_
  · exact every16_at D y 9 3 384 rfl inb_S6x512x128_S1x32x128_3_9_0_s_1_16_1 _ (chunks_read D a11.view a7.view ⟨![3, 9, 0], S1x32x128.size, ![1, 16, 1], inb_S6x512x128_S1x32x128_3_9_0_s_1_16_1⟩) shapeCasts_S1x32x128_S32x128 shapeCasts_S32x128_S1x1x32x128
  refine View.allAt_cons_unit _ _ _ _ _ ?_ ?_
  · exact every16_at D y 9 2 256 rfl inb_S6x512x128_S1x32x128_2_9_0_s_1_16_1 _ (chunks_read D a11.view a7.view ⟨![2, 9, 0], S1x32x128.size, ![1, 16, 1], inb_S6x512x128_S1x32x128_2_9_0_s_1_16_1⟩) shapeCasts_S1x32x128_S32x128 shapeCasts_S32x128_S1x1x32x128
  refine View.allAt_cons_unit _ _ _ _ _ ?_ ?_
  · exact every16_at D y 9 1 128 rfl inb_S6x512x128_S1x32x128_1_9_0_s_1_16_1 _ (chunks_read D a11.view a7.view ⟨![1, 9, 0], S1x32x128.size, ![1, 16, 1], inb_S6x512x128_S1x32x128_1_9_0_s_1_16_1⟩) shapeCasts_S1x32x128_S32x128 shapeCasts_S32x128_S1x1x32x128
  refine View.allAt_cons_unit _ _ _ _ _ ?_ ?_
  · exact every16_at D y 9 0 0 rfl inb_S6x512x128_S1x32x128_0_9_0_s_1_16_1 _ (chunks_read D a11.view a7.view ⟨![0, 9, 0], S1x32x128.size, ![1, 16, 1], inb_S6x512x128_S1x32x128_0_9_0_s_1_16_1⟩) shapeCasts_S1x32x128_S32x128 shapeCasts_S32x128_S1x1x32x128
  refine View.allAt_cons_unit _ _ _ _ _ ?_ ?_
  · exact every16_at D y 8 5 640 rfl inb_S6x512x128_S1x32x128_5_8_0_s_1_16_1 _ (chunks_read D a11.view a7.view ⟨![5, 8, 0], S1x32x128.size, ![1, 16, 1], inb_S6x512x128_S1x32x128_5_8_0_s_1_16_1⟩) shapeCasts_S1x32x128_S32x128 shapeCasts_S32x128_S1x1x32x128
  refine View.allAt_cons_unit _ _ _ _ _ ?_ ?_
  · exact every16_at D y 8 4 512 rfl inb_S6x512x128_S1x32x128_4_8_0_s_1_16_1 _ (chunks_read D a11.view a7.view ⟨![4, 8, 0], S1x32x128.size, ![1, 16, 1], inb_S6x512x128_S1x32x128_4_8_0_s_1_16_1⟩) shapeCasts_S1x32x128_S32x128 shapeCasts_S32x128_S1x1x32x128
  refine View.allAt_cons_unit _ _ _ _ _ ?_ ?_
  · exact every16_at D y 8 3 384 rfl inb_S6x512x128_S1x32x128_3_8_0_s_1_16_1 _ (chunks_read D a11.view a7.view ⟨![3, 8, 0], S1x32x128.size, ![1, 16, 1], inb_S6x512x128_S1x32x128_3_8_0_s_1_16_1⟩) shapeCasts_S1x32x128_S32x128 shapeCasts_S32x128_S1x1x32x128
  refine View.allAt_cons_unit _ _ _ _ _ ?_ ?_
  · exact every16_at D y 8 2 256 rfl inb_S6x512x128_S1x32x128_2_8_0_s_1_16_1 _ (chunks_read D a11.view a7.view ⟨![2, 8, 0], S1x32x128.size, ![1, 16, 1], inb_S6x512x128_S1x32x128_2_8_0_s_1_16_1⟩) shapeCasts_S1x32x128_S32x128 shapeCasts_S32x128_S1x1x32x128
  refine View.allAt_cons_unit _ _ _ _ _ ?_ ?_
  · exact every16_at D y 8 1 128 rfl inb_S6x512x128_S1x32x128_1_8_0_s_1_16_1 _ (chunks_read D a11.view a7.view ⟨![1, 8, 0], S1x32x128.size, ![1, 16, 1], inb_S6x512x128_S1x32x128_1_8_0_s_1_16_1⟩) shapeCasts_S1x32x128_S32x128 shapeCasts_S32x128_S1x1x32x128
  refine View.allAt_cons_unit _ _ _ _ _ ?_ ?_
  · exact every16_at D y 8 0 0 rfl inb_S6x512x128_S1x32x128_0_8_0_s_1_16_1 _ (chunks_read D a11.view a7.view ⟨![0, 8, 0], S1x32x128.size, ![1, 16, 1], inb_S6x512x128_S1x32x128_0_8_0_s_1_16_1⟩) shapeCasts_S1x32x128_S32x128 shapeCasts_S32x128_S1x1x32x128
  refine View.allAt_cons_unit _ _ _ _ _ ?_ ?_
  · exact every16_at D y 7 5 640 rfl inb_S6x512x128_S1x32x128_5_7_0_s_1_16_1 _ (chunks_read D a11.view a7.view ⟨![5, 7, 0], S1x32x128.size, ![1, 16, 1], inb_S6x512x128_S1x32x128_5_7_0_s_1_16_1⟩) shapeCasts_S1x32x128_S32x128 shapeCasts_S32x128_S1x1x32x128
  refine View.allAt_cons_unit _ _ _ _ _ ?_ ?_
  · exact every16_at D y 7 4 512 rfl inb_S6x512x128_S1x32x128_4_7_0_s_1_16_1 _ (chunks_read D a11.view a7.view ⟨![4, 7, 0], S1x32x128.size, ![1, 16, 1], inb_S6x512x128_S1x32x128_4_7_0_s_1_16_1⟩) shapeCasts_S1x32x128_S32x128 shapeCasts_S32x128_S1x1x32x128
  refine View.allAt_cons_unit _ _ _ _ _ ?_ ?_
  · exact every16_at D y 7 3 384 rfl inb_S6x512x128_S1x32x128_3_7_0_s_1_16_1 _ (chunks_read D a11.view a7.view ⟨![3, 7, 0], S1x32x128.size, ![1, 16, 1], inb_S6x512x128_S1x32x128_3_7_0_s_1_16_1⟩) shapeCasts_S1x32x128_S32x128 shapeCasts_S32x128_S1x1x32x128
  refine View.allAt_cons_unit _ _ _ _ _ ?_ ?_
  · exact every16_at D y 7 2 256 rfl inb_S6x512x128_S1x32x128_2_7_0_s_1_16_1 _ (chunks_read D a11.view a7.view ⟨![2, 7, 0], S1x32x128.size, ![1, 16, 1], inb_S6x512x128_S1x32x128_2_7_0_s_1_16_1⟩) shapeCasts_S1x32x128_S32x128 shapeCasts_S32x128_S1x1x32x128
  refine View.allAt_cons_unit _ _ _ _ _ ?_ ?_
  · exact every16_at D y 7 1 128 rfl inb_S6x512x128_S1x32x128_1_7_0_s_1_16_1 _ (chunks_read D a11.view a7.view ⟨![1, 7, 0], S1x32x128.size, ![1, 16, 1], inb_S6x512x128_S1x32x128_1_7_0_s_1_16_1⟩) shapeCasts_S1x32x128_S32x128 shapeCasts_S32x128_S1x1x32x128
  refine View.allAt_cons_unit _ _ _ _ _ ?_ ?_
  · exact every16_at D y 7 0 0 rfl inb_S6x512x128_S1x32x128_0_7_0_s_1_16_1 _ (chunks_read D a11.view a7.view ⟨![0, 7, 0], S1x32x128.size, ![1, 16, 1], inb_S6x512x128_S1x32x128_0_7_0_s_1_16_1⟩) shapeCasts_S1x32x128_S32x128 shapeCasts_S32x128_S1x1x32x128
  refine View.allAt_cons_unit _ _ _ _ _ ?_ ?_
  · exact every16_at D y 6 5 640 rfl inb_S6x512x128_S1x32x128_5_6_0_s_1_16_1 _ (chunks_read D a11.view a7.view ⟨![5, 6, 0], S1x32x128.size, ![1, 16, 1], inb_S6x512x128_S1x32x128_5_6_0_s_1_16_1⟩) shapeCasts_S1x32x128_S32x128 shapeCasts_S32x128_S1x1x32x128
  refine View.allAt_cons_unit _ _ _ _ _ ?_ ?_
  · exact every16_at D y 6 4 512 rfl inb_S6x512x128_S1x32x128_4_6_0_s_1_16_1 _ (chunks_read D a11.view a7.view ⟨![4, 6, 0], S1x32x128.size, ![1, 16, 1], inb_S6x512x128_S1x32x128_4_6_0_s_1_16_1⟩) shapeCasts_S1x32x128_S32x128 shapeCasts_S32x128_S1x1x32x128
  refine View.allAt_cons_unit _ _ _ _ _ ?_ ?_
  · exact every16_at D y 6 3 384 rfl inb_S6x512x128_S1x32x128_3_6_0_s_1_16_1 _ (chunks_read D a11.view a7.view ⟨![3, 6, 0], S1x32x128.size, ![1, 16, 1], inb_S6x512x128_S1x32x128_3_6_0_s_1_16_1⟩) shapeCasts_S1x32x128_S32x128 shapeCasts_S32x128_S1x1x32x128
  refine View.allAt_cons_unit _ _ _ _ _ ?_ ?_
  · exact every16_at D y 6 2 256 rfl inb_S6x512x128_S1x32x128_2_6_0_s_1_16_1 _ (chunks_read D a11.view a7.view ⟨![2, 6, 0], S1x32x128.size, ![1, 16, 1], inb_S6x512x128_S1x32x128_2_6_0_s_1_16_1⟩) shapeCasts_S1x32x128_S32x128 shapeCasts_S32x128_S1x1x32x128
  refine View.allAt_cons_unit _ _ _ _ _ ?_ ?_
  · exact every16_at D y 6 1 128 rfl inb_S6x512x128_S1x32x128_1_6_0_s_1_16_1 _ (chunks_read D a11.view a7.view ⟨![1, 6, 0], S1x32x128.size, ![1, 16, 1], inb_S6x512x128_S1x32x128_1_6_0_s_1_16_1⟩) shapeCasts_S1x32x128_S32x128 shapeCasts_S32x128_S1x1x32x128
  refine View.allAt_cons_unit _ _ _ _ _ ?_ ?_
  · exact every16_at D y 6 0 0 rfl inb_S6x512x128_S1x32x128_0_6_0_s_1_16_1 _ (chunks_read D a11.view a7.view ⟨![0, 6, 0], S1x32x128.size, ![1, 16, 1], inb_S6x512x128_S1x32x128_0_6_0_s_1_16_1⟩) shapeCasts_S1x32x128_S32x128 shapeCasts_S32x128_S1x1x32x128
  refine View.allAt_cons_unit _ _ _ _ _ ?_ ?_
  · exact every16_at D y 5 5 640 rfl inb_S6x512x128_S1x32x128_5_5_0_s_1_16_1 _ (chunks_read D a11.view a7.view ⟨![5, 5, 0], S1x32x128.size, ![1, 16, 1], inb_S6x512x128_S1x32x128_5_5_0_s_1_16_1⟩) shapeCasts_S1x32x128_S32x128 shapeCasts_S32x128_S1x1x32x128
  refine View.allAt_cons_unit _ _ _ _ _ ?_ ?_
  · exact every16_at D y 5 4 512 rfl inb_S6x512x128_S1x32x128_4_5_0_s_1_16_1 _ (chunks_read D a11.view a7.view ⟨![4, 5, 0], S1x32x128.size, ![1, 16, 1], inb_S6x512x128_S1x32x128_4_5_0_s_1_16_1⟩) shapeCasts_S1x32x128_S32x128 shapeCasts_S32x128_S1x1x32x128
  refine View.allAt_cons_unit _ _ _ _ _ ?_ ?_
  · exact every16_at D y 5 3 384 rfl inb_S6x512x128_S1x32x128_3_5_0_s_1_16_1 _ (chunks_read D a11.view a7.view ⟨![3, 5, 0], S1x32x128.size, ![1, 16, 1], inb_S6x512x128_S1x32x128_3_5_0_s_1_16_1⟩) shapeCasts_S1x32x128_S32x128 shapeCasts_S32x128_S1x1x32x128
  refine View.allAt_cons_unit _ _ _ _ _ ?_ ?_
  · exact every16_at D y 5 2 256 rfl inb_S6x512x128_S1x32x128_2_5_0_s_1_16_1 _ (chunks_read D a11.view a7.view ⟨![2, 5, 0], S1x32x128.size, ![1, 16, 1], inb_S6x512x128_S1x32x128_2_5_0_s_1_16_1⟩) shapeCasts_S1x32x128_S32x128 shapeCasts_S32x128_S1x1x32x128
  refine View.allAt_cons_unit _ _ _ _ _ ?_ ?_
  · exact every16_at D y 5 1 128 rfl inb_S6x512x128_S1x32x128_1_5_0_s_1_16_1 _ (chunks_read D a11.view a7.view ⟨![1, 5, 0], S1x32x128.size, ![1, 16, 1], inb_S6x512x128_S1x32x128_1_5_0_s_1_16_1⟩) shapeCasts_S1x32x128_S32x128 shapeCasts_S32x128_S1x1x32x128
  refine View.allAt_cons_unit _ _ _ _ _ ?_ ?_
  · exact every16_at D y 5 0 0 rfl inb_S6x512x128_S1x32x128_0_5_0_s_1_16_1 _ (chunks_read D a11.view a7.view ⟨![0, 5, 0], S1x32x128.size, ![1, 16, 1], inb_S6x512x128_S1x32x128_0_5_0_s_1_16_1⟩) shapeCasts_S1x32x128_S32x128 shapeCasts_S32x128_S1x1x32x128
  refine View.allAt_cons_unit _ _ _ _ _ ?_ ?_
  · exact every16_at D y 4 5 640 rfl inb_S6x512x128_S1x32x128_5_4_0_s_1_16_1 _ (chunks_read D a11.view a7.view ⟨![5, 4, 0], S1x32x128.size, ![1, 16, 1], inb_S6x512x128_S1x32x128_5_4_0_s_1_16_1⟩) shapeCasts_S1x32x128_S32x128 shapeCasts_S32x128_S1x1x32x128
  refine View.allAt_cons_unit _ _ _ _ _ ?_ ?_
  · exact every16_at D y 4 4 512 rfl inb_S6x512x128_S1x32x128_4_4_0_s_1_16_1 _ (chunks_read D a11.view a7.view ⟨![4, 4, 0], S1x32x128.size, ![1, 16, 1], inb_S6x512x128_S1x32x128_4_4_0_s_1_16_1⟩) shapeCasts_S1x32x128_S32x128 shapeCasts_S32x128_S1x1x32x128
  refine View.allAt_cons_unit _ _ _ _ _ ?_ ?_
  · exact every16_at D y 4 3 384 rfl inb_S6x512x128_S1x32x128_3_4_0_s_1_16_1 _ (chunks_read D a11.view a7.view ⟨![3, 4, 0], S1x32x128.size, ![1, 16, 1], inb_S6x512x128_S1x32x128_3_4_0_s_1_16_1⟩) shapeCasts_S1x32x128_S32x128 shapeCasts_S32x128_S1x1x32x128
  refine View.allAt_cons_unit _ _ _ _ _ ?_ ?_
  · exact every16_at D y 4 2 256 rfl inb_S6x512x128_S1x32x128_2_4_0_s_1_16_1 _ (chunks_read D a11.view a7.view ⟨![2, 4, 0], S1x32x128.size, ![1, 16, 1], inb_S6x512x128_S1x32x128_2_4_0_s_1_16_1⟩) shapeCasts_S1x32x128_S32x128 shapeCasts_S32x128_S1x1x32x128
  refine View.allAt_cons_unit _ _ _ _ _ ?_ ?_
  · exact every16_at D y 4 1 128 rfl inb_S6x512x128_S1x32x128_1_4_0_s_1_16_1 _ (chunks_read D a11.view a7.view ⟨![1, 4, 0], S1x32x128.size, ![1, 16, 1], inb_S6x512x128_S1x32x128_1_4_0_s_1_16_1⟩) shapeCasts_S1x32x128_S32x128 shapeCasts_S32x128_S1x1x32x128
  refine View.allAt_cons_unit _ _ _ _ _ ?_ ?_
  · exact every16_at D y 4 0 0 rfl inb_S6x512x128_S1x32x128_0_4_0_s_1_16_1 _ (chunks_read D a11.view a7.view ⟨![0, 4, 0], S1x32x128.size, ![1, 16, 1], inb_S6x512x128_S1x32x128_0_4_0_s_1_16_1⟩) shapeCasts_S1x32x128_S32x128 shapeCasts_S32x128_S1x1x32x128
  refine View.allAt_cons_unit _ _ _ _ _ ?_ ?_
  · exact every16_at D y 3 5 640 rfl inb_S6x512x128_S1x32x128_5_3_0_s_1_16_1 _ (chunks_read D a11.view a7.view ⟨![5, 3, 0], S1x32x128.size, ![1, 16, 1], inb_S6x512x128_S1x32x128_5_3_0_s_1_16_1⟩) shapeCasts_S1x32x128_S32x128 shapeCasts_S32x128_S1x1x32x128
  refine View.allAt_cons_unit _ _ _ _ _ ?_ ?_
  · exact every16_at D y 3 4 512 rfl inb_S6x512x128_S1x32x128_4_3_0_s_1_16_1 _ (chunks_read D a11.view a7.view ⟨![4, 3, 0], S1x32x128.size, ![1, 16, 1], inb_S6x512x128_S1x32x128_4_3_0_s_1_16_1⟩) shapeCasts_S1x32x128_S32x128 shapeCasts_S32x128_S1x1x32x128
  refine View.allAt_cons_unit _ _ _ _ _ ?_ ?_
  · exact every16_at D y 3 3 384 rfl inb_S6x512x128_S1x32x128_3_3_0_s_1_16_1 _ (chunks_read D a11.view a7.view ⟨![3, 3, 0], S1x32x128.size, ![1, 16, 1], inb_S6x512x128_S1x32x128_3_3_0_s_1_16_1⟩) shapeCasts_S1x32x128_S32x128 shapeCasts_S32x128_S1x1x32x128
  refine View.allAt_cons_unit _ _ _ _ _ ?_ ?_
  · exact every16_at D y 3 2 256 rfl inb_S6x512x128_S1x32x128_2_3_0_s_1_16_1 _ (chunks_read D a11.view a7.view ⟨![2, 3, 0], S1x32x128.size, ![1, 16, 1], inb_S6x512x128_S1x32x128_2_3_0_s_1_16_1⟩) shapeCasts_S1x32x128_S32x128 shapeCasts_S32x128_S1x1x32x128
  refine View.allAt_cons_unit _ _ _ _ _ ?_ ?_
  · exact every16_at D y 3 1 128 rfl inb_S6x512x128_S1x32x128_1_3_0_s_1_16_1 _ (chunks_read D a11.view a7.view ⟨![1, 3, 0], S1x32x128.size, ![1, 16, 1], inb_S6x512x128_S1x32x128_1_3_0_s_1_16_1⟩) shapeCasts_S1x32x128_S32x128 shapeCasts_S32x128_S1x1x32x128
  refine View.allAt_cons_unit _ _ _ _ _ ?_ ?_
  · exact every16_at D y 3 0 0 rfl inb_S6x512x128_S1x32x128_0_3_0_s_1_16_1 _ (chunks_read D a11.view a7.view ⟨![0, 3, 0], S1x32x128.size, ![1, 16, 1], inb_S6x512x128_S1x32x128_0_3_0_s_1_16_1⟩) shapeCasts_S1x32x128_S32x128 shapeCasts_S32x128_S1x1x32x128
  refine View.allAt_cons_unit _ _ _ _ _ ?_ ?_
  · exact every16_at D y 2 5 640 rfl inb_S6x512x128_S1x32x128_5_2_0_s_1_16_1 _ (chunks_read D a11.view a7.view ⟨![5, 2, 0], S1x32x128.size, ![1, 16, 1], inb_S6x512x128_S1x32x128_5_2_0_s_1_16_1⟩) shapeCasts_S1x32x128_S32x128 shapeCasts_S32x128_S1x1x32x128
  refine View.allAt_cons_unit _ _ _ _ _ ?_ ?_
  · exact every16_at D y 2 4 512 rfl inb_S6x512x128_S1x32x128_4_2_0_s_1_16_1 _ (chunks_read D a11.view a7.view ⟨![4, 2, 0], S1x32x128.size, ![1, 16, 1], inb_S6x512x128_S1x32x128_4_2_0_s_1_16_1⟩) shapeCasts_S1x32x128_S32x128 shapeCasts_S32x128_S1x1x32x128
  refine View.allAt_cons_unit _ _ _ _ _ ?_ ?_
  · exact every16_at D y 2 3 384 rfl inb_S6x512x128_S1x32x128_3_2_0_s_1_16_1 _ (chunks_read D a11.view a7.view ⟨![3, 2, 0], S1x32x128.size, ![1, 16, 1], inb_S6x512x128_S1x32x128_3_2_0_s_1_16_1⟩) shapeCasts_S1x32x128_S32x128 shapeCasts_S32x128_S1x1x32x128
  refine View.allAt_cons_unit _ _ _ _ _ ?_ ?_
  · exact every16_at D y 2 2 256 rfl inb_S6x512x128_S1x32x128_2_2_0_s_1_16_1 _ (chunks_read D a11.view a7.view ⟨![2, 2, 0], S1x32x128.size, ![1, 16, 1], inb_S6x512x128_S1x32x128_2_2_0_s_1_16_1⟩) shapeCasts_S1x32x128_S32x128 shapeCasts_S32x128_S1x1x32x128
  refine View.allAt_cons_unit _ _ _ _ _ ?_ ?_
  · exact every16_at D y 2 1 128 rfl inb_S6x512x128_S1x32x128_1_2_0_s_1_16_1 _ (chunks_read D a11.view a7.view ⟨![1, 2, 0], S1x32x128.size, ![1, 16, 1], inb_S6x512x128_S1x32x128_1_2_0_s_1_16_1⟩) shapeCasts_S1x32x128_S32x128 shapeCasts_S32x128_S1x1x32x128
  refine View.allAt_cons_unit _ _ _ _ _ ?_ ?_
  · exact every16_at D y 2 0 0 rfl inb_S6x512x128_S1x32x128_0_2_0_s_1_16_1 _ (chunks_read D a11.view a7.view ⟨![0, 2, 0], S1x32x128.size, ![1, 16, 1], inb_S6x512x128_S1x32x128_0_2_0_s_1_16_1⟩) shapeCasts_S1x32x128_S32x128 shapeCasts_S32x128_S1x1x32x128
  refine View.allAt_cons_unit _ _ _ _ _ ?_ ?_
  · exact every16_at D y 1 5 640 rfl inb_S6x512x128_S1x32x128_5_1_0_s_1_16_1 _ (chunks_read D a11.view a7.view ⟨![5, 1, 0], S1x32x128.size, ![1, 16, 1], inb_S6x512x128_S1x32x128_5_1_0_s_1_16_1⟩) shapeCasts_S1x32x128_S32x128 shapeCasts_S32x128_S1x1x32x128
  refine View.allAt_cons_unit _ _ _ _ _ ?_ ?_
  · exact every16_at D y 1 4 512 rfl inb_S6x512x128_S1x32x128_4_1_0_s_1_16_1 _ (chunks_read D a11.view a7.view ⟨![4, 1, 0], S1x32x128.size, ![1, 16, 1], inb_S6x512x128_S1x32x128_4_1_0_s_1_16_1⟩) shapeCasts_S1x32x128_S32x128 shapeCasts_S32x128_S1x1x32x128
  refine View.allAt_cons_unit _ _ _ _ _ ?_ ?_
  · exact every16_at D y 1 3 384 rfl inb_S6x512x128_S1x32x128_3_1_0_s_1_16_1 _ (chunks_read D a11.view a7.view ⟨![3, 1, 0], S1x32x128.size, ![1, 16, 1], inb_S6x512x128_S1x32x128_3_1_0_s_1_16_1⟩) shapeCasts_S1x32x128_S32x128 shapeCasts_S32x128_S1x1x32x128
  refine View.allAt_cons_unit _ _ _ _ _ ?_ ?_
  · exact every16_at D y 1 2 256 rfl inb_S6x512x128_S1x32x128_2_1_0_s_1_16_1 _ (chunks_read D a11.view a7.view ⟨![2, 1, 0], S1x32x128.size, ![1, 16, 1], inb_S6x512x128_S1x32x128_2_1_0_s_1_16_1⟩) shapeCasts_S1x32x128_S32x128 shapeCasts_S32x128_S1x1x32x128
  refine View.allAt_cons_unit _ _ _ _ _ ?_ ?_
  · exact every16_at D y 1 1 128 rfl inb_S6x512x128_S1x32x128_1_1_0_s_1_16_1 _ (chunks_read D a11.view a7.view ⟨![1, 1, 0], S1x32x128.size, ![1, 16, 1], inb_S6x512x128_S1x32x128_1_1_0_s_1_16_1⟩) shapeCasts_S1x32x128_S32x128 shapeCasts_S32x128_S1x1x32x128
  refine View.allAt_cons_unit _ _ _ _ _ ?_ ?_
  · exact every16_at D y 1 0 0 rfl inb_S6x512x128_S1x32x128_0_1_0_s_1_16_1 _ (chunks_read D a11.view a7.view ⟨![0, 1, 0], S1x32x128.size, ![1, 16, 1], inb_S6x512x128_S1x32x128_0_1_0_s_1_16_1⟩) shapeCasts_S1x32x128_S32x128 shapeCasts_S32x128_S1x1x32x128
  refine View.allAt_cons_unit _ _ _ _ _ ?_ ?_
  · exact every16_at D y 0 5 640 rfl inb_S6x512x128_S1x32x128_5_0_0_s_1_16_1 _ (chunks_read D a11.view a7.view ⟨![5, 0, 0], S1x32x128.size, ![1, 16, 1], inb_S6x512x128_S1x32x128_5_0_0_s_1_16_1⟩) shapeCasts_S1x32x128_S32x128 shapeCasts_S32x128_S1x1x32x128
  refine View.allAt_cons_unit _ _ _ _ _ ?_ ?_
  · exact every16_at D y 0 4 512 rfl inb_S6x512x128_S1x32x128_4_0_0_s_1_16_1 _ (chunks_read D a11.view a7.view ⟨![4, 0, 0], S1x32x128.size, ![1, 16, 1], inb_S6x512x128_S1x32x128_4_0_0_s_1_16_1⟩) shapeCasts_S1x32x128_S32x128 shapeCasts_S32x128_S1x1x32x128
  refine View.allAt_cons_unit _ _ _ _ _ ?_ ?_
  · exact every16_at D y 0 3 384 rfl inb_S6x512x128_S1x32x128_3_0_0_s_1_16_1 _ (chunks_read D a11.view a7.view ⟨![3, 0, 0], S1x32x128.size, ![1, 16, 1], inb_S6x512x128_S1x32x128_3_0_0_s_1_16_1⟩) shapeCasts_S1x32x128_S32x128 shapeCasts_S32x128_S1x1x32x128
  refine View.allAt_cons_unit _ _ _ _ _ ?_ ?_
  · exact every16_at D y 0 2 256 rfl inb_S6x512x128_S1x32x128_2_0_0_s_1_16_1 _ (chunks_read D a11.view a7.view ⟨![2, 0, 0], S1x32x128.size, ![1, 16, 1], inb_S6x512x128_S1x32x128_2_0_0_s_1_16_1⟩) shapeCasts_S1x32x128_S32x128 shapeCasts_S32x128_S1x1x32x128
  refine View.allAt_cons_unit _ _ _ _ _ ?_ ?_
  · exact every16_at D y 0 1 128 rfl inb_S6x512x128_S1x32x128_1_0_0_s_1_16_1 _ (chunks_read D a11.view a7.view ⟨![1, 0, 0], S1x32x128.size, ![1, 16, 1], inb_S6x512x128_S1x32x128_1_0_0_s_1_16_1⟩) shapeCasts_S1x32x128_S32x128 shapeCasts_S32x128_S1x1x32x128
  refine View.allAt_cons_unit _ _ _ _ _ ?_ ?_
  · exact every16_at D y 0 0 0 rfl inb_S6x512x128_S1x32x128_0_0_0_s_1_16_1 _ (chunks_read D a11.view a7.view ⟨![0, 0, 0], S1x32x128.size, ![1, 16, 1], inb_S6x512x128_S1x32x128_0_0_0_s_1_16_1⟩) shapeCasts_S1x32x128_S32x128 shapeCasts_S32x128_S1x1x32x128
  exact View.allAt_nil _ _

end Cert.Proof.InProjection
end
-- ==== Proof.InProjectionSpec.lean ====
/- What the input projection computes, element by element, over the extended reals. -/
module

public import Idealize.ShloMosaic.Lib.Pointwise.Tactic
public import Idealize.ShloMosaic.Lib.ValueIdxCore
public import Idealize.ShloMosaic.PureOps

@[expose] public section
noncomputable section
namespace Cert.Proof.InProjection
open Idealize.ShloMosaic

/-- Entry `k` of a row normalised along its 1024 entries, times the gain. -/
def normed (x g : Fin 1024 → EReal) (k : Fin 1024) : EReal :=
  x k * Ideal.rsqrt (Ideal.div (∑ l : Fin 1024, x l * x l) (Ideal.ofBits .f32 1149239296#32) + Ideal.ofBits .f32 897988541#32) * g k

/-- Column `j` of the projection of row `n`, normalised. -/
def projAt (x : (⟨2, ![32768, 1024]⟩ : Shape).Idx → EReal) (g : (⟨1, ![1024]⟩ : Shape).Idx → EReal)
    (W : (⟨2, ![1024, 3336]⟩ : Shape).Idx → EReal) (n : Fin 32768) (j : Fin 3336) : EReal :=
  ∑ k : Fin 1024, normed (fun l => x (ix2 n l)) (fun l => g (ix1 l)) k * W (ix2 k j)

section Results
variable (x : (⟨2, ![32768, 1024]⟩ : Shape).Idx → EReal) (g : (⟨1, ![1024]⟩ : Shape).Idx → EReal) (W : (⟨2, ![1024, 3336]⟩ : Shape).Idx → EReal)

/-- Columns 0 to 1023. -/
def resultA (n : Fin 32768) (q : Fin 1024) : EReal := projAt x g W n ⟨q.val, by omega⟩
/-- Columns 1032 to 1543. -/
def resultB (n : Fin 32768) (q : Fin 512) : EReal := projAt x g W n ⟨1032 + q.val, by omega⟩
/-- Columns 1544 to 2567. -/
def resultC (n : Fin 32768) (q : Fin 1024) : EReal := projAt x g W n ⟨1544 + q.val, by omega⟩
/-- Columns 2568 to 3335. -/
def resultD (n : Fin 32768) (q : Fin 768) : EReal := projAt x g W n ⟨2568 + q.val, by omega⟩
/-- Columns 1024 to 1031, then zeros. -/
def resultBA (n : Fin 32768) (q : Fin 128) : EReal := if h : q.val < 8 then projAt x g W n ⟨1024 + q.val, by omega⟩ else 0
/-- Columns 2568 to 3335 of every fourth row of a sequence, by the row's place among its four. -/
def resultD4 (b p : Fin 4) (i : Fin 2048) (q : Fin 768) : EReal := resultD x g W ⟨8192 * b.val + 4 * i.val + p.val, by omega⟩ q
/-- Columns 2568 to 3335 of every sixteenth row of a sequence, by the row's place among its sixteen. -/
def resultD16 (b : Fin 4) (p : Fin 16) (i : Fin 512) (q : Fin 768) : EReal := resultD x g W ⟨8192 * b.val + 16 * i.val + p.val, by omega⟩ q
end Results

end Cert.Proof.InProjection
end
-- ==== Proof.InProjectionValue.lean ====
/- The input projection's result arrays, element by element. -/
module

public import proofs.«01_k».proof.Proof.InProjectionStrided
public import proofs.«01_k».proof.Proof.InProjectionSpec
public import Idealize.ShloMosaic.Lib.Pipeline.ValueKit.Geometry
public import Idealize.ShloMosaic.Lib.Pointwise.Reshape
public import Idealize.ShloMosaic.Lib.Pointwise.Reduce
public import Idealize.ShloMosaic.Lib.Pointwise.Contract
public import Idealize.ShloMosaic.Lib.Pointwise.SelectCore
public import Idealize.ShloMosaic.Lib.Pointwise.ShapeOpsCore
public import Idealize.ShloMosaic.Lib.Pointwise.Tactic
public import Idealize.ShloMosaic.Lib.KernelVsHost

@[expose] public section
set_option maxRecDepth 16384
noncomputable section
namespace Cert.Proof.InProjection
open Cert.InProjectionIdeal Cert.InProjectionIdeal.Gen
open Idealize.ShloMosaic Idealize.ShloMosaic.TcCoe

/-! ## The stored terms at an index -/

theorem pay3_apply (x : FVec Ideal S512x1024 .f32) (g : FVec Ideal S1x1024 .f32) (r : Fin 512) (k : Fin 1024) :
    k0_pay3 (F := Ideal) x g (ix2 r k) = normed (fun l => x (ix2 r l)) (fun l => g (ix2 (0 : Fin 1) l)) k := by
  have hs : multiReduction (F := Ideal) .add [1] S512 (mulf x x) 0x00000000#32 reduces_S512x1024_S512 (.inl rfl) rfl (ix1 r)
      = ∑ l : Fin 1024, x (ix2 r l) * x (ix2 r l) := by
    refine (multiReduction_add_apply _ _ _ _ _ _).trans ?_
    simp only [pointwise]
  unfold normed k0_pay3
  simp only [pointwise]
  rw [← hs]
  rfl

theorem pay4_apply (x : FVec Ideal S512x1024 .f32) (g : FVec Ideal S1x1024 .f32) (w : FVec Ideal S1024x1024 .bf16) (r : Fin 512) (q : Fin 1024) :
    k0_pay4 (F := Ideal) x g w (ix2 r q) = ∑ k : Fin 1024, k0_pay3 (F := Ideal) x g (ix2 r k) * w (ix2 k q) := by
  unfold k0_pay4
  simp only [pointwise, zero_add]

theorem pay5_apply (x : FVec Ideal S512x1024 .f32) (g : FVec Ideal S1x1024 .f32) (w : FVec Ideal S1024x512 .bf16) (r : Fin 512) (q : Fin 512) :
    k0_pay5 (F := Ideal) x g w (ix2 r q) = ∑ k : Fin 1024, k0_pay3 (F := Ideal) x g (ix2 r k) * w (ix2 k q) := by
  unfold k0_pay5
  simp only [pointwise, zero_add]

theorem pay6_apply (x : FVec Ideal S512x1024 .f32) (g : FVec Ideal S1x1024 .f32) (w : FVec Ideal S1024x1024 .bf16) (r : Fin 512) (q : Fin 1024) :
    k0_pay6 (F := Ideal) x g w (ix2 r q) = ∑ k : Fin 1024, k0_pay3 (F := Ideal) x g (ix2 r k) * w (ix2 k q) := by
  unfold k0_pay6
  simp only [pointwise, zero_add]

theorem pay7_apply (x : FVec Ideal S512x1024 .f32) (g : FVec Ideal S1x1024 .f32) (w : FVec Ideal S1024x768 .bf16) (r : Fin 512) (q : Fin 768) :
    k0_pay7 (F := Ideal) x g w (ix2 r q) = ∑ k : Fin 1024, k0_pay3 (F := Ideal) x g (ix2 r k) * w (ix2 k q) := by
  unfold k0_pay7
  simp only [pointwise, zero_add]

theorem pay8_apply (h : FVec Ideal S512x1024 .bf16) (w : FVec Ideal S1024x128 .bf16) (r : Fin 512) (q : Fin 128) :
    k0_pay8 (F := Ideal) h w (ix2 r q) = ∑ k : Fin 1024, h (ix2 r k) * w (ix2 k q) := by
  unfold k0_pay8
  simp only [pointwise, zero_add]

/-! ## The weights with their columns moved -/

/-- The weights as the host arranges them. -/
def arranged (W : FVec Ideal S1024x3336 .f32) : FVec Ideal S1024x3456 .f32 :=
  concatenate S1024x3456 1 [⟨S1024x1024, extractStridedSlice S1024x1024 ![0, 0] W slices_S1024x3336_S1024x1024_0_0⟩,
    ⟨S1024x2304, extractStridedSlice S1024x2304 ![0, 1032] W slices_S1024x3336_S1024x2304_0_1032⟩,
    ⟨S1024x128, pad S1024x128 ![0, 0] ![0, 120] ![0, 0] (extractStridedSlice S1024x8 ![0, 1024] W slices_S1024x3336_S1024x8_0_1024) (sitofp .f32 (constantI S_ 32 0#32)) pads_S1024x8_S1024x128_000_01200 h_S_⟩]
    concatenates_S1024x1024_S1024x2304_S1024x128_S1024x3456_d1

theorem sitofp_zero : (FloatOps.sitofp (F := Ideal) FTy.f32 (0#32) : EReal) = 0 := by
  show ((((0#32 : BitVec 32).toInt : ℤ) : ℝ) : EReal) = 0
  norm_num

/-- Column `z` of the arranged weights is column `j` of the weights. -/
theorem arranged_at (W : FVec Ideal S1024x3336 .f32) (k : Fin 1024) (z : Fin 3456) (j : Fin 3336)
    (hj : (z.val < 1024 ∧ j.val = z.val) ∨ (1024 ≤ z.val ∧ z.val < 3328 ∧ j.val = z.val + 8) ∨ (3328 ≤ z.val ∧ z.val < 3336 ∧ j.val = z.val - 2304)) :
    arranged W (ix2 k z) = W (ix2 k j) := by
  have e2 : ∀ (a : Fin 1024) (d : Fin 3336), a.val = k.val → d.val = j.val → W (ix2 a d) = W (ix2 k j) := by
    intro a d h1 h2
    rw [Fin.ext h1, Fin.ext h2]
  unfold arranged
  simp only [pointwise]
  rcases hj with ⟨h, e⟩ | ⟨h, h', e⟩ | ⟨h, h', e⟩
  · refine (dif_pos (show z.val < 1024 from h)).trans (e2 _ _ ?_ ?_)
    · show 0 + k.val = k.val
      omega
    · show 0 + z.val = j.val
      omega
  · refine (dif_neg (show ¬z.val < 1024 by omega)).trans ((dif_pos (show z.val - 1024 < 2304 by omega)).trans (e2 _ _ ?_ ?_))
    · show 0 + k.val = k.val
      omega
    · show 1032 + (z.val - 1024) = j.val
      omega
  · refine (dif_neg (show ¬z.val < 1024 by omega)).trans ((dif_neg (show ¬z.val - 1024 < 2304 by omega)).trans ((dif_pos fun a => ?_).trans (e2 _ _ ?_ ?_)))
    · match a with
      | ⟨0, _⟩ => show 0 ≤ k.val ∧ (k.val - 0) % 1 = 0 ∧ (k.val - 0) / 1 < 1024; omega
      | ⟨1, _⟩ => show 0 ≤ z.val - 1024 - 2304 ∧ (z.val - 1024 - 2304 - 0) % 1 = 0 ∧ (z.val - 1024 - 2304 - 0) / 1 < 8; omega
    · show 0 + (k.val - 0) / 1 = k.val
      omega
    · show 1024 + (z.val - 1024 - 2304 - 0) / 1 = j.val
      omega

/-- The last 120 columns of the arranged weights are zeros. -/
theorem arranged_zero (W : FVec Ideal S1024x3336 .f32) (k : Fin 1024) (z : Fin 3456) (hz : 3336 ≤ z.val) : arranged W (ix2 k z) = (0 : EReal) := by
  unfold arranged
  simp only [pointwise]
  refine (dif_neg (show ¬z.val < 1024 by omega)).trans ((dif_neg (show ¬z.val - 1024 < 2304 by omega)).trans ((dif_neg fun h => ?_).trans sitofp_zero))
  · have h1 : 0 ≤ z.val - 1024 - 2304 ∧ (z.val - 1024 - 2304 - 0) % 1 = 0 ∧ (z.val - 1024 - 2304 - 0) / 1 < 8 := h 1
    omega

variable (m : (ℓ : Loc nD τ sig) → Buf (Elt Ideal) ℓ) (c : Dev nD)

/-! ## The arrays the host prepared -/

theorem V_main_v0 (q : Fin 1024) : (V m c main_v0 : S1x1024.Idx → EReal) (ix2 (0 : Fin 1) q) = (m ((c : Thread nD τ).loc main_arg1) : S1024.Idx → EReal) (ix1 q) := by
  have e : (V m c main_v0 : S1x1024.Idx → EReal) = shapeCast S1x1024 (m ((c : Thread nD τ).loc main_arg1) : S1024.Idx → EReal) shapeCasts_S1024_S1x1024 := by
    unfold V
    simp only [hostOps0, hostOps0_1, hostOps0_2, List.flatten_cons, List.flatten_nil, List.append_nil, List.cons_append, List.nil_append]
    after_results_simp <;> rfl
  rw [e]
  simp only [pointwise]

theorem V_main_v6 : (V m c main_v6 : S1024x3456.Idx → EReal) = arranged (m ((c : Thread nD τ).loc main_arg2)) := by
  unfold V
  simp only [hostOps0, hostOps0_1, hostOps0_2, List.flatten_cons, List.flatten_nil, List.append_nil, List.cons_append, List.nil_append]
  after_results_simp <;> rfl

/-! ## The blocks the body reads -/

theorem index0 : ∀ t : Fin grid0.N, cc0_transform_0 (grid0.coords t) = ![t.val, 0] := by decide +kernel

theorem iblk0_apply (t : Fin cfg0.N) (r : Fin 512) (k : Fin 1024) (n : Fin 32768) (hn : n.val = 512 * t.val + r.val) :
    (iblk m c 0 t : S512x1024.Idx → EReal) (ix2 r k) = (m ((c : Thread nD τ).loc main_arg0) : S32768x1024.Idx → EReal) (ix2 n k) := by
  refine Eq.trans ?_ (congrFun (V_main_arg0 m c) _)
  show V m c main_arg0 (((cfg0.win 0).rect t).emb (ix2 r k)) = V m c main_arg0 _
  refine congrArg (V m c main_arg0) ?_
  funext a
  apply Fin.ext
  refine (Pipeline.Window.rect_emb_val _ _ _ _).trans ?_
  have e := index0 t
  match a with
  | ⟨0, _⟩ => show cc0_transform_0 (grid0.coords t) 0 * 512 + r.val = n.val; rw [e, hn]; show t.val * 512 + r.val = _; omega
  | ⟨1, _⟩ => show cc0_transform_0 (grid0.coords t) 1 * 1024 + k.val = k.val; rw [e]; show 0 * 1024 + k.val = k.val; omega

theorem iblk1_apply (t : Fin cfg0.N) (q : Fin 1024) :
    (iblk m c 1 t : S1x1024.Idx → EReal) (ix2 (0 : Fin 1) q) = (m ((c : Thread nD τ).loc main_arg1) : S1024.Idx → EReal) (ix1 q) := by
  refine Eq.trans ?_ (V_main_v0 m c q)
  show V m c main_v0 (((cfg0.win 1).rect t).emb (ix2 (0 : Fin 1) q)) = V m c main_v0 _
  refine congrArg (V m c main_v0) ?_
  funext a
  apply Fin.ext
  refine (Pipeline.Window.rect_emb_val _ _ _ _).trans ?_
  match a with
  | ⟨0, _⟩ => show 0 * 1 + 0 = 0; rfl
  | ⟨1, _⟩ => show 0 * 1024 + q.val = q.val; omega

theorem iblk2_eq (t : Fin cfg0.N) : (iblk m c 2 t : S1024x3456.Idx → EReal) = arranged (m ((c : Thread nD τ).loc main_arg2)) := by
  refine Eq.trans ?_ (V_main_v6 m c)
  funext y
  show V m c main_v6 (((cfg0.win 2).rect t).emb y) = V m c main_v6 _
  refine congrArg (V m c main_v6) ?_
  funext a
  apply Fin.ext
  refine (Pipeline.Window.rect_emb_val _ _ _ _).trans ?_
  match a with
  | ⟨0, _⟩ => show 0 * 1024 + (y 0).val = (y 0).val; omega
  | ⟨1, _⟩ => show 0 * 3456 + (y 1).val = (y 1).val; omega

/-- A row of the normalised block against a column of the arranged weights. -/
theorem rowDot (t : Fin cfg0.N) (r : Fin 512) (n : Fin 32768) (hn : n.val = 512 * t.val + r.val) (w : Fin 1024 → EReal) :
    (∑ k : Fin 1024, k0_pay3 (F := Ideal) (iblk m c 0 t) (iblk m c 1 t) (ix2 r k) * w k)
      = ∑ k : Fin 1024, normed (fun l => (m ((c : Thread nD τ).loc main_arg0) : S32768x1024.Idx → EReal) (ix2 n l)) (fun l => (m ((c : Thread nD τ).loc main_arg1) : S1024.Idx → EReal) (ix1 l)) k * w k := by
  refine Finset.sum_congr rfl fun k _ => congrArg (· * w k) ((pay3_apply _ _ r k).trans ?_)
  exact congrArg₂ (fun x g => normed x g k) (funext fun l => iblk0_apply m c t r l n hn) (funext fun l => iblk1_apply m c t l)

/-- … where that column is column `j` of the weights. -/
theorem rowDot_at (t : Fin cfg0.N) (r : Fin 512) (n : Fin 32768) (hn : n.val = 512 * t.val + r.val) (w : Fin 1024 → EReal) (z : Fin 3456) (j : Fin 3336)
    (hw : ∀ k, w k = (iblk m c 2 t : S1024x3456.Idx → EReal) (ix2 k z))
    (hj : (z.val < 1024 ∧ j.val = z.val) ∨ (1024 ≤ z.val ∧ z.val < 3328 ∧ j.val = z.val + 8) ∨ (3328 ≤ z.val ∧ z.val < 3336 ∧ j.val = z.val - 2304)) :
    (∑ k : Fin 1024, k0_pay3 (F := Ideal) (iblk m c 0 t) (iblk m c 1 t) (ix2 r k) * w k)
      = projAt (m ((c : Thread nD τ).loc main_arg0)) (m ((c : Thread nD τ).loc main_arg1)) (m ((c : Thread nD τ).loc main_arg2)) n j := by
  refine (rowDot m c t r n hn w).trans (Finset.sum_congr rfl fun k _ => congrArg (fun v : EReal => normed (fun l => (m ((c : Thread nD τ).loc main_arg0) : S32768x1024.Idx → EReal) (ix2 n l)) (fun l => (m ((c : Thread nD τ).loc main_arg1) : S1024.Idx → EReal) (ix1 l)) k * v) ?_)
  exact (hw k).trans ((congrFun (iblk2_eq m c t) _).trans (arranged_at _ k z j hj))

/-- … where that column is zeros. -/
theorem rowDot_zero (t : Fin cfg0.N) (r : Fin 512) (n : Fin 32768) (hn : n.val = 512 * t.val + r.val) (w : Fin 1024 → EReal) (z : Fin 3456)
    (hw : ∀ k, w k = (iblk m c 2 t : S1024x3456.Idx → EReal) (ix2 k z)) (hz : 3336 ≤ z.val) :
    (∑ k : Fin 1024, k0_pay3 (F := Ideal) (iblk m c 0 t) (iblk m c 1 t) (ix2 r k) * w k) = 0 := by
  refine (rowDot m c t r n hn w).trans (Finset.sum_eq_zero fun k _ => ?_)
  rw [(hw k).trans ((congrFun (iblk2_eq m c t) _).trans (arranged_zero _ k z hz)), mul_zero]

/-- A load of columns, at an index. -/
theorem cols_apply {n : Nat} (w : FVec Ideal S1024x3456 .bf16) (o : Nat) (h) (k : Fin 1024) (q : Fin n) (z : Fin 3456) (hz : z.val = o + q.val) :
    View.ld (Val := Elt Ideal) (e' := .bf16) w (Rect.unit (s := S1024x3456) ![0, o] ![1024, n] h) (ix2 k q) = w (ix2 k z) := by
  refine congrArg w ?_
  funext a
  apply Fin.ext
  match a with
  | ⟨0, _⟩ => show 0 + 1 * k.val = k.val; omega
  | ⟨1, _⟩ => show o + 1 * q.val = z.val; omega

/-! ## The blocks the body leaves -/

theorem outs_a (t : Fin cfg0.N) : (outsAt0 (F := Ideal) m c t).1 = k0_pay4 (iblk m c 0 t) (iblk m c 1 t) (View.ld (iblk m c 2 t) (Rect.unit (s := S1024x3456) ![0, 0] S1024x1024.size inb_S1024x3456_S1024x1024_0_0)) := by
  unfold outsAt0
  dsimp only
  exact out_a (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t)

theorem outs_b (t : Fin cfg0.N) : (outsAt0 (F := Ideal) m c t).2.1 = k0_pay5 (iblk m c 0 t) (iblk m c 1 t) (View.ld (iblk m c 2 t) (Rect.unit (s := S1024x3456) ![0, 1024] S1024x512.size inb_S1024x3456_S1024x512_0_1024)) := by
  unfold outsAt0
  dsimp only
  exact out_b (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t)

theorem outs_c (t : Fin cfg0.N) : (outsAt0 (F := Ideal) m c t).2.2.1 = k0_pay6 (iblk m c 0 t) (iblk m c 1 t) (View.ld (iblk m c 2 t) (Rect.unit (s := S1024x3456) ![0, 1536] S1024x1024.size inb_S1024x3456_S1024x1024_0_1536)) := by
  unfold outsAt0
  dsimp only
  exact out_c (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t)

theorem outs_d (t : Fin cfg0.N) : (outsAt0 (F := Ideal) m c t).2.2.2.1 = k0_pay7 (iblk m c 0 t) (iblk m c 1 t) (View.ld (iblk m c 2 t) (Rect.unit (s := S1024x3456) ![0, 2560] S1024x768.size inb_S1024x3456_S1024x768_0_2560)) := by
  unfold outsAt0
  dsimp only
  exact out_d (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t)

theorem outs_ba (t : Fin cfg0.N) : (outsAt0 (F := Ideal) m c t).2.2.2.2.1 = k0_pay8 (k0_pay3 (iblk m c 0 t) (iblk m c 1 t)) (View.ld (iblk m c 2 t) (Rect.unit (s := S1024x3456) ![0, 3328] S1024x128.size inb_S1024x3456_S1024x128_0_3328)) := by
  unfold outsAt0
  dsimp only
  exact out_ba (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t)

theorem outs_d4 (t : Fin cfg0.N) (y : S1x4x128x768.Idx) : (outsAt0 (F := Ideal) m c t).2.2.2.2.2.1 y
    = k0_pay7 (iblk m c 0 t) (iblk m c 1 t) (View.ld (iblk m c 2 t) (Rect.unit (s := S1024x3456) ![0, 2560] S1024x768.size inb_S1024x3456_S1024x768_0_2560))
        (ix2 (⟨(y 1).val + 4 * (y 2).val, by have h1 : (y 1).val < 4 := (y 1).isLt; have h2 : (y 2).val < 128 := (y 2).isLt; omega⟩ : Fin 512) (⟨(y 3).val, (y 3).isLt⟩ : Fin 768)) := by
  unfold outsAt0
  dsimp only
  exact out_every4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) y

theorem outs_d16 (t : Fin cfg0.N) (y : S1x16x32x768.Idx) : (outsAt0 (F := Ideal) m c t).2.2.2.2.2.2 y
    = k0_pay7 (iblk m c 0 t) (iblk m c 1 t) (View.ld (iblk m c 2 t) (Rect.unit (s := S1024x3456) ![0, 2560] S1024x768.size inb_S1024x3456_S1024x768_0_2560))
        (ix2 (⟨(y 1).val + 16 * (y 2).val, by have h1 : (y 1).val < 16 := (y 1).isLt; have h2 : (y 2).val < 32 := (y 2).isLt; omega⟩ : Fin 512) (⟨(y 3).val, (y 3).isLt⟩ : Fin 768)) := by
  unfold outsAt0
  dsimp only
  exact out_every16 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) y

theorem block_a (t : Fin cfg0.N) (r : Fin 512) (q : Fin 1024) (n : Fin 32768) (hn : n.val = 512 * t.val + r.val) :
    ((outsAt0 m c t).1 : S512x1024.Idx → EReal) (ix2 r q) = resultA (m ((c : Thread nD τ).loc main_arg0)) (m ((c : Thread nD τ).loc main_arg1)) (m ((c : Thread nD τ).loc main_arg2)) n q := by
  refine (congrFun (outs_a m c t) (ix2 r q)).trans ?_
  refine (pay4_apply _ _ _ r q).trans ?_
  exact rowDot_at m c t r n hn _ ⟨0 + q.val, by omega⟩ _ (fun k => cols_apply _ 0 _ k q _ rfl) (.inl ⟨by show 0 + q.val < 1024; omega, by show q.val = 0 + q.val; omega⟩)

theorem block_b (t : Fin cfg0.N) (r : Fin 512) (q : Fin 512) (n : Fin 32768) (hn : n.val = 512 * t.val + r.val) :
    ((outsAt0 m c t).2.1 : S512x512.Idx → EReal) (ix2 r q) = resultB (m ((c : Thread nD τ).loc main_arg0)) (m ((c : Thread nD τ).loc main_arg1)) (m ((c : Thread nD τ).loc main_arg2)) n q := by
  refine (congrFun (outs_b m c t) (ix2 r q)).trans ?_
  refine (pay5_apply _ _ _ r q).trans ?_
  exact rowDot_at m c t r n hn _ ⟨1024 + q.val, by omega⟩ _ (fun k => cols_apply _ 1024 _ k q _ rfl) (.inr (.inl ⟨by show 1024 ≤ 1024 + q.val; omega, by show 1024 + q.val < 3328; omega, by show 1032 + q.val = 1024 + q.val + 8; omega⟩))

theorem block_c (t : Fin cfg0.N) (r : Fin 512) (q : Fin 1024) (n : Fin 32768) (hn : n.val = 512 * t.val + r.val) :
    ((outsAt0 m c t).2.2.1 : S512x1024.Idx → EReal) (ix2 r q) = resultC (m ((c : Thread nD τ).loc main_arg0)) (m ((c : Thread nD τ).loc main_arg1)) (m ((c : Thread nD τ).loc main_arg2)) n q := by
  refine (congrFun (outs_c m c t) (ix2 r q)).trans ?_
  refine (pay6_apply _ _ _ r q).trans ?_
  exact rowDot_at m c t r n hn _ ⟨1536 + q.val, by omega⟩ _ (fun k => cols_apply _ 1536 _ k q _ rfl) (.inr (.inl ⟨by show 1024 ≤ 1536 + q.val; omega, by show 1536 + q.val < 3328; omega, by show 1544 + q.val = 1536 + q.val + 8; omega⟩))

theorem block_d (t : Fin cfg0.N) (r : Fin 512) (q : Fin 768) (n : Fin 32768) (hn : n.val = 512 * t.val + r.val) :
    ((outsAt0 m c t).2.2.2.1 : S512x768.Idx → EReal) (ix2 r q) = resultD (m ((c : Thread nD τ).loc main_arg0)) (m ((c : Thread nD τ).loc main_arg1)) (m ((c : Thread nD τ).loc main_arg2)) n q := by
  refine (congrFun (outs_d m c t) (ix2 r q)).trans ?_
  refine (pay7_apply _ _ _ r q).trans ?_
  exact rowDot_at m c t r n hn _ ⟨2560 + q.val, by omega⟩ _ (fun k => cols_apply _ 2560 _ k q _ rfl) (.inr (.inl ⟨by show 1024 ≤ 2560 + q.val; omega, by show 2560 + q.val < 3328; omega, by show 2568 + q.val = 2560 + q.val + 8; omega⟩))

theorem block_ba (t : Fin cfg0.N) (r : Fin 512) (q : Fin 128) (n : Fin 32768) (hn : n.val = 512 * t.val + r.val) :
    ((outsAt0 m c t).2.2.2.2.1 : S512x128.Idx → EReal) (ix2 r q) = resultBA (m ((c : Thread nD τ).loc main_arg0)) (m ((c : Thread nD τ).loc main_arg1)) (m ((c : Thread nD τ).loc main_arg2)) n q := by
  refine (congrFun (outs_ba m c t) (ix2 r q)).trans ?_
  refine (pay8_apply _ _ r q).trans ?_
  unfold resultBA
  by_cases h : q.val < 8
  · rw [dif_pos h]
    exact rowDot_at m c t r n hn _ ⟨3328 + q.val, by omega⟩ _ (fun k => cols_apply _ 3328 _ k q _ rfl)
      (.inr (.inr ⟨by show 3328 ≤ 3328 + q.val; omega, by show 3328 + q.val < 3336; omega, by show 1024 + q.val = 3328 + q.val - 2304; omega⟩))
  · rw [dif_neg h]
    exact rowDot_zero m c t r n hn _ ⟨3328 + q.val, by omega⟩ (fun k => cols_apply _ 3328 _ k q _ rfl) (by show 3336 ≤ 3328 + q.val; omega)

theorem block_d4 (t : Fin cfg0.N) (y : S1x4x128x768.Idx) (b : Fin 4) (p : Fin 4) (i : Fin 2048) (q : Fin 768)
    (hb : b.val = t.val / 16) (hp : p.val = (y 1).val) (hi : i.val = 128 * (t.val % 16) + (y 2).val) (hq : q.val = (y 3).val) :
    ((outsAt0 m c t).2.2.2.2.2.1 : S1x4x128x768.Idx → EReal) y = resultD4 (m ((c : Thread nD τ).loc main_arg0)) (m ((c : Thread nD τ).loc main_arg1)) (m ((c : Thread nD τ).loc main_arg2)) b p i q := by
  have hy1 : (y 1).val < 4 := (y 1).isLt
  have hy2 : (y 2).val < 128 := (y 2).isLt
  have hy3 : (y 3).val < 768 := (y 3).isLt
  refine (outs_d4 m c t y).trans ?_
  refine (pay7_apply _ _ _ ⟨(y 1).val + 4 * (y 2).val, by omega⟩ ⟨(y 3).val, hy3⟩).trans ?_
  unfold resultD4
  refine rowDot_at m c t _ _ ?_ _ ⟨2560 + q.val, by omega⟩ _ (fun k => cols_apply _ 2560 _ k (⟨(y 3).val, hy3⟩ : Fin 768) _ (congrArg (2560 + ·) hq)) <| .inr (.inl ⟨by show 1024 ≤ 2560 + q.val; omega, by show 2560 + q.val < 3328; omega, by show 2568 + q.val = 2560 + q.val + 8; omega⟩)
  show 8192 * b.val + 4 * i.val + p.val = 512 * t.val + ((y 1).val + 4 * (y 2).val)
  omega

theorem block_d16 (t : Fin cfg0.N) (y : S1x16x32x768.Idx) (b : Fin 4) (p : Fin 16) (i : Fin 512) (q : Fin 768)
    (hb : b.val = t.val / 16) (hp : p.val = (y 1).val) (hi : i.val = 32 * (t.val % 16) + (y 2).val) (hq : q.val = (y 3).val) :
    ((outsAt0 m c t).2.2.2.2.2.2 : S1x16x32x768.Idx → EReal) y = resultD16 (m ((c : Thread nD τ).loc main_arg0)) (m ((c : Thread nD τ).loc main_arg1)) (m ((c : Thread nD τ).loc main_arg2)) b p i q := by
  have hy1 : (y 1).val < 16 := (y 1).isLt
  have hy2 : (y 2).val < 32 := (y 2).isLt
  have hy3 : (y 3).val < 768 := (y 3).isLt
  refine (outs_d16 m c t y).trans ?_
  refine (pay7_apply _ _ _ ⟨(y 1).val + 16 * (y 2).val, by omega⟩ ⟨(y 3).val, hy3⟩).trans ?_
  unfold resultD16
  refine rowDot_at m c t _ _ ?_ _ ⟨2560 + q.val, by omega⟩ _ (fun k => cols_apply _ 2560 _ k (⟨(y 3).val, hy3⟩ : Fin 768) _ (congrArg (2560 + ·) hq)) <| .inr (.inl ⟨by show 1024 ≤ 2560 + q.val; omega, by show 2560 + q.val < 3328; omega, by show 2568 + q.val = 2560 + q.val + 8; omega⟩)
  show 8192 * b.val + 16 * i.val + p.val = 512 * t.val + ((y 1).val + 16 * (y 2).val)
  omega

/-! ## The arrays after the run -/

theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)
theorem index_8 : ∀ t : Fin cfg0.N, win0_8.index t = ![t.val / 16, 0, t.val % 16, 0] := (by decide +kernel : ∀ t : Fin grid0.N, _)
theorem index_9 : ∀ t : Fin cfg0.N, win0_9.index t = ![t.val / 16, 0, t.val % 16, 0] := (by decide +kernel : ∀ t : Fin grid0.N, _)

theorem final_a : (dats m 0 c).arrAt 3 cfg0.N = (fun i : S32768x1024.Idx => resultA (m ((c : Thread nD τ).loc main_arg0)) (m ((c : Thread nD τ).loc main_arg1)) (m ((c : Thread nD τ).loc main_arg2)) (i 0) (i 1)) := by
  refine (dats m 0 c).arrAt_eq_of_covers 3 _ (by decide +kernel) fun t hf y => ?_
  blk_simp
  rw [after0_3]
  have ey : y = (ix2 (y 0) (y 1) : S512x1024.Idx) := by
    funext a
    match a with
    | ⟨0, _⟩ => rfl
    | ⟨1, _⟩ => rfl
  have h0 : ((win0_3.blk t).view.emb y 0).val = 512 * t.val + (y 0).val := by
    blk_simp [index_3]
    exact congrArg (· + (y 0).val) (Nat.mul_comm _ _)
  have h1 : (win0_3.blk t).view.emb y 1 = (y 1 : Fin 1024) := Fin.ext (by blk_simp [index_3])
  refine (congrArg _ ey).trans ((block_a m c t (y 0) (y 1) _ h0).trans ?_)
  exact congrArg (resultA (m ((c : Thread nD τ).loc main_arg0)) (m ((c : Thread nD τ).loc main_arg1)) (m ((c : Thread nD τ).loc main_arg2)) _) h1.symm

theorem final_b : (dats m 0 c).arrAt 4 cfg0.N = (fun i : S32768x512.Idx => resultB (m ((c : Thread nD τ).loc main_arg0)) (m ((c : Thread nD τ).loc main_arg1)) (m ((c : Thread nD τ).loc main_arg2)) (i 0) (i 1)) := by
  refine (dats m 0 c).arrAt_eq_of_covers 4 _ (by decide +kernel) fun t hf y => ?_
  blk_simp
  rw [after0_4]
  have ey : y = (ix2 (y 0) (y 1) : S512x512.Idx) := by
    funext a
    match a with
    | ⟨0, _⟩ => rfl
    | ⟨1, _⟩ => rfl
  have h0 : ((win0_4.blk t).view.emb y 0).val = 512 * t.val + (y 0).val := by
    blk_simp [index_4]
    exact congrArg (· + (y 0).val) (Nat.mul_comm _ _)
  have h1 : (win0_4.blk t).view.emb y 1 = (y 1 : Fin 512) := Fin.ext (by blk_simp [index_4])
  refine (congrArg _ ey).trans ((block_b m c t (y 0) (y 1) _ h0).trans ?_)
  exact congrArg (resultB (m ((c : Thread nD τ).loc main_arg0)) (m ((c : Thread nD τ).loc main_arg1)) (m ((c : Thread nD τ).loc main_arg2)) _) h1.symm

theorem final_c : (dats m 0 c).arrAt 5 cfg0.N = (fun i : S32768x1024.Idx => resultC (m ((c : Thread nD τ).loc main_arg0)) (m ((c : Thread nD τ).loc main_arg1)) (m ((c : Thread nD τ).loc main_arg2)) (i 0) (i 1)) := by
  refine (dats m 0 c).arrAt_eq_of_covers 5 _ (by decide +kernel) fun t hf y => ?_
  blk_simp
  rw [after0_5]
  have ey : y = (ix2 (y 0) (y 1) : S512x1024.Idx) := by
    funext a
    match a with
    | ⟨0, _⟩ => rfl
    | ⟨1, _⟩ => rfl
  have h0 : ((win0_5.blk t).view.emb y 0).val = 512 * t.val + (y 0).val := by
    blk_simp [index_5]
    exact congrArg (· + (y 0).val) (Nat.mul_comm _ _)
  have h1 : (win0_5.blk t).view.emb y 1 = (y 1 : Fin 1024) := Fin.ext (by blk_simp [index_5])
  refine (congrArg _ ey).trans ((block_c m c t (y 0) (y 1) _ h0).trans ?_)
  exact congrArg (resultC (m ((c : Thread nD τ).loc main_arg0)) (m ((c : Thread nD τ).loc main_arg1)) (m ((c : Thread nD τ).loc main_arg2)) _) h1.symm

theorem final_d : (dats m 0 c).arrAt 6 cfg0.N = (fun i : S32768x768.Idx => resultD (m ((c : Thread nD τ).loc main_arg0)) (m ((c : Thread nD τ).loc main_arg1)) (m ((c : Thread nD τ).loc main_arg2)) (i 0) (i 1)) := by
  refine (dats m 0 c).arrAt_eq_of_covers 6 _ (by decide +kernel) fun t hf y => ?_
  blk_simp
  rw [after0_6]
  have ey : y = (ix2 (y 0) (y 1) : S512x768.Idx) := by
    funext a
    match a with
    | ⟨0, _⟩ => rfl
    | ⟨1, _⟩ => rfl
  have h0 : ((win0_6.blk t).view.emb y 0).val = 512 * t.val + (y 0).val := by
    blk_simp [index_6]
    exact congrArg (· + (y 0).val) (Nat.mul_comm _ _)
  have h1 : (win0_6.blk t).view.emb y 1 = (y 1 : Fin 768) := Fin.ext (by blk_simp [index_6])
  refine (congrArg _ ey).trans ((block_d m c t (y 0) (y 1) _ h0).trans ?_)
  exact congrArg (resultD (m ((c : Thread nD τ).loc main_arg0)) (m ((c : Thread nD τ).loc main_arg1)) (m ((c : Thread nD τ).loc main_arg2)) _) h1.symm

theorem final_ba : (dats m 0 c).arrAt 7 cfg0.N = (fun i : S32768x128.Idx => resultBA (m ((c : Thread nD τ).loc main_arg0)) (m ((c : Thread nD τ).loc main_arg1)) (m ((c : Thread nD τ).loc main_arg2)) (i 0) (i 1)) := by
  refine (dats m 0 c).arrAt_eq_of_covers 7 _ (by decide +kernel) fun t hf y => ?_
  blk_simp
  rw [after0_7]
  have ey : y = (ix2 (y 0) (y 1) : S512x128.Idx) := by
    funext a
    match a with
    | ⟨0, _⟩ => rfl
    | ⟨1, _⟩ => rfl
  have h0 : ((win0_7.blk t).view.emb y 0).val = 512 * t.val + (y 0).val := by
    blk_simp [index_7]
    exact congrArg (· + (y 0).val) (Nat.mul_comm _ _)
  have h1 : (win0_7.blk t).view.emb y 1 = (y 1 : Fin 128) := Fin.ext (by blk_simp [index_7])
  refine (congrArg _ ey).trans ((block_ba m c t (y 0) (y 1) _ h0).trans ?_)
  exact congrArg (resultBA (m ((c : Thread nD τ).loc main_arg0)) (m ((c : Thread nD τ).loc main_arg1)) (m ((c : Thread nD τ).loc main_arg2)) _) h1.symm

theorem final_d4 : (dats m 0 c).arrAt 8 cfg0.N = (fun i : S4x4x2048x768.Idx => resultD4 (m ((c : Thread nD τ).loc main_arg0)) (m ((c : Thread nD τ).loc main_arg1)) (m ((c : Thread nD τ).loc main_arg2)) (i 0) (i 1) (i 2) (i 3)) := by
  refine (dats m 0 c).arrAt_eq_of_covers 8 _ (by decide +kernel) fun t hf y => ?_
  blk_simp
  rw [after0_8]
  refine block_d4 m c t y _ _ _ _ ?_ ?_ ?_ ?_
  · blk_simp [index_8]
  · blk_simp [index_8]
  · blk_simp [index_8]
    show t.val % 16 * 128 + (y 2).val = 128 * (t.val % 16) + (y 2).val
    omega
  · blk_simp [index_8]

theorem final_d16 : (dats m 0 c).arrAt 9 cfg0.N = (fun i : S4x16x512x768.Idx => resultD16 (m ((c : Thread nD τ).loc main_arg0)) (m ((c : Thread nD τ).loc main_arg1)) (m ((c : Thread nD τ).loc main_arg2)) (i 0) (i 1) (i 2) (i 3)) := by
  refine (dats m 0 c).arrAt_eq_of_covers 9 _ (by decide +kernel) fun t hf y => ?_
  blk_simp
  rw [after0_9]
  refine block_d16 m c t y _ _ _ _ ?_ ?_ ?_ ?_
  · blk_simp [index_9]
  · blk_simp [index_9]
  · blk_simp [index_9]
    show t.val % 16 * 32 + (y 2).val = 32 * (t.val % 16) + (y 2).val
    omega
  · blk_simp [index_9]

/-- The kernel's run: each result array after it, element by element, and the arguments unchanged. -/
theorem kernel_run (ρ : Dev nD → PrngReg) :
    θ_run defs (onTc (τ := τ) (main (F := Ideal))) ⟨m, fun _ => 0, ρ⟩ fun r => ∀ c : Dev nD,
      r.2.mem ((c : Thread nD τ).loc main_v7_0) = (fun i : S32768x1024.Idx => resultA (m ((c : Thread nD τ).loc main_arg0)) (m ((c : Thread nD τ).loc main_arg1)) (m ((c : Thread nD τ).loc main_arg2)) (i 0) (i 1))
      ∧ r.2.mem ((c : Thread nD τ).loc main_v7_1) = (fun i : S32768x512.Idx => resultB (m ((c : Thread nD τ).loc main_arg0)) (m ((c : Thread nD τ).loc main_arg1)) (m ((c : Thread nD τ).loc main_arg2)) (i 0) (i 1))
      ∧ r.2.mem ((c : Thread nD τ).loc main_v7_2) = (fun i : S32768x1024.Idx => resultC (m ((c : Thread nD τ).loc main_arg0)) (m ((c : Thread nD τ).loc main_arg1)) (m ((c : Thread nD τ).loc main_arg2)) (i 0) (i 1))
      ∧ r.2.mem ((c : Thread nD τ).loc main_v7_3) = (fun i : S32768x768.Idx => resultD (m ((c : Thread nD τ).loc main_arg0)) (m ((c : Thread nD τ).loc main_arg1)) (m ((c : Thread nD τ).loc main_arg2)) (i 0) (i 1))
      ∧ r.2.mem ((c : Thread nD τ).loc main_v7_4) = (fun i : S32768x128.Idx => resultBA (m ((c : Thread nD τ).loc main_arg0)) (m ((c : Thread nD τ).loc main_arg1)) (m ((c : Thread nD τ).loc main_arg2)) (i 0) (i 1))
      ∧ r.2.mem ((c : Thread nD τ).loc main_v7_5) = (fun i : S4x4x2048x768.Idx => resultD4 (m ((c : Thread nD τ).loc main_arg0)) (m ((c : Thread nD τ).loc main_arg1)) (m ((c : Thread nD τ).loc main_arg2)) (i 0) (i 1) (i 2) (i 3))
      ∧ r.2.mem ((c : Thread nD τ).loc main_v7_6) = (fun i : S4x16x512x768.Idx => resultD16 (m ((c : Thread nD τ).loc main_arg0)) (m ((c : Thread nD τ).loc main_arg1)) (m ((c : Thread nD τ).loc main_arg2)) (i 0) (i 1) (i 2) (i 3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Value.run_blocks (F := Ideal) m ρ)
  obtain ⟨h1, h2, h3, h4, h5, h6, h7, hargs⟩ := h c
  exact ⟨h1.trans (final_a m c), h2.trans (final_b m c), h3.trans (final_c m c), h4.trans (final_d m c), h5.trans (final_ba m c), h6.trans (final_d4 m c), h7.trans (final_d16 m c), hargs⟩

end Cert.Proof.InProjection
end
-- ==== Proof.InProjectionRefValue.lean ====
/- The input projection reference's results, element by element. -/
module

public import proofs.«01_k».proof.Proof.InProjectionSpec
public import proofs.«01_k».proof.Proof.Gen.InProjectionReferenceIdeal.Run
public import Idealize.ShloMosaic.Lib.Pointwise.Reshape
public import Idealize.ShloMosaic.Lib.Pointwise.Reduce
public import Idealize.ShloMosaic.Lib.Pointwise.Contract
public import Idealize.ShloMosaic.Lib.Pointwise.SelectCore
public import Idealize.ShloMosaic.Lib.Pointwise.ShapeOpsCore
public import Idealize.ShloMosaic.Lib.Quiescent

@[expose] public section
set_option maxRecDepth 16384
noncomputable section
namespace Cert.Proof.InProjection
open Cert.InProjectionReferenceIdeal Cert.InProjectionReferenceIdeal.Facts₀
open Idealize.ShloMosaic Idealize.ShloMosaic.TcCoe

/-- The reference's normalised rows. -/
def refNormed (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

/-- The reference's product. -/
def refProj (x : FVec Ideal S32768x1024 .f32) (g : FVec Ideal S1024 .f32) (W : FVec Ideal S1024x3336 .f32) : FVec Ideal S32768x3336 .f32 :=
  Host.dotGeneral dot_S32768x1024_S1024x3336_S32768x3336_1_0_0_1_n_n none (refNormed x g) W

theorem refNormed_apply (x : FVec Ideal S32768x1024 .f32) (g : FVec Ideal S1024 .f32) (n : Fin 32768) (k : Fin 1024) :
    refNormed x g (ix2 n k) = normed (fun l => x (ix2 n l)) (fun l => g (ix1 l)) k := by
  unfold refNormed normed
  simp only [pointwise, zero_add]
  rfl

theorem refProj_apply (x : FVec Ideal S32768x1024 .f32) (g : FVec Ideal S1024 .f32) (W : FVec Ideal S1024x3336 .f32) (n : Fin 32768) (j : Fin 3336) :
    refProj x g W (ix2 n j) = projAt x g W n j := by
  unfold refProj projAt
  simp only [pointwise, zero_add]
  exact Finset.sum_congr rfl fun k _ => congrArg (fun z : EReal => z * W (ix2 k j)) (refNormed_apply x g n k)

/-- An entry of an array named by another spelling of its two coordinates. -/
theorem at_eq {a b : Nat} (H : (⟨2, ![a, b]⟩ : Shape).Idx → EReal) (n n' : Fin a) (j j' : Fin b) (hn : n.val = n'.val) (hj : j.val = j'.val) : H (ix2 n j) = H (ix2 n' j') := by
  rw [Fin.ext hn, Fin.ext hj]

section
variable (H : FVec Ideal S32768x3336 .f32) (n : Fin 32768)

theorem refA_apply (q : Fin 1024) : extractStridedSlice S32768x1024 ![0, 0] H slices_S32768x3336_S32768x1024_0_0 (ix2 n q) = H (ix2 n ⟨q.val, by omega⟩) := by
  simp only [pointwise]
  exact at_eq H _ _ _ _ (Nat.zero_add _) (Nat.zero_add _)
theorem refB_apply (q : Fin 512) : extractStridedSlice S32768x512 ![0, 1032] H slices_S32768x3336_S32768x512_0_1032 (ix2 n q) = H (ix2 n ⟨1032 + q.val, by omega⟩) := by
  simp only [pointwise]
  exact at_eq H _ _ _ _ (Nat.zero_add _) rfl
theorem refC_apply (q : Fin 1024) : extractStridedSlice S32768x1024 ![0, 1544] H slices_S32768x3336_S32768x1024_0_1544 (ix2 n q) = H (ix2 n ⟨1544 + q.val, by omega⟩) := by
  simp only [pointwise]
  exact at_eq H _ _ _ _ (Nat.zero_add _) rfl
theorem refD_apply (q : Fin 768) : extractStridedSlice S32768x768 ![0, 2568] H slices_S32768x3336_S32768x768_0_2568 (ix2 n q) = H (ix2 n ⟨2568 + q.val, by omega⟩) := by
  simp only [pointwise]
  exact at_eq H _ _ _ _ (Nat.zero_add _) rfl

theorem refBA_apply (q : Fin 128) : pad S32768x128 ![0, 0] ![0, 120] ![0, 0] (extractStridedSlice S32768x8 ![0, 1024] H slices_S32768x3336_S32768x8_0_1024) (sitofp .f32 (constantI S_ 32 0#32)) pads_S32768x8_S32768x128_000_01200 h_S_ (ix2 n q)
    = if h : q.val < 8 then H (ix2 n ⟨1024 + q.val, by omega⟩) else (0 : EReal) := by
  simp only [pointwise]
  by_cases h : q.val < 8
  · rw [dif_pos, dif_pos h]
    · refine at_eq H _ _ _ _ ?_ ?_
      · show 0 + (n.val - 0) / 1 = n.val
        omega
      · show 1024 + (q.val - 0) / 1 = 1024 + q.val
        omega
    · intro a
      match a with
      | ⟨0, _⟩ => show 0 ≤ n.val ∧ (n.val - 0) % 1 = 0 ∧ (n.val - 0) / 1 < 32768; omega
      | ⟨1, _⟩ => show 0 ≤ q.val ∧ (q.val - 0) % 1 = 0 ∧ (q.val - 0) / 1 < 8; omega
  · rw [dif_neg, dif_neg h]
    · show ((((0#32 : BitVec 32).toInt : ℤ) : ℝ) : EReal) = 0
      norm_num
    · intro h'
      have h1 : 0 ≤ q.val ∧ (q.val - 0) % 1 = 0 ∧ (q.val - 0) / 1 < 8 := h' 1
      omega
end

theorem refBA_eq (x : FVec Ideal S32768x1024 .f32) (g : FVec Ideal S1024 .f32) (W : FVec Ideal S1024x3336 .f32) (n : Fin 32768) (q : Fin 128) :
    (if h : q.val < 8 then refProj x g W (ix2 n ⟨1024 + q.val, by omega⟩) else (0 : EReal)) = resultBA x g W n q := by
  unfold resultBA
  by_cases h : q.val < 8
  · rw [dif_pos h, dif_pos h, refProj_apply]
  · rw [dif_neg h, dif_neg h]

theorem every4_apply (D : FVec Ideal S32768x768 .f32) (b p : Fin 4) (i : Fin 2048) (q : Fin 768) :
    transpose S4x4x2048x768 [0, 2, 1, 3] (shapeCast S4x2048x4x768 D shapeCasts_S32768x768_S4x2048x4x768) transposes_S4x2048x4x768_S4x4x2048x768_0_2_1_3 (ix4 b p i q)
      = D (ix2 ⟨8192 * b.val + 4 * i.val + p.val, by omega⟩ q) := by
  simp only [pointwise]
  exact at_eq D _ _ _ _ (by show b.val * 8192 + i.val * 4 + p.val = 8192 * b.val + 4 * i.val + p.val; omega) rfl

theorem every16_apply (D : FVec Ideal S32768x768 .f32) (b : Fin 4) (p : Fin 16) (i : Fin 512) (q : Fin 768) :
    transpose S4x16x512x768 [0, 2, 1, 3] (shapeCast S4x512x16x768 D shapeCasts_S32768x768_S4x512x16x768) transposes_S4x512x16x768_S4x16x512x768_0_2_1_3 (ix4 b p i q)
      = D (ix2 ⟨8192 * b.val + 16 * i.val + p.val, by omega⟩ q) := by
  simp only [pointwise]
  exact at_eq D _ _ _ _ (by show b.val * 8192 + i.val * 16 + p.val = 8192 * b.val + 16 * i.val + p.val; omega) rfl

theorem eq_ix2 {a b : Nat} (i : (⟨2, ![a, b]⟩ : Shape).Idx) : (ix2 (i 0) (i 1) : (⟨2, ![a, b]⟩ : Shape).Idx) = i := by
  funext z
  match z with
  | ⟨0, _⟩ => rfl
  | ⟨1, _⟩ => rfl

theorem eq_ix4 {a b d e : Nat} (i : (⟨4, ![a, b, d, e]⟩ : Shape).Idx) : (ix4 (i 0) (i 1) (i 2) (i 3) : (⟨4, ![a, b, d, e]⟩ : Shape).Idx) = i := by
  funext z
  match z with
  | ⟨0, _⟩ => rfl
  | ⟨1, _⟩ => rfl
  | ⟨2, _⟩ => rfl
  | ⟨3, _⟩ => rfl

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v15) = (fun i : S32768x1024.Idx => resultA (m ((c : Thread nD τ).loc main_arg0)) (m ((c : Thread nD τ).loc main_arg1)) (m ((c : Thread nD τ).loc main_arg2)) (i 0) (i 1))
      ∧ r.2.mem ((c : Thread nD τ).loc main_v16) = (fun i : S32768x512.Idx => resultB (m ((c : Thread nD τ).loc main_arg0)) (m ((c : Thread nD τ).loc main_arg1)) (m ((c : Thread nD τ).loc main_arg2)) (i 0) (i 1))
      ∧ r.2.mem ((c : Thread nD τ).loc main_v17) = (fun i : S32768x1024.Idx => resultC (m ((c : Thread nD τ).loc main_arg0)) (m ((c : Thread nD τ).loc main_arg1)) (m ((c : Thread nD τ).loc main_arg2)) (i 0) (i 1))
      ∧ r.2.mem ((c : Thread nD τ).loc main_v14) = (fun i : S32768x768.Idx => resultD (m ((c : Thread nD τ).loc main_arg0)) (m ((c : Thread nD τ).loc main_arg1)) (m ((c : Thread nD τ).loc main_arg2)) (i 0) (i 1))
      ∧ r.2.mem ((c : Thread nD τ).loc main_v19) = (fun i : S32768x128.Idx => resultBA (m ((c : Thread nD τ).loc main_arg0)) (m ((c : Thread nD τ).loc main_arg1)) (m ((c : Thread nD τ).loc main_arg2)) (i 0) (i 1))
      ∧ r.2.mem ((c : Thread nD τ).loc main_v21) = (fun i : S4x4x2048x768.Idx => resultD4 (m ((c : Thread nD τ).loc main_arg0)) (m ((c : Thread nD τ).loc main_arg1)) (m ((c : Thread nD τ).loc main_arg2)) (i 0) (i 1) (i 2) (i 3))
      ∧ r.2.mem ((c : Thread nD τ).loc main_v23) = (fun i : S4x16x512x768.Idx => resultD16 (m ((c : Thread nD τ).loc main_arg0)) (m ((c : Thread nD τ).loc main_arg1)) (m ((c : Thread nD τ).loc main_arg2)) (i 0) (i 1) (i 2) (i 3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Value.run (F := Ideal) m ρ)
  obtain ⟨h1, h2, h3, h4, h5, h6, h7, hargs⟩ := h c
  refine ⟨h1.trans ?_, h2.trans ?_, h3.trans ?_, h4.trans ?_, h5.trans ?_, h6.trans ?_, h7.trans ?_, hargs⟩
  · show extractStridedSlice S32768x1024 ![0, 0] (refProj (m ((c : Thread nD τ).loc main_arg0)) (m ((c : Thread nD τ).loc main_arg1)) (m ((c : Thread nD τ).loc main_arg2))) slices_S32768x3336_S32768x1024_0_0 = _
    funext (i : S32768x1024.Idx)
    exact (congrArg _ (eq_ix2 i).symm).trans ((refA_apply _ (i 0) (i 1)).trans (refProj_apply _ _ _ _ _))
  · show extractStridedSlice S32768x512 ![0, 1032] (refProj (m ((c : Thread nD τ).loc main_arg0)) (m ((c : Thread nD τ).loc main_arg1)) (m ((c : Thread nD τ).loc main_arg2))) slices_S32768x3336_S32768x512_0_1032 = _
    funext (i : S32768x512.Idx)
    exact (congrArg _ (eq_ix2 i).symm).trans ((refB_apply _ (i 0) (i 1)).trans (refProj_apply _ _ _ _ _))
  · show extractStridedSlice S32768x1024 ![0, 1544] (refProj (m ((c : Thread nD τ).loc main_arg0)) (m ((c : Thread nD τ).loc main_arg1)) (m ((c : Thread nD τ).loc main_arg2))) slices_S32768x3336_S32768x1024_0_1544 = _
    funext (i : S32768x1024.Idx)
    exact (congrArg _ (eq_ix2 i).symm).trans ((refC_apply _ (i 0) (i 1)).trans (refProj_apply _ _ _ _ _))
  · show extractStridedSlice S32768x768 ![0, 2568] (refProj (m ((c : Thread nD τ).loc main_arg0)) (m ((c : Thread nD τ).loc main_arg1)) (m ((c : Thread nD τ).loc main_arg2))) slices_S32768x3336_S32768x768_0_2568 = _
    funext (i : S32768x768.Idx)
    exact (congrArg _ (eq_ix2 i).symm).trans ((refD_apply _ (i 0) (i 1)).trans (refProj_apply _ _ _ _ _))
  · show pad S32768x128 ![0, 0] ![0, 120] ![0, 0] (extractStridedSlice S32768x8 ![0, 1024] (refProj (m ((c : Thread nD τ).loc main_arg0)) (m ((c : Thread nD τ).loc main_arg1)) (m ((c : Thread nD τ).loc main_arg2))) slices_S32768x3336_S32768x8_0_1024) (sitofp .f32 (constantI S_ 32 0#32)) pads_S32768x8_S32768x128_000_01200 h_S_ = _
    funext (i : S32768x128.Idx)
    exact (congrArg _ (eq_ix2 i).symm).trans ((refBA_apply _ (i 0) (i 1)).trans (refBA_eq _ _ _ _ _))
  · show transpose S4x4x2048x768 [0, 2, 1, 3] (shapeCast _ (extractStridedSlice S32768x768 ![0, 2568] (refProj (m ((c : Thread nD τ).loc main_arg0)) (m ((c : Thread nD τ).loc main_arg1)) (m ((c : Thread nD τ).loc main_arg2))) slices_S32768x3336_S32768x768_0_2568) shapeCasts_S32768x768_S4x2048x4x768) transposes_S4x2048x4x768_S4x4x2048x768_0_2_1_3 = _
    funext (i : S4x4x2048x768.Idx)
    exact (congrArg _ (eq_ix4 i).symm).trans ((every4_apply _ (i 0) (i 1) (i 2) (i 3)).trans ((refD_apply _ _ _).trans (refProj_apply _ _ _ _ _)))
  · show transpose S4x16x512x768 [0, 2, 1, 3] (shapeCast _ (extractStridedSlice S32768x768 ![0, 2568] (refProj (m ((c : Thread nD τ).loc main_arg0)) (m ((c : Thread nD τ).loc main_arg1)) (m ((c : Thread nD τ).loc main_arg2))) slices_S32768x3336_S32768x768_0_2568) shapeCasts_S32768x768_S4x512x16x768) transposes_S4x512x16x768_S4x16x512x768_0_2_1_3 = _
    funext (i : S4x16x512x768.Idx)
    exact (congrArg _ (eq_ix4 i).symm).trans ((every16_apply _ (i 0) (i 1) (i 2) (i 3)).trans ((refD_apply _ _ _).trans (refProj_apply _ _ _ _ _)))

/-- The reference's frame: a straight-line program that declares no semaphore. -/
theorem ref_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0 :=
  (θ_run defs _ _).mono (fun r h => ⟨fun c => (h c).2.2.2.2.2.2.2, sem_eq_zero_of_no_sems (by decide) r.2⟩) (Value.run (F := Ideal) m ρ)

end Cert.Proof.InProjection
end
-- ==== Proof.OutProjectionSpec.lean ====
/- What the output projection computes, element by element, over the extended reals. -/
module

public import Idealize.ShloMosaic.Lib.Pointwise.Tactic
public import Idealize.ShloMosaic.Lib.ValueIdxCore
public import Idealize.ShloMosaic.PureOps

@[expose] public section
noncomputable section
namespace Cert.Proof.OutProjection
open Idealize.ShloMosaic

/-- A mixer's row times its 256 rows of the weights, those from row `o` on. -/
def part (a : (⟨2, ![512, 256]⟩ : Shape).Idx → EReal) (W : (⟨2, ![1024, 1024]⟩ : Shape).Idx → EReal) (o : ℕ) (ho : o + 256 ≤ 1024)
    (n : Fin 512) (q : Fin 1024) : EReal :=
  ∑ k : Fin 256, a (ix2 n k) * W (ix2 (⟨o + k.val, by omega⟩ : Fin 1024) q)

/-- The row of the residual plus the four mixers' rows times the weights. -/
def resultAt (x : (⟨2, ![512, 1024]⟩ : Shape).Idx → EReal) (a b d e : (⟨2, ![512, 256]⟩ : Shape).Idx → EReal)
    (W : (⟨2, ![1024, 1024]⟩ : Shape).Idx → EReal) (n : Fin 512) (q : Fin 1024) : EReal :=
  x (ix2 n q) + part a W 0 (by omega) n q + part b W 256 (by omega) n q + part d W 512 (by omega) n q + part e W 768 (by omega) n q

/-- A sum of 1024 terms as four sums of 256. -/
theorem sum_quarters (f : Fin 1024 → EReal) :
    ∑ j : Fin 1024, f j = (((∑ k : Fin 256, f ⟨0 + k.val, by omega⟩) + ∑ k : Fin 256, f ⟨256 + k.val, by omega⟩)
      + ∑ k : Fin 256, f ⟨512 + k.val, by omega⟩) + ∑ k : Fin 256, f ⟨768 + k.val, by omega⟩ := by
  have e : ∑ j : Fin 1024, f j = ∑ j : Fin (256 + 256 + 256 + 256), f j := rfl
  have e0 : (∑ k : Fin 256, f ⟨0 + k.val, by omega⟩) = ∑ k : Fin 256, f ⟨k.val, by omega⟩ :=
    Finset.sum_congr rfl fun k _ => congrArg f (Fin.ext (Nat.zero_add _))
  rw [e, e0, Fin.sum_univ_add, Fin.sum_univ_add, Fin.sum_univ_add]
  rfl

end Cert.Proof.OutProjection
end
-- ==== Proof.OutProjectionValue.lean ====
/- The output projection's result array, element by element. -/
module

public import proofs.«01_k».proof.Proof.OutProjectionSpec
public import proofs.«01_k».proof.Proof.Gen.OutProjectionIdeal.Value
public import Idealize.ShloMosaic.Lib.Pipeline.ValueKit.Geometry
public import Idealize.ShloMosaic.Lib.Pipeline.ValueKit.Tiles
public import Idealize.ShloMosaic.Lib.Pointwise.Reshape
public import Idealize.ShloMosaic.Lib.Pointwise.Contract
public import Idealize.ShloMosaic.Lib.Pointwise.Tactic
public import Idealize.ShloMosaic.Lib.KernelVsHost

@[expose] public section
set_option maxRecDepth 16384
noncomputable section
namespace Cert.Proof.OutProjection
open Cert.OutProjectionIdeal Cert.OutProjectionIdeal.Gen
open Idealize.ShloMosaic Idealize.ShloMosaic.TcCoe

theorem hz : (![0, 0] : Fin 2 → Nat) = fun _ => 0 := funext fun a => by fin_cases a <;> rfl

theorem pay1_apply (e : FVec Ideal S256x256 .f32) (x : FVec Ideal S256x1024 .f32) (a b d : FVec Ideal S256x256 .f32) (w0 w1 w2 w3 : FVec Ideal S256x1024 .bf16)
    (r : Fin 256) (q : Fin 1024) :
    k0_pay1 (F := Ideal) e x a b d w0 w1 w2 w3 (ix2 r q)
      = (x (ix2 r q) + (∑ k : Fin 256, a (ix2 r k) * w0 (ix2 k q)) + (∑ k : Fin 256, b (ix2 r k) * w1 (ix2 k q))
        + (∑ k : Fin 256, d (ix2 r k) * w2 (ix2 k q)) + (∑ k : Fin 256, e (ix2 r k) * w3 (ix2 k q)) : EReal) := by
  unfold k0_pay1
  simp only [pointwise, zero_add]

/-- A load of 256 rows of the weights, at an index. -/
theorem rows_apply (w : FVec Ideal S1024x1024 .bf16) (o : Nat) (h) (k : Fin 256) (q : Fin 1024) (z : Fin 1024) (hz : z.val = o + k.val) :
    View.ld (Val := Elt Ideal) (e' := .bf16) w (Rect.unit (s := S1024x1024) ![o, 0] S256x1024.size h) (ix2 k q) = w (ix2 z q) := by
  refine congrArg w ?_
  funext a
  apply Fin.ext
  match a with
  | ⟨0, _⟩ => show o + 1 * k.val = z.val; omega
  | ⟨1, _⟩ => show 0 + 1 * q.val = q.val; omega

variable (m : (ℓ : Loc nD τ sig) → Buf (Elt Ideal) ℓ) (c : Dev nD)

theorem V_main_v0 : (V m c main_v0 : S1024x1024.Idx → EReal) = (m ((c : Thread nD τ).loc main_arg5) : S1024x1024.Idx → EReal) := by
  unfold V
  after_results_simp <;> rfl

/-! ## The blocks the body reads -/

theorem index0 : ∀ t : Fin grid0.N, cc0_transform_0 (grid0.coords t) = ![t.val, 0] := by decide +kernel
theorem index1 : ∀ t : Fin grid0.N, cc0_transform_1 (grid0.coords t) = ![t.val, 0] := by decide +kernel
theorem index2 : ∀ t : Fin grid0.N, cc0_transform_2 (grid0.coords t) = ![t.val, 0] := by decide +kernel
theorem index3 : ∀ t : Fin grid0.N, cc0_transform_3 (grid0.coords t) = ![t.val, 0] := by decide +kernel
theorem index4 : ∀ t : Fin grid0.N, cc0_transform_4 (grid0.coords t) = ![t.val, 0] := by decide +kernel
theorem index5 : ∀ t : Fin grid0.N, cc0_transform_5 (grid0.coords t) = ![0, 0] := by decide +kernel

theorem iblk0_apply (t : Fin cfg0.N) (r : Fin 256) (k : Fin 1024) (n : Fin 512) (hn : n.val = 256 * t.val + r.val) :
    (iblk m c 0 t : S256x1024.Idx → EReal) (ix2 r k) = (m ((c : Thread nD τ).loc main_arg0) : S512x1024.Idx → EReal) (ix2 n k) := by
  refine Eq.trans ?_ (congrFun (V_main_arg0 m c) _)
  show V m c main_arg0 (((cfg0.win 0).rect t).emb (ix2 r k)) = V m c main_arg0 _
  refine congrArg (V m c main_arg0) ?_
  funext a
  apply Fin.ext
  refine (Pipeline.Window.rect_emb_val _ _ _ _).trans ?_
  have e := index0 t
  match a with
  | ⟨0, _⟩ => show cc0_transform_0 (grid0.coords t) 0 * 256 + r.val = n.val; rw [e, hn]; show t.val * 256 + r.val = _; omega
  | ⟨1, _⟩ => show cc0_transform_0 (grid0.coords t) 1 * 1024 + k.val = k.val; rw [e]; show 0 * 1024 + k.val = k.val; omega

theorem iblk1_apply (t : Fin cfg0.N) (r : Fin 256) (k : Fin 256) (n : Fin 512) (hn : n.val = 256 * t.val + r.val) :
    (iblk m c 1 t : S256x256.Idx → EReal) (ix2 r k) = (m ((c : Thread nD τ).loc main_arg1) : S512x256.Idx → EReal) (ix2 n k) := by
  refine Eq.trans ?_ (congrFun (V_main_arg1 m c) _)
  show V m c main_arg1 (((cfg0.win 1).rect t).emb (ix2 r k)) = V m c main_arg1 _
  refine congrArg (V m c main_arg1) ?_
  funext a
  apply Fin.ext
  refine (Pipeline.Window.rect_emb_val _ _ _ _).trans ?_
  have e := index1 t
  match a with
  | ⟨0, _⟩ => show cc0_transform_1 (grid0.coords t) 0 * 256 + r.val = n.val; rw [e, hn]; show t.val * 256 + r.val = _; omega
  | ⟨1, _⟩ => show cc0_transform_1 (grid0.coords t) 1 * 256 + k.val = k.val; rw [e]; show 0 * 256 + k.val = k.val; omega

theorem iblk2_apply (t : Fin cfg0.N) (r : Fin 256) (k : Fin 256) (n : Fin 512) (hn : n.val = 256 * t.val + r.val) :
    (iblk m c 2 t : S256x256.Idx → EReal) (ix2 r k) = (m ((c : Thread nD τ).loc main_arg2) : S512x256.Idx → EReal) (ix2 n k) := by
  refine Eq.trans ?_ (congrFun (V_main_arg2 m c) _)
  show V m c main_arg2 (((cfg0.win 2).rect t).emb (ix2 r k)) = V m c main_arg2 _
  refine congrArg (V m c main_arg2) ?_
  funext a
  apply Fin.ext
  refine (Pipeline.Window.rect_emb_val _ _ _ _).trans ?_
  have e := index2 t
  match a with
  | ⟨0, _⟩ => show cc0_transform_2 (grid0.coords t) 0 * 256 + r.val = n.val; rw [e, hn]; show t.val * 256 + r.val = _; omega
  | ⟨1, _⟩ => show cc0_transform_2 (grid0.coords t) 1 * 256 + k.val = k.val; rw [e]; show 0 * 256 + k.val = k.val; omega

theorem iblk3_apply (t : Fin cfg0.N) (r : Fin 256) (k : Fin 256) (n : Fin 512) (hn : n.val = 256 * t.val + r.val) :
    (iblk m c 3 t : S256x256.Idx → EReal) (ix2 r k) = (m ((c : Thread nD τ).loc main_arg3) : S512x256.Idx → EReal) (ix2 n k) := by
  refine Eq.trans ?_ (congrFun (V_main_arg3 m c) _)
  show V m c main_arg3 (((cfg0.win 3).rect t).emb (ix2 r k)) = V m c main_arg3 _
  refine congrArg (V m c main_arg3) ?_
  funext a
  apply Fin.ext
  refine (Pipeline.Window.rect_emb_val _ _ _ _).trans ?_
  have e := index3 t
  match a with
  | ⟨0, _⟩ => show cc0_transform_3 (grid0.coords t) 0 * 256 + r.val = n.val; rw [e, hn]; show t.val * 256 + r.val = _; omega
  | ⟨1, _⟩ => show cc0_transform_3 (grid0.coords t) 1 * 256 + k.val = k.val; rw [e]; show 0 * 256 + k.val = k.val; omega

theorem iblk4_apply (t : Fin cfg0.N) (r : Fin 256) (k : Fin 256) (n : Fin 512) (hn : n.val = 256 * t.val + r.val) :
    (iblk m c 4 t : S256x256.Idx → EReal) (ix2 r k) = (m ((c : Thread nD τ).loc main_arg4) : S512x256.Idx → EReal) (ix2 n k) := by
  refine Eq.trans ?_ (congrFun (V_main_arg4 m c) _)
  show V m c main_arg4 (((cfg0.win 4).rect t).emb (ix2 r k)) = V m c main_arg4 _
  refine congrArg (V m c main_arg4) ?_
  funext a
  apply Fin.ext
  refine (Pipeline.Window.rect_emb_val _ _ _ _).trans ?_
  have e := index4 t
  match a with
  | ⟨0, _⟩ => show cc0_transform_4 (grid0.coords t) 0 * 256 + r.val = n.val; rw [e, hn]; show t.val * 256 + r.val = _; omega
  | ⟨1, _⟩ => show cc0_transform_4 (grid0.coords t) 1 * 256 + k.val = k.val; rw [e]; show 0 * 256 + k.val = k.val; omega

theorem iblk5_apply (t : Fin cfg0.N) (k : Fin 1024) (q : Fin 1024) :
    (iblk m c 5 t : S1024x1024.Idx → EReal) (ix2 k q) = (m ((c : Thread nD τ).loc main_arg5) : S1024x1024.Idx → EReal) (ix2 k q) := by
  refine Eq.trans ?_ (congrFun (V_main_v0 m c) _)
  show V m c main_v0 (((cfg0.win 5).rect t).emb (ix2 k q)) = V m c main_v0 _
  refine congrArg (V m c main_v0) ?_
  funext a
  apply Fin.ext
  refine (Pipeline.Window.rect_emb_val _ _ _ _).trans ?_
  have e := index5 t
  match a with
  | ⟨0, _⟩ => show cc0_transform_5 (grid0.coords t) 0 * 1024 + k.val = k.val; rw [e]; show 0 * 1024 + k.val = k.val; omega
  | ⟨1, _⟩ => show cc0_transform_5 (grid0.coords t) 1 * 1024 + q.val = q.val; rw [e]; show 0 * 1024 + q.val = q.val; omega

/-! ## The block the body leaves -/

theorem out_eq (x0 : FVec Ideal S256x1024 .f32) (x1 x2 x3 x4 : FVec Ideal S256x256 .f32) (x5 : FVec Ideal S1024x1024 .bf16) :
    out0_6 (F := Ideal) x0 x1 x2 x3 x4 x5
      = k0_pay1 x4 x0 x1 x2 x3 (View.ld (Val := Elt Ideal) (e' := .bf16) x5 r0_2) (View.ld (Val := Elt Ideal) (e' := .bf16) x5 r0_3)
        (View.ld (Val := Elt Ideal) (e' := .bf16) x5 r0_4) (View.ld (Val := Elt Ideal) (e' := .bf16) x5 r0_5) := by
  unfold out0_6
  have e0 : ∀ w : FVec Ideal S256x1024 .f32, View.ld (Val := Elt Ideal) (e' := .f32) w r0_1 = w := fun w => View.ld_unit_zero (Val := Elt Ideal) (e := .f32) (S := S256x1024) (off := ![0, 0]) hz inb_S256x1024_S256x1024_0_0 w
  have e1 : ∀ w : FVec Ideal S256x256 .f32, View.ld (Val := Elt Ideal) (e' := .f32) w r0_0 = w := fun w => View.ld_unit_zero (Val := Elt Ideal) (e := .f32) (S := S256x256) (off := ![0, 0]) hz inb_S256x256_S256x256_0_0 w
  rw [View.canon_unit_zero hz, e0, e1, e1, e1, e1]

/-- One mixer's share of a block. -/
theorem part_at (t : Fin cfg0.N) (r : Fin 256) (q : Fin 1024) (n : Fin 512) (a : FVec Ideal S256x256 .f32) (A : FVec Ideal S512x256 .f32)
    (ha : ∀ k : Fin 256, a (ix2 r k) = A (ix2 n k)) (o : ℕ) (ho : o + 256 ≤ 1024) (h) :
    (∑ k : Fin 256, a (ix2 r k) * View.ld (Val := Elt Ideal) (e' := .bf16) (iblk m c 5 t) (Rect.unit (s := S1024x1024) ![o, 0] S256x1024.size h) (ix2 k q) : EReal)
      = part A (m ((c : Thread nD τ).loc main_arg5)) o ho n q :=
  Finset.sum_congr rfl fun k _ => congrArg₂ (fun y z : EReal => y * z) (ha k) ((rows_apply _ o h k q ⟨o + k.val, by omega⟩ rfl).trans (iblk5_apply m c t _ q))

theorem block_apply (t : Fin cfg0.N) (r : Fin 256) (q : Fin 1024) (n : Fin 512) (hn : n.val = 256 * t.val + r.val) :
    (out0_6 (F := Ideal) (iblk m c 0 t) (iblk m c 1 t) (iblk m c 2 t) (iblk m c 3 t) (iblk m c 4 t) (iblk m c 5 t) : S256x1024.Idx → EReal) (ix2 r q)
      = resultAt (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) n q := by
  refine (congrFun (out_eq _ _ _ _ _ _) (ix2 r q)).trans ?_
  refine (pay1_apply _ _ _ _ _ _ _ _ _ r q).trans ?_
  unfold resultAt
  refine congrArg₂ (fun y z : EReal => y + z) (congrArg₂ (fun y z : EReal => y + z) (congrArg₂ (fun y z : EReal => y + z)
    (congrArg₂ (fun y z : EReal => y + z) (iblk0_apply m c t r q n hn) ?_) ?_) ?_) ?_
  · exact part_at m c t r q n _ _ (fun k => iblk1_apply m c t r k n hn) 0 _ _
  · exact part_at m c t r q n _ _ (fun k => iblk2_apply m c t r k n hn) 256 _ _
  · exact part_at m c t r q n _ _ (fun k => iblk3_apply m c t r k n hn) 512 _ _
  · exact part_at m c t r q n _ _ (fun k => iblk4_apply m c t r k n hn) 768 _ _

theorem index_6 : ∀ t : Fin cfg0.N, win0_6.index t = ![t.val, 0] := (by decide +kernel : ∀ t : Fin grid0.N, _)

/-- The result array the launch leaves. -/
theorem final : (dats m 0 c).arrAt 6 cfg0.N = (fun i : S512x1024.Idx => resultAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1)) := by
  refine (dats m 0 c).arrAt_eq_of_covers 6 _ (by decide +kernel) fun t hf y => ?_
  blk_simp
  rw [after0_6]
  have ey : y = (ix2 (y 0) (y 1) : S256x1024.Idx) := by
    funext a
    match a with
    | ⟨0, _⟩ => rfl
    | ⟨1, _⟩ => rfl
  have h0 : ((win0_6.blk t).view.emb y 0).val = 256 * t.val + (y 0).val := by
    blk_simp [index_6]
    exact congrArg (· + (y 0).val) (Nat.mul_comm _ _)
  have h1 : (win0_6.blk t).view.emb y 1 = (y 1 : Fin 1024) := Fin.ext (by blk_simp [index_6])
  refine (congrArg _ ey).trans ((block_apply m c t (y 0) (y 1) _ h0).trans ?_)
  exact congrArg (resultAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) _) h1.symm

/-- The kernel's run: its result array after it, element by element, and the arguments unchanged. -/
theorem kernel_run (ρ : Dev nD → PrngReg) :
    θ_run defs (onTc (τ := τ) (main (F := Ideal))) ⟨m, fun _ => 0, ρ⟩ fun r => ∀ c : Dev nD,
      r.2.mem ((c : Thread nD τ).loc main_v1) = (fun i : S512x1024.Idx => resultAt (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks (F := Ideal) m ρ)

end Cert.Proof.OutProjection
end
-- ==== Proof.OutProjectionRefValue.lean ====
/- The output projection's reference, element by element. -/
module

public import proofs.«01_k».proof.Proof.OutProjectionSpec
public import proofs.«01_k».proof.Proof.Gen.OutProjectionReferenceIdeal.Run
public import Idealize.ShloMosaic.Lib.Pointwise.Reshape
public import Idealize.ShloMosaic.Lib.Pointwise.Contract
public import Idealize.ShloMosaic.Lib.Pointwise.SelectCore
public import Idealize.ShloMosaic.Lib.Pointwise.ShapeOpsCore
public import Idealize.ShloMosaic.Lib.Pointwise.Tactic
public import Idealize.ShloMosaic.Lib.Quiescent

@[expose] public section
set_option maxRecDepth 16384
noncomputable section
namespace Cert.Proof.OutProjection
open Cert.OutProjectionReferenceIdeal Cert.OutProjectionReferenceIdeal.Facts₀
open Idealize.ShloMosaic Idealize.ShloMosaic.TcCoe

/-- The reference's four mixers' rows side by side. -/
def refRows (a b d e : FVec Ideal S512x256 .f32) : FVec Ideal S512x1024 .f32 :=
  concatenate S512x1024 1 [⟨S512x256, a⟩, ⟨S512x256, b⟩, ⟨S512x256, d⟩, ⟨S512x256, e⟩] concatenates_S512x256_S512x256_S512x256_S512x256_S512x1024_d1

/-- The reference's result. -/
def refResult (x : FVec Ideal S512x1024 .f32) (a b d e : FVec Ideal S512x256 .f32) (W : FVec Ideal S1024x1024 .f32) : FVec Ideal S512x1024 .f32 :=
  addf x (Host.dotGeneral dot_S512x1024_S1024x1024_S512x1024_1_0_0_1_n_n none (refRows a b d e) W)

theorem refRows_apply (a b d e : FVec Ideal S512x256 .f32) (n : Fin 512) (k : Fin 256) :
    refRows a b d e (ix2 n (⟨0 + k.val, by omega⟩ : Fin 1024)) = a (ix2 n k)
    ∧ refRows a b d e (ix2 n (⟨256 + k.val, by omega⟩ : Fin 1024)) = b (ix2 n k)
    ∧ refRows a b d e (ix2 n (⟨512 + k.val, by omega⟩ : Fin 1024)) = d (ix2 n k)
    ∧ refRows a b d e (ix2 n (⟨768 + k.val, by omega⟩ : Fin 1024)) = e (ix2 n k) := by
  have e2 : ∀ (f : FVec Ideal S512x256 .f32) (z : Fin 256), z.val = k.val → f (ix2 n z) = f (ix2 n k) := by
    intro f z h
    rw [Fin.ext h]
  have hk := k.isLt
  unfold refRows
  simp only [pointwise]
  refine ⟨?_, ?_, ?_, ?_⟩
  · exact (dif_pos (show 0 + k.val < 256 by omega)).trans (e2 a _ (by show 0 + k.val = k.val; omega))
  · exact (dif_neg (show ¬256 + k.val < 256 by omega)).trans ((dif_pos (show 256 + k.val - 256 < 256 by omega)).trans (e2 b _ (by show 256 + k.val - 256 = k.val; omega)))
  · exact (dif_neg (show ¬512 + k.val < 256 by omega)).trans ((dif_neg (show ¬512 + k.val - 256 < 256 by omega)).trans
      ((dif_pos (show 512 + k.val - 256 - 256 < 256 by omega)).trans (e2 d _ (by show 512 + k.val - 256 - 256 = k.val; omega))))
  · exact (dif_neg (show ¬768 + k.val < 256 by omega)).trans ((dif_neg (show ¬768 + k.val - 256 < 256 by omega)).trans
      ((dif_neg (show ¬768 + k.val - 256 - 256 < 256 by omega)).trans (e2 e _ (by show 768 + k.val - 256 - 256 - 256 = k.val; omega))))

theorem refResult_apply (x : FVec Ideal S512x1024 .f32) (a b d e : FVec Ideal S512x256 .f32) (W : FVec Ideal S1024x1024 .f32) (n : Fin 512) (q : Fin 1024) :
    refResult x a b d e W (ix2 n q) = resultAt x a b d e W n q := by
  have h : refResult x a b d e W (ix2 n q) = (x (ix2 n q) + ∑ k : Fin 1024, refRows a b d e (ix2 n k) * W (ix2 k q) : EReal) := by
    unfold refResult
    simp only [pointwise, zero_add]
  rw [h, sum_quarters]
  unfold resultAt part
  rw [← add_assoc, ← add_assoc, ← add_assoc]
  refine congrArg₂ (· + ·) (congrArg₂ (· + ·) (congrArg₂ (· + ·) (congrArg (x (ix2 n q) + ·) ?_) ?_) ?_) ?_
  · exact Finset.sum_congr rfl fun k _ => congrArg (· * _) (refRows_apply a b d e n k).1
  · exact Finset.sum_congr rfl fun k _ => congrArg (· * _) (refRows_apply a b d e n k).2.1
  · exact Finset.sum_congr rfl fun k _ => congrArg (· * _) (refRows_apply a b d e n k).2.2.1
  · exact Finset.sum_congr rfl fun k _ => congrArg (· * _) (refRows_apply a b d e n k).2.2.2

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = (fun i : S512x1024.Idx => resultAt (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ⟨(h c).1.trans ?_, (h c).2⟩) (Value.run (F := Ideal) m ρ)
  show refResult (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) = _
  funext (i : S512x1024.Idx)
  have ei : (ix2 (i 0) (i 1) : S512x1024.Idx) = i := by
    funext a
    match a with
    | ⟨0, _⟩ => rfl
    | ⟨1, _⟩ => rfl
  exact (congrArg _ ei.symm).trans (refResult_apply _ _ _ _ _ _ (i 0) (i 1))

/-- The reference's frame: a straight-line program that declares no semaphore. -/
theorem ref_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0 :=
  (θ_run defs _ _).mono (fun r h => ⟨fun c => (h c).2, sem_eq_zero_of_no_sems (by decide) r.2⟩) (Value.run (F := Ideal) m ρ)

end Cert.Proof.OutProjection
end
-- ==== Proof.SampleCachesPieces.lean ====
/- What the sample's attention stores in the blocks of the rolled caches: one piece at a time. -/
module

public import proofs.«01_k».proof.Proof.Gen.SampleCachesIdeal.Skeleton
public import Idealize.ShloMosaic.Lib.Pipeline.ValueKit.Tiles
public import Idealize.ShloMosaic.Lib.Pointwise.Reshape
public import Idealize.ShloMosaic.Lib.Pointwise.SelectCore
public import Idealize.ShloMosaic.Lib.Pointwise.ShapeOpsCore
public import Idealize.ShloMosaic.Lib.Pointwise.Tactic

@[expose] public section
set_option maxRecDepth 65536
noncomputable section
namespace Cert.Proof.SampleCaches
open Cert.SampleCachesIdeal Cert.SampleCachesIdeal.Gen
open Idealize.ShloMosaic Idealize.ShloMosaic.TcCoe

variable {F : FTy → Type} [FloatOps F]

/-- A block of the long cache moved four places down its rows, its last four rows replaced by the last four of the new ones. -/
def rolledLong (x : FVec F S2x1x4x64x2048 .f32) (n : FVec F S2x1x4x64x128 .f32) (y : S2x1x4x64x2048.Idx) : F .f32 :=
  if h : (y 4).val < 2044 then
    x (ix5 (⟨(y 0).val, (y 0).isLt⟩ : Fin 2) (⟨(y 1).val, (y 1).isLt⟩ : Fin 1) (⟨(y 2).val, (y 2).isLt⟩ : Fin 4) (⟨(y 3).val, (y 3).isLt⟩ : Fin 64) (⟨(y 4).val + 4, by omega⟩ : Fin 2048))
  else
    n (ix5 (⟨(y 0).val, (y 0).isLt⟩ : Fin 2) (⟨(y 1).val, (y 1).isLt⟩ : Fin 1) (⟨(y 2).val, (y 2).isLt⟩ : Fin 4) (⟨(y 3).val, (y 3).isLt⟩ : Fin 64) (⟨(y 4).val - 1920, by have h4 : (y 4).val < 2048 := (y 4).isLt; omega⟩ : Fin 128))

/-- The same of a block of the window's cache. -/
def rolledShort (x : FVec F S2x1x2x64x128 .f32) (n : FVec F S2x1x2x64x128 .f32) (y : S2x1x2x64x128.Idx) : F .f32 :=
  if h : (y 4).val < 124 then
    x (ix5 (⟨(y 0).val, (y 0).isLt⟩ : Fin 2) (⟨(y 1).val, (y 1).isLt⟩ : Fin 1) (⟨(y 2).val, (y 2).isLt⟩ : Fin 2) (⟨(y 3).val, (y 3).isLt⟩ : Fin 64) (⟨(y 4).val + 4, by omega⟩ : Fin 128))
  else
    n (ix5 (⟨(y 0).val, (y 0).isLt⟩ : Fin 2) (⟨(y 1).val, (y 1).isLt⟩ : Fin 1) (⟨(y 2).val, (y 2).isLt⟩ : Fin 2) (⟨(y 3).val, (y 3).isLt⟩ : Fin 64) (⟨(y 4).val, (y 4).isLt⟩ : Fin 128))

/-- Lane `k` is one of the last four. -/
theorem lane_bit : ∀ k : Fin 128, (cmpi .sge (iota .tc S64x128 32 [1] iota_S64x128_d1_w32) (broadcast S64x128 124#32) (ix2 (0 : Fin 64) k) = 1#1) ↔ 124 ≤ k.val := by
  intro k
  simp only [pointwise]
  revert k
  decide

theorem long_head (x : FVec F S2x1x4x64x2048 .f32) (n : FVec F S2x1x4x64x128 .f32) (y : S2x1x4x64x2048.Idx) (l g : ℕ) (inb) (h1 h2 h3 h4) :
    View.TileAt (Val := Elt F) (e := .f32) y ![l, 0, g, 0, 0] S1x1x1x64x1920.size
      (shapeCast S1x1x1x64x1920 (extractStridedSlice S64x1920 ![0, 0]
        (dynamicRotate 1 2044#32 none (shapeCast S64x2048 (View.ld (Val := Elt F) (e' := .f32) x (Rect.unit (s := S2x1x4x64x2048) ![l, 0, g, 0, 0] S1x1x1x64x2048.size inb)) h1 : FVec F S64x2048 .f32) h2) h3) h4)
      (rolledLong x n y) := by
  intro z hz
  have e0 : (y 0).val = l + (z 0).val := hz 0
  have e1 : (y 1).val = 0 + (z 1).val := hz 1
  have e2 : (y 2).val = g + (z 2).val := hz 2
  have e3 : (y 3).val = 0 + (z 3).val := hz 3
  have e4 : (y 4).val = 0 + (z 4).val := hz 4
  have z0 : (z 0).val < 1 := (z 0).isLt
  have z1 : (z 1).val < 1 := (z 1).isLt
  have z2 : (z 2).val < 1 := (z 2).isLt
  have z4 : (z 4).val < 1920 := (z 4).isLt
  have ex : z = ix5 (0 : Fin 1) (0 : Fin 1) (0 : Fin 1) (⟨(z 3).val, (z 3).isLt⟩ : Fin 64) (⟨(z 4).val, (z 4).isLt⟩ : Fin 1920) := by
    funext a
    match a with
    | ⟨0, _⟩ => exact Fin.ext (by show (z 0).val = 0; omega)
    | ⟨1, _⟩ => exact Fin.ext (by show (z 1).val = 0; omega)
    | ⟨2, _⟩ => exact Fin.ext (by show (z 2).val = 0; omega)
    | ⟨3, _⟩ => rfl
    | ⟨4, _⟩ => rfl
  rw [ex]
  simp only [pointwise]
  refine Eq.trans ?_ (dif_pos (show (y 4).val < 2044 by omega)).symm
  refine congrArg x ?_
  funext a
  apply Fin.ext
  match a with
  | ⟨0, _⟩ => show l + 1 * 0 = (y 0).val; omega
  | ⟨1, _⟩ => show 0 + 1 * 0 = (y 1).val; omega
  | ⟨2, _⟩ => show g + 1 * 0 = (y 2).val; omega
  | ⟨3, _⟩ => show 0 + 1 * (0 + (z 3).val) = (y 3).val; omega
  | ⟨4, _⟩ => show 0 + 1 * ((0 + (z 4).val + 2048 - 2044 % 2048) % 2048) = (y 4).val + 4; omega

theorem long_tail (x : FVec F S2x1x4x64x2048 .f32) (n : FVec F S2x1x4x64x128 .f32) (y : S2x1x4x64x2048.Idx) (l g : ℕ) (inb inb') (h1 h2 h3 h4 h5) :
    View.TileAt (Val := Elt F) (e := .f32) y ![l, 0, g, 0, 1920] S1x1x1x64x128.size
      (shapeCast S1x1x1x64x128 (select (cmpi .sge (iota .tc S64x128 32 [1] iota_S64x128_d1_w32) (broadcast S64x128 124#32))
        (shapeCast S64x128 (View.ld (Val := Elt F) (e' := .f32) n (Rect.unit (s := S2x1x4x64x128) ![l, 0, g, 0, 0] S1x1x1x64x128.size inb')) h5 : FVec F S64x128 .f32)
        (extractStridedSlice S64x128 ![0, 1920]
        (dynamicRotate 1 2044#32 none (shapeCast S64x2048 (View.ld (Val := Elt F) (e' := .f32) x (Rect.unit (s := S2x1x4x64x2048) ![l, 0, g, 0, 0] S1x1x1x64x2048.size inb)) h1 : FVec F S64x2048 .f32) h2) h3)) h4)
      (rolledLong x n y) := by
  intro z hz
  have e0 : (y 0).val = l + (z 0).val := hz 0
  have e1 : (y 1).val = 0 + (z 1).val := hz 1
  have e2 : (y 2).val = g + (z 2).val := hz 2
  have e3 : (y 3).val = 0 + (z 3).val := hz 3
  have e4 : (y 4).val = 1920 + (z 4).val := hz 4
  have z0 : (z 0).val < 1 := (z 0).isLt
  have z1 : (z 1).val < 1 := (z 1).isLt
  have z2 : (z 2).val < 1 := (z 2).isLt
  have z4 : (z 4).val < 128 := (z 4).isLt
  have ex : z = ix5 (0 : Fin 1) (0 : Fin 1) (0 : Fin 1) (⟨(z 3).val, (z 3).isLt⟩ : Fin 64) (⟨(z 4).val, (z 4).isLt⟩ : Fin 128) := by
    funext a
    match a with
    | ⟨0, _⟩ => exact Fin.ext (by show (z 0).val = 0; omega)
    | ⟨1, _⟩ => exact Fin.ext (by show (z 1).val = 0; omega)
    | ⟨2, _⟩ => exact Fin.ext (by show (z 2).val = 0; omega)
    | ⟨3, _⟩ => rfl
    | ⟨4, _⟩ => rfl
  have hb := lane_bit ⟨(z 4).val, (z 4).isLt⟩
  rw [ex]
  simp only [pointwise] at hb ⊢
  by_cases hc : 124 ≤ (z 4).val
  · refine ((if_pos (hb.2 hc)).trans ?_).trans (dif_neg (show ¬(y 4).val < 2044 by omega)).symm
    refine congrArg n ?_
    funext a
    apply Fin.ext
    match a with
    | ⟨0, _⟩ => show l + 1 * 0 = (y 0).val; omega
    | ⟨1, _⟩ => show 0 + 1 * 0 = (y 1).val; omega
    | ⟨2, _⟩ => show g + 1 * 0 = (y 2).val; omega
    | ⟨3, _⟩ => show 0 + 1 * (z 3).val = (y 3).val; omega
    | ⟨4, _⟩ => show 0 + 1 * (z 4).val = (y 4).val - 1920; omega
  · refine ((if_neg fun h => hc (hb.1 h)).trans ?_).trans (dif_pos (show (y 4).val < 2044 by omega)).symm
    refine congrArg x ?_
    funext a
    apply Fin.ext
    match a with
    | ⟨0, _⟩ => show l + 1 * 0 = (y 0).val; omega
    | ⟨1, _⟩ => show 0 + 1 * 0 = (y 1).val; omega
    | ⟨2, _⟩ => show g + 1 * 0 = (y 2).val; omega
    | ⟨3, _⟩ => show 0 + 1 * (0 + (z 3).val) = (y 3).val; omega
    | ⟨4, _⟩ => show 0 + 1 * ((1920 + (z 4).val + 2048 - 2044 % 2048) % 2048) = (y 4).val + 4; omega

theorem short_at (x : FVec F S2x1x2x64x128 .f32) (n : FVec F S2x1x2x64x128 .f32) (y : S2x1x2x64x128.Idx) (l g : ℕ) (inb inb') (h1 h2 h4 h5) :
    View.TileAt (Val := Elt F) (e := .f32) y ![l, 0, g, 0, 0] S1x1x1x64x128.size
      (shapeCast S1x1x1x64x128 (select (cmpi .sge (iota .tc S64x128 32 [1] iota_S64x128_d1_w32) (broadcast S64x128 124#32))
        (shapeCast S64x128 (View.ld (Val := Elt F) (e' := .f32) n (Rect.unit (s := S2x1x2x64x128) ![l, 0, g, 0, 0] S1x1x1x64x128.size inb')) h5 : FVec F S64x128 .f32)
        (dynamicRotate 1 124#32 none (shapeCast S64x128 (View.ld (Val := Elt F) (e' := .f32) x (Rect.unit (s := S2x1x2x64x128) ![l, 0, g, 0, 0] S1x1x1x64x128.size inb)) h1 : FVec F S64x128 .f32) h2)) h4)
      (rolledShort x n y) := by
  intro z hz
  have e0 : (y 0).val = l + (z 0).val := hz 0
  have e1 : (y 1).val = 0 + (z 1).val := hz 1
  have e2 : (y 2).val = g + (z 2).val := hz 2
  have e3 : (y 3).val = 0 + (z 3).val := hz 3
  have e4 : (y 4).val = 0 + (z 4).val := hz 4
  have z0 : (z 0).val < 1 := (z 0).isLt
  have z1 : (z 1).val < 1 := (z 1).isLt
  have z2 : (z 2).val < 1 := (z 2).isLt
  have z4 : (z 4).val < 128 := (z 4).isLt
  have ex : z = ix5 (0 : Fin 1) (0 : Fin 1) (0 : Fin 1) (⟨(z 3).val, (z 3).isLt⟩ : Fin 64) (⟨(z 4).val, (z 4).isLt⟩ : Fin 128) := by
    funext a
    match a with
    | ⟨0, _⟩ => exact Fin.ext (by show (z 0).val = 0; omega)
    | ⟨1, _⟩ => exact Fin.ext (by show (z 1).val = 0; omega)
    | ⟨2, _⟩ => exact Fin.ext (by show (z 2).val = 0; omega)
    | ⟨3, _⟩ => rfl
    | ⟨4, _⟩ => rfl
  have hb := lane_bit ⟨(z 4).val, (z 4).isLt⟩
  rw [ex]
  simp only [pointwise] at hb ⊢
  by_cases hc : 124 ≤ (z 4).val
  · refine ((if_pos (hb.2 hc)).trans ?_).trans (dif_neg (show ¬(y 4).val < 124 by omega)).symm
    refine congrArg n ?_
    funext a
    apply Fin.ext
    match a with
    | ⟨0, _⟩ => show l + 1 * 0 = (y 0).val; omega
    | ⟨1, _⟩ => show 0 + 1 * 0 = (y 1).val; omega
    | ⟨2, _⟩ => show g + 1 * 0 = (y 2).val; omega
    | ⟨3, _⟩ => show 0 + 1 * (z 3).val = (y 3).val; omega
    | ⟨4, _⟩ => show 0 + 1 * (z 4).val = (y 4).val; omega
  · refine ((if_neg fun h => hc (hb.1 h)).trans ?_).trans (dif_pos (show (y 4).val < 124 by omega)).symm
    refine congrArg x ?_
    funext a
    apply Fin.ext
    match a with
    | ⟨0, _⟩ => show l + 1 * 0 = (y 0).val; omega
    | ⟨1, _⟩ => show 0 + 1 * 0 = (y 1).val; omega
    | ⟨2, _⟩ => show g + 1 * 0 = (y 2).val; omega
    | ⟨3, _⟩ => show 0 + 1 * (z 3).val = (y 3).val; omega
    | ⟨4, _⟩ => show 0 + 1 * (((z 4).val + 128 - 124 % 128) % 128) = (y 4).val + 4; omega

end Cert.Proof.SampleCaches
-- ==== Proof.SampleCachesBody.lean ====
/- What the sample's attention leaves in the blocks of the rolled caches. -/
module

public import proofs.«01_k».proof.Proof.Gen.SampleCachesIdeal.Value
public import proofs.«01_k».proof.Proof.SampleCachesPieces

@[expose] public section
set_option maxRecDepth 65536
noncomputable section
namespace Cert.Proof.SampleCaches
open Cert.SampleCachesIdeal Cert.SampleCachesIdeal.Gen
open Idealize.ShloMosaic Idealize.ShloMosaic.TcCoe

variable {F : FTy → Type} [FloatOps F]

section
variable (c : Dev nD) (i : grid0.Coords)
  (a1 : Memref sig .tc .vmem S1x8x256 .f32) (h1 : a1.IsWhole)
  (a2 : Memref sig .tc .vmem S1x8x256 .f32) (h2 : a2.IsWhole)
  (a3 : Memref sig .tc .vmem S2x1x4x64x2048 .f32) (h3 : a3.IsWhole)
  (a4 : Memref sig .tc .vmem S2x1x4x64x2048 .f32) (h4 : a4.IsWhole)
  (a5 : Memref sig .tc .vmem S2x1x4x64x128 .f32) (h5 : a5.IsWhole)
  (a6 : Memref sig .tc .vmem S2x1x4x64x128 .f32) (h6 : a6.IsWhole)
  (a7 : Memref sig .tc .vmem S2x1x2x64x128 .f32) (h7 : a7.IsWhole)
  (a8 : Memref sig .tc .vmem S2x1x2x64x128 .f32) (h8 : a8.IsWhole)
  (a9 : Memref sig .tc .vmem S2x1x2x64x128 .f32) (h9 : a9.IsWhole)
  (a10 : Memref sig .tc .vmem S2x1x2x64x128 .f32) (h10 : a10.IsWhole)
  (a11 : Memref sig .tc .vmem S1x128 .f32) (h11 : a11.IsWhole)
  (a12 : Memref sig .tc .vmem S1x8x256 .f32) (h12 : a12.IsWhole)
  (a13 : Memref sig .tc .vmem S1x8x256 .f32) (h13 : a13.IsWhole)
  (a14 : Memref sig .tc .vmem S2x1x4x64x2048 .f32) (h14 : a14.IsWhole)
  (a15 : Memref sig .tc .vmem S2x1x4x64x2048 .f32) (h15 : a15.IsWhole)
  (a16 : Memref sig .tc .vmem S2x1x2x64x128 .f32) (h16 : a16.IsWhole)
  (a17 : Memref sig .tc .vmem S2x1x2x64x128 .f32) (h17 : a17.IsWhole)
  (x0 : Vec F S1x8x256 .f32) (x1 : Vec F S1x8x256 .f32) (x2 : Vec F S2x1x4x64x2048 .f32) (x3 : Vec F S2x1x4x64x2048 .f32) (x4 : Vec F S2x1x4x64x128 .f32) (x5 : Vec F S2x1x4x64x128 .f32) (x6 : Vec F S2x1x2x64x128 .f32) (x7 : Vec F S2x1x2x64x128 .f32) (x8 : Vec F S2x1x2x64x128 .f32) (x9 : Vec F S2x1x2x64x128 .f32) (x10 : Vec F S1x128 .f32)

theorem out_13 : out0_A_13 (F := F) c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10
    = rolledLong x2 x4 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10)]
  funext y
  refine View.canon_eq_of_allAt _ _ _ (cover0_A_13 c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 y) ?_
  unfold kernelRun0_A
  dsimp only
  sl_unfold_words
  simp only [View.readAt_eq_ld, h3.read_unread, h5.read_unread]
  iterate 8 refine View.allAt_cons_unit _ _ _ _ _ (long_tail x2 x4 y _ _ _ _ _ _ _ _ _) (View.allAt_cons_unit _ _ _ _ _ (long_head x2 x4 y _ _ _ _ _ _ _) ?_)
  exact View.allAt_nil _ _

theorem out_14 : out0_A_14 (F := F) c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10
    = rolledLong x3 x5 := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10)]
  funext y
  refine View.canon_eq_of_allAt _ _ _ (cover0_A_14 c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 y) ?_
  unfold kernelRun0_A
  dsimp only
  sl_unfold_words
  simp only [View.readAt_eq_ld, h4.read_unread, h6.read_unread]
  iterate 8 refine View.allAt_cons_unit _ _ _ _ _ (long_tail x3 x5 y _ _ _ _ _ _ _ _ _) (View.allAt_cons_unit _ _ _ _ _ (long_head x3 x5 y _ _ _ _ _ _ _) ?_)
  exact View.allAt_nil _ _

theorem out_15 : out0_A_15 (F := F) c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10
    = rolledShort x6 x8 := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10)]
  funext y
  refine View.canon_eq_of_allAt _ _ _ (cover0_A_15 c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 y) ?_
  unfold kernelRun0_A
  dsimp only
  sl_unfold_words
  simp only [View.readAt_eq_ld, h7.read_unread, h9.read_unread]
  iterate 4 refine View.allAt_cons_unit _ _ _ _ _ (short_at x6 x8 y _ _ _ _ _ _ _ _) ?_
  exact View.allAt_nil _ _

theorem out_16 : out0_A_16 (F := F) c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10
    = rolledShort x7 x9 := by
  unfold out0_A_16
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10)]
  funext y
  refine View.canon_eq_of_allAt _ _ _ (cover0_A_16 c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 y) ?_
  unfold kernelRun0_A
  dsimp only
  sl_unfold_words
  simp only [View.readAt_eq_ld, h8.read_unread, h10.read_unread]
  iterate 4 refine View.allAt_cons_unit _ _ _ _ _ (short_at x7 x9 y _ _ _ _ _ _ _ _) ?_
  exact View.allAt_nil _ _

end

variable (m : (ℓ : Loc nD τ sig) → Buf (Elt F) ℓ) (c : Dev nD) (t : Fin cfg0.N)

theorem outs_13 : (outsAt0 m c t).2.2.1 = rolledLong (iblk m c 2 t) (iblk m c 4 t) := by
  unfold outsAt0
  dsimp only
  exact out_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (iblk m c 8 t) (iblk m c 9 t) (iblk m c 10 t)

theorem outs_14 : (outsAt0 m c t).2.2.2.1 = rolledLong (iblk m c 3 t) (iblk m c 5 t) := by
  unfold outsAt0
  dsimp only
  exact out_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (iblk m c 8 t) (iblk m c 9 t) (iblk m c 10 t)

theorem outs_15 : (outsAt0 m c t).2.2.2.2.1 = rolledShort (iblk m c 6 t) (iblk m c 8 t) := by
  unfold outsAt0
  dsimp only
  exact out_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (iblk m c 8 t) (iblk m c 9 t) (iblk m c 10 t)

theorem outs_16 : (outsAt0 m c t).2.2.2.2.2 = rolledShort (iblk m c 7 t) (iblk m c 9 t) := by
  unfold outsAt0
  dsimp only
  exact out_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (iblk m c 8 t) (iblk m c 9 t) (iblk m c 10 t)

end Cert.Proof.SampleCaches
end
-- ==== Proof.SampleCachesSpec.lean ====
/- What the sample's caches become, element by element, over the extended reals. -/
module

public import Idealize.ShloMosaic.Lib.Pointwise.Tactic
public import Idealize.ShloMosaic.Lib.ValueIdxCore
public import Idealize.ShloMosaic.PureOps

@[expose] public section
noncomputable section
namespace Cert.Proof.SampleCaches
open Idealize.ShloMosaic

/-- A layer's long cache after the step: its rows from the fifth on, then the sequence's four new rows, the columns of the layer's projected
    rows from column `o` on, 64 to a head. -/
def longAt (C : (⟨5, ![2, 128, 2048, 4, 64]⟩ : Shape).Idx → EReal) (P Q : (⟨3, ![128, 4, 768]⟩ : Shape).Idx → EReal) (o : ℕ) (ho : o + 256 ≤ 768)
    (l : Fin 2) (b : Fin 128) (g : Fin 4) (d : Fin 64) (s : Fin 2048) : EReal :=
  if h : s.val < 2044 then C (ix5 l b (⟨s.val + 4, by omega⟩ : Fin 2048) g d)
  else if l.val = 0 then P (ix3 b (⟨s.val - 2044, by omega⟩ : Fin 4) (⟨o + (64 * g.val + d.val), by omega⟩ : Fin 768))
  else Q (ix3 b (⟨s.val - 2044, by omega⟩ : Fin 4) (⟨o + (64 * g.val + d.val), by omega⟩ : Fin 768))

/-- The same of the window's cache. -/
def shortAt (C : (⟨5, ![2, 128, 128, 2, 64]⟩ : Shape).Idx → EReal) (P Q : (⟨3, ![128, 4, 512]⟩ : Shape).Idx → EReal) (o : ℕ) (ho : o + 128 ≤ 512)
    (l : Fin 2) (b : Fin 128) (g : Fin 2) (d : Fin 64) (s : Fin 128) : EReal :=
  if h : s.val < 124 then C (ix5 l b (⟨s.val + 4, by omega⟩ : Fin 128) g d)
  else if l.val = 0 then P (ix3 b (⟨s.val - 124, by omega⟩ : Fin 4) (⟨o + (64 * g.val + d.val), by omega⟩ : Fin 512))
  else Q (ix3 b (⟨s.val - 124, by omega⟩ : Fin 4) (⟨o + (64 * g.val + d.val), by omega⟩ : Fin 512))

end Cert.Proof.SampleCaches
end
-- ==== Proof.SampleCachesHost.lean ====
/- The new rows of the sample's caches as the host lays them out for the kernel. -/
module

public import proofs.«01_k».proof.Proof.Gen.SampleCachesIdeal.Launch
public import proofs.«01_k».proof.Proof.SampleCachesSpec
public import Idealize.ShloMosaic.Lib.Pointwise.Reshape
public import Idealize.ShloMosaic.Lib.Pointwise.SelectCore
public import Idealize.ShloMosaic.Lib.Pointwise.ShapeOpsCore
public import Idealize.ShloMosaic.Lib.Pointwise.Tactic

@[expose] public section
set_option maxRecDepth 16384
noncomputable section
namespace Cert.Proof.SampleCaches
open Cert.SampleCachesIdeal Cert.SampleCachesIdeal.Gen
open Idealize.ShloMosaic Idealize.ShloMosaic.TcCoe

/-- One layer's new rows of the long cache, rows last, in the last four of 128 places. -/
def placedLong (P : FVec Ideal S128x4x768 .f32) (o : ℕ) (hs : S128x4x768.Slices ![0, 0, o] S128x4x256) : FVec Ideal S128x4x64x128 .f32 :=
  pad S128x4x64x128 ![0, 0, 0, 124] ![0, 0, 0, 0] ![0, 0, 0, 0]
    (transpose S128x4x64x4 [0, 2, 3, 1] (shapeCast S128x4x4x64 (extractStridedSlice S128x4x256 ![0, 0, o] P hs) shapeCasts_S128x4x256_S128x4x4x64) transposes_S128x4x4x64_S128x4x64x4_0_2_3_1)
    (sitofp .f32 (constantI S_ 32 0#32)) pads_S128x4x64x4_S128x4x64x128_000_000_000_12400 h_S_

/-- Both layers' new rows of the long cache. -/
def newLong (P Q : FVec Ideal S128x4x768 .f32) (o : ℕ) (hs : S128x4x768.Slices ![0, 0, o] S128x4x256) : FVec Ideal S2x128x4x64x128 .f32 :=
  concatenate S2x128x4x64x128 0 [⟨S1x128x4x64x128, broadcastInDim S1x128x4x64x128 ![1, 2, 3, 4] bcast_S128x4x64x128_S1x128x4x64x128_1_2_3_4 (placedLong P o hs)⟩,
    ⟨S1x128x4x64x128, broadcastInDim S1x128x4x64x128 ![1, 2, 3, 4] bcast_S128x4x64x128_S1x128x4x64x128_1_2_3_4 (placedLong Q o hs)⟩] concatenates_S1x128x4x64x128_S1x128x4x64x128_S2x128x4x64x128_d0

/-- One layer's new rows of the window's cache. -/
def placedShort (P : FVec Ideal S128x4x512 .f32) (o : ℕ) (hs : S128x4x512.Slices ![0, 0, o] S128x4x128) : FVec Ideal S128x2x64x128 .f32 :=
  pad S128x2x64x128 ![0, 0, 0, 124] ![0, 0, 0, 0] ![0, 0, 0, 0]
    (transpose S128x2x64x4 [0, 2, 3, 1] (shapeCast S128x4x2x64 (extractStridedSlice S128x4x128 ![0, 0, o] P hs) shapeCasts_S128x4x128_S128x4x2x64) transposes_S128x4x2x64_S128x2x64x4_0_2_3_1)
    (sitofp .f32 (constantI S_ 32 0#32)) pads_S128x2x64x4_S128x2x64x128_000_000_000_12400 h_S_

/-- Both layers' new rows of the window's cache. -/
def newShort (P Q : FVec Ideal S128x4x512 .f32) (o : ℕ) (hs : S128x4x512.Slices ![0, 0, o] S128x4x128) : FVec Ideal S2x128x2x64x128 .f32 :=
  concatenate S2x128x2x64x128 0 [⟨S1x128x2x64x128, broadcastInDim S1x128x2x64x128 ![1, 2, 3, 4] bcast_S128x2x64x128_S1x128x2x64x128_1_2_3_4 (placedShort P o hs)⟩,
    ⟨S1x128x2x64x128, broadcastInDim S1x128x2x64x128 ![1, 2, 3, 4] bcast_S128x2x64x128_S1x128x2x64x128_1_2_3_4 (placedShort Q o hs)⟩] concatenates_S1x128x2x64x128_S1x128x2x64x128_S2x128x2x64x128_d0

theorem placedLong_apply (P : FVec Ideal S128x4x768 .f32) (o : ℕ) (ho : o + 256 ≤ 768) (hs) (b : Fin 128) (g : Fin 4) (d : Fin 64) (k : Fin 128) (hk : 124 ≤ k.val) :
    placedLong P o hs (ix4 b g d k) = P (ix3 b (⟨k.val - 124, by omega⟩ : Fin 4) (⟨o + (64 * g.val + d.val), by omega⟩ : Fin 768)) := by
  have e3 : ∀ (z0 : Fin 128) (z1 : Fin 4) (z2 : Fin 768), z0.val = b.val → z1.val = k.val - 124 → z2.val = o + (64 * g.val + d.val) →
      P (ix3 z0 z1 z2) = P (ix3 b (⟨k.val - 124, by omega⟩ : Fin 4) (⟨o + (64 * g.val + d.val), by omega⟩ : Fin 768)) := by
    intro z0 z1 z2 h0 h1 h2
    rw [Fin.ext h0, show z1 = ⟨k.val - 124, by omega⟩ from Fin.ext h1, show z2 = ⟨o + (64 * g.val + d.val), by omega⟩ from Fin.ext h2]
  unfold placedLong
  simp only [pointwise]
  refine (dif_pos fun a => ?_).trans (e3 _ _ _ ?_ ?_ ?_)
  · match a with
    | ⟨0, _⟩ => show 0 ≤ b.val ∧ (b.val - 0) % 1 = 0 ∧ (b.val - 0) / 1 < 128; omega
    | ⟨1, _⟩ => show 0 ≤ g.val ∧ (g.val - 0) % 1 = 0 ∧ (g.val - 0) / 1 < 4; omega
    | ⟨2, _⟩ => show 0 ≤ d.val ∧ (d.val - 0) % 1 = 0 ∧ (d.val - 0) / 1 < 64; omega
    | ⟨3, _⟩ => show 124 ≤ k.val ∧ (k.val - 124) % 1 = 0 ∧ (k.val - 124) / 1 < 4; omega
  · show 0 + (b.val - 0) / 1 = b.val
    omega
  · show 0 + (k.val - 124) / 1 = k.val - 124
    omega
  · show o + ((g.val - 0) / 1 * 64 + (d.val - 0) / 1) = o + (64 * g.val + d.val)
    omega

theorem newLong_apply (P Q : FVec Ideal S128x4x768 .f32) (o : ℕ) (ho : o + 256 ≤ 768) (hs) (l : Fin 2) (b : Fin 128) (g : Fin 4) (d : Fin 64) (k : Fin 128) (hk : 124 ≤ k.val) :
    newLong P Q o hs (ix5 l b g d k) = if l.val = 0 then P (ix3 b (⟨k.val - 124, by omega⟩ : Fin 4) (⟨o + (64 * g.val + d.val), by omega⟩ : Fin 768))
      else Q (ix3 b (⟨k.val - 124, by omega⟩ : Fin 4) (⟨o + (64 * g.val + d.val), by omega⟩ : Fin 768)) := by
  unfold newLong
  simp only [pointwise]
  by_cases hl : l.val = 0
  · exact (dif_pos (show l.val < 1 by omega)).trans ((placedLong_apply P o ho hs b g d k hk).trans (if_pos hl).symm)
  · exact (dif_neg (show ¬l.val < 1 by omega)).trans ((placedLong_apply Q o ho hs b g d k hk).trans (if_neg hl).symm)

theorem placedShort_apply (P : FVec Ideal S128x4x512 .f32) (o : ℕ) (ho : o + 128 ≤ 512) (hs) (b : Fin 128) (g : Fin 2) (d : Fin 64) (k : Fin 128) (hk : 124 ≤ k.val) :
    placedShort P o hs (ix4 b g d k) = P (ix3 b (⟨k.val - 124, by omega⟩ : Fin 4) (⟨o + (64 * g.val + d.val), by omega⟩ : Fin 512)) := by
  have e3 : ∀ (z0 : Fin 128) (z1 : Fin 4) (z2 : Fin 512), z0.val = b.val → z1.val = k.val - 124 → z2.val = o + (64 * g.val + d.val) →
      P (ix3 z0 z1 z2) = P (ix3 b (⟨k.val - 124, by omega⟩ : Fin 4) (⟨o + (64 * g.val + d.val), by omega⟩ : Fin 512)) := by
    intro z0 z1 z2 h0 h1 h2
    rw [Fin.ext h0, show z1 = ⟨k.val - 124, by omega⟩ from Fin.ext h1, show z2 = ⟨o + (64 * g.val + d.val), by omega⟩ from Fin.ext h2]
  unfold placedShort
  simp only [pointwise]
  refine (dif_pos fun a => ?_).trans (e3 _ _ _ ?_ ?_ ?_)
  · match a with
    | ⟨0, _⟩ => show 0 ≤ b.val ∧ (b.val - 0) % 1 = 0 ∧ (b.val - 0) / 1 < 128; omega
    | ⟨1, _⟩ => show 0 ≤ g.val ∧ (g.val - 0) % 1 = 0 ∧ (g.val - 0) / 1 < 2; omega
    | ⟨2, _⟩ => show 0 ≤ d.val ∧ (d.val - 0) % 1 = 0 ∧ (d.val - 0) / 1 < 64; omega
    | ⟨3, _⟩ => show 124 ≤ k.val ∧ (k.val - 124) % 1 = 0 ∧ (k.val - 124) / 1 < 4; omega
  · show 0 + (b.val - 0) / 1 = b.val
    omega
  · show 0 + (k.val - 124) / 1 = k.val - 124
    omega
  · show o + ((g.val - 0) / 1 * 64 + (d.val - 0) / 1) = o + (64 * g.val + d.val)
    omega

theorem newShort_apply (P Q : FVec Ideal S128x4x512 .f32) (o : ℕ) (ho : o + 128 ≤ 512) (hs) (l : Fin 2) (b : Fin 128) (g : Fin 2) (d : Fin 64) (k : Fin 128) (hk : 124 ≤ k.val) :
    newShort P Q o hs (ix5 l b g d k) = if l.val = 0 then P (ix3 b (⟨k.val - 124, by omega⟩ : Fin 4) (⟨o + (64 * g.val + d.val), by omega⟩ : Fin 512))
      else Q (ix3 b (⟨k.val - 124, by omega⟩ : Fin 4) (⟨o + (64 * g.val + d.val), by omega⟩ : Fin 512)) := by
  unfold newShort
  simp only [pointwise]
  by_cases hl : l.val = 0
  · exact (dif_pos (show l.val < 1 by omega)).trans ((placedShort_apply P o ho hs b g d k hk).trans (if_pos hl).symm)
  · exact (dif_neg (show ¬l.val < 1 by omega)).trans ((placedShort_apply Q o ho hs b g d k hk).trans (if_neg hl).symm)

end Cert.Proof.SampleCaches
end
-- ==== Proof.SampleCachesValue.lean ====
/- The sample's rolled caches, element by element. -/
module

public import proofs.«01_k».proof.Proof.SampleCachesBody
public import proofs.«01_k».proof.Proof.SampleCachesHost
public import Idealize.ShloMosaic.Lib.Pipeline.ValueKit.Geometry
public import Idealize.ShloMosaic.Lib.Pointwise.Reshape
public import Idealize.ShloMosaic.Lib.Pointwise.SelectCore
public import Idealize.ShloMosaic.Lib.Pointwise.ShapeOpsCore
public import Idealize.ShloMosaic.Lib.Pointwise.Tactic
public import Idealize.ShloMosaic.Lib.KernelVsHost

@[expose] public section
set_option maxRecDepth 16384
noncomputable section
namespace Cert.Proof.SampleCaches
open Cert.SampleCachesIdeal Cert.SampleCachesIdeal.Gen
open Idealize.ShloMosaic Idealize.ShloMosaic.TcCoe

variable (m : (ℓ : Loc nD τ sig) → Buf (Elt Ideal) ℓ) (c : Dev nD)

/-! ## The arrays the host prepared -/

theorem V_main_v0 (l : Fin 2) (b : Fin 128) (g : Fin 2) (d : Fin 64) (s : Fin 128) :
    (V m c main_v0 : S2x128x2x64x128.Idx → EReal) (ix5 l b g d s) = (m ((c : Thread nD τ).loc main_arg0) : S2x128x128x2x64.Idx → EReal) (ix5 l b s g d) := by
  have e : (V m c main_v0 : S2x128x2x64x128.Idx → EReal) = transpose S2x128x2x64x128 [0, 1, 3, 4, 2] (m ((c : Thread nD τ).loc main_arg0) : S2x128x128x2x64.Idx → EReal) transposes_S2x128x128x2x64_S2x128x2x64x128_0_1_3_4_2 := by
    unfold V
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append]
    after_results_simp <;> rfl
  rw [e]
  simp only [pointwise]

theorem V_main_v1 (l : Fin 2) (b : Fin 128) (g : Fin 2) (d : Fin 64) (s : Fin 128) :
    (V m c main_v1 : S2x128x2x64x128.Idx → EReal) (ix5 l b g d s) = (m ((c : Thread nD τ).loc main_arg1) : S2x128x128x2x64.Idx → EReal) (ix5 l b s g d) := by
  have e : (V m c main_v1 : S2x128x2x64x128.Idx → EReal) = transpose S2x128x2x64x128 [0, 1, 3, 4, 2] (m ((c : Thread nD τ).loc main_arg1) : S2x128x128x2x64.Idx → EReal) transposes_S2x128x128x2x64_S2x128x2x64x128_0_1_3_4_2 := by
    unfold V
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append]
    after_results_simp <;> rfl
  rw [e]
  simp only [pointwise]

theorem V_main_v2 (l : Fin 2) (b : Fin 128) (g : Fin 4) (d : Fin 64) (s : Fin 2048) :
    (V m c main_v2 : S2x128x4x64x2048.Idx → EReal) (ix5 l b g d s) = (m ((c : Thread nD τ).loc main_arg2) : S2x128x2048x4x64.Idx → EReal) (ix5 l b s g d) := by
  have e : (V m c main_v2 : S2x128x4x64x2048.Idx → EReal) = transpose S2x128x4x64x2048 [0, 1, 3, 4, 2] (m ((c : Thread nD τ).loc main_arg2) : S2x128x2048x4x64.Idx → EReal) transposes_S2x128x2048x4x64_S2x128x4x64x2048_0_1_3_4_2 := by
    unfold V
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append]
    after_results_simp <;> rfl
  rw [e]
  simp only [pointwise]

theorem V_main_v3 (l : Fin 2) (b : Fin 128) (g : Fin 4) (d : Fin 64) (s : Fin 2048) :
    (V m c main_v3 : S2x128x4x64x2048.Idx → EReal) (ix5 l b g d s) = (m ((c : Thread nD τ).loc main_arg3) : S2x128x2048x4x64.Idx → EReal) (ix5 l b s g d) := by
  have e : (V m c main_v3 : S2x128x4x64x2048.Idx → EReal) = transpose S2x128x4x64x2048 [0, 1, 3, 4, 2] (m ((c : Thread nD τ).loc main_arg3) : S2x128x2048x4x64.Idx → EReal) transposes_S2x128x2048x4x64_S2x128x4x64x2048_0_1_3_4_2 := by
    unfold V
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append]
    after_results_simp <;> rfl
  rw [e]
  simp only [pointwise]

theorem V_main_v42 : (V m c main_v42 : S2x128x4x64x128.Idx → EReal) = newLong (m ((c : Thread nD τ).loc main_arg5)) (m ((c : Thread nD τ).loc main_arg7)) 256 slices_S128x4x768_S128x4x256_0_0_256 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append]
  after_results_simp <;> rfl

theorem V_main_v45 : (V m c main_v45 : S2x128x4x64x128.Idx → EReal) = newLong (m ((c : Thread nD τ).loc main_arg5)) (m ((c : Thread nD τ).loc main_arg7)) 512 slices_S128x4x768_S128x4x256_0_0_512 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append]
  after_results_simp <;> rfl

theorem V_main_v48 : (V m c main_v48 : S2x128x2x64x128.Idx → EReal) = newShort (m ((c : Thread nD τ).loc main_arg4)) (m ((c : Thread nD τ).loc main_arg6)) 256 slices_S128x4x512_S128x4x128_0_0_256 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append]
  after_results_simp <;> rfl

theorem V_main_v51 : (V m c main_v51 : S2x128x2x64x128.Idx → EReal) = newShort (m ((c : Thread nD τ).loc main_arg4)) (m ((c : Thread nD τ).loc main_arg6)) 384 slices_S128x4x512_S128x4x128_0_0_384 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append]
  after_results_simp <;> rfl

/-! ## The blocks the body reads -/

theorem index2 : ∀ t : Fin grid0.N, cc0_transform_2 (grid0.coords t) = ![0, t.val, 0, 0, 0] := by decide +kernel

theorem iblk2_apply (t : Fin cfg0.N) (l : Fin 2) (u : Fin 1) (g : Fin 4) (d : Fin 64) (s : Fin 2048) (b : Fin 128) (hb : b.val = t.val) :
    (iblk m c 2 t : S2x1x4x64x2048.Idx → EReal) (ix5 l u g d s) = (V m c main_v2 : S2x128x4x64x2048.Idx → EReal) (ix5 l b g d s) := by
  show V m c main_v2 (((cfg0.win 2).rect t).emb (ix5 l u g d s)) = V m c main_v2 _
  refine congrArg (V m c main_v2) ?_
  funext a
  apply Fin.ext
  refine (Pipeline.Window.rect_emb_val _ _ _ _).trans ?_
  have e := index2 t
  have hu := u.isLt
  match a with
  | ⟨0, _⟩ => show cc0_transform_2 (grid0.coords t) 0 * 2 + l.val = l.val; rw [e]; show 0 * 2 + l.val = l.val; omega
  | ⟨1, _⟩ => show cc0_transform_2 (grid0.coords t) 1 * 1 + u.val = b.val; rw [e, hb]; show t.val * 1 + u.val = t.val; omega
  | ⟨2, _⟩ => show cc0_transform_2 (grid0.coords t) 2 * 4 + g.val = g.val; rw [e]; show 0 * 4 + g.val = g.val; omega
  | ⟨3, _⟩ => show cc0_transform_2 (grid0.coords t) 3 * 64 + d.val = d.val; rw [e]; show 0 * 64 + d.val = d.val; omega
  | ⟨4, _⟩ => show cc0_transform_2 (grid0.coords t) 4 * 2048 + s.val = s.val; rw [e]; show 0 * 2048 + s.val = s.val; omega

theorem index3 : ∀ t : Fin grid0.N, cc0_transform_3 (grid0.coords t) = ![0, t.val, 0, 0, 0] := by decide +kernel

theorem iblk3_apply (t : Fin cfg0.N) (l : Fin 2) (u : Fin 1) (g : Fin 4) (d : Fin 64) (s : Fin 2048) (b : Fin 128) (hb : b.val = t.val) :
    (iblk m c 3 t : S2x1x4x64x2048.Idx → EReal) (ix5 l u g d s) = (V m c main_v3 : S2x128x4x64x2048.Idx → EReal) (ix5 l b g d s) := by
  show V m c main_v3 (((cfg0.win 3).rect t).emb (ix5 l u g d s)) = V m c main_v3 _
  refine congrArg (V m c main_v3) ?_
  funext a
  apply Fin.ext
  refine (Pipeline.Window.rect_emb_val _ _ _ _).trans ?_
  have e := index3 t
  have hu := u.isLt
  match a with
  | ⟨0, _⟩ => show cc0_transform_3 (grid0.coords t) 0 * 2 + l.val = l.val; rw [e]; show 0 * 2 + l.val = l.val; omega
  | ⟨1, _⟩ => show cc0_transform_3 (grid0.coords t) 1 * 1 + u.val = b.val; rw [e, hb]; show t.val * 1 + u.val = t.val; omega
  | ⟨2, _⟩ => show cc0_transform_3 (grid0.coords t) 2 * 4 + g.val = g.val; rw [e]; show 0 * 4 + g.val = g.val; omega
  | ⟨3, _⟩ => show cc0_transform_3 (grid0.coords t) 3 * 64 + d.val = d.val; rw [e]; show 0 * 64 + d.val = d.val; omega
  | ⟨4, _⟩ => show cc0_transform_3 (grid0.coords t) 4 * 2048 + s.val = s.val; rw [e]; show 0 * 2048 + s.val = s.val; omega

theorem index4 : ∀ t : Fin grid0.N, cc0_transform_4 (grid0.coords t) = ![0, t.val, 0, 0, 0] := by decide +kernel

theorem iblk4_apply (t : Fin cfg0.N) (l : Fin 2) (u : Fin 1) (g : Fin 4) (d : Fin 64) (s : Fin 128) (b : Fin 128) (hb : b.val = t.val) :
    (iblk m c 4 t : S2x1x4x64x128.Idx → EReal) (ix5 l u g d s) = (V m c main_v42 : S2x128x4x64x128.Idx → EReal) (ix5 l b g d s) := by
  show V m c main_v42 (((cfg0.win 4).rect t).emb (ix5 l u g d s)) = V m c main_v42 _
  refine congrArg (V m c main_v42) ?_
  funext a
  apply Fin.ext
  refine (Pipeline.Window.rect_emb_val _ _ _ _).trans ?_
  have e := index4 t
  have hu := u.isLt
  match a with
  | ⟨0, _⟩ => show cc0_transform_4 (grid0.coords t) 0 * 2 + l.val = l.val; rw [e]; show 0 * 2 + l.val = l.val; omega
  | ⟨1, _⟩ => show cc0_transform_4 (grid0.coords t) 1 * 1 + u.val = b.val; rw [e, hb]; show t.val * 1 + u.val = t.val; omega
  | ⟨2, _⟩ => show cc0_transform_4 (grid0.coords t) 2 * 4 + g.val = g.val; rw [e]; show 0 * 4 + g.val = g.val; omega
  | ⟨3, _⟩ => show cc0_transform_4 (grid0.coords t) 3 * 64 + d.val = d.val; rw [e]; show 0 * 64 + d.val = d.val; omega
  | ⟨4, _⟩ => show cc0_transform_4 (grid0.coords t) 4 * 128 + s.val = s.val; rw [e]; show 0 * 128 + s.val = s.val; omega

theorem index5 : ∀ t : Fin grid0.N, cc0_transform_5 (grid0.coords t) = ![0, t.val, 0, 0, 0] := by decide +kernel

theorem iblk5_apply (t : Fin cfg0.N) (l : Fin 2) (u : Fin 1) (g : Fin 4) (d : Fin 64) (s : Fin 128) (b : Fin 128) (hb : b.val = t.val) :
    (iblk m c 5 t : S2x1x4x64x128.Idx → EReal) (ix5 l u g d s) = (V m c main_v45 : S2x128x4x64x128.Idx → EReal) (ix5 l b g d s) := by
  show V m c main_v45 (((cfg0.win 5).rect t).emb (ix5 l u g d s)) = V m c main_v45 _
  refine congrArg (V m c main_v45) ?_
  funext a
  apply Fin.ext
  refine (Pipeline.Window.rect_emb_val _ _ _ _).trans ?_
  have e := index5 t
  have hu := u.isLt
  match a with
  | ⟨0, _⟩ => show cc0_transform_5 (grid0.coords t) 0 * 2 + l.val = l.val; rw [e]; show 0 * 2 + l.val = l.val; omega
  | ⟨1, _⟩ => show cc0_transform_5 (grid0.coords t) 1 * 1 + u.val = b.val; rw [e, hb]; show t.val * 1 + u.val = t.val; omega
  | ⟨2, _⟩ => show cc0_transform_5 (grid0.coords t) 2 * 4 + g.val = g.val; rw [e]; show 0 * 4 + g.val = g.val; omega
  | ⟨3, _⟩ => show cc0_transform_5 (grid0.coords t) 3 * 64 + d.val = d.val; rw [e]; show 0 * 64 + d.val = d.val; omega
  | ⟨4, _⟩ => show cc0_transform_5 (grid0.coords t) 4 * 128 + s.val = s.val; rw [e]; show 0 * 128 + s.val = s.val; omega

theorem index6 : ∀ t : Fin grid0.N, cc0_transform_6 (grid0.coords t) = ![0, t.val, 0, 0, 0] := by decide +kernel

theorem iblk6_apply (t : Fin cfg0.N) (l : Fin 2) (u : Fin 1) (g : Fin 2) (d : Fin 64) (s : Fin 128) (b : Fin 128) (hb : b.val = t.val) :
    (iblk m c 6 t : S2x1x2x64x128.Idx → EReal) (ix5 l u g d s) = (V m c main_v0 : S2x128x2x64x128.Idx → EReal) (ix5 l b g d s) := by
  show V m c main_v0 (((cfg0.win 6).rect t).emb (ix5 l u g d s)) = V m c main_v0 _
  refine congrArg (V m c main_v0) ?_
  funext a
  apply Fin.ext
  refine (Pipeline.Window.rect_emb_val _ _ _ _).trans ?_
  have e := index6 t
  have hu := u.isLt
  match a with
  | ⟨0, _⟩ => show cc0_transform_6 (grid0.coords t) 0 * 2 + l.val = l.val; rw [e]; show 0 * 2 + l.val = l.val; omega
  | ⟨1, _⟩ => show cc0_transform_6 (grid0.coords t) 1 * 1 + u.val = b.val; rw [e, hb]; show t.val * 1 + u.val = t.val; omega
  | ⟨2, _⟩ => show cc0_transform_6 (grid0.coords t) 2 * 2 + g.val = g.val; rw [e]; show 0 * 2 + g.val = g.val; omega
  | ⟨3, _⟩ => show cc0_transform_6 (grid0.coords t) 3 * 64 + d.val = d.val; rw [e]; show 0 * 64 + d.val = d.val; omega
  | ⟨4, _⟩ => show cc0_transform_6 (grid0.coords t) 4 * 128 + s.val = s.val; rw [e]; show 0 * 128 + s.val = s.val; omega

theorem index7 : ∀ t : Fin grid0.N, cc0_transform_7 (grid0.coords t) = ![0, t.val, 0, 0, 0] := by decide +kernel

theorem iblk7_apply (t : Fin cfg0.N) (l : Fin 2) (u : Fin 1) (g : Fin 2) (d : Fin 64) (s : Fin 128) (b : Fin 128) (hb : b.val = t.val) :
    (iblk m c 7 t : S2x1x2x64x128.Idx → EReal) (ix5 l u g d s) = (V m c main_v1 : S2x128x2x64x128.Idx → EReal) (ix5 l b g d s) := by
  show V m c main_v1 (((cfg0.win 7).rect t).emb (ix5 l u g d s)) = V m c main_v1 _
  refine congrArg (V m c main_v1) ?_
  funext a
  apply Fin.ext
  refine (Pipeline.Window.rect_emb_val _ _ _ _).trans ?_
  have e := index7 t
  have hu := u.isLt
  match a with
  | ⟨0, _⟩ => show cc0_transform_7 (grid0.coords t) 0 * 2 + l.val = l.val; rw [e]; show 0 * 2 + l.val = l.val; omega
  | ⟨1, _⟩ => show cc0_transform_7 (grid0.coords t) 1 * 1 + u.val = b.val; rw [e, hb]; show t.val * 1 + u.val = t.val; omega
  | ⟨2, _⟩ => show cc0_transform_7 (grid0.coords t) 2 * 2 + g.val = g.val; rw [e]; show 0 * 2 + g.val = g.val; omega
  | ⟨3, _⟩ => show cc0_transform_7 (grid0.coords t) 3 * 64 + d.val = d.val; rw [e]; show 0 * 64 + d.val = d.val; omega
  | ⟨4, _⟩ => show cc0_transform_7 (grid0.coords t) 4 * 128 + s.val = s.val; rw [e]; show 0 * 128 + s.val = s.val; omega

theorem index8 : ∀ t : Fin grid0.N, cc0_transform_8 (grid0.coords t) = ![0, t.val, 0, 0, 0] := by decide +kernel

theorem iblk8_apply (t : Fin cfg0.N) (l : Fin 2) (u : Fin 1) (g : Fin 2) (d : Fin 64) (s : Fin 128) (b : Fin 128) (hb : b.val = t.val) :
    (iblk m c 8 t : S2x1x2x64x128.Idx → EReal) (ix5 l u g d s) = (V m c main_v48 : S2x128x2x64x128.Idx → EReal) (ix5 l b g d s) := by
  show V m c main_v48 (((cfg0.win 8).rect t).emb (ix5 l u g d s)) = V m c main_v48 _
  refine congrArg (V m c main_v48) ?_
  funext a
  apply Fin.ext
  refine (Pipeline.Window.rect_emb_val _ _ _ _).trans ?_
  have e := index8 t
  have hu := u.isLt
  match a with
  | ⟨0, _⟩ => show cc0_transform_8 (grid0.coords t) 0 * 2 + l.val = l.val; rw [e]; show 0 * 2 + l.val = l.val; omega
  | ⟨1, _⟩ => show cc0_transform_8 (grid0.coords t) 1 * 1 + u.val = b.val; rw [e, hb]; show t.val * 1 + u.val = t.val; omega
  | ⟨2, _⟩ => show cc0_transform_8 (grid0.coords t) 2 * 2 + g.val = g.val; rw [e]; show 0 * 2 + g.val = g.val; omega
  | ⟨3, _⟩ => show cc0_transform_8 (grid0.coords t) 3 * 64 + d.val = d.val; rw [e]; show 0 * 64 + d.val = d.val; omega
  | ⟨4, _⟩ => show cc0_transform_8 (grid0.coords t) 4 * 128 + s.val = s.val; rw [e]; show 0 * 128 + s.val = s.val; omega

theorem index9 : ∀ t : Fin grid0.N, cc0_transform_9 (grid0.coords t) = ![0, t.val, 0, 0, 0] := by decide +kernel

theorem iblk9_apply (t : Fin cfg0.N) (l : Fin 2) (u : Fin 1) (g : Fin 2) (d : Fin 64) (s : Fin 128) (b : Fin 128) (hb : b.val = t.val) :
    (iblk m c 9 t : S2x1x2x64x128.Idx → EReal) (ix5 l u g d s) = (V m c main_v51 : S2x128x2x64x128.Idx → EReal) (ix5 l b g d s) := by
  show V m c main_v51 (((cfg0.win 9).rect t).emb (ix5 l u g d s)) = V m c main_v51 _
  refine congrArg (V m c main_v51) ?_
  funext a
  apply Fin.ext
  refine (Pipeline.Window.rect_emb_val _ _ _ _).trans ?_
  have e := index9 t
  have hu := u.isLt
  match a with
  | ⟨0, _⟩ => show cc0_transform_9 (grid0.coords t) 0 * 2 + l.val = l.val; rw [e]; show 0 * 2 + l.val = l.val; omega
  | ⟨1, _⟩ => show cc0_transform_9 (grid0.coords t) 1 * 1 + u.val = b.val; rw [e, hb]; show t.val * 1 + u.val = t.val; omega
  | ⟨2, _⟩ => show cc0_transform_9 (grid0.coords t) 2 * 2 + g.val = g.val; rw [e]; show 0 * 2 + g.val = g.val; omega
  | ⟨3, _⟩ => show cc0_transform_9 (grid0.coords t) 3 * 64 + d.val = d.val; rw [e]; show 0 * 64 + d.val = d.val; omega
  | ⟨4, _⟩ => show cc0_transform_9 (grid0.coords t) 4 * 128 + s.val = s.val; rw [e]; show 0 * 128 + s.val = s.val; omega

/-! ## The blocks of the rolled caches -/

theorem block_13 (t : Fin cfg0.N) (y : S2x1x4x64x2048.Idx) (l : Fin 2) (b : Fin 128) (g : Fin 4) (d : Fin 64) (s : Fin 2048)
    (hl : l.val = (y 0).val) (hb : b.val = t.val) (hg : g.val = (y 2).val) (hd : d.val = (y 3).val) (hs : s.val = (y 4).val) :
    rolledLong (F := Ideal) (iblk m c 2 t) (iblk m c 4 t) y = longAt (m ((c : Thread nD τ).loc main_arg2)) (m ((c : Thread nD τ).loc main_arg5)) (m ((c : Thread nD τ).loc main_arg7)) 256 (by omega) l b g d s := by
  have y1 : (y 1).val < 1 := (y 1).isLt
  have y4 : (y 4).val < 2048 := (y 4).isLt
  unfold longAt
  by_cases h : s.val < 2044
  · refine ((dif_pos (show (y 4).val < 2044 by omega)).trans ?_).trans (dif_pos h).symm
    have ex : (ix5 (⟨(y 0).val, (y 0).isLt⟩ : Fin 2) (⟨(y 1).val, (y 1).isLt⟩ : Fin 1) (⟨(y 2).val, (y 2).isLt⟩ : Fin 4) (⟨(y 3).val, (y 3).isLt⟩ : Fin 64) (⟨(y 4).val + 4, by omega⟩ : Fin 2048))
        = ix5 l (⟨(y 1).val, y1⟩ : Fin 1) g d (⟨s.val + 4, by omega⟩ : Fin 2048) := by
      funext a
      apply Fin.ext
      match a with
      | ⟨0, _⟩ => exact hl.symm
      | ⟨1, _⟩ => rfl
      | ⟨2, _⟩ => exact hg.symm
      | ⟨3, _⟩ => exact hd.symm
      | ⟨4, _⟩ => exact congrArg (· + 4) hs.symm
    exact (congrArg (iblk m c 2 t : S2x1x4x64x2048.Idx → EReal) ex).trans ((iblk2_apply m c t l _ g d _ b hb).trans (V_main_v2 m c l b g d _))
  · refine ((dif_neg (show ¬(y 4).val < 2044 by omega)).trans ?_).trans (dif_neg h).symm
    have ex : (ix5 (⟨(y 0).val, (y 0).isLt⟩ : Fin 2) (⟨(y 1).val, (y 1).isLt⟩ : Fin 1) (⟨(y 2).val, (y 2).isLt⟩ : Fin 4) (⟨(y 3).val, (y 3).isLt⟩ : Fin 64) (⟨(y 4).val - 1920, by omega⟩ : Fin 128))
        = ix5 l (⟨(y 1).val, y1⟩ : Fin 1) g d (⟨s.val - 1920, by omega⟩ : Fin 128) := by
      funext a
      apply Fin.ext
      match a with
      | ⟨0, _⟩ => exact hl.symm
      | ⟨1, _⟩ => rfl
      | ⟨2, _⟩ => exact hg.symm
      | ⟨3, _⟩ => exact hd.symm
      | ⟨4, _⟩ => show (y 4).val - 1920 = s.val - 1920; omega
    have e : (⟨s.val - 1920 - 124, by omega⟩ : Fin 4) = ⟨s.val - 2044, by omega⟩ := Fin.ext (by show s.val - 1920 - 124 = s.val - 2044; omega)
    refine (congrArg (iblk m c 4 t : S2x1x4x64x128.Idx → EReal) ex).trans ((iblk4_apply m c t l _ g d _ b hb).trans ((congrFun (V_main_v42 m c) _).trans ?_))
    refine (newLong_apply _ _ 256 (by omega) _ l b g d _ (show 124 ≤ s.val - 1920 by omega)).trans ?_
    exact congrArg (fun z : Fin 4 => if l.val = 0 then (m ((c : Thread nD τ).loc main_arg5) : S128x4x768.Idx → EReal) (ix3 b z (⟨256 + (64 * g.val + d.val), by omega⟩ : Fin 768))
      else (m ((c : Thread nD τ).loc main_arg7) : S128x4x768.Idx → EReal) (ix3 b z (⟨256 + (64 * g.val + d.val), by omega⟩ : Fin 768))) e

theorem block_14 (t : Fin cfg0.N) (y : S2x1x4x64x2048.Idx) (l : Fin 2) (b : Fin 128) (g : Fin 4) (d : Fin 64) (s : Fin 2048)
    (hl : l.val = (y 0).val) (hb : b.val = t.val) (hg : g.val = (y 2).val) (hd : d.val = (y 3).val) (hs : s.val = (y 4).val) :
    rolledLong (F := Ideal) (iblk m c 3 t) (iblk m c 5 t) y = longAt (m ((c : Thread nD τ).loc main_arg3)) (m ((c : Thread nD τ).loc main_arg5)) (m ((c : Thread nD τ).loc main_arg7)) 512 (by omega) l b g d s := by
  have y1 : (y 1).val < 1 := (y 1).isLt
  have y4 : (y 4).val < 2048 := (y 4).isLt
  unfold longAt
  by_cases h : s.val < 2044
  · refine ((dif_pos (show (y 4).val < 2044 by omega)).trans ?_).trans (dif_pos h).symm
    have ex : (ix5 (⟨(y 0).val, (y 0).isLt⟩ : Fin 2) (⟨(y 1).val, (y 1).isLt⟩ : Fin 1) (⟨(y 2).val, (y 2).isLt⟩ : Fin 4) (⟨(y 3).val, (y 3).isLt⟩ : Fin 64) (⟨(y 4).val + 4, by omega⟩ : Fin 2048))
        = ix5 l (⟨(y 1).val, y1⟩ : Fin 1) g d (⟨s.val + 4, by omega⟩ : Fin 2048) := by
      funext a
      apply Fin.ext
      match a with
      | ⟨0, _⟩ => exact hl.symm
      | ⟨1, _⟩ => rfl
      | ⟨2, _⟩ => exact hg.symm
      | ⟨3, _⟩ => exact hd.symm
      | ⟨4, _⟩ => exact congrArg (· + 4) hs.symm
    exact (congrArg (iblk m c 3 t : S2x1x4x64x2048.Idx → EReal) ex).trans ((iblk3_apply m c t l _ g d _ b hb).trans (V_main_v3 m c l b g d _))
  · refine ((dif_neg (show ¬(y 4).val < 2044 by omega)).trans ?_).trans (dif_neg h).symm
    have ex : (ix5 (⟨(y 0).val, (y 0).isLt⟩ : Fin 2) (⟨(y 1).val, (y 1).isLt⟩ : Fin 1) (⟨(y 2).val, (y 2).isLt⟩ : Fin 4) (⟨(y 3).val, (y 3).isLt⟩ : Fin 64) (⟨(y 4).val - 1920, by omega⟩ : Fin 128))
        = ix5 l (⟨(y 1).val, y1⟩ : Fin 1) g d (⟨s.val - 1920, by omega⟩ : Fin 128) := by
      funext a
      apply Fin.ext
      match a with
      | ⟨0, _⟩ => exact hl.symm
      | ⟨1, _⟩ => rfl
      | ⟨2, _⟩ => exact hg.symm
      | ⟨3, _⟩ => exact hd.symm
      | ⟨4, _⟩ => show (y 4).val - 1920 = s.val - 1920; omega
    have e : (⟨s.val - 1920 - 124, by omega⟩ : Fin 4) = ⟨s.val - 2044, by omega⟩ := Fin.ext (by show s.val - 1920 - 124 = s.val - 2044; omega)
    refine (congrArg (iblk m c 5 t : S2x1x4x64x128.Idx → EReal) ex).trans ((iblk5_apply m c t l _ g d _ b hb).trans ((congrFun (V_main_v45 m c) _).trans ?_))
    refine (newLong_apply _ _ 512 (by omega) _ l b g d _ (show 124 ≤ s.val - 1920 by omega)).trans ?_
    exact congrArg (fun z : Fin 4 => if l.val = 0 then (m ((c : Thread nD τ).loc main_arg5) : S128x4x768.Idx → EReal) (ix3 b z (⟨512 + (64 * g.val + d.val), by omega⟩ : Fin 768))
      else (m ((c : Thread nD τ).loc main_arg7) : S128x4x768.Idx → EReal) (ix3 b z (⟨512 + (64 * g.val + d.val), by omega⟩ : Fin 768))) e

theorem block_15 (t : Fin cfg0.N) (y : S2x1x2x64x128.Idx) (l : Fin 2) (b : Fin 128) (g : Fin 2) (d : Fin 64) (s : Fin 128)
    (hl : l.val = (y 0).val) (hb : b.val = t.val) (hg : g.val = (y 2).val) (hd : d.val = (y 3).val) (hs : s.val = (y 4).val) :
    rolledShort (F := Ideal) (iblk m c 6 t) (iblk m c 8 t) y = shortAt (m ((c : Thread nD τ).loc main_arg0)) (m ((c : Thread nD τ).loc main_arg4)) (m ((c : Thread nD τ).loc main_arg6)) 256 (by omega) l b g d s := by
  have y1 : (y 1).val < 1 := (y 1).isLt
  have y4 : (y 4).val < 128 := (y 4).isLt
  unfold shortAt
  by_cases h : s.val < 124
  · refine ((dif_pos (show (y 4).val < 124 by omega)).trans ?_).trans (dif_pos h).symm
    have ex : (ix5 (⟨(y 0).val, (y 0).isLt⟩ : Fin 2) (⟨(y 1).val, (y 1).isLt⟩ : Fin 1) (⟨(y 2).val, (y 2).isLt⟩ : Fin 2) (⟨(y 3).val, (y 3).isLt⟩ : Fin 64) (⟨(y 4).val + 4, by omega⟩ : Fin 128))
        = ix5 l (⟨(y 1).val, y1⟩ : Fin 1) g d (⟨s.val + 4, by omega⟩ : Fin 128) := by
      funext a
      apply Fin.ext
      match a with
      | ⟨0, _⟩ => exact hl.symm
      | ⟨1, _⟩ => rfl
      | ⟨2, _⟩ => exact hg.symm
      | ⟨3, _⟩ => exact hd.symm
      | ⟨4, _⟩ => exact congrArg (· + 4) hs.symm
    exact (congrArg (iblk m c 6 t : S2x1x2x64x128.Idx → EReal) ex).trans ((iblk6_apply m c t l _ g d _ b hb).trans (V_main_v0 m c l b g d _))
  · refine ((dif_neg (show ¬(y 4).val < 124 by omega)).trans ?_).trans (dif_neg h).symm
    have ex : (ix5 (⟨(y 0).val, (y 0).isLt⟩ : Fin 2) (⟨(y 1).val, (y 1).isLt⟩ : Fin 1) (⟨(y 2).val, (y 2).isLt⟩ : Fin 2) (⟨(y 3).val, (y 3).isLt⟩ : Fin 64) (⟨(y 4).val, by omega⟩ : Fin 128))
        = ix5 l (⟨(y 1).val, y1⟩ : Fin 1) g d (⟨s.val - 0, by omega⟩ : Fin 128) := by
      funext a
      apply Fin.ext
      match a with
      | ⟨0, _⟩ => exact hl.symm
      | ⟨1, _⟩ => rfl
      | ⟨2, _⟩ => exact hg.symm
      | ⟨3, _⟩ => exact hd.symm
      | ⟨4, _⟩ => show (y 4).val = s.val - 0; omega
    have e : (⟨s.val - 0 - 124, by omega⟩ : Fin 4) = ⟨s.val - 124, by omega⟩ := Fin.ext (by show s.val - 0 - 124 = s.val - 124; omega)
    refine (congrArg (iblk m c 8 t : S2x1x2x64x128.Idx → EReal) ex).trans ((iblk8_apply m c t l _ g d _ b hb).trans ((congrFun (V_main_v48 m c) _).trans ?_))
    refine (newShort_apply _ _ 256 (by omega) _ l b g d _ (show 124 ≤ s.val - 0 by omega)).trans ?_
    exact congrArg (fun z : Fin 4 => if l.val = 0 then (m ((c : Thread nD τ).loc main_arg4) : S128x4x512.Idx → EReal) (ix3 b z (⟨256 + (64 * g.val + d.val), by omega⟩ : Fin 512))
      else (m ((c : Thread nD τ).loc main_arg6) : S128x4x512.Idx → EReal) (ix3 b z (⟨256 + (64 * g.val + d.val), by omega⟩ : Fin 512))) e

theorem block_16 (t : Fin cfg0.N) (y : S2x1x2x64x128.Idx) (l : Fin 2) (b : Fin 128) (g : Fin 2) (d : Fin 64) (s : Fin 128)
    (hl : l.val = (y 0).val) (hb : b.val = t.val) (hg : g.val = (y 2).val) (hd : d.val = (y 3).val) (hs : s.val = (y 4).val) :
    rolledShort (F := Ideal) (iblk m c 7 t) (iblk m c 9 t) y = shortAt (m ((c : Thread nD τ).loc main_arg1)) (m ((c : Thread nD τ).loc main_arg4)) (m ((c : Thread nD τ).loc main_arg6)) 384 (by omega) l b g d s := by
  have y1 : (y 1).val < 1 := (y 1).isLt
  have y4 : (y 4).val < 128 := (y 4).isLt
  unfold shortAt
  by_cases h : s.val < 124
  · refine ((dif_pos (show (y 4).val < 124 by omega)).trans ?_).trans (dif_pos h).symm
    have ex : (ix5 (⟨(y 0).val, (y 0).isLt⟩ : Fin 2) (⟨(y 1).val, (y 1).isLt⟩ : Fin 1) (⟨(y 2).val, (y 2).isLt⟩ : Fin 2) (⟨(y 3).val, (y 3).isLt⟩ : Fin 64) (⟨(y 4).val + 4, by omega⟩ : Fin 128))
        = ix5 l (⟨(y 1).val, y1⟩ : Fin 1) g d (⟨s.val + 4, by omega⟩ : Fin 128) := by
      funext a
      apply Fin.ext
      match a with
      | ⟨0, _⟩ => exact hl.symm
      | ⟨1, _⟩ => rfl
      | ⟨2, _⟩ => exact hg.symm
      | ⟨3, _⟩ => exact hd.symm
      | ⟨4, _⟩ => exact congrArg (· + 4) hs.symm
    exact (congrArg (iblk m c 7 t : S2x1x2x64x128.Idx → EReal) ex).trans ((iblk7_apply m c t l _ g d _ b hb).trans (V_main_v1 m c l b g d _))
  · refine ((dif_neg (show ¬(y 4).val < 124 by omega)).trans ?_).trans (dif_neg h).symm
    have ex : (ix5 (⟨(y 0).val, (y 0).isLt⟩ : Fin 2) (⟨(y 1).val, (y 1).isLt⟩ : Fin 1) (⟨(y 2).val, (y 2).isLt⟩ : Fin 2) (⟨(y 3).val, (y 3).isLt⟩ : Fin 64) (⟨(y 4).val, by omega⟩ : Fin 128))
        = ix5 l (⟨(y 1).val, y1⟩ : Fin 1) g d (⟨s.val - 0, by omega⟩ : Fin 128) := by
      funext a
      apply Fin.ext
      match a with
      | ⟨0, _⟩ => exact hl.symm
      | ⟨1, _⟩ => rfl
      | ⟨2, _⟩ => exact hg.symm
      | ⟨3, _⟩ => exact hd.symm
      | ⟨4, _⟩ => show (y 4).val = s.val - 0; omega
    have e : (⟨s.val - 0 - 124, by omega⟩ : Fin 4) = ⟨s.val - 124, by omega⟩ := Fin.ext (by show s.val - 0 - 124 = s.val - 124; omega)
    refine (congrArg (iblk m c 9 t : S2x1x2x64x128.Idx → EReal) ex).trans ((iblk9_apply m c t l _ g d _ b hb).trans ((congrFun (V_main_v51 m c) _).trans ?_))
    refine (newShort_apply _ _ 384 (by omega) _ l b g d _ (show 124 ≤ s.val - 0 by omega)).trans ?_
    exact congrArg (fun z : Fin 4 => if l.val = 0 then (m ((c : Thread nD τ).loc main_arg4) : S128x4x512.Idx → EReal) (ix3 b z (⟨384 + (64 * g.val + d.val), by omega⟩ : Fin 512))
      else (m ((c : Thread nD τ).loc main_arg6) : S128x4x512.Idx → EReal) (ix3 b z (⟨384 + (64 * g.val + d.val), by omega⟩ : Fin 512))) e

/-! ## The arrays after the call -/

theorem index_13 : ∀ t : Fin cfg0.N, win0_13.index t = ![0, t.val, 0, 0, 0] := (by decide +kernel : ∀ t : Fin grid0.N, _)

theorem final_13 : (dats m 0 c).arrAt 13 cfg0.N = (fun i : S2x128x4x64x2048.Idx => longAt (m ((c : Thread nD τ).loc main_arg2)) (m ((c : Thread nD τ).loc main_arg5)) (m ((c : Thread nD τ).loc main_arg7)) 256 (by omega) (i 0) (i 1) (i 2) (i 3) (i 4)) := by
  refine (dats m 0 c).arrAt_eq_of_covers 13 _ (by decide +kernel) fun t hf y => ?_
  blk_simp
  rw [after0_13, outs_13]
  have y1 : (y 1).val < 1 := (y 1).isLt
  refine block_13 m c t y _ _ _ _ _ ?_ ?_ ?_ ?_ ?_
  · blk_simp [index_13]
  · blk_simp [index_13]
  · blk_simp [index_13]
  · blk_simp [index_13]
  · blk_simp [index_13]

theorem index_14 : ∀ t : Fin cfg0.N, win0_14.index t = ![0, t.val, 0, 0, 0] := (by decide +kernel : ∀ t : Fin grid0.N, _)

theorem final_14 : (dats m 0 c).arrAt 14 cfg0.N = (fun i : S2x128x4x64x2048.Idx => longAt (m ((c : Thread nD τ).loc main_arg3)) (m ((c : Thread nD τ).loc main_arg5)) (m ((c : Thread nD τ).loc main_arg7)) 512 (by omega) (i 0) (i 1) (i 2) (i 3) (i 4)) := by
  refine (dats m 0 c).arrAt_eq_of_covers 14 _ (by decide +kernel) fun t hf y => ?_
  blk_simp
  rw [after0_14, outs_14]
  have y1 : (y 1).val < 1 := (y 1).isLt
  refine block_14 m c t y _ _ _ _ _ ?_ ?_ ?_ ?_ ?_
  · blk_simp [index_14]
  · blk_simp [index_14]
  · blk_simp [index_14]
  · blk_simp [index_14]
  · blk_simp [index_14]

theorem index_15 : ∀ t : Fin cfg0.N, win0_15.index t = ![0, t.val, 0, 0, 0] := (by decide +kernel : ∀ t : Fin grid0.N, _)

theorem final_15 : (dats m 0 c).arrAt 15 cfg0.N = (fun i : S2x128x2x64x128.Idx => shortAt (m ((c : Thread nD τ).loc main_arg0)) (m ((c : Thread nD τ).loc main_arg4)) (m ((c : Thread nD τ).loc main_arg6)) 256 (by omega) (i 0) (i 1) (i 2) (i 3) (i 4)) := by
  refine (dats m 0 c).arrAt_eq_of_covers 15 _ (by decide +kernel) fun t hf y => ?_
  blk_simp
  rw [after0_15, outs_15]
  have y1 : (y 1).val < 1 := (y 1).isLt
  refine block_15 m c t y _ _ _ _ _ ?_ ?_ ?_ ?_ ?_
  · blk_simp [index_15]
  · blk_simp [index_15]
  · blk_simp [index_15]
  · blk_simp [index_15]
  · blk_simp [index_15]

theorem index_16 : ∀ t : Fin cfg0.N, win0_16.index t = ![0, t.val, 0, 0, 0] := (by decide +kernel : ∀ t : Fin grid0.N, _)

theorem final_16 : (dats m 0 c).arrAt 16 cfg0.N = (fun i : S2x128x2x64x128.Idx => shortAt (m ((c : Thread nD τ).loc main_arg1)) (m ((c : Thread nD τ).loc main_arg4)) (m ((c : Thread nD τ).loc main_arg6)) 384 (by omega) (i 0) (i 1) (i 2) (i 3) (i 4)) := by
  refine (dats m 0 c).arrAt_eq_of_covers 16 _ (by decide +kernel) fun t hf y => ?_
  blk_simp
  rw [after0_16, outs_16]
  have y1 : (y 1).val < 1 := (y 1).isLt
  refine block_16 m c t y _ _ _ _ _ ?_ ?_ ?_ ?_ ?_
  · blk_simp [index_16]
  · blk_simp [index_16]
  · blk_simp [index_16]
  · blk_simp [index_16]
  · blk_simp [index_16]

theorem kernel_run (ρ : Dev nD → PrngReg) :
    θ_run defs (onTc (τ := τ) (main (F := Ideal))) ⟨m, fun _ => 0, ρ⟩ fun r => ∀ c : Dev nD,
      r.2.mem ((c : Thread nD τ).loc main_v52_4) = (fun i : S2x128x2x64x128.Idx => shortAt (m ((c : Thread nD τ).loc main_arg0)) (m ((c : Thread nD τ).loc main_arg4)) (m ((c : Thread nD τ).loc main_arg6)) 256 (by omega) (i 0) (i 1) (i 2) (i 3) (i 4))
      ∧ r.2.mem ((c : Thread nD τ).loc main_v52_5) = (fun i : S2x128x2x64x128.Idx => shortAt (m ((c : Thread nD τ).loc main_arg1)) (m ((c : Thread nD τ).loc main_arg4)) (m ((c : Thread nD τ).loc main_arg6)) 384 (by omega) (i 0) (i 1) (i 2) (i 3) (i 4))
      ∧ r.2.mem ((c : Thread nD τ).loc main_v52_2) = (fun i : S2x128x4x64x2048.Idx => longAt (m ((c : Thread nD τ).loc main_arg2)) (m ((c : Thread nD τ).loc main_arg5)) (m ((c : Thread nD τ).loc main_arg7)) 256 (by omega) (i 0) (i 1) (i 2) (i 3) (i 4))
      ∧ r.2.mem ((c : Thread nD τ).loc main_v52_3) = (fun i : S2x128x4x64x2048.Idx => longAt (m ((c : Thread nD τ).loc main_arg3)) (m ((c : Thread nD τ).loc main_arg5)) (m ((c : Thread nD τ).loc main_arg7)) 512 (by omega) (i 0) (i 1) (i 2) (i 3) (i 4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).2.2.2.2.1.trans (final_15 m c), (h c).2.2.2.2.2.1.trans (final_16 m c), (h c).2.2.1.trans (final_13 m c), (h c).2.2.2.1.trans (final_14 m c), (h c).2.2.2.2.2.2⟩)
    (Value.run_blocks (F := Ideal) m ρ)

end Cert.Proof.SampleCaches
end
-- ==== Proof.SampleCachesFrame.lean ====
/- The frame of the sample's attention call at the machine's floats. The two printed programs are the same text; the comparison is
   long, because the body is. -/
module

public import proofs.«01_k».proof.Defs
public import proofs.«01_k».proof.Proof.Gen.SampleCaches
public import proofs.«01_k».proof.Proof.SampleCachesValue

@[expose] public section
noncomputable section
namespace Cert.Proof
open Idealize.ShloMosaic Idealize.ShloMosaic.TcCoe

instance : Cert.SampleCachesIdeal.Facts := Cert.SampleCachesIdeal.Gen.facts
instance : Cert.SampleCaches.Facts := Cert.SampleCaches.Gen.facts

set_option maxHeartbeats 0 in
theorem sample_caches_bodies_same : Cert.SampleCaches.defs₀ (F := Bits) = Cert.SampleCachesIdeal.defs₀ (F := Bits) := by
  unfold Cert.SampleCaches.defs₀ Cert.SampleCachesIdeal.defs₀
  refine congrArg Defs.onTc ?_
  funext b x
  match b, x with
  | 0, (t, s) => rfl

set_option maxHeartbeats 0 in
theorem sample_caches_defs_same : Cert.SampleCaches.defs (F := Bits) = Cert.SampleCachesIdeal.defs (F := Bits) :=
  congrArg (Pipeline.defs (Cert.SampleCachesIdeal.pcfgs (F := Bits))) sample_caches_bodies_same

set_option maxHeartbeats 0 in
/-- The frame of the sample's attention call: the run proved for every float type, at the machine's. -/
theorem frame_sample_caches : Cert.quiescent_SampleCaches := by
  intro m ρ _
  rw [sample_caches_defs_same]
  exact Cert.SampleCachesIdeal.Gen.frame (F := Bits) m ρ

end Cert.Proof
end
-- ==== Proof.SampleCachesRefValue.lean ====
/- The reference of the sample's caches, element by element. -/
module

public import proofs.«01_k».proof.Proof.SampleCachesSpec
public import proofs.«01_k».proof.Proof.Gen.SampleCachesReferenceIdeal.Run
public import Idealize.ShloMosaic.Lib.Pointwise.Reshape
public import Idealize.ShloMosaic.Lib.Pointwise.SelectCore
public import Idealize.ShloMosaic.Lib.Pointwise.ShapeOpsCore
public import Idealize.ShloMosaic.Lib.Pointwise.Tactic
public import Idealize.ShloMosaic.Lib.Quiescent

@[expose] public section
set_option maxRecDepth 16384
noncomputable section
namespace Cert.Proof.SampleCaches
open Cert.SampleCachesReferenceIdeal Cert.SampleCachesReferenceIdeal.Facts₀
open Idealize.ShloMosaic Idealize.ShloMosaic.TcCoe

/-- One layer's long cache in the reference: its rows and the new ones, the last 2048 of them. -/
def layerLong (C : FVec Ideal S2x128x2048x4x64 .f32) (l : ℕ) (hl : S2x128x2048x4x64.Slices ![l, 0, 0, 0, 0] S1x128x2048x4x64)
    (P : FVec Ideal S128x4x768 .f32) (o : ℕ) (hs : S128x4x768.Slices ![0, 0, o] S128x4x256) : FVec Ideal S128x2048x4x64 .f32 :=
  extractStridedSlice S128x2048x4x64 ![0, 4, 0, 0] (concatenate S128x2052x4x64 1
    [⟨S128x2048x4x64, shapeCast S128x2048x4x64 (extractStridedSlice S1x128x2048x4x64 ![l, 0, 0, 0, 0] C hl) shapeCasts_S1x128x2048x4x64_S128x2048x4x64⟩,
     ⟨S128x4x4x64, shapeCast S128x4x4x64 (extractStridedSlice S128x4x256 ![0, 0, o] P hs) shapeCasts_S128x4x256_S128x4x4x64⟩]
    concatenates_S128x2048x4x64_S128x4x4x64_S128x2052x4x64_d1) slices_S128x2052x4x64_S128x2048x4x64_0_4_0_0

/-- Both layers' long caches in the reference, rows last. -/
def refLong (C : FVec Ideal S2x128x2048x4x64 .f32) (P Q : FVec Ideal S128x4x768 .f32) (o : ℕ) (hs : S128x4x768.Slices ![0, 0, o] S128x4x256) : FVec Ideal S2x128x4x64x2048 .f32 :=
  transpose S2x128x4x64x2048 [0, 1, 3, 4, 2] (concatenate S2x128x2048x4x64 0
    [⟨S1x128x2048x4x64, broadcastInDim S1x128x2048x4x64 ![1, 2, 3, 4] bcast_S128x2048x4x64_S1x128x2048x4x64_1_2_3_4 (layerLong C 0 slices_S2x128x2048x4x64_S1x128x2048x4x64_0_0_0_0_0 P o hs)⟩,
     ⟨S1x128x2048x4x64, broadcastInDim S1x128x2048x4x64 ![1, 2, 3, 4] bcast_S128x2048x4x64_S1x128x2048x4x64_1_2_3_4 (layerLong C 1 slices_S2x128x2048x4x64_S1x128x2048x4x64_1_0_0_0_0 Q o hs)⟩]
    concatenates_S1x128x2048x4x64_S1x128x2048x4x64_S2x128x2048x4x64_d0) transposes_S2x128x2048x4x64_S2x128x4x64x2048_0_1_3_4_2

/-- One layer's window's cache in the reference: its rows and the new ones, the last 128 of them. -/
def layerShort (C : FVec Ideal S2x128x128x2x64 .f32) (l : ℕ) (hl : S2x128x128x2x64.Slices ![l, 0, 0, 0, 0] S1x128x128x2x64)
    (P : FVec Ideal S128x4x512 .f32) (o : ℕ) (hs : S128x4x512.Slices ![0, 0, o] S128x4x128) : FVec Ideal S128x128x2x64 .f32 :=
  extractStridedSlice S128x128x2x64 ![0, 4, 0, 0] (concatenate S128x132x2x64 1
    [⟨S128x128x2x64, shapeCast S128x128x2x64 (extractStridedSlice S1x128x128x2x64 ![l, 0, 0, 0, 0] C hl) shapeCasts_S1x128x128x2x64_S128x128x2x64⟩,
     ⟨S128x4x2x64, shapeCast S128x4x2x64 (extractStridedSlice S128x4x128 ![0, 0, o] P hs) shapeCasts_S128x4x128_S128x4x2x64⟩]
    concatenates_S128x128x2x64_S128x4x2x64_S128x132x2x64_d1) slices_S128x132x2x64_S128x128x2x64_0_4_0_0

/-- Both layers' window's caches in the reference, rows last. -/
def refShort (C : FVec Ideal S2x128x128x2x64 .f32) (P Q : FVec Ideal S128x4x512 .f32) (o : ℕ) (hs : S128x4x512.Slices ![0, 0, o] S128x4x128) : FVec Ideal S2x128x2x64x128 .f32 :=
  transpose S2x128x2x64x128 [0, 1, 3, 4, 2] (concatenate S2x128x128x2x64 0
    [⟨S1x128x128x2x64, broadcastInDim S1x128x128x2x64 ![1, 2, 3, 4] bcast_S128x128x2x64_S1x128x128x2x64_1_2_3_4 (layerShort C 0 slices_S2x128x128x2x64_S1x128x128x2x64_0_0_0_0_0 P o hs)⟩,
     ⟨S1x128x128x2x64, broadcastInDim S1x128x128x2x64 ![1, 2, 3, 4] bcast_S128x128x2x64_S1x128x128x2x64_1_2_3_4 (layerShort C 1 slices_S2x128x128x2x64_S1x128x128x2x64_1_0_0_0_0 Q o hs)⟩]
    concatenates_S1x128x128x2x64_S1x128x128x2x64_S2x128x128x2x64_d0) transposes_S2x128x128x2x64_S2x128x2x64x128_0_1_3_4_2

theorem layerLong_apply (C : FVec Ideal S2x128x2048x4x64 .f32) (l : Fin 2) (l' : ℕ) (hl' : l' = l.val) (hl) (P : FVec Ideal S128x4x768 .f32) (o : ℕ) (ho : o + 256 ≤ 768) (hs) (b : Fin 128) (s : Fin 2048) (g : Fin 4) (d : Fin 64) :
    layerLong C l' hl P o hs (ix4 b s g d) = if h : s.val < 2044 then C (ix5 l b (⟨s.val + 4, by omega⟩ : Fin 2048) g d)
      else P (ix3 b (⟨s.val - 2044, by omega⟩ : Fin 4) (⟨o + (64 * g.val + d.val), by omega⟩ : Fin 768)) := by
  subst hl'
  unfold layerLong
  simp only [pointwise]
  by_cases h : s.val < 2044
  · have e5 : ∀ (z0 : Fin 2) (z1 : Fin 128) (z2 : Fin 2048) (z3 : Fin 4) (z4 : Fin 64), z0.val = l.val → z1.val = b.val → z2.val = s.val + 4 → z3.val = g.val → z4.val = d.val →
        C (ix5 z0 z1 z2 z3 z4) = C (ix5 l b (⟨s.val + 4, by omega⟩ : Fin 2048) g d) := by
      intro z0 z1 z2 z3 z4 h0 h1 h2 h3 h4
      rw [Fin.ext h0, Fin.ext h1, show z2 = ⟨s.val + 4, by omega⟩ from Fin.ext h2, Fin.ext h3, Fin.ext h4]
    refine ((dif_pos (show 4 + s.val < 2048 by omega)).trans (e5 _ _ _ _ _ ?_ ?_ ?_ ?_ ?_)).trans (dif_pos h).symm
    · show l.val + 0 = l.val
      omega
    · show 0 + (0 + b.val) = b.val
      omega
    · show 0 + (4 + s.val) = s.val + 4
      omega
    · show 0 + (0 + g.val) = g.val
      omega
    · show 0 + (0 + d.val) = d.val
      omega
  · have e3 : ∀ (z0 : Fin 128) (z1 : Fin 4) (z2 : Fin 768), z0.val = b.val → z1.val = s.val - 2044 → z2.val = o + (64 * g.val + d.val) →
        P (ix3 z0 z1 z2) = P (ix3 b (⟨s.val - 2044, by omega⟩ : Fin 4) (⟨o + (64 * g.val + d.val), by omega⟩ : Fin 768)) := by
      intro z0 z1 z2 h0 h1 h2
      rw [Fin.ext h0, show z1 = ⟨s.val - 2044, by omega⟩ from Fin.ext h1, show z2 = ⟨o + (64 * g.val + d.val), by omega⟩ from Fin.ext h2]
    refine ((dif_neg (show ¬4 + s.val < 2048 by omega)).trans (e3 _ _ _ ?_ ?_ ?_)).trans (dif_neg h).symm
    · show 0 + (0 + b.val) = b.val
      omega
    · show 0 + (4 + s.val - 2048) = s.val - 2044
      omega
    · show o + ((0 + g.val) * 64 + (0 + d.val)) = o + (64 * g.val + d.val)
      omega

theorem refLong_apply (C : FVec Ideal S2x128x2048x4x64 .f32) (P Q : FVec Ideal S128x4x768 .f32) (o : ℕ) (ho : o + 256 ≤ 768) (hs) (l : Fin 2) (b : Fin 128) (g : Fin 4) (d : Fin 64) (s : Fin 2048) :
    refLong C P Q o hs (ix5 l b g d s) = longAt C P Q o ho l b g d s := by
  unfold refLong
  simp only [pointwise]
  unfold longAt
  by_cases hl : l.val = 0
  · refine (dif_pos (show l.val < 1 by omega)).trans ((layerLong_apply C l 0 hl.symm _ P o ho hs b s g d).trans ?_)
    simp only [if_pos hl]
  · refine (dif_neg (show ¬l.val < 1 by omega)).trans ((layerLong_apply C l 1 (by omega) _ Q o ho hs b s g d).trans ?_)
    simp only [if_neg hl]

theorem layerShort_apply (C : FVec Ideal S2x128x128x2x64 .f32) (l : Fin 2) (l' : ℕ) (hl' : l' = l.val) (hl) (P : FVec Ideal S128x4x512 .f32) (o : ℕ) (ho : o + 128 ≤ 512) (hs) (b : Fin 128) (s : Fin 128) (g : Fin 2) (d : Fin 64) :
    layerShort C l' hl P o hs (ix4 b s g d) = if h : s.val < 124 then C (ix5 l b (⟨s.val + 4, by omega⟩ : Fin 128) g d)
      else P (ix3 b (⟨s.val - 124, by omega⟩ : Fin 4) (⟨o + (64 * g.val + d.val), by omega⟩ : Fin 512)) := by
  subst hl'
  unfold layerShort
  simp only [pointwise]
  by_cases h : s.val < 124
  · have e5 : ∀ (z0 : Fin 2) (z1 : Fin 128) (z2 : Fin 128) (z3 : Fin 2) (z4 : Fin 64), z0.val = l.val → z1.val = b.val → z2.val = s.val + 4 → z3.val = g.val → z4.val = d.val →
        C (ix5 z0 z1 z2 z3 z4) = C (ix5 l b (⟨s.val + 4, by omega⟩ : Fin 128) g d) := by
      intro z0 z1 z2 z3 z4 h0 h1 h2 h3 h4
      rw [Fin.ext h0, Fin.ext h1, show z2 = ⟨s.val + 4, by omega⟩ from Fin.ext h2, Fin.ext h3, Fin.ext h4]
    refine ((dif_pos (show 4 + s.val < 128 by omega)).trans (e5 _ _ _ _ _ ?_ ?_ ?_ ?_ ?_)).trans (dif_pos h).symm
    · show l.val + 0 = l.val
      omega
    · show 0 + (0 + b.val) = b.val
      omega
    · show 0 + (4 + s.val) = s.val + 4
      omega
    · show 0 + (0 + g.val) = g.val
      omega
    · show 0 + (0 + d.val) = d.val
      omega
  · have e3 : ∀ (z0 : Fin 128) (z1 : Fin 4) (z2 : Fin 512), z0.val = b.val → z1.val = s.val - 124 → z2.val = o + (64 * g.val + d.val) →
        P (ix3 z0 z1 z2) = P (ix3 b (⟨s.val - 124, by omega⟩ : Fin 4) (⟨o + (64 * g.val + d.val), by omega⟩ : Fin 512)) := by
      intro z0 z1 z2 h0 h1 h2
      rw [Fin.ext h0, show z1 = ⟨s.val - 124, by omega⟩ from Fin.ext h1, show z2 = ⟨o + (64 * g.val + d.val), by omega⟩ from Fin.ext h2]
    refine ((dif_neg (show ¬4 + s.val < 128 by omega)).trans (e3 _ _ _ ?_ ?_ ?_)).trans (dif_neg h).symm
    · show 0 + (0 + b.val) = b.val
      omega
    · show 0 + (4 + s.val - 128) = s.val - 124
      omega
    · show o + ((0 + g.val) * 64 + (0 + d.val)) = o + (64 * g.val + d.val)
      omega

theorem refShort_apply (C : FVec Ideal S2x128x128x2x64 .f32) (P Q : FVec Ideal S128x4x512 .f32) (o : ℕ) (ho : o + 128 ≤ 512) (hs) (l : Fin 2) (b : Fin 128) (g : Fin 2) (d : Fin 64) (s : Fin 128) :
    refShort C P Q o hs (ix5 l b g d s) = shortAt C P Q o ho l b g d s := by
  unfold refShort
  simp only [pointwise]
  unfold shortAt
  by_cases hl : l.val = 0
  · refine (dif_pos (show l.val < 1 by omega)).trans ((layerShort_apply C l 0 hl.symm _ P o ho hs b s g d).trans ?_)
    simp only [if_pos hl]
  · refine (dif_neg (show ¬l.val < 1 by omega)).trans ((layerShort_apply C l 1 (by omega) _ Q o ho hs b s g d).trans ?_)
    simp only [if_neg hl]

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v15) = (fun i : S2x128x2x64x128.Idx => shortAt (m ((c : Thread nD τ).loc main_arg0)) (m ((c : Thread nD τ).loc main_arg4)) (m ((c : Thread nD τ).loc main_arg6)) 256 (by omega) (i 0) (i 1) (i 2) (i 3) (i 4))
      ∧ r.2.mem ((c : Thread nD τ).loc main_v31) = (fun i : S2x128x2x64x128.Idx => shortAt (m ((c : Thread nD τ).loc main_arg1)) (m ((c : Thread nD τ).loc main_arg4)) (m ((c : Thread nD τ).loc main_arg6)) 384 (by omega) (i 0) (i 1) (i 2) (i 3) (i 4))
      ∧ r.2.mem ((c : Thread nD τ).loc main_v47) = (fun i : S2x128x4x64x2048.Idx => longAt (m ((c : Thread nD τ).loc main_arg2)) (m ((c : Thread nD τ).loc main_arg5)) (m ((c : Thread nD τ).loc main_arg7)) 256 (by omega) (i 0) (i 1) (i 2) (i 3) (i 4))
      ∧ r.2.mem ((c : Thread nD τ).loc main_v63) = (fun i : S2x128x4x64x2048.Idx => longAt (m ((c : Thread nD τ).loc main_arg3)) (m ((c : Thread nD τ).loc main_arg5)) (m ((c : Thread nD τ).loc main_arg7)) 512 (by omega) (i 0) (i 1) (i 2) (i 3) (i 4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  refine (θ_run defs _ _).mono (fun r h c => ⟨(h c).1.trans ?_, (h c).2.1.trans ?_, (h c).2.2.1.trans ?_, (h c).2.2.2.1.trans ?_, (h c).2.2.2.2⟩) (Value.run (F := Ideal) m ρ)
  · show refShort (m ((c : Thread nD τ).loc main_arg0)) (m ((c : Thread nD τ).loc main_arg4)) (m ((c : Thread nD τ).loc main_arg6)) 256 slices_S128x4x512_S128x4x128_0_0_256 = _
    funext (i : S2x128x2x64x128.Idx)
    have ei : (ix5 (i 0) (i 1) (i 2) (i 3) (i 4) : S2x128x2x64x128.Idx) = i := by
      funext a
      match a with
      | ⟨0, _⟩ => rfl
      | ⟨1, _⟩ => rfl
      | ⟨2, _⟩ => rfl
      | ⟨3, _⟩ => rfl
      | ⟨4, _⟩ => rfl
    exact (congrArg _ ei.symm).trans (refShort_apply _ _ _ _ (by omega) _ (i 0) (i 1) (i 2) (i 3) (i 4))
  · show refShort (m ((c : Thread nD τ).loc main_arg1)) (m ((c : Thread nD τ).loc main_arg4)) (m ((c : Thread nD τ).loc main_arg6)) 384 slices_S128x4x512_S128x4x128_0_0_384 = _
    funext (i : S2x128x2x64x128.Idx)
    have ei : (ix5 (i 0) (i 1) (i 2) (i 3) (i 4) : S2x128x2x64x128.Idx) = i := by
      funext a
      match a with
      | ⟨0, _⟩ => rfl
      | ⟨1, _⟩ => rfl
      | ⟨2, _⟩ => rfl
      | ⟨3, _⟩ => rfl
      | ⟨4, _⟩ => rfl
    exact (congrArg _ ei.symm).trans (refShort_apply _ _ _ _ (by omega) _ (i 0) (i 1) (i 2) (i 3) (i 4))
  · show refLong (m ((c : Thread nD τ).loc main_arg2)) (m ((c : Thread nD τ).loc main_arg5)) (m ((c : Thread nD τ).loc main_arg7)) 256 slices_S128x4x768_S128x4x256_0_0_256 = _
    funext (i : S2x128x4x64x2048.Idx)
    have ei : (ix5 (i 0) (i 1) (i 2) (i 3) (i 4) : S2x128x4x64x2048.Idx) = i := by
      funext a
      match a with
      | ⟨0, _⟩ => rfl
      | ⟨1, _⟩ => rfl
      | ⟨2, _⟩ => rfl
      | ⟨3, _⟩ => rfl
      | ⟨4, _⟩ => rfl
    exact (congrArg _ ei.symm).trans (refLong_apply _ _ _ _ (by omega) _ (i 0) (i 1) (i 2) (i 3) (i 4))
  · show refLong (m ((c : Thread nD τ).loc main_arg3)) (m ((c : Thread nD τ).loc main_arg5)) (m ((c : Thread nD τ).loc main_arg7)) 512 slices_S128x4x768_S128x4x256_0_0_512 = _
    funext (i : S2x128x4x64x2048.Idx)
    have ei : (ix5 (i 0) (i 1) (i 2) (i 3) (i 4) : S2x128x4x64x2048.Idx) = i := by
      funext a
      match a with
      | ⟨0, _⟩ => rfl
      | ⟨1, _⟩ => rfl
      | ⟨2, _⟩ => rfl
      | ⟨3, _⟩ => rfl
      | ⟨4, _⟩ => rfl
    exact (congrArg _ ei.symm).trans (refLong_apply _ _ _ _ (by omega) _ (i 0) (i 1) (i 2) (i 3) (i 4))

/-- The reference's frame: a straight-line program that declares no semaphore. -/
theorem ref_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) ∧ r.2.sem = fun _ => 0 :=
  (θ_run defs _ _).mono (fun r h => ⟨fun c => (h c).2.2.2.2, sem_eq_zero_of_no_sems (by decide) r.2⟩) (Value.run (F := Ideal) m ρ)

end Cert.Proof.SampleCaches
end
-- ==== Proof.SampleInProjectionSpec.lean ====
/- What the sample's input projection computes, element by element, over the extended reals. -/
module

public import Idealize.ShloMosaic.Lib.Pointwise.Tactic
public import Idealize.ShloMosaic.Lib.ValueIdxCore
public import Idealize.ShloMosaic.PureOps

@[expose] public section
noncomputable section
namespace Cert.Proof.SampleInProjection
open Idealize.ShloMosaic

/-- Entry `k` of a row normalised along its 1024 entries, times the gain. -/
def normed (x g : Fin 1024 → EReal) (k : Fin 1024) : EReal :=
  x k * Ideal.rsqrt (Ideal.div (∑ l : Fin 1024, x l * x l) (Ideal.ofBits .f32 1149239296#32) + Ideal.ofBits .f32 897988541#32) * g k

/-- Column `j` of the projection of row `n`, normalised. -/
def projAt (x : (⟨2, ![512, 1024]⟩ : Shape).Idx → EReal) (g : (⟨1, ![1024]⟩ : Shape).Idx → EReal)
    (W : (⟨2, ![1024, 3336]⟩ : Shape).Idx → EReal) (n : Fin 512) (j : Fin 3336) : EReal :=
  ∑ k : Fin 1024, normed (fun l => x (ix2 n l)) (fun l => g (ix1 l)) k * W (ix2 k j)

section Results
variable (x : (⟨2, ![512, 1024]⟩ : Shape).Idx → EReal) (g : (⟨1, ![1024]⟩ : Shape).Idx → EReal) (W : (⟨2, ![1024, 3336]⟩ : Shape).Idx → EReal)

/-- Columns 0 to 1023. -/
def resultA (n : Fin 512) (q : Fin 1024) : EReal := projAt x g W n ⟨q.val, by omega⟩
/-- Columns 1032 to 1543. -/
def resultB (n : Fin 512) (q : Fin 512) : EReal := projAt x g W n ⟨1032 + q.val, by omega⟩
/-- Columns 1544 to 2567. -/
def resultC (n : Fin 512) (q : Fin 1024) : EReal := projAt x g W n ⟨1544 + q.val, by omega⟩
/-- Columns 2568 to 3335. -/
def resultD (n : Fin 512) (q : Fin 768) : EReal := projAt x g W n ⟨2568 + q.val, by omega⟩
/-- Columns 1024 to 1031, then zeros. -/
def resultBA (n : Fin 512) (q : Fin 128) : EReal := if h : q.val < 8 then projAt x g W n ⟨1024 + q.val, by omega⟩ else 0
end Results

end Cert.Proof.SampleInProjection
end
-- ==== Proof.SampleInProjectionValue.lean ====
/- The sample's input projection's result arrays, element by element. -/
module

public import proofs.«01_k».proof.Proof.Gen.SampleInProjectionIdeal.Value
public import proofs.«01_k».proof.Proof.SampleInProjectionSpec
public import Idealize.ShloMosaic.Lib.Pipeline.ValueKit.Geometry
public import Idealize.ShloMosaic.Lib.Pipeline.ValueKit.Tiles
public import Idealize.ShloMosaic.Lib.Pointwise.Reshape
public import Idealize.ShloMosaic.Lib.Pointwise.Reduce
public import Idealize.ShloMosaic.Lib.Pointwise.Contract
public import Idealize.ShloMosaic.Lib.Pointwise.SelectCore
public import Idealize.ShloMosaic.Lib.Pointwise.ShapeOpsCore
public import Idealize.ShloMosaic.Lib.Pointwise.Tactic
public import Idealize.ShloMosaic.Lib.KernelVsHost

@[expose] public section
set_option maxRecDepth 16384
noncomputable section
namespace Cert.Proof.SampleInProjection
open Cert.SampleInProjectionIdeal Cert.SampleInProjectionIdeal.Gen
open Idealize.ShloMosaic Idealize.ShloMosaic.TcCoe

theorem hz : (![0, 0] : Fin 2 → Nat) = fun _ => 0 := funext fun a => by fin_cases a <;> rfl

/-! ## The stored terms at an index -/

theorem pay2_apply (x : FVec Ideal S256x1024 .f32) (g : FVec Ideal S1x1024 .f32) (r : Fin 256) (k : Fin 1024) :
    k0_pay2 (F := Ideal) x g (ix2 r k) = normed (fun l => x (ix2 r l)) (fun l => g (ix2 (0 : Fin 1) l)) k := by
  have hs : multiReduction (F := Ideal) .add [1] S256 (mulf x x) 0x00000000#32 reduces_S256x1024_S256 (.inl rfl) rfl (ix1 r)
      = ∑ l : Fin 1024, x (ix2 r l) * x (ix2 r l) := by
    refine (multiReduction_add_apply _ _ _ _ _ _).trans ?_
    simp only [pointwise]
  unfold normed k0_pay2
  simp only [pointwise]
  rw [← hs]
  rfl

theorem pay3_apply (x : FVec Ideal S256x1024 .f32) (g : FVec Ideal S1x1024 .f32) (w : FVec Ideal S1024x1024 .bf16) (r : Fin 256) (q : Fin 1024) :
    k0_pay3 (F := Ideal) x g w (ix2 r q) = ∑ k : Fin 1024, k0_pay2 (F := Ideal) x g (ix2 r k) * w (ix2 k q) := by
  unfold k0_pay3
  simp only [pointwise, zero_add]

theorem pay4_apply (x : FVec Ideal S256x1024 .f32) (g : FVec Ideal S1x1024 .f32) (w : FVec Ideal S1024x512 .bf16) (r : Fin 256) (q : Fin 512) :
    k0_pay4 (F := Ideal) x g w (ix2 r q) = ∑ k : Fin 1024, k0_pay2 (F := Ideal) x g (ix2 r k) * w (ix2 k q) := by
  unfold k0_pay4
  simp only [pointwise, zero_add]

theorem pay5_apply (x : FVec Ideal S256x1024 .f32) (g : FVec Ideal S1x1024 .f32) (w : FVec Ideal S1024x1024 .bf16) (r : Fin 256) (q : Fin 1024) :
    k0_pay5 (F := Ideal) x g w (ix2 r q) = ∑ k : Fin 1024, k0_pay2 (F := Ideal) x g (ix2 r k) * w (ix2 k q) := by
  unfold k0_pay5
  simp only [pointwise, zero_add]

theorem pay6_apply (x : FVec Ideal S256x1024 .f32) (g : FVec Ideal S1x1024 .f32) (w : FVec Ideal S1024x768 .bf16) (r : Fin 256) (q : Fin 768) :
    k0_pay6 (F := Ideal) x g w (ix2 r q) = ∑ k : Fin 1024, k0_pay2 (F := Ideal) x g (ix2 r k) * w (ix2 k q) := by
  unfold k0_pay6
  simp only [pointwise, zero_add]

theorem pay1_apply (h : FVec Ideal S256x1024 .bf16) (w : FVec Ideal S1024x128 .bf16) (r : Fin 256) (q : Fin 128) :
    k0_pay1 (F := Ideal) h w (ix2 r q) = ∑ k : Fin 1024, h (ix2 r k) * w (ix2 k q) := by
  unfold k0_pay1
  simp only [pointwise, zero_add]

/-! ## The weights with their columns moved -/

/-- The weights as the host arranges them. -/
def arranged (W : FVec Ideal S1024x3336 .f32) : FVec Ideal S1024x3456 .f32 :=
  concatenate S1024x3456 1 [⟨S1024x1024, extractStridedSlice S1024x1024 ![0, 0] W slices_S1024x3336_S1024x1024_0_0⟩,
    ⟨S1024x2304, extractStridedSlice S1024x2304 ![0, 1032] W slices_S1024x3336_S1024x2304_0_1032⟩,
    ⟨S1024x128, pad S1024x128 ![0, 0] ![0, 120] ![0, 0] (extractStridedSlice S1024x8 ![0, 1024] W slices_S1024x3336_S1024x8_0_1024) (sitofp .f32 (constantI S_ 32 0#32)) pads_S1024x8_S1024x128_000_01200 h_S_⟩]
    concatenates_S1024x1024_S1024x2304_S1024x128_S1024x3456_d1

theorem sitofp_zero : (FloatOps.sitofp (F := Ideal) FTy.f32 (0#32) : EReal) = 0 := by
  show ((((0#32 : BitVec 32).toInt : ℤ) : ℝ) : EReal) = 0
  norm_num

/-- Column `z` of the arranged weights is column `j` of the weights. -/
theorem arranged_at (W : FVec Ideal S1024x3336 .f32) (k : Fin 1024) (z : Fin 3456) (j : Fin 3336)
    (hj : (z.val < 1024 ∧ j.val = z.val) ∨ (1024 ≤ z.val ∧ z.val < 3328 ∧ j.val = z.val + 8) ∨ (3328 ≤ z.val ∧ z.val < 3336 ∧ j.val = z.val - 2304)) :
    arranged W (ix2 k z) = W (ix2 k j) := by
  have e2 : ∀ (a : Fin 1024) (d : Fin 3336), a.val = k.val → d.val = j.val → W (ix2 a d) = W (ix2 k j) := by
    intro a d h1 h2
    rw [Fin.ext h1, Fin.ext h2]
  unfold arranged
  simp only [pointwise]
  rcases hj with ⟨h, e⟩ | ⟨h, h', e⟩ | ⟨h, h', e⟩
  · refine (dif_pos (show z.val < 1024 from h)).trans (e2 _ _ ?_ ?_)
    · show 0 + k.val = k.val
      omega
    · show 0 + z.val = j.val
      omega
  · refine (dif_neg (show ¬z.val < 1024 by omega)).trans ((dif_pos (show z.val - 1024 < 2304 by omega)).trans (e2 _ _ ?_ ?_))
    · show 0 + k.val = k.val
      omega
    · show 1032 + (z.val - 1024) = j.val
      omega
  · refine (dif_neg (show ¬z.val < 1024 by omega)).trans ((dif_neg (show ¬z.val - 1024 < 2304 by omega)).trans ((dif_pos fun a => ?_).trans (e2 _ _ ?_ ?_)))
    · match a with
      | ⟨0, _⟩ => show 0 ≤ k.val ∧ (k.val - 0) % 1 = 0 ∧ (k.val - 0) / 1 < 1024; omega
      | ⟨1, _⟩ => show 0 ≤ z.val - 1024 - 2304 ∧ (z.val - 1024 - 2304 - 0) % 1 = 0 ∧ (z.val - 1024 - 2304 - 0) / 1 < 8; omega
    · show 0 + (k.val - 0) / 1 = k.val
      omega
    · show 1024 + (z.val - 1024 - 2304 - 0) / 1 = j.val
      omega

/-- The last 120 columns of the arranged weights are zeros. -/
theorem arranged_zero (W : FVec Ideal S1024x3336 .f32) (k : Fin 1024) (z : Fin 3456) (hz : 3336 ≤ z.val) : arranged W (ix2 k z) = (0 : EReal) := by
  unfold arranged
  simp only [pointwise]
  refine (dif_neg (show ¬z.val < 1024 by omega)).trans ((dif_neg (show ¬z.val - 1024 < 2304 by omega)).trans ((dif_neg fun h => ?_).trans sitofp_zero))
  · have h1 : 0 ≤ z.val - 1024 - 2304 ∧ (z.val - 1024 - 2304 - 0) % 1 = 0 ∧ (z.val - 1024 - 2304 - 0) / 1 < 8 := h 1
    omega

variable (m : (ℓ : Loc nD τ sig) → Buf (Elt Ideal) ℓ) (c : Dev nD)

/-! ## The arrays the host prepared -/

theorem V_main_v0 (q : Fin 1024) : (V m c main_v0 : S1x1024.Idx → EReal) (ix2 (0 : Fin 1) q) = (m ((c : Thread nD τ).loc main_arg1) : S1024.Idx → EReal) (ix1 q) := by
  have e : (V m c main_v0 : S1x1024.Idx → EReal) = shapeCast S1x1024 (m ((c : Thread nD τ).loc main_arg1) : S1024.Idx → EReal) shapeCasts_S1024_S1x1024 := by
    unfold V
    simp only [hostOps0, hostOps0_1, hostOps0_2, List.flatten_cons, List.flatten_nil, List.append_nil, List.cons_append, List.nil_append]
    after_results_simp <;> rfl
  rw [e]
  simp only [pointwise]

theorem V_main_v6 : (V m c main_v6 : S1024x3456.Idx → EReal) = arranged (m ((c : Thread nD τ).loc main_arg2)) := by
  unfold V
  simp only [hostOps0, hostOps0_1, hostOps0_2, List.flatten_cons, List.flatten_nil, List.append_nil, List.cons_append, List.nil_append]
  after_results_simp <;> rfl

/-! ## The blocks the body reads -/

theorem index0 : ∀ t : Fin grid0.N, cc0_transform_0 (grid0.coords t) = ![t.val, 0] := by decide +kernel

theorem iblk0_apply (t : Fin cfg0.N) (r : Fin 256) (k : Fin 1024) (n : Fin 512) (hn : n.val = 256 * t.val + r.val) :
    (iblk m c 0 t : S256x1024.Idx → EReal) (ix2 r k) = (m ((c : Thread nD τ).loc main_arg0) : S512x1024.Idx → EReal) (ix2 n k) := by
  refine Eq.trans ?_ (congrFun (V_main_arg0 m c) _)
  show V m c main_arg0 (((cfg0.win 0).rect t).emb (ix2 r k)) = V m c main_arg0 _
  refine congrArg (V m c main_arg0) ?_
  funext a
  apply Fin.ext
  refine (Pipeline.Window.rect_emb_val _ _ _ _).trans ?_
  have e := index0 t
  match a with
  | ⟨0, _⟩ => show cc0_transform_0 (grid0.coords t) 0 * 256 + r.val = n.val; rw [e, hn]; show t.val * 256 + r.val = _; omega
  | ⟨1, _⟩ => show cc0_transform_0 (grid0.coords t) 1 * 1024 + k.val = k.val; rw [e]; show 0 * 1024 + k.val = k.val; omega

theorem iblk1_apply (t : Fin cfg0.N) (q : Fin 1024) :
    (iblk m c 1 t : S1x1024.Idx → EReal) (ix2 (0 : Fin 1) q) = (m ((c : Thread nD τ).loc main_arg1) : S1024.Idx → EReal) (ix1 q) := by
  refine Eq.trans ?_ (V_main_v0 m c q)
  show V m c main_v0 (((cfg0.win 1).rect t).emb (ix2 (0 : Fin 1) q)) = V m c main_v0 _
  refine congrArg (V m c main_v0) ?_
  funext a
  apply Fin.ext
  refine (Pipeline.Window.rect_emb_val _ _ _ _).trans ?_
  match a with
  | ⟨0, _⟩ => show 0 * 1 + 0 = 0; rfl
  | ⟨1, _⟩ => show 0 * 1024 + q.val = q.val; omega

theorem iblk2_eq (t : Fin cfg0.N) : (iblk m c 2 t : S1024x3456.Idx → EReal) = arranged (m ((c : Thread nD τ).loc main_arg2)) := by
  refine Eq.trans ?_ (V_main_v6 m c)
  funext y
  show V m c main_v6 (((cfg0.win 2).rect t).emb y) = V m c main_v6 _
  refine congrArg (V m c main_v6) ?_
  funext a
  apply Fin.ext
  refine (Pipeline.Window.rect_emb_val _ _ _ _).trans ?_
  match a with
  | ⟨0, _⟩ => show 0 * 1024 + (y 0).val = (y 0).val; omega
  | ⟨1, _⟩ => show 0 * 3456 + (y 1).val = (y 1).val; omega

/-- A row of the normalised block against a column of the arranged weights. -/
theorem rowDot (t : Fin cfg0.N) (r : Fin 256) (n : Fin 512) (hn : n.val = 256 * t.val + r.val) (w : Fin 1024 → EReal) :
    (∑ k : Fin 1024, k0_pay2 (F := Ideal) (iblk m c 0 t) (iblk m c 1 t) (ix2 r k) * w k)
      = ∑ k : Fin 1024, normed (fun l => (m ((c : Thread nD τ).loc main_arg0) : S512x1024.Idx → EReal) (ix2 n l)) (fun l => (m ((c : Thread nD τ).loc main_arg1) : S1024.Idx → EReal) (ix1 l)) k * w k := by
  refine Finset.sum_congr rfl fun k _ => congrArg (· * w k) ((pay2_apply _ _ r k).trans ?_)
  exact congrArg₂ (fun x g => normed x g k) (funext fun l => iblk0_apply m c t r l n hn) (funext fun l => iblk1_apply m c t l)

/-- … where that column is column `j` of the weights. -/
theorem rowDot_at (t : Fin cfg0.N) (r : Fin 256) (n : Fin 512) (hn : n.val = 256 * t.val + r.val) (w : Fin 1024 → EReal) (z : Fin 3456) (j : Fin 3336)
    (hw : ∀ k, w k = (iblk m c 2 t : S1024x3456.Idx → EReal) (ix2 k z))
    (hj : (z.val < 1024 ∧ j.val = z.val) ∨ (1024 ≤ z.val ∧ z.val < 3328 ∧ j.val = z.val + 8) ∨ (3328 ≤ z.val ∧ z.val < 3336 ∧ j.val = z.val - 2304)) :
    (∑ k : Fin 1024, k0_pay2 (F := Ideal) (iblk m c 0 t) (iblk m c 1 t) (ix2 r k) * w k)
      = projAt (m ((c : Thread nD τ).loc main_arg0)) (m ((c : Thread nD τ).loc main_arg1)) (m ((c : Thread nD τ).loc main_arg2)) n j := by
  refine (rowDot m c t r n hn w).trans (Finset.sum_congr rfl fun k _ => congrArg (fun v : EReal => normed (fun l => (m ((c : Thread nD τ).loc main_arg0) : S512x1024.Idx → EReal) (ix2 n l)) (fun l => (m ((c : Thread nD τ).loc main_arg1) : S1024.Idx → EReal) (ix1 l)) k * v) ?_)
  exact (hw k).trans ((congrFun (iblk2_eq m c t) _).trans (arranged_at _ k z j hj))

/-- … where that column is zeros. -/
theorem rowDot_zero (t : Fin cfg0.N) (r : Fin 256) (n : Fin 512) (hn : n.val = 256 * t.val + r.val) (w : Fin 1024 → EReal) (z : Fin 3456)
    (hw : ∀ k, w k = (iblk m c 2 t : S1024x3456.Idx → EReal) (ix2 k z)) (hz : 3336 ≤ z.val) :
    (∑ k : Fin 1024, k0_pay2 (F := Ideal) (iblk m c 0 t) (iblk m c 1 t) (ix2 r k) * w k) = 0 := by
  refine (rowDot m c t r n hn w).trans (Finset.sum_eq_zero fun k _ => ?_)
  rw [(hw k).trans ((congrFun (iblk2_eq m c t) _).trans (arranged_zero _ k z hz)), mul_zero]

/-- A load of columns, at an index. -/
theorem cols_apply {n : Nat} (w : FVec Ideal S1024x3456 .bf16) (o : Nat) (h) (k : Fin 1024) (q : Fin n) (z : Fin 3456) (hz : z.val = o + q.val) :
    View.ld (Val := Elt Ideal) (e' := .bf16) w (Rect.unit (s := S1024x3456) ![0, o] ![1024, n] h) (ix2 k q) = w (ix2 k z) := by
  refine congrArg w ?_
  funext a
  apply Fin.ext
  match a with
  | ⟨0, _⟩ => show 0 + 1 * k.val = k.val; omega
  | ⟨1, _⟩ => show o + 1 * q.val = z.val; omega

/-! ## The blocks the body leaves -/

section
variable (x0 : FVec Ideal S256x1024 .f32) (x1 : FVec Ideal S1x1024 .f32) (x2 : FVec Ideal S1024x3456 .bf16)

theorem ld_rows : View.ld (Val := Elt Ideal) (e' := .f32) x0 r0_0 = x0 := View.ld_unit_zero (Val := Elt Ideal) (e := .f32) (S := S256x1024) (off := ![0, 0]) hz inb_S256x1024_S256x1024_0_0 x0
theorem ld_gain : View.ld (Val := Elt Ideal) (e' := .f32) x1 r0_1 = x1 := View.ld_unit_zero (Val := Elt Ideal) (e := .f32) (S := S1x1024) (off := ![0, 0]) hz inb_S1x1024_S1x1024_0_0 x1

theorem outs_a : out0_3 (F := Ideal) x0 x1 x2 = k0_pay3 x0 x1 (View.ld (Val := Elt Ideal) (e' := .bf16) x2 (Rect.unit (s := S1024x3456) ![0, 0] S1024x1024.size inb_S1024x3456_S1024x1024_0_0)) := by
  unfold out0_3
  rw [View.canon_unit_zero hz, ld_rows, ld_gain]

theorem outs_b : out0_4 (F := Ideal) x0 x1 x2 = k0_pay4 x0 x1 (View.ld (Val := Elt Ideal) (e' := .bf16) x2 (Rect.unit (s := S1024x3456) ![0, 1024] S1024x512.size inb_S1024x3456_S1024x512_0_1024)) := by
  unfold out0_4
  rw [View.canon_unit_zero hz, ld_rows, ld_gain]

theorem outs_c : out0_5 (F := Ideal) x0 x1 x2 = k0_pay5 x0 x1 (View.ld (Val := Elt Ideal) (e' := .bf16) x2 (Rect.unit (s := S1024x3456) ![0, 1536] S1024x1024.size inb_S1024x3456_S1024x1024_0_1536)) := by
  unfold out0_5
  rw [View.canon_unit_zero hz, ld_rows, ld_gain]

theorem outs_d : out0_6 (F := Ideal) x0 x1 x2 = k0_pay6 x0 x1 (View.ld (Val := Elt Ideal) (e' := .bf16) x2 (Rect.unit (s := S1024x3456) ![0, 2560] S1024x768.size inb_S1024x3456_S1024x768_0_2560)) := by
  unfold out0_6
  rw [View.canon_unit_zero hz, ld_rows, ld_gain]

theorem outs_ba : out0_7 (F := Ideal) x0 x1 x2 = k0_pay1 (k0_pay2 x0 x1) (View.ld (Val := Elt Ideal) (e' := .bf16) x2 (Rect.unit (s := S1024x3456) ![0, 3328] S1024x128.size inb_S1024x3456_S1024x128_0_3328)) := by
  unfold out0_7
  rw [View.canon_unit_zero hz, ld_rows, ld_gain]

end

theorem block_a (t : Fin cfg0.N) (r : Fin 256) (q : Fin 1024) (n : Fin 512) (hn : n.val = 256 * t.val + r.val) :
    (out0_3 (F := Ideal) (iblk m c 0 t) (iblk m c 1 t) (iblk m c 2 t) : S256x1024.Idx → EReal) (ix2 r q) = resultA (m ((c : Thread nD τ).loc main_arg0)) (m ((c : Thread nD τ).loc main_arg1)) (m ((c : Thread nD τ).loc main_arg2)) n q := by
  refine (congrFun (outs_a _ _ _) (ix2 r q)).trans ?_
  refine (pay3_apply _ _ _ r q).trans ?_
  exact rowDot_at m c t r n hn _ ⟨0 + q.val, by omega⟩ _ (fun k => cols_apply _ 0 _ k q _ rfl) (.inl ⟨by show 0 + q.val < 1024; omega, by show q.val = 0 + q.val; omega⟩)

theorem block_b (t : Fin cfg0.N) (r : Fin 256) (q : Fin 512) (n : Fin 512) (hn : n.val = 256 * t.val + r.val) :
    (out0_4 (F := Ideal) (iblk m c 0 t) (iblk m c 1 t) (iblk m c 2 t) : S256x512.Idx → EReal) (ix2 r q) = resultB (m ((c : Thread nD τ).loc main_arg0)) (m ((c : Thread nD τ).loc main_arg1)) (m ((c : Thread nD τ).loc main_arg2)) n q := by
  refine (congrFun (outs_b _ _ _) (ix2 r q)).trans ?_
  refine (pay4_apply _ _ _ r q).trans ?_
  exact rowDot_at m c t r n hn _ ⟨1024 + q.val, by omega⟩ _ (fun k => cols_apply _ 1024 _ k q _ rfl) (.inr (.inl ⟨by show 1024 ≤ 1024 + q.val; omega, by show 1024 + q.val < 3328; omega, by show 1032 + q.val = 1024 + q.val + 8; omega⟩))

theorem block_c (t : Fin cfg0.N) (r : Fin 256) (q : Fin 1024) (n : Fin 512) (hn : n.val = 256 * t.val + r.val) :
    (out0_5 (F := Ideal) (iblk m c 0 t) (iblk m c 1 t) (iblk m c 2 t) : S256x1024.Idx → EReal) (ix2 r q) = resultC (m ((c : Thread nD τ).loc main_arg0)) (m ((c : Thread nD τ).loc main_arg1)) (m ((c : Thread nD τ).loc main_arg2)) n q := by
  refine (congrFun (outs_c _ _ _) (ix2 r q)).trans ?_
  refine (pay5_apply _ _ _ r q).trans ?_
  exact rowDot_at m c t r n hn _ ⟨1536 + q.val, by omega⟩ _ (fun k => cols_apply _ 1536 _ k q _ rfl) (.inr (.inl ⟨by show 1024 ≤ 1536 + q.val; omega, by show 1536 + q.val < 3328; omega, by show 1544 + q.val = 1536 + q.val + 8; omega⟩))

theorem block_d (t : Fin cfg0.N) (r : Fin 256) (q : Fin 768) (n : Fin 512) (hn : n.val = 256 * t.val + r.val) :
    (out0_6 (F := Ideal) (iblk m c 0 t) (iblk m c 1 t) (iblk m c 2 t) : S256x768.Idx → EReal) (ix2 r q) = resultD (m ((c : Thread nD τ).loc main_arg0)) (m ((c : Thread nD τ).loc main_arg1)) (m ((c : Thread nD τ).loc main_arg2)) n q := by
  refine (congrFun (outs_d _ _ _) (ix2 r q)).trans ?_
  refine (pay6_apply _ _ _ r q).trans ?_
  exact rowDot_at m c t r n hn _ ⟨2560 + q.val, by omega⟩ _ (fun k => cols_apply _ 2560 _ k q _ rfl) (.inr (.inl ⟨by show 1024 ≤ 2560 + q.val; omega, by show 2560 + q.val < 3328; omega, by show 2568 + q.val = 2560 + q.val + 8; omega⟩))

theorem block_ba (t : Fin cfg0.N) (r : Fin 256) (q : Fin 128) (n : Fin 512) (hn : n.val = 256 * t.val + r.val) :
    (out0_7 (F := Ideal) (iblk m c 0 t) (iblk m c 1 t) (iblk m c 2 t) : S256x128.Idx → EReal) (ix2 r q) = resultBA (m ((c : Thread nD τ).loc main_arg0)) (m ((c : Thread nD τ).loc main_arg1)) (m ((c : Thread nD τ).loc main_arg2)) n q := by
  refine (congrFun (outs_ba _ _ _) (ix2 r q)).trans ?_
  refine (pay1_apply _ _ r q).trans ?_
  unfold resultBA
  by_cases h : q.val < 8
  · rw [dif_pos h]
    exact rowDot_at m c t r n hn _ ⟨3328 + q.val, by omega⟩ _ (fun k => cols_apply _ 3328 _ k q _ rfl)
      (.inr (.inr ⟨by show 3328 ≤ 3328 + q.val; omega, by show 3328 + q.val < 3336; omega, by show 1024 + q.val = 3328 + q.val - 2304; omega⟩))
  · rw [dif_neg h]
    exact rowDot_zero m c t r n hn _ ⟨3328 + q.val, by omega⟩ (fun k => cols_apply _ 3328 _ k q _ rfl) (by show 3336 ≤ 3328 + q.val; omega)

/-! ## The arrays after the run -/

theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)
theorem final_a : (dats m 0 c).arrAt 3 cfg0.N = (fun i : S512x1024.Idx => resultA (m ((c : Thread nD τ).loc main_arg0)) (m ((c : Thread nD τ).loc main_arg1)) (m ((c : Thread nD τ).loc main_arg2)) (i 0) (i 1)) := by
  refine (dats m 0 c).arrAt_eq_of_covers 3 _ (by decide +kernel) fun t hf y => ?_
  blk_simp
  rw [after0_3]
  have ey : y = (ix2 (y 0) (y 1) : S256x1024.Idx) := by
    funext a
    match a with
    | ⟨0, _⟩ => rfl
    | ⟨1, _⟩ => rfl
  have h0 : ((win0_3.blk t).view.emb y 0).val = 256 * t.val + (y 0).val := by
    blk_simp [index_3]
    exact congrArg (· + (y 0).val) (Nat.mul_comm _ _)
  have h1 : (win0_3.blk t).view.emb y 1 = (y 1 : Fin 1024) := Fin.ext (by blk_simp [index_3])
  refine (congrArg _ ey).trans ((block_a m c t (y 0) (y 1) _ h0).trans ?_)
  exact congrArg (resultA (m ((c : Thread nD τ).loc main_arg0)) (m ((c : Thread nD τ).loc main_arg1)) (m ((c : Thread nD τ).loc main_arg2)) _) h1.symm

theorem final_b : (dats m 0 c).arrAt 4 cfg0.N = (fun i : S512x512.Idx => resultB (m ((c : Thread nD τ).loc main_arg0)) (m ((c : Thread nD τ).loc main_arg1)) (m ((c : Thread nD τ).loc main_arg2)) (i 0) (i 1)) := by
  refine (dats m 0 c).arrAt_eq_of_covers 4 _ (by decide +kernel) fun t hf y => ?_
  blk_simp
  rw [after0_4]
  have ey : y = (ix2 (y 0) (y 1) : S256x512.Idx) := by
    funext a
    match a with
    | ⟨0, _⟩ => rfl
    | ⟨1, _⟩ => rfl
  have h0 : ((win0_4.blk t).view.emb y 0).val = 256 * t.val + (y 0).val := by
    blk_simp [index_4]
    exact congrArg (· + (y 0).val) (Nat.mul_comm _ _)
  have h1 : (win0_4.blk t).view.emb y 1 = (y 1 : Fin 512) := Fin.ext (by blk_simp [index_4])
  refine (congrArg _ ey).trans ((block_b m c t (y 0) (y 1) _ h0).trans ?_)
  exact congrArg (resultB (m ((c : Thread nD τ).loc main_arg0)) (m ((c : Thread nD τ).loc main_arg1)) (m ((c : Thread nD τ).loc main_arg2)) _) h1.symm

theorem final_c : (dats m 0 c).arrAt 5 cfg0.N = (fun i : S512x1024.Idx => resultC (m ((c : Thread nD τ).loc main_arg0)) (m ((c : Thread nD τ).loc main_arg1)) (m ((c : Thread nD τ).loc main_arg2)) (i 0) (i 1)) := by
  refine (dats m 0 c).arrAt_eq_of_covers 5 _ (by decide +kernel) fun t hf y => ?_
  blk_simp
  rw [after0_5]
  have ey : y = (ix2 (y 0) (y 1) : S256x1024.Idx) := by
    funext a
    match a with
    | ⟨0, _⟩ => rfl
    | ⟨1, _⟩ => rfl
  have h0 : ((win0_5.blk t).view.emb y 0).val = 256 * t.val + (y 0).val := by
    blk_simp [index_5]
    exact congrArg (· + (y 0).val) (Nat.mul_comm _ _)
  have h1 : (win0_5.blk t).view.emb y 1 = (y 1 : Fin 1024) := Fin.ext (by blk_simp [index_5])
  refine (congrArg _ ey).trans ((block_c m c t (y 0) (y 1) _ h0).trans ?_)
  exact congrArg (resultC (m ((c : Thread nD τ).loc main_arg0)) (m ((c : Thread nD τ).loc main_arg1)) (m ((c : Thread nD τ).loc main_arg2)) _) h1.symm

theorem final_d : (dats m 0 c).arrAt 6 cfg0.N = (fun i : S512x768.Idx => resultD (m ((c : Thread nD τ).loc main_arg0)) (m ((c : Thread nD τ).loc main_arg1)) (m ((c : Thread nD τ).loc main_arg2)) (i 0) (i 1)) := by
  refine (dats m 0 c).arrAt_eq_of_covers 6 _ (by decide +kernel) fun t hf y => ?_
  blk_simp
  rw [after0_6]
  have ey : y = (ix2 (y 0) (y 1) : S256x768.Idx) := by
    funext a
    match a with
    | ⟨0, _⟩ => rfl
    | ⟨1, _⟩ => rfl
  have h0 : ((win0_6.blk t).view.emb y 0).val = 256 * t.val + (y 0).val := by
    blk_simp [index_6]
    exact congrArg (· + (y 0).val) (Nat.mul_comm _ _)
  have h1 : (win0_6.blk t).view.emb y 1 = (y 1 : Fin 768) := Fin.ext (by blk_simp [index_6])
  refine (congrArg _ ey).trans ((block_d m c t (y 0) (y 1) _ h0).trans ?_)
  exact congrArg (resultD (m ((c : Thread nD τ).loc main_arg0)) (m ((c : Thread nD τ).loc main_arg1)) (m ((c : Thread nD τ).loc main_arg2)) _) h1.symm

theorem final_ba : (dats m 0 c).arrAt 7 cfg0.N = (fun i : S512x128.Idx => resultBA (m ((c : Thread nD τ).loc main_arg0)) (m ((c : Thread nD τ).loc main_arg1)) (m ((c : Thread nD τ).loc main_arg2)) (i 0) (i 1)) := by
  refine (dats m 0 c).arrAt_eq_of_covers 7 _ (by decide +kernel) fun t hf y => ?_
  blk_simp
  rw [after0_7]
  have ey : y = (ix2 (y 0) (y 1) : S256x128.Idx) := by
    funext a
    match a with
    | ⟨0, _⟩ => rfl
    | ⟨1, _⟩ => rfl
  have h0 : ((win0_7.blk t).view.emb y 0).val = 256 * t.val + (y 0).val := by
    blk_simp [index_7]
    exact congrArg (· + (y 0).val) (Nat.mul_comm _ _)
  have h1 : (win0_7.blk t).view.emb y 1 = (y 1 : Fin 128) := Fin.ext (by blk_simp [index_7])
  refine (congrArg _ ey).trans ((block_ba m c t (y 0) (y 1) _ h0).trans ?_)
  exact congrArg (resultBA (m ((c : Thread nD τ).loc main_arg0)) (m ((c : Thread nD τ).loc main_arg1)) (m ((c : Thread nD τ).loc main_arg2)) _) h1.symm

/-- The kernel's run: each result array after it, element by element, and the arguments unchanged. -/
theorem kernel_run (ρ : Dev nD → PrngReg) :
    θ_run defs (onTc (τ := τ) (main (F := Ideal))) ⟨m, fun _ => 0, ρ⟩ fun r => ∀ c : Dev nD,
      r.2.mem ((c : Thread nD τ).loc main_v7_0) = (fun i : S512x1024.Idx => resultA (m ((c : Thread nD τ).loc main_arg0)) (m ((c : Thread nD τ).loc main_arg1)) (m ((c : Thread nD τ).loc main_arg2)) (i 0) (i 1))
      ∧ r.2.mem ((c : Thread nD τ).loc main_v7_1) = (fun i : S512x512.Idx => resultB (m ((c : Thread nD τ).loc main_arg0)) (m ((c : Thread nD τ).loc main_arg1)) (m ((c : Thread nD τ).loc main_arg2)) (i 0) (i 1))
      ∧ r.2.mem ((c : Thread nD τ).loc main_v7_2) = (fun i : S512x1024.Idx => resultC (m ((c : Thread nD τ).loc main_arg0)) (m ((c : Thread nD τ).loc main_arg1)) (m ((c : Thread nD τ).loc main_arg2)) (i 0) (i 1))
      ∧ r.2.mem ((c : Thread nD τ).loc main_v7_3) = (fun i : S512x768.Idx => resultD (m ((c : Thread nD τ).loc main_arg0)) (m ((c : Thread nD τ).loc main_arg1)) (m ((c : Thread nD τ).loc main_arg2)) (i 0) (i 1))
      ∧ r.2.mem ((c : Thread nD τ).loc main_v7_4) = (fun i : S512x128.Idx => resultBA (m ((c : Thread nD τ).loc main_arg0)) (m ((c : Thread nD τ).loc main_arg1)) (m ((c : Thread nD τ).loc main_arg2)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Value.run_blocks (F := Ideal) m ρ)
  obtain ⟨h1, h2, h3, h4, h5, hargs⟩ := h c
  exact ⟨h1.trans (final_a m c), h2.trans (final_b m c), h3.trans (final_c m c), h4.trans (final_d m c), h5.trans (final_ba m c), hargs⟩

end Cert.Proof.SampleInProjection
end
-- ==== Proof.SampleInProjectionRefValue.lean ====
/- The sample's input projection reference's results, element by element. -/
module

public import proofs.«01_k».proof.Proof.SampleInProjectionSpec
public import proofs.«01_k».proof.Proof.Gen.SampleInProjectionReferenceIdeal.Run
public import Idealize.ShloMosaic.Lib.Pointwise.Reshape
public import Idealize.ShloMosaic.Lib.Pointwise.Reduce
public import Idealize.ShloMosaic.Lib.Pointwise.Contract
public import Idealize.ShloMosaic.Lib.Pointwise.SelectCore
public import Idealize.ShloMosaic.Lib.Pointwise.ShapeOpsCore
public import Idealize.ShloMosaic.Lib.Quiescent

@[expose] public section
set_option maxRecDepth 16384
noncomputable section
namespace Cert.Proof.SampleInProjection
open Cert.SampleInProjectionReferenceIdeal Cert.SampleInProjectionReferenceIdeal.Facts₀
open Idealize.ShloMosaic Idealize.ShloMosaic.TcCoe

/-- The reference's normalised rows. -/
def refNormed (x : FVec Ideal S512x1024 .f32) (g : FVec Ideal S1024 .f32) : FVec Ideal S512x1024 .f32 :=
  mulf (mulf x (broadcastInDim S512x1024 ![0, 1] bcast_S512x1_S512x1024_0_1 (Host.rsqrt (addf (Host.divf (broadcastInDim S512x1 ![0] bcast_S512_S512x1_0 (Host.reduceAdd (mulf x x) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (broadcastInDim S512x1024 ![0, 1] bcast_S1x1024_S512x1024_0_1 (broadcastInDim S1x1024 ![1] bcast_S1024_S1x1024_1 g))

/-- The reference's product. -/
def refProj (x : FVec Ideal S512x1024 .f32) (g : FVec Ideal S1024 .f32) (W : FVec Ideal S1024x3336 .f32) : FVec Ideal S512x3336 .f32 :=
  Host.dotGeneral dot_S512x1024_S1024x3336_S512x3336_1_0_0_1_n_n none (refNormed x g) W

theorem refNormed_apply (x : FVec Ideal S512x1024 .f32) (g : FVec Ideal S1024 .f32) (n : Fin 512) (k : Fin 1024) :
    refNormed x g (ix2 n k) = normed (fun l => x (ix2 n l)) (fun l => g (ix1 l)) k := by
  unfold refNormed normed
  simp only [pointwise, zero_add]
  rfl

theorem refProj_apply (x : FVec Ideal S512x1024 .f32) (g : FVec Ideal S1024 .f32) (W : FVec Ideal S1024x3336 .f32) (n : Fin 512) (j : Fin 3336) :
    refProj x g W (ix2 n j) = projAt x g W n j := by
  unfold refProj projAt
  simp only [pointwise, zero_add]
  exact Finset.sum_congr rfl fun k _ => congrArg (fun z : EReal => z * W (ix2 k j)) (refNormed_apply x g n k)

/-- An entry of an array named by another spelling of its two coordinates. -/
theorem at_eq {a b : Nat} (H : (⟨2, ![a, b]⟩ : Shape).Idx → EReal) (n n' : Fin a) (j j' : Fin b) (hn : n.val = n'.val) (hj : j.val = j'.val) : H (ix2 n j) = H (ix2 n' j') := by
  rw [Fin.ext hn, Fin.ext hj]

section
variable (H : FVec Ideal S512x3336 .f32) (n : Fin 512)

theorem refA_apply (q : Fin 1024) : extractStridedSlice S512x1024 ![0, 0] H slices_S512x3336_S512x1024_0_0 (ix2 n q) = H (ix2 n ⟨q.val, by omega⟩) := by
  simp only [pointwise]
  exact at_eq H _ _ _ _ (Nat.zero_add _) (Nat.zero_add _)
theorem refB_apply (q : Fin 512) : extractStridedSlice S512x512 ![0, 1032] H slices_S512x3336_S512x512_0_1032 (ix2 n q) = H (ix2 n ⟨1032 + q.val, by omega⟩) := by
  simp only [pointwise]
  exact at_eq H _ _ _ _ (Nat.zero_add _) rfl
theorem refC_apply (q : Fin 1024) : extractStridedSlice S512x1024 ![0, 1544] H slices_S512x3336_S512x1024_0_1544 (ix2 n q) = H (ix2 n ⟨1544 + q.val, by omega⟩) := by
  simp only [pointwise]
  exact at_eq H _ _ _ _ (Nat.zero_add _) rfl
theorem refD_apply (q : Fin 768) : extractStridedSlice S512x768 ![0, 2568] H slices_S512x3336_S512x768_0_2568 (ix2 n q) = H (ix2 n ⟨2568 + q.val, by omega⟩) := by
  simp only [pointwise]
  exact at_eq H _ _ _ _ (Nat.zero_add _) rfl

theorem refBA_apply (q : Fin 128) : pad S512x128 ![0, 0] ![0, 120] ![0, 0] (extractStridedSlice S512x8 ![0, 1024] H slices_S512x3336_S512x8_0_1024) (sitofp .f32 (constantI S_ 32 0#32)) pads_S512x8_S512x128_000_01200 h_S_ (ix2 n q)
    = if h : q.val < 8 then H (ix2 n ⟨1024 + q.val, by omega⟩) else (0 : EReal) := by
  simp only [pointwise]
  by_cases h : q.val < 8
  · rw [dif_pos, dif_pos h]
    · refine at_eq H _ _ _ _ ?_ ?_
      · show 0 + (n.val - 0) / 1 = n.val
        omega
      · show 1024 + (q.val - 0) / 1 = 1024 + q.val
        omega
    · intro a
      match a with
      | ⟨0, _⟩ => show 0 ≤ n.val ∧ (n.val - 0) % 1 = 0 ∧ (n.val - 0) / 1 < 512; omega
      | ⟨1, _⟩ => show 0 ≤ q.val ∧ (q.val - 0) % 1 = 0 ∧ (q.val - 0) / 1 < 8; omega
  · rw [dif_neg, dif_neg h]
    · show ((((0#32 : BitVec 32).toInt : ℤ) : ℝ) : EReal) = 0
      norm_num
    · intro h'
      have h1 : 0 ≤ q.val ∧ (q.val - 0) % 1 = 0 ∧ (q.val - 0) / 1 < 8 := h' 1
      omega
end

theorem refBA_eq (x : FVec Ideal S512x1024 .f32) (g : FVec Ideal S1024 .f32) (W : FVec Ideal S1024x3336 .f32) (n : Fin 512) (q : Fin 128) :
    (if h : q.val < 8 then refProj x g W (ix2 n ⟨1024 + q.val, by omega⟩) else (0 : EReal)) = resultBA x g W n q := by
  unfold resultBA
  by_cases h : q.val < 8
  · rw [dif_pos h, dif_pos h, refProj_apply]
  · rw [dif_neg h, dif_neg h]

theorem eq_ix2 {a b : Nat} (i : (⟨2, ![a, b]⟩ : Shape).Idx) : (ix2 (i 0) (i 1) : (⟨2, ![a, b]⟩ : Shape).Idx) = i := by
  funext z
  match z with
  | ⟨0, _⟩ => rfl
  | ⟨1, _⟩ => rfl

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v14) = (fun i : S512x1024.Idx => resultA (m ((c : Thread nD τ).loc main_arg0)) (m ((c : Thread nD τ).loc main_arg1)) (m ((c : Thread nD τ).loc main_arg2)) (i 0) (i 1))
      ∧ r.2.mem ((c : Thread nD τ).loc main_v15) = (fun i : S512x512.Idx => resultB (m ((c : Thread nD τ).loc main_arg0)) (m ((c : Thread nD τ).loc main_arg1)) (m ((c : Thread nD τ).loc main_arg2)) (i 0) (i 1))
      ∧ r.2.mem ((c : Thread nD τ).loc main_v16) = (fun i : S512x1024.Idx => resultC (m ((c : Thread nD τ).loc main_arg0)) (m ((c : Thread nD τ).loc main_arg1)) (m ((c : Thread nD τ).loc main_arg2)) (i 0) (i 1))
      ∧ r.2.mem ((c : Thread nD τ).loc main_v17) = (fun i : S512x768.Idx => resultD (m ((c : Thread nD τ).loc main_arg0)) (m ((c : Thread nD τ).loc main_arg1)) (m ((c : Thread nD τ).loc main_arg2)) (i 0) (i 1))
      ∧ r.2.mem ((c : Thread nD τ).loc main_v19) = (fun i : S512x128.Idx => resultBA (m ((c : Thread nD τ).loc main_arg0)) (m ((c : Thread nD τ).loc main_arg1)) (m ((c : Thread nD τ).loc main_arg2)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Value.run (F := Ideal) m ρ)
  obtain ⟨h1, h2, h3, h4, h5, hargs⟩ := h c
  refine ⟨h1.trans ?_, h2.trans ?_, h3.trans ?_, h4.trans ?_, h5.trans ?_, hargs⟩
  · show extractStridedSlice S512x1024 ![0, 0] (refProj (m ((c : Thread nD τ).loc main_arg0)) (m ((c : Thread nD τ).loc main_arg1)) (m ((c : Thread nD τ).loc main_arg2))) slices_S512x3336_S512x1024_0_0 = _
    funext (i : S512x1024.Idx)
    exact (congrArg _ (eq_ix2 i).symm).trans ((refA_apply _ (i 0) (i 1)).trans (refProj_apply _ _ _ _ _))
  · show extractStridedSlice S512x512 ![0, 1032] (refProj (m ((c : Thread nD τ).loc main_arg0)) (m ((c : Thread nD τ).loc main_arg1)) (m ((c : Thread nD τ).loc main_arg2))) slices_S512x3336_S512x512_0_1032 = _
    funext (i : S512x512.Idx)
    exact (congrArg _ (eq_ix2 i).symm).trans ((refB_apply _ (i 0) (i 1)).trans (refProj_apply _ _ _ _ _))
  · show extractStridedSlice S512x1024 ![0, 1544] (refProj (m ((c : Thread nD τ).loc main_arg0)) (m ((c : Thread nD τ).loc main_arg1)) (m ((c : Thread nD τ).loc main_arg2))) slices_S512x3336_S512x1024_0_1544 = _
    funext (i : S512x1024.Idx)
    exact (congrArg _ (eq_ix2 i).symm).trans ((refC_apply _ (i 0) (i 1)).trans (refProj_apply _ _ _ _ _))
  · show extractStridedSlice S512x768 ![0, 2568] (refProj (m ((c : Thread nD τ).loc main_arg0)) (m ((c : Thread nD τ).loc main_arg1)) (m ((c : Thread nD τ).loc main_arg2))) slices_S512x3336_S512x768_0_2568 = _
    funext (i : S512x768.Idx)
    exact (congrArg _ (eq_ix2 i).symm).trans ((refD_apply _ (i 0) (i 1)).trans (refProj_apply _ _ _ _ _))
  · show pad S512x128 ![0, 0] ![0, 120] ![0, 0] (extractStridedSlice S512x8 ![0, 1024] (refProj (m ((c : Thread nD τ).loc main_arg0)) (m ((c : Thread nD τ).loc main_arg1)) (m ((c : Thread nD τ).loc main_arg2))) slices_S512x3336_S512x8_0_1024) (sitofp .f32 (constantI S_ 32 0#32)) pads_S512x8_S512x128_000_01200 h_S_ = _
    funext (i : S512x128.Idx)
    exact (congrArg _ (eq_ix2 i).symm).trans ((refBA_apply _ (i 0) (i 1)).trans (refBA_eq _ _ _ _ _))

/-- The reference's frame: a straight-line program that declares no semaphore. -/
theorem ref_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0 :=
  (θ_run defs _ _).mono (fun r h => ⟨fun c => (h c).2.2.2.2.2, sem_eq_zero_of_no_sems (by decide) r.2⟩) (Value.run (F := Ideal) m ρ)

end Cert.Proof.SampleInProjection
end
-- ==== Proof.lean ====
/- The claims, for each call from the launch of the kernel (Proof/Launch.lean and Proof/Value.lean; Proof/ExpertsLaunch.lean and
   Proof/ExpertsValue.lean; Proof/FeedForwardValue.lean; Proof/InProjectionValue.lean; Proof/OutProjectionValue.lean; Proof/SampleCachesValue.lean;
   Proof/SampleInProjectionValue.lean) and the run of the reference
   (Proof/RefRun.lean; Proof/ExpertsRefValue.lean; Proof/FeedForwardRefValue.lean; Proof/InProjectionRefValue.lean;
   Proof/OutProjectionRefValue.lean; Proof/SampleCachesRefValue.lean;
   Proof/SampleInProjectionRefValue.lean). The frame of the sample's caches is in Proof/SampleCachesFrame.lean. -/
module

public import proofs.«01_k».proof.Defs
public import proofs.«01_k».proof.Proof.Value
public import proofs.«01_k».proof.Proof.RefRun
public import proofs.«01_k».proof.Proof.Pre
public import proofs.«01_k».proof.Proof.Gen.Kernel
public import proofs.«01_k».proof.Proof.Gen.Experts
public import proofs.«01_k».proof.Proof.ExpertsValue
public import proofs.«01_k».proof.Proof.ExpertsRefValue
public import proofs.«01_k».proof.Proof.ExpertsPre
public import proofs.«01_k».proof.Proof.Gen.FeedForward
public import proofs.«01_k».proof.Proof.FeedForwardValue
public import proofs.«01_k».proof.Proof.FeedForwardRefValue
public import proofs.«01_k».proof.Proof.Gen.InProjection
public import proofs.«01_k».proof.Proof.InProjectionValue
public import proofs.«01_k».proof.Proof.InProjectionRefValue
public import proofs.«01_k».proof.Proof.Gen.OutProjection
public import proofs.«01_k».proof.Proof.OutProjectionValue
public import proofs.«01_k».proof.Proof.OutProjectionRefValue
public import proofs.«01_k».proof.Proof.SampleCachesFrame
public import proofs.«01_k».proof.Proof.SampleCachesValue
public import proofs.«01_k».proof.Proof.SampleCachesRefValue
public import proofs.«01_k».proof.Proof.Gen.SampleInProjection
public import proofs.«01_k».proof.Proof.SampleInProjectionValue
public import proofs.«01_k».proof.Proof.SampleInProjectionRefValue

@[expose] public section
noncomputable section
namespace Cert.Proof
open Idealize.ShloMosaic Idealize.ShloMosaic.TcCoe

instance : Cert.Pre_rows_named.Facts := Cert.Pre_rows_named.Gen.facts
instance : Cert.KernelIdeal.Facts := Cert.KernelIdeal.Gen.facts
instance : Cert.Kernel.Facts := Cert.Kernel.Gen.facts
instance : Cert.ReferenceIdeal.Facts := Cert.ReferenceIdeal.Gen.facts

theorem rows_bits (m : (ℓ : Loc Cert.KernelIdeal.nD Cert.KernelIdeal.τ Cert.KernelIdeal.sig) → Buf (Elt Bits) ℓ)
    (h : ∀ j : Cert.KernelIdeal.S65536.Idx, ((m (((0 : Dev Cert.KernelIdeal.nD) : Thread Cert.KernelIdeal.nD Cert.KernelIdeal.τ).loc Cert.KernelIdeal.main_arg0) : Cert.KernelIdeal.S65536.Idx → BitVec 32) j).toNat < 69632) :
    Combine.RowsNamed (Combine.rowsTable m) := fun j => by
  rw [Combine.rowsTable_eq m]
  exact h j

theorem frame_bits (m : (ℓ : Loc Cert.KernelIdeal.nD Cert.KernelIdeal.τ Cert.KernelIdeal.sig) → Buf (Elt Bits) ℓ) (ρ : Dev Cert.KernelIdeal.nD → PrngReg)
    (h : ∀ j : Cert.KernelIdeal.S65536.Idx, ((m (((0 : Dev Cert.KernelIdeal.nD) : Thread Cert.KernelIdeal.nD Cert.KernelIdeal.τ).loc Cert.KernelIdeal.main_arg0) : Cert.KernelIdeal.S65536.Idx → BitVec 32) j).toNat < 69632) :
    θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c : Thread Cert.KernelIdeal.nD Cert.KernelIdeal.τ).loc Cert.KernelIdeal.main_arg0) = m ((c : Thread Cert.KernelIdeal.nD Cert.KernelIdeal.τ).loc Cert.KernelIdeal.main_arg0)
      ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
      ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
      ∧ r.2.mem ((c : Thread Cert.KernelIdeal.nD Cert.KernelIdeal.τ).loc Cert.KernelIdeal.main_arg3) = m ((c : Thread Cert.KernelIdeal.nD Cert.KernelIdeal.τ).loc Cert.KernelIdeal.main_arg3)
      ∧ r.2.mem ((c : Thread Cert.KernelIdeal.nD Cert.KernelIdeal.τ).loc Cert.KernelIdeal.main_arg4) = m ((c : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).2, h.2⟩) (Combine.run_read (F := Bits) m ρ (rows_bits m h))

/-! The two printed programs are the same text, so their body tables and main functions agree. -/

theorem pcfgs_same : Cert.Kernel.pcfgs (F := Bits) = Cert.KernelIdeal.pcfgs (F := Bits) := rfl

theorem bodies_same : Cert.Kernel.defs₀ (F := Bits) = Cert.KernelIdeal.defs₀ (F := Bits) := by
  unfold Cert.Kernel.defs₀ Cert.KernelIdeal.defs₀
  refine congrArg Defs.onTc ?_
  funext b x
  match b, x with
  | 0, (t, s) => rfl

theorem defs_same : Cert.Kernel.defs (F := Bits) = Cert.KernelIdeal.defs (F := Bits) :=
  congrArg (Pipeline.defs (Cert.KernelIdeal.pcfgs (F := Bits))) bodies_same

theorem main_same : Cert.Kernel.main (F := Bits) = Cert.KernelIdeal.main (F := Bits) := rfl

/-- The kernel's frame: the run proved for every float type, at the machine's. -/
theorem frame_kernel : Cert.quiescent_Kernel := by
  intro m ρ h
  rw [defs_same]
  exact frame_bits m ρ (fun j => Combine.rows_of_fn _ _ _ _ _ (h 0) j)

theorem rows_ideal (m) (h : Cert.Pre_KernelIdeal m) : Combine.RowsNamed (Combine.rowsTable m) := fun j => by
  rw [Combine.rowsTable_eq m]
  exact Combine.rows_of_fn _ _ _ _ _ (h 0) j

theorem frame_kernelIdeal : Cert.quiescent_KernelIdeal := fun m ρ h =>
  (θ_run Cert.KernelIdeal.defs _ _).mono (fun _ h => ⟨fun c => (h.1 c).2, h.2⟩) (Combine.run_read m ρ (rows_ideal m h))

theorem algebraic : Cert.algebraic_KernelIdeal_ReferenceIdeal := by
  intro m ρ m' ρ' hpre hag
  refine ⟨fun c => Combine.wanted m c, Combine.run_value m ρ (rows_ideal m hpre), ?_⟩
  have hd : ∀ c : Dev Cert.ReferenceIdeal.nD, ∀ j, ((m' ((c : Thread Cert.ReferenceIdeal.nD Cert.ReferenceIdeal.τ).loc Cert.ReferenceIdeal.main_arg0) : Cert.ReferenceIdeal.S65536.Idx → BitVec 32) j).toNat < 69632 := fun c j => by
    rw [(hag c).1]
    exact Combine.rows_of_fn _ _ _ _ _ (hpre c) j
  refine (θ_run Cert.ReferenceIdeal.defs _ _).mono (fun _ h c => ⟨(h c).1.trans ?_, (h c).2⟩) (Combine.ref_run m' ρ' hd)
  obtain ⟨e0, e1, e2, e3, e4⟩ := hag c
  have et := Combine.rowsTable_eq m
  obtain rfl : c = 0 := Subsingleton.elim _ _
  rw [e0, e1, e2, e3, e4]
  unfold Combine.wanted
  rw [et]

/-! ## The expert call -/

instance : Cert.Pre_tables_named.Facts := Cert.Pre_tables_named.Gen.facts
instance : Cert.ExpertsIdeal.Facts := Cert.ExpertsIdeal.Gen.facts
instance : Cert.Experts.Facts := Cert.Experts.Gen.facts
instance : Cert.ExpertsReferenceIdeal.Facts := Cert.ExpertsReferenceIdeal.Gen.facts

theorem experts_frame_bits (m : (ℓ : Loc Cert.ExpertsIdeal.nD Cert.ExpertsIdeal.τ Cert.ExpertsIdeal.sig) → Buf (Elt Bits) ℓ) (ρ : Dev Cert.ExpertsIdeal.nD → PrngReg)
    (hE : ∀ j : Cert.ExpertsIdeal.S136.Idx, ((m (((0 : Dev Cert.ExpertsIdeal.nD) : Thread Cert.ExpertsIdeal.nD Cert.ExpertsIdeal.τ).loc Cert.ExpertsIdeal.main_arg0) : Cert.ExpertsIdeal.S136.Idx → BitVec 32) j).toNat < 8)
    (hT : ∀ j : Cert.ExpertsIdeal.S69632.Idx, ((m (((0 : Dev Cert.ExpertsIdeal.nD) : Thread Cert.ExpertsIdeal.nD Cert.ExpertsIdeal.τ).loc Cert.ExpertsIdeal.main_arg1) : Cert.ExpertsIdeal.S69632.Idx → BitVec 32) j).toNat < 33280) :
    θ_run (Cert.ExpertsIdeal.defs (F := Bits)) (onTc (τ := Cert.ExpertsIdeal.τ) (Cert.ExpertsIdeal.main (F := Bits))) ⟨m, fun _ => 0, ρ⟩ (fun r => (∀ c : Dev Cert.ExpertsIdeal.nD,
      r.2.mem ((c : Thread Cert.ExpertsIdeal.nD Cert.ExpertsIdeal.τ).loc Cert.ExpertsIdeal.main_arg0) = m ((c : Thread Cert.ExpertsIdeal.nD Cert.ExpertsIdeal.τ).loc Cert.ExpertsIdeal.main_arg0)
      ∧ r.2.mem ((c : Thread Cert.ExpertsIdeal.nD Cert.ExpertsIdeal.τ).loc Cert.ExpertsIdeal.main_arg1) = m ((c : Thread Cert.ExpertsIdeal.nD Cert.ExpertsIdeal.τ).loc Cert.ExpertsIdeal.main_arg1)
      ∧ r.2.mem ((c : Thread Cert.ExpertsIdeal.nD Cert.ExpertsIdeal.τ).loc Cert.ExpertsIdeal.main_arg2) = m ((c : Thread Cert.ExpertsIdeal.nD Cert.ExpertsIdeal.τ).loc Cert.ExpertsIdeal.main_arg2)
      ∧ r.2.mem ((c : Thread Cert.ExpertsIdeal.nD Cert.ExpertsIdeal.τ).loc Cert.ExpertsIdeal.main_arg3) = m ((c : Thread Cert.ExpertsIdeal.nD Cert.ExpertsIdeal.τ).loc Cert.ExpertsIdeal.main_arg3)
      ∧ r.2.mem ((c : Thread Cert.ExpertsIdeal.nD Cert.ExpertsIdeal.τ).loc Cert.ExpertsIdeal.main_arg4) = m ((c : Thread Cert.ExpertsIdeal.nD Cert.ExpertsIdeal.τ).loc Cert.ExpertsIdeal.main_arg4))
      ∧ r.2.sem = fun _ => 0) :=
  (θ_run Cert.ExpertsIdeal.defs _ _).mono (fun _ h => ⟨fun c => (h.1 c).2, h.2⟩) (Experts.run_read (F := Bits) m ρ hE hT)

theorem experts_bodies_same : Cert.Experts.defs₀ (F := Bits) = Cert.ExpertsIdeal.defs₀ (F := Bits) := by
  unfold Cert.Experts.defs₀ Cert.ExpertsIdeal.defs₀
  refine congrArg Defs.onTc ?_
  funext b x
  match b, x with
  | 0, (t, s) => rfl

theorem experts_defs_same : Cert.Experts.defs (F := Bits) = Cert.ExpertsIdeal.defs (F := Bits) :=
  congrArg (Pipeline.defs (Cert.ExpertsIdeal.pcfgs (F := Bits))) experts_bodies_same

/-- The expert kernel's frame: the run proved for every float type, at the machine's. -/
theorem frame_experts : Cert.quiescent_Experts := by
  intro m ρ h
  rw [experts_defs_same]
  exact experts_frame_bits m ρ (Experts.tables_of_fn _ _ _ _ _ (h 0)).1 (Experts.tables_of_fn _ _ _ _ _ (h 0)).2

theorem experts_named (m) (h : Cert.Pre_ExpertsIdeal m) : Experts.ExpertsNamed (Experts.expTable m) := (Experts.tables_of_fn _ _ _ _ _ (h 0)).1
theorem tokens_named (m) (h : Cert.Pre_ExpertsIdeal m) : Experts.RowsNamed (Experts.tokTable m) := (Experts.tables_of_fn _ _ _ _ _ (h 0)).2

theorem frame_expertsIdeal : Cert.quiescent_ExpertsIdeal := fun m ρ h =>
  (θ_run Cert.ExpertsIdeal.defs _ _).mono (fun _ h => ⟨fun c => (h.1 c).2, h.2⟩) (Experts.run_read m ρ (experts_named m h) (tokens_named m h))

theorem experts_algebraic : Cert.algebraic_ExpertsIdeal_ExpertsReferenceIdeal := by
  intro m ρ m' ρ' hpre hag
  refine ⟨fun c => Experts.wanted m c, Experts.run_value m (experts_named m hpre) ρ (tokens_named m hpre), ?_⟩
  have hb : ∀ c : Dev Cert.ExpertsReferenceIdeal.nD, ∀ j, ((m' ((c : Thread Cert.ExpertsReferenceIdeal.nD Cert.ExpertsReferenceIdeal.τ).loc Cert.ExpertsReferenceIdeal.main_arg0) : Cert.ExpertsReferenceIdeal.S136.Idx → BitVec 32) j).toNat < 8 := fun c j => by
    rw [(hag c).1]
    exact (Experts.tables_of_fn _ _ _ _ _ (hpre c)).1 j
  have ht : ∀ c : Dev Cert.ExpertsReferenceIdeal.nD, ∀ j, ((m' ((c : Thread Cert.ExpertsReferenceIdeal.nD Cert.ExpertsReferenceIdeal.τ).loc Cert.ExpertsReferenceIdeal.main_arg1) : Cert.ExpertsReferenceIdeal.S69632.Idx → BitVec 32) j).toNat < 33280 := fun c j => by
    rw [(hag c).2.1]
    exact (Experts.tables_of_fn _ _ _ _ _ (hpre c)).2 j
  refine (θ_run Cert.ExpertsReferenceIdeal.defs _ _).mono (fun _ h c => ⟨(h c).1.trans ?_, (h c).2⟩) (Experts.ref_run m' ρ' hb ht)
  obtain ⟨e0, e1, e2, e3, e4⟩ := hag c
  obtain rfl : c = 0 := Subsingleton.elim _ _
  rw [e0, e1, e2, e3, e4]
  rfl

/-! ## The dense feed-forward call -/

instance : Cert.FeedForwardIdeal.Facts := Cert.FeedForwardIdeal.Gen.facts
instance : Cert.FeedForward.Facts := Cert.FeedForward.Gen.facts
instance : Cert.FeedForwardReferenceIdeal.Facts := Cert.FeedForwardReferenceIdeal.Gen.facts

theorem feed_forward_bodies_same : Cert.FeedForward.defs₀ (F := Bits) = Cert.FeedForwardIdeal.defs₀ (F := Bits) := by
  unfold Cert.FeedForward.defs₀ Cert.FeedForwardIdeal.defs₀
  refine congrArg Defs.onTc ?_
  funext b x
  match b, x with
  | 0, (t, s) => rfl

theorem feed_forward_defs_same : Cert.FeedForward.defs (F := Bits) = Cert.FeedForwardIdeal.defs (F := Bits) :=
  congrArg (Pipeline.defs (Cert.FeedForwardIdeal.pcfgs (F := Bits))) feed_forward_bodies_same

/-- The feed-forward kernel's frame: the run proved for every float type, at the machine's. -/
theorem frame_feed_forward : Cert.quiescent_FeedForward := by
  intro m ρ _
  rw [feed_forward_defs_same]
  exact Cert.FeedForwardIdeal.Gen.frame (F := Bits) m ρ

theorem frame_feed_forwardIdeal : Cert.quiescent_FeedForwardIdeal := fun m ρ _ => Cert.FeedForwardIdeal.Gen.frame (F := Ideal) m ρ

theorem feed_forward_algebraic : Cert.algebraic_FeedForwardIdeal_FeedForwardReferenceIdeal := by
  intro m ρ m' ρ' _ hag
  refine ⟨_, FeedForward.kernel_run m ρ, ?_⟩
  refine (θ_run Cert.FeedForwardReferenceIdeal.defs _ _).mono (fun _ h c => ⟨(h c).1.trans ?_, (h c).2⟩) (FeedForward.ref_run m' ρ')
  obtain ⟨e0, e1, e2, e3⟩ := hag c
  rw [e0, e1, e2, e3]

/-! ## The input projection -/

instance : Cert.InProjectionIdeal.Facts := Cert.InProjectionIdeal.Gen.facts
instance : Cert.InProjection.Facts := Cert.InProjection.Gen.facts
instance : Cert.InProjectionReferenceIdeal.Facts := Cert.InProjectionReferenceIdeal.Gen.facts

theorem in_projection_bodies_same : Cert.InProjection.defs₀ (F := Bits) = Cert.InProjectionIdeal.defs₀ (F := Bits) := by
  unfold Cert.InProjection.defs₀ Cert.InProjectionIdeal.defs₀
  refine congrArg Defs.onTc ?_
  funext b x
  match b, x with
  | 0, (t, s) => rfl

theorem in_projection_defs_same : Cert.InProjection.defs (F := Bits) = Cert.InProjectionIdeal.defs (F := Bits) :=
  congrArg (Pipeline.defs (Cert.InProjectionIdeal.pcfgs (F := Bits))) in_projection_bodies_same

/-- The input projection's frame: the run proved for every float type, at the machine's. -/
theorem frame_in_projection : Cert.quiescent_InProjection := by
  intro m ρ _
  rw [in_projection_defs_same]
  exact Cert.InProjectionIdeal.Gen.frame (F := Bits) m ρ

theorem frame_in_projectionIdeal : Cert.quiescent_InProjectionIdeal := fun m ρ _ => Cert.InProjectionIdeal.Gen.frame (F := Ideal) m ρ

theorem in_projection_algebraic : Cert.algebraic_InProjectionIdeal_InProjectionReferenceIdeal := by
  intro m ρ m' ρ' _ hag
  refine ⟨_, _, _, _, _, _, _, InProjection.kernel_run m ρ, ?_⟩
  refine (θ_run Cert.InProjectionReferenceIdeal.defs _ _).mono (fun _ h c => ?_) (InProjection.ref_run m' ρ')
  obtain ⟨h1, h2, h3, h4, h5, h6, h7, hargs⟩ := h c
  obtain ⟨e0, e1, e2⟩ := hag c
  refine ⟨h1.trans ?_, h2.trans ?_, h3.trans ?_, h4.trans ?_, h5.trans ?_, h6.trans ?_, h7.trans ?_, hargs⟩ <;> rw [e0, e1, e2]

/-! ## The output projection -/

instance : Cert.OutProjectionIdeal.Facts := Cert.OutProjectionIdeal.Gen.facts
instance : Cert.OutProjection.Facts := Cert.OutProjection.Gen.facts
instance : Cert.OutProjectionReferenceIdeal.Facts := Cert.OutProjectionReferenceIdeal.Gen.facts

theorem out_projection_bodies_same : Cert.OutProjection.defs₀ (F := Bits) = Cert.OutProjectionIdeal.defs₀ (F := Bits) := by
  unfold Cert.OutProjection.defs₀ Cert.OutProjectionIdeal.defs₀
  refine congrArg Defs.onTc ?_
  funext b x
  match b, x with
  | 0, (t, s) => rfl

theorem out_projection_defs_same : Cert.OutProjection.defs (F := Bits) = Cert.OutProjectionIdeal.defs (F := Bits) :=
  congrArg (Pipeline.defs (Cert.OutProjectionIdeal.pcfgs (F := Bits))) out_projection_bodies_same

/-- The output projection's frame: the run proved for every float type, at the machine's. -/
theorem frame_out_projection : Cert.quiescent_OutProjection := by
  intro m ρ _
  rw [out_projection_defs_same]
  exact Cert.OutProjectionIdeal.Gen.frame (F := Bits) m ρ

theorem frame_out_projectionIdeal : Cert.quiescent_OutProjectionIdeal := fun m ρ _ => Cert.OutProjectionIdeal.Gen.frame (F := Ideal) m ρ

theorem out_projection_algebraic : Cert.algebraic_OutProjectionIdeal_OutProjectionReferenceIdeal := by
  intro m ρ m' ρ' _ hag
  refine ⟨_, OutProjection.kernel_run m ρ, ?_⟩
  refine (θ_run Cert.OutProjectionReferenceIdeal.defs _ _).mono (fun _ h c => ⟨(h c).1.trans ?_, (h c).2⟩) (OutProjection.ref_run m' ρ')
  obtain ⟨e0, e1, e2, e3, e4, e5⟩ := hag c
  rw [e0, e1, e2, e3, e4, e5]

/-! ## The sample's caches -/

instance : Cert.SampleCachesReferenceIdeal.Facts := Cert.SampleCachesReferenceIdeal.Gen.facts

theorem frame_sample_cachesIdeal : Cert.quiescent_SampleCachesIdeal := fun m ρ _ => Cert.SampleCachesIdeal.Gen.frame (F := Ideal) m ρ

theorem sample_caches_algebraic : Cert.algebraic_SampleCachesIdeal_SampleCachesReferenceIdeal := by
  intro m ρ m' ρ' _ hag
  refine ⟨_, _, _, _, SampleCaches.kernel_run m ρ, ?_⟩
  refine (θ_run Cert.SampleCachesReferenceIdeal.defs _ _).mono (fun _ h c => ?_) (SampleCaches.ref_run m' ρ')
  obtain ⟨h1, h2, h3, h4, hargs⟩ := h c
  obtain ⟨e0, e1, e2, e3, e4, e5, e6, e7, e8⟩ := hag c
  refine ⟨h1.trans ?_, h2.trans ?_, h3.trans ?_, h4.trans ?_, hargs⟩
  · rw [e0, e4, e6]
  · rw [e1, e4, e6]
  · rw [e2, e5, e7]
  · rw [e3, e5, e7]

/-! ## The sample's input projection -/

instance : Cert.SampleInProjectionIdeal.Facts := Cert.SampleInProjectionIdeal.Gen.facts
instance : Cert.SampleInProjection.Facts := Cert.SampleInProjection.Gen.facts
instance : Cert.SampleInProjectionReferenceIdeal.Facts := Cert.SampleInProjectionReferenceIdeal.Gen.facts

theorem sample_in_projection_bodies_same : Cert.SampleInProjection.defs₀ (F := Bits) = Cert.SampleInProjectionIdeal.defs₀ (F := Bits) := by
  unfold Cert.SampleInProjection.defs₀ Cert.SampleInProjectionIdeal.defs₀
  refine congrArg Defs.onTc ?_
  funext b x
  match b, x with
  | 0, (t, s) => rfl

theorem sample_in_projection_defs_same : Cert.SampleInProjection.defs (F := Bits) = Cert.SampleInProjectionIdeal.defs (F := Bits) :=
  congrArg (Pipeline.defs (Cert.SampleInProjectionIdeal.pcfgs (F := Bits))) sample_in_projection_bodies_same

/-- The sample's input projection's frame: the run proved for every float type, at the machine's. -/
theorem frame_sample_in_projection : Cert.quiescent_SampleInProjection := by
  intro m ρ _
  rw [sample_in_projection_defs_same]
  exact Cert.SampleInProjectionIdeal.Gen.frame (F := Bits) m ρ

theorem frame_sample_in_projectionIdeal : Cert.quiescent_SampleInProjectionIdeal := fun m ρ _ => Cert.SampleInProjectionIdeal.Gen.frame (F := Ideal) m ρ

theorem sample_in_projection_algebraic : Cert.algebraic_SampleInProjectionIdeal_SampleInProjectionReferenceIdeal := by
  intro m ρ m' ρ' _ hag
  refine ⟨_, _, _, _, _, SampleInProjection.kernel_run m ρ, ?_⟩
  refine (θ_run Cert.SampleInProjectionReferenceIdeal.defs _ _).mono (fun _ h c => ?_) (SampleInProjection.ref_run m' ρ')
  obtain ⟨h1, h2, h3, h4, h5, hargs⟩ := h c
  obtain ⟨e0, e1, e2⟩ := hag c
  refine ⟨h1.trans ?_, h2.trans ?_, h3.trans ?_, h4.trans ?_, h5.trans ?_, hargs⟩ <;> rw [e0, e1, e2]

theorem claim : Cert.Claim :=
  ⟨Cert.Kernel.Gen.facts, Cert.KernelIdeal.Gen.facts, Cert.ReferenceIdeal.Gen.facts, Cert.Experts.Gen.facts, Cert.ExpertsIdeal.Gen.facts,
    Cert.ExpertsReferenceIdeal.Gen.facts, Cert.FeedForward.Gen.facts, Cert.FeedForwardIdeal.Gen.facts, Cert.FeedForwardReferenceIdeal.Gen.facts,
    Cert.InProjection.Gen.facts, Cert.InProjectionIdeal.Gen.facts, Cert.InProjectionReferenceIdeal.Gen.facts,
    Cert.OutProjection.Gen.facts, Cert.OutProjectionIdeal.Gen.facts, Cert.OutProjectionReferenceIdeal.Gen.facts,
    Cert.SampleCaches.Gen.facts, Cert.SampleCachesIdeal.Gen.facts, Cert.SampleCachesReferenceIdeal.Gen.facts,
    Cert.SampleInProjection.Gen.facts, Cert.SampleInProjectionIdeal.Gen.facts, Cert.SampleInProjectionReferenceIdeal.Gen.facts,
    Cert.Pre_rows_named.Gen.facts, Cert.Pre_tables_named.Gen.facts,
    frame_kernel, frame_kernelIdeal, fun m ρ _ => Combine.ref_frame m ρ, fun m ρ _ => Combine.ref_frame m ρ,
    frame_experts, frame_expertsIdeal, fun m ρ _ => Experts.ref_frame m ρ, fun m ρ _ => Experts.ref_frame m ρ,
    frame_feed_forward, frame_feed_forwardIdeal, fun m ρ _ => FeedForward.ref_frame m ρ,
    frame_in_projection, frame_in_projectionIdeal, fun m ρ _ => InProjection.ref_frame m ρ,
    frame_out_projection, frame_out_projectionIdeal, fun m ρ _ => OutProjection.ref_frame m ρ,
    frame_sample_caches, frame_sample_cachesIdeal, fun m ρ _ => SampleCaches.ref_frame m ρ,
    frame_sample_in_projection, frame_sample_in_projectionIdeal, fun m ρ _ => SampleInProjection.ref_frame m ρ,
    trivial, algebraic, trivial, experts_algebraic, trivial, feed_forward_algebraic,
    trivial, in_projection_algebraic, trivial, out_projection_algebraic, trivial, sample_caches_algebraic, trivial, sample_in_projection_algebraic⟩

end Cert.Proof
end
